-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v48_0)) (v1 : (c : Dev Cert.Kernel3Ideal.nD) → Buf (Elt Ideal) ((c.tc : Thread Cert.Kernel3Ideal.nD Cert.Kernel3Ideal.τ).loc Cert.Kernel3Ideal.main_v48_1)) (v2 : (c : Dev Cert.Kernel3Ideal.nD) → Buf (Elt Ideal) ((c.tc : Thread Cert.Kernel3Ideal.nD Cert.Kernel3Ideal.τ).loc Cert.Kernel3Ideal.main_v48_2)) (v3 : (c : Dev Cert.Kernel3Ideal.nD) → Buf (Elt Ideal) ((c.tc : Thread Cert.Kernel3Ideal.nD Cert.Kernel3Ideal.τ).loc Cert.Kernel3Ideal.main_v48_3)) (v4 : (c : Dev Cert.Kernel3Ideal.nD) → Buf (Elt Ideal) ((c.tc : Thread Cert.Kernel3Ideal.nD Cert.Kernel3Ideal.τ).loc Cert.Kernel3Ideal.main_v48_4)) (v5 : (c : Dev Cert.Kernel3Ideal.nD) → Buf (Elt Ideal) ((c.tc : Thread Cert.Kernel3Ideal.nD Cert.Kernel3Ideal.τ).loc Cert.Kernel3Ideal.main_v48_5)) (v6 : (c : Dev Cert.Kernel3Ideal.nD) → Buf (Elt Ideal) ((c.tc : Thread Cert.Kernel3Ideal.nD Cert.Kernel3Ideal.τ).loc Cert.Kernel3Ideal.main_v48_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48_0) = v0 c
          ∧ r.2.mem ((c.tc : Thread Cert.Kernel3Ideal.nD Cert.Kernel3Ideal.τ).loc Cert.Kernel3Ideal.main_v48_1) = v1 c
          ∧ r.2.mem ((c.tc : Thread Cert.Kernel3Ideal.nD Cert.Kernel3Ideal.τ).loc Cert.Kernel3Ideal.main_v48_2) = v2 c
          ∧ r.2.mem ((c.tc : Thread Cert.Kernel3Ideal.nD Cert.Kernel3Ideal.τ).loc Cert.Kernel3Ideal.main_v48_3) = v3 c
          ∧ r.2.mem ((c.tc : Thread Cert.Kernel3Ideal.nD Cert.Kernel3Ideal.τ).loc Cert.Kernel3Ideal.main_v48_4) = v4 c
          ∧ r.2.mem ((c.tc : Thread Cert.Kernel3Ideal.nD Cert.Kernel3Ideal.τ).loc Cert.Kernel3Ideal.main_v48_5) = v5 c
          ∧ r.2.mem ((c.tc : Thread Cert.Kernel3Ideal.nD Cert.Kernel3Ideal.τ).loc Cert.Kernel3Ideal.main_v48_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v201) = v0 c
          ∧ r.2.mem ((c.tc : Thread Cert.Reference3Ideal.nD Cert.Reference3Ideal.τ).loc Cert.Reference3Ideal.main_v202) = v1 c
          ∧ r.2.mem ((c.tc : Thread Cert.Reference3Ideal.nD Cert.Reference3Ideal.τ).loc Cert.Reference3Ideal.main_v203) = v2 c
          ∧ r.2.mem ((c.tc : Thread Cert.Reference3Ideal.nD Cert.Reference3Ideal.τ).loc Cert.Reference3Ideal.main_v19) = v3 c
          ∧ r.2.mem ((c.tc : Thread Cert.Reference3Ideal.nD Cert.Reference3Ideal.τ).loc Cert.Reference3Ideal.main_v205) = v4 c
          ∧ r.2.mem ((c.tc : Thread Cert.Reference3Ideal.nD Cert.Reference3Ideal.τ).loc Cert.Reference3Ideal.main_v207) = v5 c
          ∧ r.2.mem ((c.tc : Thread Cert.Reference3Ideal.nD Cert.Reference3Ideal.τ).loc Cert.Reference3Ideal.main_v208) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S4x8192x1024 : Shape := ⟨3, ![4, 8192, 1024]⟩
abbrev S4x8192x512 : Shape := ⟨3, ![4, 8192, 512]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel

variable [Facts]

def fn {F : FTy → Type} [FloatOps F] (main_arg0 : FVec F S4x8192x1024 .bf16) (main_arg1 : FVec F S4x8192x1024 .bf16) (main_arg2 : FVec F S4x8192x512 .bf16) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  main_v10
-- ==== Kernel.lean ====
abbrev S4x8192x1024 : Shape := ⟨3, ![4, 8192, 1024]⟩
abbrev S4x8192x512 : Shape := ⟨3, ![4, 8192, 512]⟩
abbrev S1x512x1024 : Shape := ⟨3, ![1, 512, 1024]⟩
abbrev S1x512x512 : Shape := ⟨3, ![1, 512, 512]⟩
abbrev S8x512x128 : Shape := ⟨3, ![8, 512, 128]⟩
abbrev S4x512x128 : Shape := ⟨3, ![4, 512, 128]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S8x512x128, .f32⟩
  | .local _ .vmem, ⟨9, _⟩ => ⟨S8x512x128, .f32⟩
  | .local _ .vmem, ⟨10, _⟩ => ⟨S4x512x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 16], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S4x8192x1024 : Shape := ⟨3, ![4, 8192, 1024]⟩
abbrev S4x8192x512 : Shape := ⟨3, ![4, 8192, 512]⟩
abbrev S4x8192x8x128 : Shape := ⟨4, ![4, 8192, 8, 128]⟩
abbrev S4x8192x8x64 : Shape := ⟨4, ![4, 8192, 8, 64]⟩
abbrev S4x8x8192x8192 : Shape := ⟨4, ![4, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x1024, .f32⟩
  | .hbm, ⟨4, _⟩ => ⟨S4x8192x8x128, .f32⟩
  | .hbm, ⟨5, _⟩ => ⟨S4x8192x1024, .f32⟩
  | .hbm, ⟨6, _⟩ => ⟨S4x8192x8x128, .f32⟩
  | .hbm, ⟨7, _⟩ => ⟨S4x8192x512, .f32⟩
  | .hbm, ⟨8, _⟩ => ⟨S4x8192x8x64, .f32⟩
  | .hbm, ⟨9, _⟩ => ⟨S4x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S4x8x8192x8192, .i1⟩
  | .hbm, ⟨19, _⟩ => ⟨S4x8x8192x8192, .f32⟩
  | .hbm, ⟨20, _⟩ => ⟨S4x8x8192x8192, .f32⟩
  | .hbm, ⟨21, _⟩ => ⟨S_, .f32⟩
  | .hbm, ⟨22, _⟩ => ⟨S4x8x8192, .f32⟩
  | .hbm, ⟨23, _⟩ => ⟨S_, .f32⟩
  | .hbm, ⟨24, _⟩ => ⟨S4x8x8192, .f32⟩
  | .hbm, ⟨25, _⟩ => ⟨S4x8x8192, .f32⟩
  | .hbm, ⟨26, _⟩ => ⟨S4x8x8192x1, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S_, .f32⟩
  | .hbm, ⟨31, _⟩ => ⟨S4x8x8192, .f32⟩
  | .hbm, ⟨32, _⟩ => ⟨S4x8x8192x1, .f32⟩
  | .hbm, ⟨33, _⟩ => ⟨S4x8x8192x8192, .f32⟩
  | .hbm, ⟨34, _⟩ => ⟨S4x8x8192x8192, .f32⟩
  | .hbm, ⟨35, _⟩ => ⟨S4x8x64x8192, .f32⟩
  | .hbm, ⟨36, _⟩ => ⟨S4x8192x8x64, .f32⟩
  | .hbm, ⟨37, _⟩ => ⟨S4x8192x512, .f32⟩
  | .hbm, ⟨38, _⟩ => ⟨S4x8192x512, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x512x1024 : Shape := ⟨3, ![1, 512, 1024]⟩
abbrev S1x512x512 : Shape := ⟨3, ![1, 512, 512]⟩
abbrev S8x5632 : Shape := ⟨2, ![8, 5632]⟩
abbrev S520x512 : Shape := ⟨2, ![520, 512]⟩
abbrev S512x2816 : Shape := ⟨2, ![512, 2816]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S8x256 : Shape := ⟨2, ![8, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 11
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .bf16⟩
  | .hbm, ⟨4, _⟩ => ⟨S1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S8x5632, .f32⟩
  | .local _ .vmem, ⟨16, _⟩ => ⟨S520x512, .f32⟩
  | .local _ .vmem, ⟨17, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S1024x1024 : Shape := ⟨2, ![1024, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S5632 : Shape := ⟨1, ![5632]⟩
abbrev S4x8192x5632 : Shape := ⟨3, ![4, 8192, 5632]⟩
abbrev S4x8194x5632 : Shape := ⟨3, ![4, 8194, 5632]⟩
abbrev S1x1x5632 : Shape := ⟨3, ![1, 1, 5632]⟩
abbrev S4x8192x2816 : Shape := ⟨3, ![4, 8192, 2816]⟩

abbrev nBuf : Space → Nat
  | .hbm => 96
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1024x1024, .bf16⟩
  | .hbm, ⟨4, _⟩ => ⟨S1x1024, .f32⟩
  | .hbm, ⟨5, _⟩ => ⟨S1024x5632, .bf16⟩
  | .hbm, ⟨6, _⟩ => ⟨S3x5632, .f32⟩
  | .hbm, ⟨7, _⟩ => ⟨S1x5632, .f32⟩
  | .hbm, ⟨8, _⟩ => ⟨S2816x1024, .bf16⟩
  | .hbm, ⟨9, _⟩ => ⟨S1x1024, .f32⟩
  | .hbm, ⟨10, _⟩ => ⟨S4x8192x1024, .bf16⟩
  | .hbm, ⟨11, _⟩ => ⟨S4x8192x1024, .f32⟩
  | .hbm, ⟨12, _⟩ => ⟨S1024x1024, .f32⟩
  | .hbm, ⟨13, _⟩ => ⟨S4x8192x1024, .f32⟩
  | .hbm, ⟨14, _⟩ => ⟨S4x8192x1024, .f32⟩
  | .hbm, ⟨15, _⟩ => ⟨S1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S1024x5632, .f32⟩
  | .hbm, ⟨33, _⟩ => ⟨S5632, .f32⟩
  | .hbm, ⟨34, _⟩ => ⟨S2816x1024, .f32⟩
  | .hbm, ⟨35, _⟩ => ⟨S4x8192x5632, .f32⟩
  | .hbm, ⟨36, _⟩ => ⟨S_, .i32⟩
  | .hbm, ⟨37, _⟩ => ⟨S_, .f32⟩
  | .hbm, ⟨38, _⟩ => ⟨S4x8194x5632, .f32⟩
  | .hbm, ⟨39, _⟩ => ⟨S1x5632, .f32⟩
  | .hbm, ⟨40, _⟩ => ⟨S5632, .f32⟩
  | .hbm, ⟨41, _⟩ => ⟨S4x8192x5632, .f32⟩
  | .hbm, ⟨42, _⟩ => ⟨S1x1x5632, .f32⟩
  | .hbm, ⟨43, _⟩ => ⟨S4x8192x5632, .f32⟩
  | .hbm, ⟨44, _⟩ => ⟨S4x8192x5632, .f32⟩
  | .hbm, ⟨45, _⟩ => ⟨S_, .f32⟩
  | .hbm, ⟨46, _⟩ => ⟨S4x8192x5632, .f32⟩
  | .hbm, ⟨47, _⟩ => ⟨S4x8192x5632, .f32⟩
  | .hbm, ⟨48, _⟩ => ⟨S1x5632, .f32⟩
  | .hbm, ⟨49, _⟩ => ⟨S5632, .f32⟩
  | .hbm, ⟨50, _⟩ => ⟨S4x8192x5632, .f32⟩
  | .hbm, ⟨51, _⟩ => ⟨S1x1x5632, .f32⟩
  | .hbm, ⟨52, _⟩ => ⟨S4x8192x5632, .f32⟩
  | .hbm, ⟨53, _⟩ => ⟨S4x8192x5632, .f32⟩
  | .hbm, ⟨54, _⟩ => ⟨S4x8192x5632, .f32⟩
  | .hbm, ⟨55, _⟩ => ⟨S1x5632, .f32⟩
  | .hbm, ⟨56, _⟩ => ⟨S5632, .f32⟩
  | .hbm, ⟨57, _⟩ => ⟨S4x8192x5632, .f32⟩
  | .hbm, ⟨58, _⟩ => ⟨S1x1x5632, .f32⟩
  | .hbm, ⟨59, _⟩ => ⟨S4x8192x5632, .f32⟩
  | .hbm, ⟨60, _⟩ => ⟨S4x8192x5632, .f32⟩
  | .hbm, ⟨61, _⟩ => ⟨S4x8192x5632, .f32⟩
  | .hbm, ⟨62, _⟩ => ⟨S1x1x5632, .f32⟩
  | .hbm, ⟨63, _⟩ => ⟨S4x8192x5632, .f32⟩
  | .hbm, ⟨64, _⟩ => ⟨S4x8192x5632, .f32⟩
  | .hbm, ⟨65, _⟩ => ⟨S4x8192x2816, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S_, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S4x8192x2816, .f32⟩
  | .hbm, ⟨76, _⟩ => ⟨S4x8192x2816, .f32⟩
  | .hbm, ⟨77, _⟩ => ⟨S4x8192x1024, .f32⟩
  | .hbm, ⟨78, _⟩ => ⟨S4x8192x1024, .f32⟩
  | .hbm, ⟨79, _⟩ => ⟨S1024, .f32⟩
  | .hbm, ⟨80, _⟩ => ⟨S4x8192x1024, .f32⟩
  | .hbm, ⟨81, _⟩ => ⟨S_, .f32⟩
  | .hbm, ⟨82, _⟩ => ⟨S4x8192, .f32⟩
  | .hbm, ⟨83, _⟩ => ⟨S4x8192x1, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S4x8192x1, .f32⟩
  | .hbm, ⟨91, _⟩ => ⟨S4x8192x1024, .f32⟩
  | .hbm, ⟨92, _⟩ => ⟨S4x8192x1024, .f32⟩
  | .hbm, ⟨93, _⟩ => ⟨S1x1x1024, .f32⟩
  | .hbm, ⟨94, _⟩ => ⟨S4x8192x1024, .f32⟩
  | .hbm, ⟨95, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_3 : Ref sig .tc := ⟨.hbm, 81, rfl⟩
abbrev main_v57 : Ref sig .tc := ⟨.hbm, 82, rfl⟩
abbrev main_v58 : Ref sig .tc := ⟨.hbm, 83, rfl⟩
abbrev main_cst_4 : Ref sig .tc := ⟨.hbm, 84, rfl⟩
abbrev main_v59 : Ref sig .tc := ⟨.hbm, 85, rfl⟩
abbrev main_v60 : Ref sig .tc := ⟨.hbm, 86, rfl⟩
abbrev main_cst_5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192 : Shape := ⟨2, ![4, 8192]⟩
abbrev S1x1024 : Shape := ⟨2, ![1, 1024]⟩
abbrev S1024x2560 : Shape := ⟨2, ![1024, 2560]⟩
abbrev S1x256 : Shape := ⟨2, ![1, 256]⟩
abbrev S256x1024 : Shape := ⟨2, ![256, 1024]⟩
abbrev S1x128 : Shape := ⟨2, ![1, 128]⟩
abbrev S128x1024 : Shape := ⟨2, ![128, 1024]⟩
abbrev S128x512 : Shape := ⟨2, ![128, 512]⟩
abbrev S128 : Shape := ⟨1, ![128]⟩
abbrev S4x8192x1 : Shape := ⟨3, ![4, 8192, 1]⟩
abbrev S32 : Shape := ⟨1, ![32]⟩
abbrev S_ : Shape := ⟨0, ![]⟩
abbrev S1x1x32 : Shape := ⟨3, ![1, 1, 32]⟩
abbrev S4x8192x32 : Shape := ⟨3, ![4, 8192, 32]⟩
abbrev S128x1 : Shape := ⟨2, ![128, 1]⟩
abbrev S1 : Shape := ⟨1, ![1]⟩
abbrev S1x1 : Shape := ⟨2, ![1, 1]⟩
abbrev S4x8192x128 : Shape := ⟨3, ![4, 8192, 128]⟩
abbrev S1x1x128 : Shape := ⟨3, ![1, 1, 128]⟩
abbrev S16 : Shape := ⟨1, ![16]⟩
abbrev S1x1x16 : Shape := ⟨3, ![1, 1, 16]⟩
abbrev S4x8192x16 : Shape := ⟨3, ![4, 8192, 16]⟩
abbrev S4x8192x512 : Shape := ⟨3, ![4, 8192, 512]⟩
abbrev S1x512x1024 : Shape := ⟨3, ![1, 512, 1024]⟩
abbrev S1x512x128 : Shape := ⟨3, ![1, 512, 128]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 182
  | .vmem => 31
  | .smem => 0
  | _ => 0

abbrev hbmTy0_0 (i : Nat) : BufTy := match i % 128 with
  | 0 => ⟨S4x8192x1024, .f32⟩
  | 1 => ⟨S4x8192, .i32⟩
  | 2 => ⟨S1x1024, .f32⟩
  | 3 => ⟨S1024x2560, .bf16⟩
  | 4 => ⟨S1x256, .f32⟩
  | 5 => ⟨S256x1024, .bf16⟩
  | 6 => ⟨S1x128, .f32⟩
  | 7 => ⟨S128x1024, .bf16⟩
  | 8 => ⟨S128x512, .bf16⟩
  | 9 => ⟨S128, .i32⟩
  | 10 => ⟨S128, .i1⟩
  | 11 => ⟨S128, .f32⟩
  | 12 => ⟨S128, .i32⟩
  | 13 => ⟨S128, .i1⟩
  | 14 => ⟨S128, .f32⟩
  | 15 => ⟨S4x8192, .f32⟩
  | 16 => ⟨S4x8192x1, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S1x1x32, .f32⟩
  | 32 => ⟨S4x8192x32, .f32⟩
  | 33 => ⟨S4x8192x32, .f32⟩
  | 34 => ⟨S4x8192x32, .f32⟩
  | 35 => ⟨S4x8192x32, .f32⟩
  | 36 => ⟨S4x8192x32, .f32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S128x1, .i32⟩
  | 45 => ⟨S1, .i32⟩
  | 46 => ⟨S_, .i32⟩
  | 47 => ⟨S128x1, .i32⟩
  | 48 => ⟨S128x1, .i1⟩
  | 49 => ⟨S1x1, .i32⟩
  | 50 => ⟨S128x1, .i32⟩
  | 51 => ⟨S128x1, .i1⟩
  | 52 => ⟨S128x1, .i1⟩
  | 53 => ⟨S_, .i1⟩
  | 54 => ⟨S128, .i1⟩
  | 55 => ⟨S4x8192x128, .f32⟩
  | 56 => ⟨S4x8192x128, .i1⟩
  | 57 => ⟨S_, .f32⟩
  | 58 => ⟨S4x8192x128, .f32⟩
  | 59 => ⟨S4x8192x128, .f32⟩
  | 60 => ⟨S_, .f32⟩
  | 61 => ⟨S_, .f32⟩
  | 62 => ⟨S4x8192x128, .i1⟩
  | 63 => ⟨S4x8192x128, .f32⟩
  | 64 => ⟨S4x8192x128, .f32⟩
  | 65 => ⟨S_, .i32⟩
  | 66 => ⟨S128, .i32⟩
  | 67 => ⟨S128, .i1⟩
  | 68 => ⟨S_, .i32⟩
  | 69 => ⟨S128, .i32⟩
  | 70 => ⟨S128, .i32⟩
  | 71 => ⟨S128, .i32⟩
  | 72 => ⟨S128x1, .i32⟩
  | 73 => ⟨S1, .i32⟩
  | 74 => ⟨S_, .i32⟩
  | 75 => ⟨S128x1, .i32⟩
  | 76 => ⟨S128x1, .i1⟩
  | 77 => ⟨S1x1, .i32⟩
  | 78 => ⟨S128x1, .i32⟩
  | 79 => ⟨S128x1, .i1⟩
  | 80 => ⟨S128x1, .i1⟩
  | 81 => ⟨S_, .i1⟩
  | 82 => ⟨S128, .i1⟩
  | 83 => ⟨S4x8192x128, .f32⟩
  | 84 => ⟨S4x8192x128, .i1⟩
  | 85 => ⟨S_, .f32⟩
  | 86 => ⟨S4x8192x128, .f32⟩
  | 87 => ⟨S4x8192x128, .f32⟩
  | 88 => ⟨S_, .f32⟩
  | 89 => ⟨S_, .f32⟩
  | 90 => ⟨S4x8192x128, .i1⟩
  | 91 => ⟨S4x8192x128, .f32⟩
  | 92 => ⟨S4x8192x128, .f32⟩
  | 93 => ⟨S1x1x128, .f32⟩
  | 94 => ⟨S4x8192x128, .f32⟩
  | 95 => ⟨S4x8192x128, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S1x1x16, .f32⟩
  | 111 => ⟨S4x8192x16, .f32⟩
  | 112 => ⟨S4x8192x16, .f32⟩
  | 113 => ⟨S4x8192x16, .f32⟩
  | 114 => ⟨S4x8192x16, .f32⟩
  | 115 => ⟨S4x8192x16, .f32⟩
  | 116 => ⟨S_, .i32⟩
  | 117 => ⟨S128, .i32⟩
  | 118 => ⟨S128, .i1⟩
  | 119 => ⟨S_, .i32⟩
  | 120 => ⟨S128, .i32⟩
  | 121 => ⟨S128, .i32⟩
  | 122 => ⟨S128, .i32⟩
  | 123 => ⟨S128x1, .i32⟩
  | 124 => ⟨S1, .i32⟩
  | 125 => ⟨S_, .i32⟩
  | 126 => ⟨S128x1, .i32⟩
  | 127 => ⟨S128x1, .i1⟩
  | _ => ⟨S4x8192x1024, .f32⟩

abbrev hbmTy0_1 (i : Nat) : BufTy := match i % 128 with
  | 0 => ⟨S1x1, .i32⟩
  | 1 => ⟨S128x1, .i32⟩
  | 2 => ⟨S128x1, .i1⟩
  | 3 => ⟨S128x1, .i1⟩
  | 4 => ⟨S_, .i1⟩
  | 5 => ⟨S128, .i1⟩
  | 6 => ⟨S4x8192x128, .f32⟩
  | 7 => ⟨S4x8192x128, .i1⟩
  | 8 => ⟨S_, .f32⟩
  | 9 => ⟨S4x8192x128, .f32⟩
  | 10 => ⟨S4x8192x128, .f32⟩
  | 11 => ⟨S_, .f32⟩
  | 12 => ⟨S_, .f32⟩
  | 13 => ⟨S4x8192x128, .i1⟩
  | 14 => ⟨S4x8192x128, .f32⟩
  | 15 => ⟨S4x8192x128, .f32⟩
  | 16 => ⟨S_, .i32⟩
  | 17 => ⟨S128, .i32⟩
  | 18 => ⟨S128, .i1⟩
  | 19 => ⟨S_, .i32⟩
  | 20 => ⟨S128, .i32⟩
  | 21 => ⟨S128, .i32⟩
  | 22 => ⟨S128, .i32⟩
  | 23 => ⟨S128x1, .i32⟩
  | 24 => ⟨S1, .i32⟩
  | 25 => ⟨S_, .i32⟩
  | 26 => ⟨S128x1, .i32⟩
  | 27 => ⟨S128x1, .i1⟩
  | 28 => ⟨S1x1, .i32⟩
  | 29 => ⟨S128x1, .i32⟩
  | 30 => ⟨S128x1, .i1⟩
  | 31 => ⟨S128x1, .i1⟩
  | 32 => ⟨S_, .i1⟩
  | 33 => ⟨S128, .i1⟩
  | 34 => ⟨S4x8192x128, .f32⟩
  | 35 => ⟨S4x8192x128, .i1⟩
  | 36 => ⟨S_, .f32⟩
  | 37 => ⟨S4x8192x128, .f32⟩
  | 38 => ⟨S4x8192x128, .f32⟩
  | 39 => ⟨S_, .f32⟩
  | 40 => ⟨S_, .f32⟩
  | 41 => ⟨S4x8192x128, .i1⟩
  | 42 => ⟨S4x8192x128, .f32⟩
  | 43 => ⟨S4x8192x128, .f32⟩
  | 44 => ⟨S1x1x128, .f32⟩
  | 45 => ⟨S4x8192x128, .f32⟩
  | 46 => ⟨S4x8192x128, .f32⟩
  | 47 => ⟨S4x8192x512, .bf16⟩
  | 48 => ⟨S4x8192x512, .bf16⟩
  | 49 => ⟨S4x8192x512, .bf16⟩
  | 50 => ⟨S4x8192x512, .f32⟩
  | 51 => ⟨S4x8192x1024, .bf16⟩
  | 52 => ⟨S4x8192x1024, .bf16⟩
  | 53 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1024, .f32⟩
  | .local _ .vmem, ⟨11, _⟩ => ⟨S1024x2560, .bf16⟩
  | .local _ .vmem, ⟨12, _⟩ => ⟨S1x256, .f32⟩
  | .local _ .vmem, ⟨13, _⟩ => ⟨S256x1024, .bf16⟩
  | .local _ .vmem, ⟨14, _⟩ => ⟨S1x128, .f32⟩
  | .local _ .vmem, ⟨15, _⟩ => ⟨S128x1024, .bf16⟩
  | .local _ .vmem, ⟨16, _⟩ => ⟨S128x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .f32⟩
  | .local _ .vmem, ⟨24, _⟩ => ⟨S1x512x512, .f32⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x512, .bf16⟩
  | .local _ .vmem, ⟨30, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_cst : Ref sig .tc := ⟨.hbm, 11, rfl⟩
abbrev main_c_1 : Ref sig .tc := ⟨.hbm, 12, rfl⟩
abbrev main_c_2 : Ref sig .tc := ⟨.hbm, 13, rfl⟩
abbrev main_cst_3 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_4 : Ref sig .tc := ⟨.hbm, 18, rfl⟩
abbrev main_v3 : Ref sig .tc := ⟨.hbm, 19, rfl⟩
abbrev main_v4 : Ref sig .tc := ⟨.hbm, 20, rfl⟩
abbrev main_cst_5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_6 : Ref sig .tc := ⟨.hbm, 25, rfl⟩
abbrev main_v8 : Ref sig .tc := ⟨.hbm, 26, rfl⟩
abbrev main_v9 : Ref sig .tc := ⟨.hbm, 27, rfl⟩
abbrev main_cst_7 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v18 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v19 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v20 : Ref sig .tc := ⟨.hbm, 87, rfl⟩
abbrev main_cst_9 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_cst_10 : Ref sig .tc := ⟨.hbm, 97, rfl⟩
abbrev main_v26 : Ref sig .tc := ⟨.hbm, 98, rfl⟩
abbrev main_v27 : Ref sig .tc := ⟨.hbm, 99, rfl⟩
abbrev main_cst_11 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_cst_12 : Ref sig .tc := ⟨.hbm, 104, rfl⟩
abbrev main_v31 : Ref sig .tc := ⟨.hbm, 105, rfl⟩
abbrev main_v32 : Ref sig .tc := ⟨.hbm, 106, rfl⟩
abbrev main_cst_13 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v41 : Ref sig .tc := ⟨.hbm, 138, rfl⟩
abbrev main_cst_14 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v42 : Ref sig .tc := ⟨.hbm, 143, rfl⟩
abbrev main_call6_c : Ref sig .tc := ⟨.hbm, 144, rfl⟩
abbrev main_call6_v0 : Ref sig .tc := ⟨.hbm, 145, rfl⟩
abbrev main_call6_v1 : Ref sig .tc := ⟨.hbm, 146, rfl⟩
abbrev main_call6_c_0 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_c_1 : Ref sig .tc := ⟨.hbm, 152, rfl⟩
abbrev main_call6_c_2 : Ref sig .tc := ⟨.hbm, 153, rfl⟩
abbrev main_call6_v6 : Ref sig .tc := ⟨.hbm, 154, rfl⟩
abbrev main_call6_v7 : Ref sig .tc := ⟨.hbm, 155, rfl⟩
abbrev main_call6_v8 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_c_3 : Ref sig .tc := ⟨.hbm, 160, rfl⟩
abbrev main_call6_v12 : Ref sig .tc := ⟨.hbm, 161, rfl⟩
abbrev main_call6_v13 : Ref sig .tc := ⟨.hbm, 162, rfl⟩
abbrev main_call6_v14 : Ref sig .tc := ⟨.hbm, 163, rfl⟩
abbrev main_call6_cst : Ref sig .tc := ⟨.hbm, 164, rfl⟩
abbrev main_call6_v15 : Ref sig .tc := ⟨.hbm, 165, rfl⟩
abbrev main_v43 : Ref sig .tc := ⟨.hbm, 166, rfl⟩
abbrev main_cst_15 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48_0 : Ref sig .tc := ⟨.hbm, 175, rfl⟩
abbrev main_v48_1 : Ref sig .tc := ⟨.hbm, 176, rfl⟩
abbrev main_v48_2 : Ref sig .tc := ⟨.hbm, 177, rfl⟩
abbrev main_v48_3 : Ref sig .tc := ⟨.hbm, 178, rfl⟩
abbrev main_v48_4 : Ref sig .tc := ⟨.hbm, 179, rfl⟩
abbrev main_v48_5 : Ref sig .tc := ⟨.hbm, 180, rfl⟩
abbrev main_v48_6 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S4x8192x1024 : Shape := ⟨3, ![4, 8192, 1024]⟩
abbrev S4x8192 : Shape := ⟨2, ![4, 8192]⟩
abbrev S1x1024 : Shape := ⟨2, ![1, 1024]⟩
abbrev S1024x2560 : Shape := ⟨2, ![1024, 2560]⟩
abbrev S1x256 : Shape := ⟨2, ![1, 256]⟩
abbrev S256x1024 : Shape := ⟨2, ![256, 1024]⟩
abbrev S1x128 : Shape := ⟨2, ![1, 128]⟩
abbrev S128x1024 : Shape := ⟨2, ![128, 1024]⟩
abbrev S128x512 : Shape := ⟨2, ![128, 512]⟩
abbrev S1024 : Shape := ⟨1, ![1024]⟩
abbrev S_ : Shape := ⟨0, ![]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x8192x512 : Shape := ⟨3, ![4, 8192, 512]⟩
abbrev S4x8192x256 : Shape := ⟨3, ![4, 8192, 256]⟩
abbrev S4x8192x128 : Shape := ⟨3, ![4, 8192, 128]⟩
abbrev S4x8192x8x64 : Shape := ⟨4, ![4, 8192, 8, 64]⟩
abbrev S32 : Shape := ⟨1, ![32]⟩
abbrev S1x1x32 : Shape := ⟨3, ![1, 1, 32]⟩
abbrev S4x8192x32 : Shape := ⟨3, ![4, 8192, 32]⟩
abbrev S4x8192x1x32 : Shape := ⟨4, ![4, 8192, 1, 32]⟩
abbrev S4x8192x8x32 : Shape := ⟨4, ![4, 8192, 8, 32]⟩
abbrev S256 : Shape := ⟨1, ![256]⟩
abbrev S1x1x256 : Shape := ⟨3, ![1, 1, 256]⟩
abbrev S4x8192x8x128 : Shape := ⟨4, ![4, 8192, 8, 128]⟩
abbrev S16 : Shape := ⟨1, ![16]⟩
abbrev S1x1x16 : Shape := ⟨3, ![1, 1, 16]⟩
abbrev S4x8192x16 : Shape := ⟨3, ![4, 8192, 16]⟩
abbrev S4x8192x1x16 : Shape := ⟨4, ![4, 8192, 1, 16]⟩
abbrev S4x8192x8x16 : Shape := ⟨4, ![4, 8192, 8, 16]⟩
abbrev S128 : Shape := ⟨1, ![128]⟩
abbrev S1x1x128 : Shape := ⟨3, ![1, 1, 128]⟩
abbrev S4x8192x64 : Shape := ⟨3, ![4, 8192, 64]⟩
abbrev S4x8192x1x128 : Shape := ⟨4, ![4, 8192, 1, 128]⟩

abbrev nBuf : Space → Nat
  | .hbm => 245
  | .vmem => 0
  | .smem => 0
  | _ => 0

abbrev hbmTy0_0 (i : Nat) : BufTy := match i % 128 with
  | 0 => ⟨S4x8192x1024, .f32⟩
  | 1 => ⟨S4x8192, .i32⟩
  | 2 => ⟨S1x1024, .f32⟩
  | 3 => ⟨S1024x2560, .bf16⟩
  | 4 => ⟨S1x256, .f32⟩
  | 5 => ⟨S256x1024, .bf16⟩
  | 6 => ⟨S1x128, .f32⟩
  | 7 => ⟨S128x1024, .bf16⟩
  | 8 => ⟨S128x512, .bf16⟩
  | 9 => ⟨S1024, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S1024x2560, .f32⟩
  | 27 => ⟨S4x8192x2560, .f32⟩
  | 28 => ⟨S4x8192x512, .f32⟩
  | 29 => ⟨S4x8192x512, .f32⟩
  | 30 => ⟨S4x8192x512, .f32⟩
  | 31 => ⟨S4x8192x512, .f32⟩
  | 32 => ⟨S4x8192x256, .f32⟩
  | 33 => ⟨S4x8192x128, .f32⟩
  | 34 => ⟨S4x8192x128, .f32⟩
  | 35 => ⟨S4x8192x8x64, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S4x8192, .f32⟩
  | 51 => ⟨S4x8192x1, .f32⟩
  | 52 => ⟨S1x1x32, .f32⟩
  | 53 => ⟨S4x8192x32, .f32⟩
  | 54 => ⟨S4x8192x32, .f32⟩
  | 55 => ⟨S4x8192x32, .f32⟩
  | 56 => ⟨S4x8192x1x32, .f32⟩
  | 57 => ⟨S4x8192x1x32, .f32⟩
  | 58 => ⟨S4x8192x1x32, .f32⟩
  | 59 => ⟨S4x8192x8x32, .f32⟩
  | 60 => ⟨S4x8192x8x32, .f32⟩
  | 61 => ⟨S4x8192x8x32, .f32⟩
  | 62 => ⟨S4x8192x8x32, .f32⟩
  | 63 => ⟨S4x8192x8x32, .f32⟩
  | 64 => ⟨S4x8192x8x32, .f32⟩
  | 65 => ⟨S4x8192x8x32, .f32⟩
  | 66 => ⟨S4x8192x8x32, .f32⟩
  | 67 => ⟨S4x8192x8x32, .f32⟩
  | 68 => ⟨S4x8192x8x32, .f32⟩
  | 69 => ⟨S4x8192x8x32, .f32⟩
  | 70 => ⟨S4x8192x8x32, .f32⟩
  | 71 => ⟨S4x8192x8x64, .f32⟩
  | 72 => ⟨S4x8192x512, .f32⟩
  | 73 => ⟨S4x8192x8x64, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S4x8192, .f32⟩
  | 89 => ⟨S4x8192x1, .f32⟩
  | 90 => ⟨S1x1x32, .f32⟩
  | 91 => ⟨S4x8192x32, .f32⟩
  | 92 => ⟨S4x8192x32, .f32⟩
  | 93 => ⟨S4x8192x32, .f32⟩
  | 94 => ⟨S4x8192x1x32, .f32⟩
  | 95 => ⟨S4x8192x1x32, .f32⟩
  | 96 => ⟨S4x8192x1x32, .f32⟩
  | 97 => ⟨S4x8192x8x32, .f32⟩
  | 98 => ⟨S4x8192x8x32, .f32⟩
  | 99 => ⟨S4x8192x8x32, .f32⟩
  | 100 => ⟨S4x8192x8x32, .f32⟩
  | 101 => ⟨S4x8192x8x32, .f32⟩
  | 102 => ⟨S4x8192x8x32, .f32⟩
  | 103 => ⟨S4x8192x8x32, .f32⟩
  | 104 => ⟨S4x8192x8x32, .f32⟩
  | 105 => ⟨S4x8192x8x32, .f32⟩
  | 106 => ⟨S4x8192x8x32, .f32⟩
  | 107 => ⟨S4x8192x8x32, .f32⟩
  | 108 => ⟨S4x8192x8x32, .f32⟩
  | 109 => ⟨S4x8192x8x64, .f32⟩
  | 110 => ⟨S_, .f32⟩
  | 111 => ⟨S4x8192x8x64, .f32⟩
  | 112 => ⟨S4x8192x8x64, .f32⟩
  | 113 => ⟨S4x8192x512, .f32⟩
  | 114 => ⟨S256, .f32⟩
  | 115 => ⟨S4x8192x256, .f32⟩
  | 116 => ⟨S_, .f32⟩
  | 117 => ⟨S4x8192, .f32⟩
  | 118 => ⟨S4x8192x1, .f32⟩
  | 119 => ⟨S_, .f32⟩
  | 120 => ⟨S4x8192x1, .f32⟩
  | 121 => ⟨S4x8192x1, .f32⟩
  | 122 => ⟨S_, .f32⟩
  | 123 => ⟨S4x8192x1, .f32⟩
  | 124 => ⟨S4x8192x1, .f32⟩
  | 125 => ⟨S4x8192x1, .f32⟩
  | 126 => ⟨S4x8192x256, .f32⟩
  | 127 => ⟨S4x8192x256, .f32⟩
  | _ => ⟨S4x8192x1024, .f32⟩

abbrev hbmTy0_1 (i : Nat) : BufTy := match i % 128 with
  | 0 => ⟨S1x1x256, .f32⟩
  | 1 => ⟨S4x8192x256, .f32⟩
  | 2 => ⟨S4x8192x256, .f32⟩
  | 3 => ⟨S256x1024, .f32⟩
  | 4 => ⟨S4x8192x1024, .f32⟩
  | 5 => ⟨S4x8192x8x128, .f32⟩
  | 6 => ⟨S4x8192x8x64, .f32⟩
  | 7 => ⟨S4x8192x8x32, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4x8192, .f32⟩
  | 23 => ⟨S4x8192x1, .f32⟩
  | 24 => ⟨S1x1x16, .f32⟩
  | 25 => ⟨S4x8192x16, .f32⟩
  | 26 => ⟨S4x8192x16, .f32⟩
  | 27 => ⟨S4x8192x16, .f32⟩
  | 28 => ⟨S4x8192x1x16, .f32⟩
  | 29 => ⟨S4x8192x1x16, .f32⟩
  | 30 => ⟨S4x8192x1x16, .f32⟩
  | 31 => ⟨S4x8192x8x16, .f32⟩
  | 32 => ⟨S4x8192x8x16, .f32⟩
  | 33 => ⟨S4x8192x8x16, .f32⟩
  | 34 => ⟨S4x8192x8x16, .f32⟩
  | 35 => ⟨S4x8192x8x16, .f32⟩
  | 36 => ⟨S4x8192x8x16, .f32⟩
  | 37 => ⟨S4x8192x8x16, .f32⟩
  | 38 => ⟨S4x8192x8x16, .f32⟩
  | 39 => ⟨S4x8192x8x16, .f32⟩
  | 40 => ⟨S4x8192x8x16, .f32⟩
  | 41 => ⟨S4x8192x8x16, .f32⟩
  | 42 => ⟨S4x8192x8x16, .f32⟩
  | 43 => ⟨S4x8192x8x32, .f32⟩
  | 44 => ⟨S4x8192x8x32, .f32⟩
  | 45 => ⟨S4x8192x8x128, .f32⟩
  | 46 => ⟨S_, .f32⟩
  | 47 => ⟨S4x8192x8x128, .f32⟩
  | 48 => ⟨S4x8192x8x128, .f32⟩
  | 49 => ⟨S128, .f32⟩
  | 50 => ⟨S4x8192x128, .f32⟩
  | 51 => ⟨S_, .f32⟩
  | 52 => ⟨S4x8192, .f32⟩
  | 53 => ⟨S4x8192x1, .f32⟩
  | 54 => ⟨S_, .f32⟩
  | 55 => ⟨S4x8192x1, .f32⟩
  | 56 => ⟨S4x8192x1, .f32⟩
  | 57 => ⟨S_, .f32⟩
  | 58 => ⟨S4x8192x1, .f32⟩
  | 59 => ⟨S4x8192x1, .f32⟩
  | 60 => ⟨S4x8192x1, .f32⟩
  | 61 => ⟨S4x8192x128, .f32⟩
  | 62 => ⟨S4x8192x128, .f32⟩
  | 63 => ⟨S1x1x128, .f32⟩
  | 64 => ⟨S4x8192x128, .f32⟩
  | 65 => ⟨S4x8192x128, .f32⟩
  | 66 => ⟨S128x1024, .f32⟩
  | 67 => ⟨S4x8192x1024, .f32⟩
  | 68 => ⟨S4x8192x8x128, .f32⟩
  | 69 => ⟨S4x8192x64, .f32⟩
  | 70 => ⟨S4x8192x32, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S16, .f32⟩
  | 79 => ⟨S_, .f32⟩
  | 80 => ⟨S16, .f32⟩
  | 81 => ⟨S16, .f32⟩
  | 82 => ⟨S_, .f32⟩
  | 83 => ⟨S16, .f32⟩
  | 84 => ⟨S16, .f32⟩
  | 85 => ⟨S4x8192, .f32⟩
  | 86 => ⟨S4x8192x1, .f32⟩
  | 87 => ⟨S1x1x16, .f32⟩
  | 88 => ⟨S4x8192x16, .f32⟩
  | 89 => ⟨S4x8192x16, .f32⟩
  | 90 => ⟨S4x8192x16, .f32⟩
  | 91 => ⟨S4x8192x16, .f32⟩
  | 92 => ⟨S4x8192x16, .f32⟩
  | 93 => ⟨S4x8192x16, .f32⟩
  | 94 => ⟨S4x8192x16, .f32⟩
  | 95 => ⟨S4x8192x16, .f32⟩
  | 96 => ⟨S4x8192x16, .f32⟩
  | 97 => ⟨S4x8192x16, .f32⟩
  | 98 => ⟨S4x8192x16, .f32⟩
  | 99 => ⟨S4x8192x16, .f32⟩
  | 100 => ⟨S4x8192x16, .f32⟩
  | 101 => ⟨S4x8192x32, .f32⟩
  | 102 => ⟨S4x8192x32, .f32⟩
  | 103 => ⟨S4x8192x128, .f32⟩
  | 104 => ⟨S4x8192x1x128, .f32⟩
  | 105 => ⟨S4x8192x8x128, .f32⟩
  | 106 => ⟨S4x8192x8x128, .f32⟩
  | 107 => ⟨S128x512, .f32⟩
  | 108 => ⟨S4x8192x512, .f32⟩
  | 109 => ⟨S4x8192x512, .bf16⟩
  | 110 => ⟨S4x8192x512, .bf16⟩
  | 111 => ⟨S4x8192x512, .bf16⟩
  | 112 => ⟨S4x8192x1024, .f32⟩
  | 113 => ⟨S4x8192x1024, .bf16⟩
  | 114 => ⟨S4x8192x1024, .f32⟩
  | 115 => ⟨S4x8192x1024, .bf16⟩
  | 116 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_10 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_11 : Ref sig .tc := ⟨.hbm, 116, rfl⟩
abbrev main_v95 : Ref sig .tc := ⟨.hbm, 117, rfl⟩
abbrev main_v96 : Ref sig .tc := ⟨.hbm, 118, rfl⟩
abbrev main_cst_12 : Ref sig .tc := ⟨.hbm, 119, rfl⟩
abbrev main_v97 : Ref sig .tc := ⟨.hbm, 120, rfl⟩
abbrev main_v98 : Ref sig .tc := ⟨.hbm, 121, rfl⟩
abbrev main_cst_13 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_14 : Ref sig .tc := ⟨.hbm, 137, rfl⟩
abbrev main_v113 : Ref sig .tc := ⟨.hbm, 138, rfl⟩
abbrev main_v114 : Ref sig .tc := ⟨.hbm, 139, rfl⟩
abbrev main_cst_15 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_16 : Ref sig .tc := ⟨.hbm, 144, rfl⟩
abbrev main_v118 : Ref sig .tc := ⟨.hbm, 145, rfl⟩
abbrev main_v119 : Ref sig .tc := ⟨.hbm, 146, rfl⟩
abbrev main_cst_17 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_18 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_cst_19 : Ref sig .tc := ⟨.hbm, 179, rfl⟩
abbrev main_v150 : Ref sig .tc := ⟨.hbm, 180, rfl⟩
abbrev main_v151 : Ref sig .tc := ⟨.hbm, 181, rfl⟩
abbrev main_cst_20 : Ref sig .tc := ⟨.hbm, 182, rfl⟩
abbrev main_v152 : Ref sig .tc := ⟨.hbm, 183, rfl⟩
abbrev main_v153 : Ref sig .tc := ⟨.hbm, 184, rfl⟩
abbrev main_cst_21 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_cst_22 : Ref sig .tc := ⟨.hbm, 200, rfl⟩
abbrev main_v168 : Ref sig .tc := ⟨.hbm, 201, rfl⟩
abbrev main_v169 : Ref sig .tc := ⟨.hbm, 202, rfl⟩
abbrev main_cst_23 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_cst_24 : Ref sig .tc := ⟨.hbm, 207, rfl⟩
abbrev main_v173 : Ref sig .tc := ⟨.hbm, 208, rfl⟩
abbrev main_v174 : Ref sig .tc := ⟨.hbm, 209, rfl⟩
abbrev main_cst_25 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩

abbrev nD : Nat := 1
abbrev τ : Topo := Topo.v7x

variable {F : FTy → Type} [FloatOps F]
-- ==== Proof.Attn.Cond.lean ====
module

public import proofs.«01_k».proof.Proof.Gen.KernelIdeal.Frame
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 16 % 16 := Pipeline.Grid.coords_val t 1 (by decide) rfl
    have e2 : (grid0.coords t 2).val = t.val / 1 % 16 := Pipeline.Grid.coords_val t 2 (by decide) rfl
    simp only [cond0_0, e0, e1, e2]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 2).val) (BitVec.ofNat 32 (i 1).val))) 0#32) = 1#1
/-- It holds at the points whose coordinates have i2 + 1 ≤ i1 — decided over the grid. -/
theorem hcond0_1 : ∀ t : Fin cfg0.N, cond0_1 (grid0.coords t) ↔ t.val % 16 + 1 ≤ t.val / 16 % 16 :=
  (by decide +kernel : ∀ t : Fin grid0.N, cond0_1 (grid0.coords t) ↔ t.val % 16 + 1 ≤ t.val / 16 % 16)

/-- The condition of the body's `scf.if` 2 (`k0_h3`), from the grid coordinates (the skeleton's scalar
    chain substituted). -/
abbrev cond0_2 (i : grid0.Coords) : Prop := k0_cond3 i = 1#1
/-- It holds at the points whose coordinates have i1 = i2 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x512x128 .f32 := Memref.whole cc0_scratch0
abbrev scM0_1 : Memref sig .tc .vmem S8x512x128 .f32 := Memref.whole cc0_scratch1
abbrev scM0_2 : Memref sig .tc .vmem S4x512x128 .f32 := Memref.whole cc0_scratch2
/-- The scratch `arg7` the kernel carries between points, as a view: what it holds is stated through it. -/
abbrev VS0_0 : View sig .tc .vmem S8x512x128 .f32 := scM0_0.view
/-- The scratch `arg8` the kernel carries between points, as a view: what it holds is stated through it. -/
abbrev VS0_1 : View sig .tc .vmem S8x512x128 .f32 := scM0_1.view
/-- The scratch `arg9` the kernel carries between points, as a view: what it holds is stated through it. -/
abbrev VS0_2 : View sig .tc .vmem S4x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Attn

end
-- ==== Proof.Attn.RunA.lean ====
module

public import proofs.«01_k».proof.Proof.Attn.Cond
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1200000 in
/-- What the body's stores leave in the scratch (`LS·`) and in the output's staging buffer (`LO`), as pieces, last first, at the first key block of the first query block: the state is reset, the masked step taken, the block of the output stored. The pieces are what the run finds. -/
noncomputable def runA (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (hc0 : cond0_0 i) (hc1 : ¬cond0_1 i) (hc2 : cond0_2 i)
    (x0 : Vec F S1x512x1024 .bf16) (x1 : Vec F S1x512x1024 .bf16) (x2 : Vec F S1x512x512 .bf16) :
    Σ' (LO : List (View.Piece (Elt F) S1x512x512 .bf16)), Σ' (LS0 : List (View.Piece (Elt F) S8x512x128 .f32)), Σ' (LS1 : List (View.Piece (Elt F) S8x512x128 .f32)), { LS2 : List (View.Piece (Elt F) S4x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attention i arg3 harg3 arg4 harg4 arg5 harg5 arg6 harg6 arg7 harg7 arg8 harg8 arg9 harg9) K } := by
  refine ⟨?_, ?_, ?_, ?_, fun E K => ?run⟩
  case run =>
    simp only [cc0_mla_attention_eq_skeleton]; unfold cc0_mla_attention_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]; · iexists _; iexact HS0
    isplitl [HS1]; · iexists _; iexact HS1
    iexists _; iexact HS2

end Cert.KernelIdeal.Attn

end
-- ==== Proof.Attn.RunB.lean ====
module

public import proofs.«01_k».proof.Proof.Attn.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A key block right of the diagonal: the body touches nothing. -/
theorem runB (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (hc0 : ¬cond0_0 i) (hc1 : ¬cond0_1 i) (hc2 : ¬cond0_2 i)
    (x0 : Vec F S1x512x1024 .bf16) (x1 : Vec F S1x512x1024 .bf16) (x2 : Vec F S1x512x512 .bf16) (x3 : Vec F S1x512x512 .bf16) (xs0 : Vec F S8x512x128 .f32) (xs1 : Vec F S8x512x128 .f32) (xs2 : Vec F S4x512x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs0 ∗ owns (c : Thread nD τ) arg8 fullShare xs1 ∗ owns (c : Thread nD τ) arg9 fullShare xs2
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs0 ∗ owns (c : Thread nD τ) arg8 fullShare xs1 ∗ owns (c : Thread nD τ) arg9 fullShare xs2) -∗ K ⟨⟩))
    ⊢ wp frame (wpE (defs₀ (F := F)) Variants.none c none) E (cc0_mla_attention i arg3 harg3 arg4 harg4 arg5 harg5 arg6 harg6 arg7 harg7 arg8 harg8 arg9 harg9) K := by
  simp only [cc0_mla_attention_eq_skeleton]; unfold cc0_mla_attention_skel
  iintro ⟨H0, H1, H2, H3, HS0, HS1, HS2, Hk⟩
  sl_exec (disch := first | sl_exact hc0 | sl_exact hc1 | sl_exact hc2)
  sl_step
  iapply Hk
  isplitl [H0]; · iexact H0
  isplitl [H1]; · iexact H1
  isplitl [H2]; · iexact H2
  isplitl [H3]; · iexact H3
  isplitl [HS0]; · iexact HS0
  isplitl [HS1]; · iexact HS1
  iexact HS2

end Cert.KernelIdeal.Attn
end
-- ==== Proof.Attn.Step.lean ====
module

public import proofs.«01_k».proof.Proof.Gen.KernelIdeal.Skeleton
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Cert.KernelIdeal.Gen

variable {F : FTy → Type} [FloatOps F]

/-- The scores of one head on one pair of blocks, as the body computes them. -/
def gS (q k : Vec F S1x512x128 .bf16) : FVec F S512x512 .f32 :=
  matmul (φ₁ := .bf16) (φ₂ := .bf16) dot_S512x128_S512x128_S512x512_1_1_0_0_n_n none
    (shapeCast S512x128 q shapeCasts_S1x512x128_S512x128)
    (shapeCast S512x128 k shapeCasts_S1x512x128_S512x128)
    (constant S512x512 .f32 0x00000000#32)

/-- The same with the entries above the diagonal at minus infinity. -/
def gSm (q k : Vec F S1x512x128 .bf16) : FVec F S512x512 .f32 :=
  select (cmpi .sle (iota .tc S512x512 32 [1] iota_S512x512_d1_w32)
    (iota .tc S512x512 32 [0] iota_S512x512_d0_w32)) (gS q k)
    (broadcast S512x512 (Scalar.ofBits (F := F) .f32 0xFF800000#32))

/-- The new running maximum, before it is cast to a slice. -/
def gM (s : FVec F S512x512 .f32) (m : Vec F S1x512x128 .f32) : FVec F S512x128 .f32 :=
  maximumf (shapeCast S512x128 m shapeCasts_S1x512x128_S512x128)
    (broadcastTo S512x128 (shapeCast S512x1
      (multiReduction .maximumf [1] S512 s 0xFF800000#32 reduces_S512x512_S512 (.inl rfl) rfl)
      shapeCasts_S512_S512x1) broadcasts_S512x1_S512x128)

/-- The factor old sums are rescaled by. -/
def gA (s : FVec F S512x512 .f32) (m : Vec F S1x512x128 .f32) : FVec F S512x128 .f32 :=
  exp (subf (shapeCast S512x128 m shapeCasts_S1x512x128_S512x128) (gM s m))

/-- The weights of the block. -/
def gP (s : FVec F S512x512 .f32) (m : Vec F S1x512x128 .f32) : FVec F S512x512 .f32 :=
  exp (subf s (broadcastTo S512x512 (extractStridedSlice S512x1 ![0, 0] (gM s m) slices_S512x128_o0_0_S512x1)
    broadcasts_S512x1_S512x512))

/-- The new running sum. -/
def gL (s : FVec F S512x512 .f32) (m l : Vec F S1x512x128 .f32) : FVec F S512x128 .f32 :=
  addf (mulf (gA s m) (shapeCast S512x128 l shapeCasts_S1x512x128_S512x128))
    (broadcastTo S512x128 (shapeCast S512x1
      (multiReduction .add [1] S512 (gP s m) 0x00000000#32 reduces_S512x512_S512 (.inl rfl) rfl)
      shapeCasts_S512_S512x1) broadcasts_S512x1_S512x128)

/-- The weighted values of the block. -/
def gV (s : FVec F S512x512 .f32) (m : Vec F S1x512x128 .f32) (v : Vec F S1x512x128 .bf16) :
    FVec F S512x128 .f32 :=
  matmul (φ₁ := .bf16) (φ₂ := .bf16) dot_S512x512_S512x128_S512x128_1_0_0_1_n_n none (truncf .bf16 (gP s m) bitsLt_bf16_f32)
    (shapeCast S512x128 v shapeCasts_S1x512x128_S512x128) (constant S512x128 .f32 0x00000000#32)

/-- The lanes of the first head of a pair. -/
def gF : IVec S512x128 1 :=
  cmpi .slt (iota .tc S512x128 32 [1] iota_S512x128_d1_w32) (broadcast S512x128 64#32)

/-- The new accumulator of a pair of heads. -/
def gC (s0 s1 : FVec F S512x512 .f32) (m0 m1 : Vec F S1x512x128 .f32) (v : Vec F S1x512x128 .bf16)
    (a : Vec F S1x512x128 .f32) : FVec F S512x128 .f32 :=
  addf (mulf (select gF (gA s0 m0) (gA s1 m1)) (shapeCast S512x128 a shapeCasts_S1x512x128_S512x128))
    (select gF (gV s0 m0 v) (gV s1 m1 v))

/-- The result of a pair of heads. -/
def gO (l0 l1 a : Vec F S1x512x128 .f32) : FVec F S512x128 .bf16 :=
  truncf .bf16 (divf (shapeCast S512x128 a shapeCasts_S1x512x128_S512x128)
    (select gF (shapeCast S512x128 l0 shapeCasts_S1x512x128_S512x128)
      (shapeCast S512x128 l1 shapeCasts_S1x512x128_S512x128))) bitsLt_bf16_f32

theorem ofBits_ninf : Ideal.ofBits .f32 0xFF800000#32 = ⊥ := by
  simp [Ideal.ofBits, FTy.bits]
  decide +kernel

theorem gS_apply (q k : Vec Ideal S1x512x128 .bf16) (r c : Fin 512) :
    gS q k (ix2 r c) = ∑ d : Fin 128, q (ix3 0 r d) * k (ix3 0 c d) := by
  pointwise [gS]

theorem gSm_apply (q k : Vec Ideal S1x512x128 .bf16) (r c : Fin 512) :
    gSm q k (ix2 r c) = if c.val ≤ r.val then gS q k (ix2 r c) else ⊥ := by
  pointwise [gSm, hlo_ix]
  simp only [ofBits_ninf]
  word_cmp

theorem gM_apply (s : FVec Ideal S512x512 .f32) (m : Vec Ideal S1x512x128 .f32) (r : Fin 512) (l : Fin 128) :
    gM s m (ix2 r l) = max (m (ix3 0 r l)) ((Finset.univ : Finset (Fin 512)).fold max ⊥ fun c => s (ix2 r c)) := by
  pointwise [gM]
  rw [ofBits_ninf]

theorem gA_apply (s : FVec Ideal S512x512 .f32) (m : Vec Ideal S1x512x128 .f32) (r : Fin 512) (l : Fin 128) :
    gA s m (ix2 r l) = Ideal.exp (m (ix3 0 r l) - gM s m (ix2 r l)) := by
  pointwise [gA]

theorem gP_apply (s : FVec Ideal S512x512 .f32) (m : Vec Ideal S1x512x128 .f32) (r c : Fin 512) :
    gP s m (ix2 r c) = Ideal.exp (s (ix2 r c) - gM s m (ix2 r 0)) := by
  pointwise [gP]

theorem gL_apply (s : FVec Ideal S512x512 .f32) (m l : Vec Ideal S1x512x128 .f32) (r : Fin 512) (x : Fin 128) :
    gL s m l (ix2 r x) = gA s m (ix2 r x) * l (ix3 0 r x) + ∑ c : Fin 512, gP s m (ix2 r c) := by
  pointwise [gL]

theorem gV_apply (s : FVec Ideal S512x512 .f32) (m : Vec Ideal S1x512x128 .f32) (v : Vec Ideal S1x512x128 .bf16)
    (r : Fin 512) (x : Fin 128) :
    gV s m v (ix2 r x) = ∑ c : Fin 512, gP s m (ix2 r c) * v (ix3 0 c x) := by
  pointwise [gV]

theorem gC_apply (s0 s1 : FVec Ideal S512x512 .f32) (m0 m1 : Vec Ideal S1x512x128 .f32)
    (v : Vec Ideal S1x512x128 .bf16) (a : Vec Ideal S1x512x128 .f32) (r : Fin 512) (x : Fin 128) :
    gC s0 s1 m0 m1 v a (ix2 r x) = if x.val < 64
      then gA s0 m0 (ix2 r x) * a (ix3 0 r x) + gV s0 m0 v (ix2 r x)
      else gA s1 m1 (ix2 r x) * a (ix3 0 r x) + gV s1 m1 v (ix2 r x) := by
  pointwise [gC, gF]
  word_cmp
  split <;> rfl

theorem gO_apply (l0 l1 a : Vec Ideal S1x512x128 .f32) (r : Fin 512) (x : Fin 128) :
    gO l0 l1 a (ix2 r x) = if x.val < 64 then Ideal.div (a (ix3 0 r x)) (l0 (ix3 0 r x))
      else Ideal.div (a (ix3 0 r x)) (l1 (ix3 0 r x)) := by
  pointwise [gO, gF]
  word_cmp
  split <;> rfl

/-- One head's lanes of a block of queries or keys. -/
def slQ (q : Vec F S1x512x1024 .bf16) (h : Fin 8) : Vec F S1x512x128 .bf16 :=
  fun y => q (ix3 0 (y 1) ⟨h.val * 128 + (y 2).val, by have h2 : (y 2).val < 128 := (y 2).isLt; omega⟩)

/-- One pair's lanes of a block of values. -/
def slV (v : Vec F S1x512x512 .bf16) (p : Fin 4) : Vec F S1x512x128 .bf16 :=
  fun y => v (ix3 0 (y 1) ⟨p.val * 128 + (y 2).val, by have h2 : (y 2).val < 128 := (y 2).isLt; omega⟩)

/-- One head's slice of the running maxima or sums. -/
def slH (m : Vec F S8x512x128 .f32) (h : Fin 8) : Vec F S1x512x128 .f32 := fun y => m (ix3 h (y 1) (y 2))

/-- One pair's slice of the accumulator. -/
def slP (a : Vec F S4x512x128 .f32) (p : Fin 4) : Vec F S1x512x128 .f32 := fun y => a (ix3 p (y 1) (y 2))

/-- The first head of a pair. -/
def h0 (p : Fin 4) : Fin 8 := ⟨2 * p.val, by omega⟩

/-- The second head of a pair. -/
def h1 (p : Fin 4) : Fin 8 := ⟨2 * p.val + 1, by omega⟩

theorem h0_val (p : Fin 4) : (h0 p).val = 2 * p.val := rfl

theorem h1_val (p : Fin 4) : (h1 p).val = 2 * p.val + 1 := rfl

/-- The running maxima before the first block. -/
def iM : Vec F S8x512x128 .f32 := fun _ => Scalar.ofBits .f32 0xFF800000#32

/-- The running sums before the first block. -/
def iL : Vec F S8x512x128 .f32 := fun _ => Scalar.ofBits .f32 0x00000000#32

/-- The accumulator before the first block. -/
def iA : Vec F S4x512x128 .f32 := fun _ => Scalar.ofBits .f32 0x00000000#32

theorem iM_eq : (iM : Vec Ideal S8x512x128 .f32) = fun _ => (⊥ : EReal) := funext fun _ => ofBits_ninf

theorem ofBits_zero : Ideal.ofBits .f32 0x00000000#32 = 0 := by
  simp [Ideal.ofBits, Ideal.ieee]

theorem iL_eq : (iL : Vec Ideal S8x512x128 .f32) = fun _ => (0 : EReal) := funext fun _ => ofBits_zero

theorem iA_eq : (iA : Vec Ideal S4x512x128 .f32) = fun _ => (0 : EReal) := funext fun _ => ofBits_zero

/-- The scores of one head, masked or not. -/
def scV (msk : Bool) (q k : Vec F S1x512x1024 .bf16) (h : Fin 8) : FVec F S512x512 .f32 :=
  match msk with
  | true => gSm (slQ q h) (slQ k h)
  | false => gS (slQ q h) (slQ k h)

/-- The running maxima after a block of keys. -/
def nM (msk : Bool) (q k : Vec F S1x512x1024 .bf16) (m : Vec F S8x512x128 .f32) : Vec F S8x512x128 .f32 :=
  fun j => gM (scV msk q k (j 0)) (slH m (j 0)) (ix2 (j 1) (j 2))

/-- The running sums after a block of keys. -/
def nL (msk : Bool) (q k : Vec F S1x512x1024 .bf16) (m l : Vec F S8x512x128 .f32) : Vec F S8x512x128 .f32 :=
  fun j => gL (scV msk q k (j 0)) (slH m (j 0)) (slH l (j 0)) (ix2 (j 1) (j 2))

/-- The accumulator after a block of keys. -/
def nC (msk : Bool) (q k : Vec F S1x512x1024 .bf16) (v : Vec F S1x512x512 .bf16)
    (m : Vec F S8x512x128 .f32) (a : Vec F S4x512x128 .f32) : Vec F S4x512x128 .f32 :=
  fun j => gC (scV msk q k (h0 (j 0))) (scV msk q k (h1 (j 0))) (slH m (h0 (j 0))) (slH m (h1 (j 0)))
    (slV v (j 0)) (slP a (j 0)) (ix2 (j 1) (j 2))

/-- The pair of heads a lane of the result belongs to. -/
def pr (l : Fin 512) : Fin 4 := ⟨l.val / 128, by omega⟩

/-- The block of results, from the running sums and the accumulator. -/
def oB (l : Vec F S8x512x128 .f32) (a : Vec F S4x512x128 .f32) : Vec F S1x512x512 .bf16 :=
  fun j => gO (slH l (h0 (pr (j 2)))) (slH l (h1 (pr (j 2)))) (slP a (pr (j 2)))
    (ix2 (j 1) (⟨(j 2).val % 128, Nat.mod_lt _ (by decide)⟩ : Fin 128))

theorem cast_apply (u : FVec F S512x128 .f32) (x : S1x512x128.Idx) :
    shapeCast S1x512x128 u shapeCasts_S512x128_S1x512x128 x = u (ix2 (x 1) (x 2)) := by
  pointwise

theorem castb_apply (u : FVec F S512x128 .bf16) (x : S1x512x128.Idx) :
    shapeCast S1x512x128 u shapeCasts_S512x128_S1x512x128 x = u (ix2 (x 1) (x 2)) := by
  pointwise

theorem nM_of {msk : Bool} {q k : Vec F S1x512x1024 .bf16} {m : Vec F S8x512x128 .f32} {j : S8x512x128.Idx}
    {s : FVec F S512x512 .f32} {m' : Vec F S1x512x128 .f32} {r : Fin 512} {l : Fin 128}
    (hs : s = scV msk q k (j 0)) (hm : m' = slH m (j 0)) (h1 : (j 1).val = r.val) (h2 : (j 2).val = l.val) :
    gM s m' (ix2 r l) = nM msk q k m j := by
  subst hs hm
  have e1 : r = j 1 := Fin.ext h1.symm
  have e2 : l = j 2 := Fin.ext h2.symm
  subst e1 e2
  rfl

theorem nL_of {msk : Bool} {q k : Vec F S1x512x1024 .bf16} {m l : Vec F S8x512x128 .f32} {j : S8x512x128.Idx}
    {s : FVec F S512x512 .f32} {m' l' : Vec F S1x512x128 .f32} {r : Fin 512} {x : Fin 128}
    (hs : s = scV msk q k (j 0)) (hm : m' = slH m (j 0)) (hl : l' = slH l (j 0))
    (h1 : (j 1).val = r.val) (h2 : (j 2).val = x.val) :
    gL s m' l' (ix2 r x) = nL msk q k m l j := by
  subst hs hm hl
  have e1 : r = j 1 := Fin.ext h1.symm
  have e2 : x = j 2 := Fin.ext h2.symm
  subst e1 e2
  rfl

theorem nC_of {msk : Bool} {q k : Vec F S1x512x1024 .bf16} {v : Vec F S1x512x512 .bf16}
    {m : Vec F S8x512x128 .f32} {a : Vec F S4x512x128 .f32} {j : S4x512x128.Idx}
    {s0 s1 : FVec F S512x512 .f32} {m0 m1 : Vec F S1x512x128 .f32} {v' : Vec F S1x512x128 .bf16}
    {a' : Vec F S1x512x128 .f32} {r : Fin 512} {x : Fin 128}
    (hs0 : s0 = scV msk q k (h0 (j 0))) (hs1 : s1 = scV msk q k (h1 (j 0)))
    (hm0 : m0 = slH m (h0 (j 0))) (hm1 : m1 = slH m (h1 (j 0))) (hv : v' = slV v (j 0)) (ha : a' = slP a (j 0))
    (h1 : (j 1).val = r.val) (h2 : (j 2).val = x.val) :
    gC s0 s1 m0 m1 v' a' (ix2 r x) = nC msk q k v m a j := by
  subst hs0 hs1 hm0 hm1 hv ha
  have e1 : r = j 1 := Fin.ext h1.symm
  have e2 : x = j 2 := Fin.ext h2.symm
  subst e1 e2
  rfl

theorem oB_of {l : Vec F S8x512x128 .f32} {a : Vec F S4x512x128 .f32} {j : S1x512x512.Idx}
    {l0 l1 a' : Vec F S1x512x128 .f32} {r : Fin 512} {x : Fin 128} (p : Fin 4)
    (hp : (j 2).val = p.val * 128 + x.val) (h0' : l0 = slH l (h0 p)) (h1' : l1 = slH l (h1 p)) (ha : a' = slP a p)
    (h1 : (j 1).val = r.val) :
    gO l0 l1 a' (ix2 r x) = oB l a j := by
  have ep : p = pr (j 2) := Fin.ext (by simp only [pr]; have := x.isLt; omega)
  have ex : x = (⟨(j 2).val % 128, Nat.mod_lt _ (by decide)⟩ : Fin 128) := Fin.ext (by simp only; have := x.isLt; omega)
  have e1 : r = j 1 := Fin.ext h1.symm
  subst h0' h1' ha e1
  unfold oB
  rw [← ep, ← ex]

/-- Later stores that cover an index hide the earlier ones there. -/
theorem canon_take {S : Shape} {e : EltTy} (n : ℕ) (L : List (View.Piece (Elt F) S e)) (y : S.Idx)
    (hc : ∃ p ∈ L.take n, y ∈ p.1.set) : View.canon L y = View.canon (L.take n) y := by
  induction L generalizing n with
  | nil => simp
  | cons p L ih =>
    cases n with
    | zero => simp at hc
    | succ n =>
      rw [List.take_succ_cons] at hc ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih n ?_
        obtain ⟨q, hq, hy⟩ := hc
        rcases List.mem_cons.mp hq with rfl | hq
        · exact absurd hy hm
        · exact ⟨q, hq, hy⟩

theorem slH_ext {m : Vec F S8x512x128 .f32} {h : Fin 8} {u : Vec F S1x512x128 .f32}
    (hu : ∀ y : S1x512x128.Idx, u y = m (ix3 h (y 1) (y 2))) : u = slH m h := funext hu

theorem slP_ext {m : Vec F S4x512x128 .f32} {h : Fin 4} {u : Vec F S1x512x128 .f32}
    (hu : ∀ y : S1x512x128.Idx, u y = m (ix3 h (y 1) (y 2))) : u = slP m h := funext hu

end Cert.KernelIdeal.Attn
end
-- ==== Proof.Attn.ValA.lean ====
module

public import proofs.«01_k».proof.Proof.Attn.RunA
public import proofs.«01_k».proof.Proof.Attn.Step

@[expose] public section

set_option maxRecDepth 16384

noncomputable section

namespace Cert.KernelIdeal.Attn

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (x0 : Vec F S1x512x1024 .bf16) (x1 : Vec F S1x512x1024 .bf16) (x2 : Vec F S1x512x512 .bf16) (xs0 : Vec F S8x512x128 .f32) (xs1 : Vec F S8x512x128 .f32) (xs2 : Vec F S4x512x128 .f32)

/-- The running maxima, the first block, masked, and the result stored. -/
theorem valA_M (hc0 hc1 hc2) (j : S8x512x128.Idx) : View.canon (runA c i arg3 harg3 arg4 harg4 arg5 harg5 arg6 harg6 arg7 harg7 arg8 harg8 arg9 harg9 hc0 hc1 hc2 x0 x1 x2).2.1 j = nM true x0 x1 iM j := by
  unfold runA
  frame_open
  simp (disch := decide) only [↓ View.readCov_skip, ↓ View.readCov_cons_toLoadRect, ↓ View.readCov_fill]
  frame_out
  rw [canon_take (S := S8x512x128) 8 _ j (View.cover_of_tiledL (s := S8x512x128) _ S1x512x128.size (by sl_kernel_rfl) j)]
  simp only [List.take_succ_cons, List.take_zero]
  canon_tiles x h
  all_goals
    unfold_payloads
    try dsimp only
    refine (cast_apply (gM (gSm _ _) _) x).trans (nM_of ?_ ?_ h1 h2)
  all_goals try refine congrArg₂ gSm ?_ ?_
  all_goals
    funext y
    pointwise [slQ, slH, slV, slP, iM, iL, iA]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The running sums, the first block, masked, and the result stored. -/
theorem valA_L (hc0 hc1 hc2) (j : S8x512x128.Idx) : View.canon (runA c i arg3 harg3 arg4 harg4 arg5 harg5 arg6 harg6 arg7 harg7 arg8 harg8 arg9 harg9 hc0 hc1 hc2 x0 x1 x2).2.2.1 j = nL true x0 x1 iM iL j := by
  unfold runA
  frame_open
  simp (disch := decide) only [↓ View.readCov_skip, ↓ View.readCov_cons_toLoadRect, ↓ View.readCov_fill]
  frame_out
  rw [canon_take (S := S8x512x128) 8 _ j (View.cover_of_tiledL (s := S8x512x128) _ S1x512x128.size (by sl_kernel_rfl) j)]
  simp only [List.take_succ_cons, List.take_zero]
  canon_tiles x h
  all_goals
    unfold_payloads
    try dsimp only
    refine (cast_apply (gL (gSm _ _) _ _) x).trans (nL_of ?_ ?_ ?_ h1 h2)
  all_goals try refine congrArg₂ gSm ?_ ?_
  all_goals
    funext y
    pointwise [slQ, slH, slV, slP, iM, iL, iA]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The accumulator, the first block, masked, and the result stored. -/
theorem valA_C (hc0 hc1 hc2) (j : S4x512x128.Idx) : View.canon (runA c i arg3 harg3 arg4 harg4 arg5 harg5 arg6 harg6 arg7 harg7 arg8 harg8 arg9 harg9 hc0 hc1 hc2 x0 x1 x2).2.2.2.1 j = nC true x0 x1 x2 iM iA j := by
  unfold runA
  frame_open
  simp (disch := decide) only [↓ View.readCov_skip, ↓ View.readCov_cons_toLoadRect, ↓ View.readCov_fill]
  frame_out
  rw [canon_take (S := S4x512x128) 4 _ j (View.cover_of_tiledL (s := S4x512x128) _ S1x512x128.size (by sl_kernel_rfl) j)]
  simp only [List.take_succ_cons, List.take_zero]
  canon_tiles x h
  all_goals
    unfold_payloads
    try dsimp only
    refine (cast_apply (gC (gSm _ _) (gSm _ _) _ _ _ _) x).trans (nC_of ?_ ?_ ?_ ?_ ?_ ?_ h1 h2)
  all_goals try refine congrArg₂ gSm ?_ ?_
  all_goals
    funext y
    pointwise [slQ, slH, slV, slP, iM, iL, iA]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The result, the first block, masked, and the result stored. -/
theorem valA_O (hc0 hc1 hc2) (j : S1x512x512.Idx) : View.canon (runA c i arg3 harg3 arg4 harg4 arg5 harg5 arg6 harg6 arg7 harg7 arg8 harg8 arg9 harg9 hc0 hc1 hc2 x0 x1 x2).1 j = oB (nL true x0 x1 iM iL) (nC true x0 x1 x2 iM iA) j := by
  unfold runA
  frame_open
  simp (disch := decide) only [↓ View.readCov_skip, ↓ View.readCov_cons_toLoadRect, ↓ View.readCov_fill]
  frame_out
  canon_tiles x h
  all_goals simp only [k0_pay157, k0_pay158, k0_pay159, k0_pay160, k0_pay161, k0_pay162, k0_pay5]
  on_goal 4 => refine (castb_apply (gO _ _ _) x).trans (oB_of 0 (by simp only [h2]; first | rfl | (simp; done) | omega) ?_ ?_ ?_ h1)
  on_goal 3 => refine (castb_apply (gO _ _ _) x).trans (oB_of 1 (by simp only [h2]; first | rfl | (simp; done) | omega) ?_ ?_ ?_ h1)
  on_goal 2 => refine (castb_apply (gO _ _ _) x).trans (oB_of 2 (by simp only [h2]; first | rfl | (simp; done) | omega) ?_ ?_ ?_ h1)
  on_goal 1 => refine (castb_apply (gO _ _ _) x).trans (oB_of 3 (by simp only [h2]; first | rfl | (simp; done) | omega) ?_ ?_ ?_ h1)
  all_goals unfold_payloads
  all_goals try dsimp only
  on_goal 12 => refine slP_ext fun y => (cast_apply (gC (gSm _ _) (gSm _ _) _ _ _ _) y).trans (nC_of ?_ ?_ ?_ ?_ ?_ ?_ rfl rfl)
  on_goal 11 => refine slH_ext fun y => (cast_apply (gL (gSm _ _) _ _) y).trans (nL_of ?_ ?_ ?_ rfl rfl)
  on_goal 10 => refine slH_ext fun y => (cast_apply (gL (gSm _ _) _ _) y).trans (nL_of ?_ ?_ ?_ rfl rfl)
  on_goal 9 => refine slP_ext fun y => (cast_apply (gC (gSm _ _) (gSm _ _) _ _ _ _) y).trans (nC_of ?_ ?_ ?_ ?_ ?_ ?_ rfl rfl)
  on_goal 8 => refine slH_ext fun y => (cast_apply (gL (gSm _ _) _ _) y).trans (nL_of ?_ ?_ ?_ rfl rfl)
  on_goal 7 => refine slH_ext fun y => (cast_apply (gL (gSm _ _) _ _) y).trans (nL_of ?_ ?_ ?_ rfl rfl)
  on_goal 6 => refine slP_ext fun y => (cast_apply (gC (gSm _ _) (gSm _ _) _ _ _ _) y).trans (nC_of ?_ ?_ ?_ ?_ ?_ ?_ rfl rfl)
  on_goal 5 => refine slH_ext fun y => (cast_apply (gL (gSm _ _) _ _) y).trans (nL_of ?_ ?_ ?_ rfl rfl)
  on_goal 4 => refine slH_ext fun y => (cast_apply (gL (gSm _ _) _ _) y).trans (nL_of ?_ ?_ ?_ rfl rfl)
  on_goal 3 => refine slP_ext fun y => (cast_apply (gC (gSm _ _) (gSm _ _) _ _ _ _) y).trans (nC_of ?_ ?_ ?_ ?_ ?_ ?_ rfl rfl)
  on_goal 2 => refine slH_ext fun y => (cast_apply (gL (gSm _ _) _ _) y).trans (nL_of ?_ ?_ ?_ rfl rfl)
  on_goal 1 => refine slH_ext fun y => (cast_apply (gL (gSm _ _) _ _) y).trans (nL_of ?_ ?_ ?_ rfl rfl)
  all_goals try refine congrArg₂ gSm ?_ ?_
  all_goals
    funext z
    pointwise [slQ, slH, slV, slP, iM, iL, iA]
  all_goals first
    | rfl
    | exact congrArg _ ((ix3_inj ..).2 ⟨rfl, rfl, Fin.ext (by simp [Attn.h0, Attn.h1])⟩)
    | exact congrArg _ ((ix3_inj ..).2 ⟨Fin.ext (by simp [Attn.h0, Attn.h1]), rfl, rfl⟩)

end
end Cert.KernelIdeal.Attn
end
-- ==== Proof.Attn.RunC.lean ====
module

public import proofs.«01_k».proof.Proof.Attn.Cond
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1200000 in
/-- What the body's stores leave in the scratch (`LS·`), as pieces, last first, at the first key block of a later query block: the state is reset, the plain step taken. The pieces are what the run finds. -/
noncomputable def runC (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (hc0 : cond0_0 i) (hc1 : cond0_1 i) (hc2 : ¬cond0_2 i)
    (x0 : Vec F S1x512x1024 .bf16) (x1 : Vec F S1x512x1024 .bf16) (x2 : Vec F S1x512x512 .bf16) :
    Σ' (LS0 : List (View.Piece (Elt F) S8x512x128 .f32)), Σ' (LS1 : List (View.Piece (Elt F) S8x512x128 .f32)), { LS2 : List (View.Piece (Elt F) S4x512x128 .f32) //
      ∀ (x3 : Vec F S1x512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attention i arg3 harg3 arg4 harg4 arg5 harg5 arg6 harg6 arg7 harg7 arg8 harg8 arg9 harg9) K } := by
  refine ⟨?_, ?_, ?_, fun x3 E K => ?run⟩
  case run =>
    simp only [cc0_mla_attention_eq_skeleton]; unfold cc0_mla_attention_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]; · iexists _; iexact HS0
    isplitl [HS1]; · iexists _; iexact HS1
    iexists _; iexact HS2

end Cert.KernelIdeal.Attn

end
-- ==== Proof.Attn.ValC.lean ====
module

public import proofs.«01_k».proof.Proof.Attn.RunC
public import proofs.«01_k».proof.Proof.Attn.Step

@[expose] public section

set_option maxRecDepth 16384

noncomputable section

namespace Cert.KernelIdeal.Attn

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (x0 : Vec F S1x512x1024 .bf16) (x1 : Vec F S1x512x1024 .bf16) (x2 : Vec F S1x512x512 .bf16) (xs0 : Vec F S8x512x128 .f32) (xs1 : Vec F S8x512x128 .f32) (xs2 : Vec F S4x512x128 .f32)

/-- The running maxima, the first block, unmasked. -/
theorem valC_M (hc0 hc1 hc2) (j : S8x512x128.Idx) : View.canon (runC c i arg3 harg3 arg4 harg4 arg5 harg5 arg6 harg6 arg7 harg7 arg8 harg8 arg9 harg9 hc0 hc1 hc2 x0 x1 x2).1 j = nM false x0 x1 iM j := by
  unfold runC
  frame_open
  simp (disch := decide) only [↓ View.readCov_skip, ↓ View.readCov_cons_toLoadRect, ↓ View.readCov_fill]
  frame_out
  rw [canon_take (S := S8x512x128) 8 _ j (View.cover_of_tiledL (s := S8x512x128) _ S1x512x128.size (by sl_kernel_rfl) j)]
  simp only [List.take_succ_cons, List.take_zero]
  canon_tiles x h
  all_goals
    unfold_payloads
    try dsimp only
    refine (cast_apply (gM (gS _ _) _) x).trans (nM_of ?_ ?_ h1 h2)
  all_goals try refine congrArg₂ gS ?_ ?_
  all_goals
    funext y
    pointwise [slQ, slH, slV, slP, iM, iL, iA]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The running sums, the first block, unmasked. -/
theorem valC_L (hc0 hc1 hc2) (j : S8x512x128.Idx) : View.canon (runC c i arg3 harg3 arg4 harg4 arg5 harg5 arg6 harg6 arg7 harg7 arg8 harg8 arg9 harg9 hc0 hc1 hc2 x0 x1 x2).2.1 j = nL false x0 x1 iM iL j := by
  unfold runC
  frame_open
  simp (disch := decide) only [↓ View.readCov_skip, ↓ View.readCov_cons_toLoadRect, ↓ View.readCov_fill]
  frame_out
  rw [canon_take (S := S8x512x128) 8 _ j (View.cover_of_tiledL (s := S8x512x128) _ S1x512x128.size (by sl_kernel_rfl) j)]
  simp only [List.take_succ_cons, List.take_zero]
  canon_tiles x h
  all_goals
    unfold_payloads
    try dsimp only
    refine (cast_apply (gL (gS _ _) _ _) x).trans (nL_of ?_ ?_ ?_ h1 h2)
  all_goals try refine congrArg₂ gS ?_ ?_
  all_goals
    funext y
    pointwise [slQ, slH, slV, slP, iM, iL, iA]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The accumulator, the first block, unmasked. -/
theorem valC_C (hc0 hc1 hc2) (j : S4x512x128.Idx) : View.canon (runC c i arg3 harg3 arg4 harg4 arg5 harg5 arg6 harg6 arg7 harg7 arg8 harg8 arg9 harg9 hc0 hc1 hc2 x0 x1 x2).2.2.1 j = nC false x0 x1 x2 iM iA j := by
  unfold runC
  frame_open
  simp (disch := decide) only [↓ View.readCov_skip, ↓ View.readCov_cons_toLoadRect, ↓ View.readCov_fill]
  frame_out
  rw [canon_take (S := S4x512x128) 4 _ j (View.cover_of_tiledL (s := S4x512x128) _ S1x512x128.size (by sl_kernel_rfl) j)]
  simp only [List.take_succ_cons, List.take_zero]
  canon_tiles x h
  all_goals
    unfold_payloads
    try dsimp only
    refine (cast_apply (gC (gS _ _) (gS _ _) _ _ _ _) x).trans (nC_of ?_ ?_ ?_ ?_ ?_ ?_ h1 h2)
  all_goals try refine congrArg₂ gS ?_ ?_
  all_goals
    funext y
    pointwise [slQ, slH, slV, slP, iM, iL, iA]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

end
end Cert.KernelIdeal.Attn
end
-- ==== Proof.Attn.RunD.lean ====
module

public import proofs.«01_k».proof.Proof.Attn.Cond
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1200000 in
/-- What the body's stores leave in the scratch (`LS·`) and in the output's staging buffer (`LO`), as pieces, last first, at the last key block of a later query block: the masked step is taken, the block of the output stored. The pieces are what the run finds. -/
noncomputable def runD (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (hc0 : ¬cond0_0 i) (hc1 : ¬cond0_1 i) (hc2 : cond0_2 i)
    (x0 : Vec F S1x512x1024 .bf16) (x1 : Vec F S1x512x1024 .bf16) (x2 : Vec F S1x512x512 .bf16) (xs0 : Vec F S8x512x128 .f32) (xs1 : Vec F S8x512x128 .f32) (xs2 : Vec F S4x512x128 .f32) :
    Σ' (LO : List (View.Piece (Elt F) S1x512x512 .bf16)), Σ' (LS0 : List (View.Piece (Elt F) S8x512x128 .f32)), Σ' (LS1 : List (View.Piece (Elt F) S8x512x128 .f32)), { LS2 : List (View.Piece (Elt F) S4x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attention i arg3 harg3 arg4 harg4 arg5 harg5 arg6 harg6 arg7 harg7 arg8 harg8 arg9 harg9) K } := by
  refine ⟨?_, ?_, ?_, ?_, fun E K => ?run⟩
  case run =>
    simp only [cc0_mla_attention_eq_skeleton]; unfold cc0_mla_attention_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]; · iexists _; iexact HS0
    isplitl [HS1]; · iexists _; iexact HS1
    iexists _; iexact HS2

end Cert.KernelIdeal.Attn

end
-- ==== Proof.Attn.ValD.lean ====
module

public import proofs.«01_k».proof.Proof.Attn.RunD
public import proofs.«01_k».proof.Proof.Attn.Step

@[expose] public section

set_option maxRecDepth 16384

noncomputable section

namespace Cert.KernelIdeal.Attn

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (x0 : Vec F S1x512x1024 .bf16) (x1 : Vec F S1x512x1024 .bf16) (x2 : Vec F S1x512x512 .bf16) (xs0 : Vec F S8x512x128 .f32) (xs1 : Vec F S8x512x128 .f32) (xs2 : Vec F S4x512x128 .f32)

/-- The running maxima, the block on the diagonal, and the result stored. -/
theorem valD_M (hc0 hc1 hc2) (j : S8x512x128.Idx) : View.canon (runD c i arg3 harg3 arg4 harg4 arg5 harg5 arg6 harg6 arg7 harg7 arg8 harg8 arg9 harg9 hc0 hc1 hc2 x0 x1 x2 xs0 xs1 xs2).2.1 j = nM true x0 x1 xs0 j := by
  unfold runD
  frame_open
  simp (disch := decide) only [↓ View.readCov_skip, ↓ View.readCov_cons_toLoadRect, ↓ View.readCov_fill]
  frame_out
  canon_tiles x h
  all_goals
    unfold_payloads
    try dsimp only
    refine (cast_apply (gM (gSm _ _) _) x).trans (nM_of ?_ ?_ h1 h2)
  all_goals try refine congrArg₂ gSm ?_ ?_
  all_goals
    funext y
    pointwise [slQ, slH, slV, slP]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The running sums, the block on the diagonal, and the result stored. -/
theorem valD_L (hc0 hc1 hc2) (j : S8x512x128.Idx) : View.canon (runD c i arg3 harg3 arg4 harg4 arg5 harg5 arg6 harg6 arg7 harg7 arg8 harg8 arg9 harg9 hc0 hc1 hc2 x0 x1 x2 xs0 xs1 xs2).2.2.1 j = nL true x0 x1 xs0 xs1 j := by
  unfold runD
  frame_open
  simp (disch := decide) only [↓ View.readCov_skip, ↓ View.readCov_cons_toLoadRect, ↓ View.readCov_fill]
  frame_out
  canon_tiles x h
  all_goals
    unfold_payloads
    try dsimp only
    refine (cast_apply (gL (gSm _ _) _ _) x).trans (nL_of ?_ ?_ ?_ h1 h2)
  all_goals try refine congrArg₂ gSm ?_ ?_
  all_goals
    funext y
    pointwise [slQ, slH, slV, slP]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The accumulator, the block on the diagonal, and the result stored. -/
theorem valD_C (hc0 hc1 hc2) (j : S4x512x128.Idx) : View.canon (runD c i arg3 harg3 arg4 harg4 arg5 harg5 arg6 harg6 arg7 harg7 arg8 harg8 arg9 harg9 hc0 hc1 hc2 x0 x1 x2 xs0 xs1 xs2).2.2.2.1 j = nC true x0 x1 x2 xs0 xs2 j := by
  unfold runD
  frame_open
  simp (disch := decide) only [↓ View.readCov_skip, ↓ View.readCov_cons_toLoadRect, ↓ View.readCov_fill]
  frame_out
  canon_tiles x h
  all_goals
    unfold_payloads
    try dsimp only
    refine (cast_apply (gC (gSm _ _) (gSm _ _) _ _ _ _) x).trans (nC_of ?_ ?_ ?_ ?_ ?_ ?_ h1 h2)
  all_goals try refine congrArg₂ gSm ?_ ?_
  all_goals
    funext y
    pointwise [slQ, slH, slV, slP]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The result, the block on the diagonal, and the result stored. -/
theorem valD_O (hc0 hc1 hc2) (j : S1x512x512.Idx) : View.canon (runD c i arg3 harg3 arg4 harg4 arg5 harg5 arg6 harg6 arg7 harg7 arg8 harg8 arg9 harg9 hc0 hc1 hc2 x0 x1 x2 xs0 xs1 xs2).1 j = oB (nL true x0 x1 xs0 xs1) (nC true x0 x1 x2 xs0 xs2) j := by
  unfold runD
  frame_open
  simp (disch := decide) only [↓ View.readCov_skip, ↓ View.readCov_cons_toLoadRect, ↓ View.readCov_fill]
  frame_out
  canon_tiles x h
  all_goals simp only [k0_pay157, k0_pay158, k0_pay159, k0_pay160, k0_pay161, k0_pay162, k0_pay5]
  on_goal 4 => refine (castb_apply (gO _ _ _) x).trans (oB_of 0 (by simp only [h2]; first | rfl | (simp; done) | omega) ?_ ?_ ?_ h1)
  on_goal 3 => refine (castb_apply (gO _ _ _) x).trans (oB_of 1 (by simp only [h2]; first | rfl | (simp; done) | omega) ?_ ?_ ?_ h1)
  on_goal 2 => refine (castb_apply (gO _ _ _) x).trans (oB_of 2 (by simp only [h2]; first | rfl | (simp; done) | omega) ?_ ?_ ?_ h1)
  on_goal 1 => refine (castb_apply (gO _ _ _) x).trans (oB_of 3 (by simp only [h2]; first | rfl | (simp; done) | omega) ?_ ?_ ?_ h1)
  all_goals unfold_payloads
  all_goals try dsimp only
  on_goal 12 => refine slP_ext fun y => (cast_apply (gC (gSm _ _) (gSm _ _) _ _ _ _) y).trans (nC_of ?_ ?_ ?_ ?_ ?_ ?_ rfl rfl)
  on_goal 11 => refine slH_ext fun y => (cast_apply (gL (gSm _ _) _ _) y).trans (nL_of ?_ ?_ ?_ rfl rfl)
  on_goal 10 => refine slH_ext fun y => (cast_apply (gL (gSm _ _) _ _) y).trans (nL_of ?_ ?_ ?_ rfl rfl)
  on_goal 9 => refine slP_ext fun y => (cast_apply (gC (gSm _ _) (gSm _ _) _ _ _ _) y).trans (nC_of ?_ ?_ ?_ ?_ ?_ ?_ rfl rfl)
  on_goal 8 => refine slH_ext fun y => (cast_apply (gL (gSm _ _) _ _) y).trans (nL_of ?_ ?_ ?_ rfl rfl)
  on_goal 7 => refine slH_ext fun y => (cast_apply (gL (gSm _ _) _ _) y).trans (nL_of ?_ ?_ ?_ rfl rfl)
  on_goal 6 => refine slP_ext fun y => (cast_apply (gC (gSm _ _) (gSm _ _) _ _ _ _) y).trans (nC_of ?_ ?_ ?_ ?_ ?_ ?_ rfl rfl)
  on_goal 5 => refine slH_ext fun y => (cast_apply (gL (gSm _ _) _ _) y).trans (nL_of ?_ ?_ ?_ rfl rfl)
  on_goal 4 => refine slH_ext fun y => (cast_apply (gL (gSm _ _) _ _) y).trans (nL_of ?_ ?_ ?_ rfl rfl)
  on_goal 3 => refine slP_ext fun y => (cast_apply (gC (gSm _ _) (gSm _ _) _ _ _ _) y).trans (nC_of ?_ ?_ ?_ ?_ ?_ ?_ rfl rfl)
  on_goal 2 => refine slH_ext fun y => (cast_apply (gL (gSm _ _) _ _) y).trans (nL_of ?_ ?_ ?_ rfl rfl)
  on_goal 1 => refine slH_ext fun y => (cast_apply (gL (gSm _ _) _ _) y).trans (nL_of ?_ ?_ ?_ rfl rfl)
  all_goals try refine congrArg₂ gSm ?_ ?_
  all_goals
    funext z
    pointwise [slQ, slH, slV, slP]
  all_goals first
    | rfl
    | exact congrArg _ ((ix3_inj ..).2 ⟨rfl, rfl, Fin.ext (by simp [Attn.h0, Attn.h1])⟩)
    | exact congrArg _ ((ix3_inj ..).2 ⟨Fin.ext (by simp [Attn.h0, Attn.h1]), rfl, rfl⟩)

end
end Cert.KernelIdeal.Attn
end
-- ==== Proof.Attn.RunE.lean ====
module

public import proofs.«01_k».proof.Proof.Attn.Cond
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large)
set_option maxHeartbeats 1200000 in
/-- What the body's stores leave in the scratch (`LS·`), as pieces, last first, at a key block strictly between the first and the last: the plain step is taken. The pieces are what the run finds. -/
noncomputable def runE (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (hc0 : ¬cond0_0 i) (hc1 : cond0_1 i) (hc2 : ¬cond0_2 i)
    (x0 : Vec F S1x512x1024 .bf16) (x1 : Vec F S1x512x1024 .bf16) (x2 : Vec F S1x512x512 .bf16) (xs0 : Vec F S8x512x128 .f32) (xs1 : Vec F S8x512x128 .f32) (xs2 : Vec F S4x512x128 .f32) :
    Σ' (LS0 : List (View.Piece (Elt F) S8x512x128 .f32)), Σ' (LS1 : List (View.Piece (Elt F) S8x512x128 .f32)), { LS2 : List (View.Piece (Elt F) S4x512x128 .f32) //
      ∀ (x3 : Vec F S1x512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_attention i arg3 harg3 arg4 harg4 arg5 harg5 arg6 harg6 arg7 harg7 arg8 harg8 arg9 harg9) K } := by
  refine ⟨?_, ?_, ?_, fun x3 E K => ?run⟩
  case run =>
    simp only [cc0_mla_attention_eq_skeleton]; unfold cc0_mla_attention_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]; · iexists _; iexact HS0
    isplitl [HS1]; · iexists _; iexact HS1
    iexists _; iexact HS2

end Cert.KernelIdeal.Attn

end
-- ==== Proof.Attn.ValE.lean ====
module

public import proofs.«01_k».proof.Proof.Attn.RunE
public import proofs.«01_k».proof.Proof.Attn.Step

@[expose] public section

set_option maxRecDepth 16384

noncomputable section

namespace Cert.KernelIdeal.Attn

open Idealize.ShloMosaic Idealize.ShloMosaic.TcCoe Idealize.ShloMosaic.Tactic
open Cert.KernelIdeal.Gen

variable {F : FTy → Type} [FloatOps F]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (x0 : Vec F S1x512x1024 .bf16) (x1 : Vec F S1x512x1024 .bf16) (x2 : Vec F S1x512x512 .bf16) (xs0 : Vec F S8x512x128 .f32) (xs1 : Vec F S8x512x128 .f32) (xs2 : Vec F S4x512x128 .f32)

/-- The running maxima, a block left of the diagonal. -/
theorem valE_M (hc0 hc1 hc2) (j : S8x512x128.Idx) : View.canon (runE c i arg3 harg3 arg4 harg4 arg5 harg5 arg6 harg6 arg7 harg7 arg8 harg8 arg9 harg9 hc0 hc1 hc2 x0 x1 x2 xs0 xs1 xs2).1 j = nM false x0 x1 xs0 j := by
  unfold runE
  frame_open
  simp (disch := decide) only [↓ View.readCov_skip, ↓ View.readCov_cons_toLoadRect, ↓ View.readCov_fill]
  frame_out
  canon_tiles x h
  all_goals
    unfold_payloads
    try dsimp only
    refine (cast_apply (gM (gS _ _) _) x).trans (nM_of ?_ ?_ h1 h2)
  all_goals try refine congrArg₂ gS ?_ ?_
  all_goals
    funext y
    pointwise [slQ, slH, slV, slP]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The running sums, a block left of the diagonal. -/
theorem valE_L (hc0 hc1 hc2) (j : S8x512x128.Idx) : View.canon (runE c i arg3 harg3 arg4 harg4 arg5 harg5 arg6 harg6 arg7 harg7 arg8 harg8 arg9 harg9 hc0 hc1 hc2 x0 x1 x2 xs0 xs1 xs2).2.1 j = nL false x0 x1 xs0 xs1 j := by
  unfold runE
  frame_open
  simp (disch := decide) only [↓ View.readCov_skip, ↓ View.readCov_cons_toLoadRect, ↓ View.readCov_fill]
  frame_out
  canon_tiles x h
  all_goals
    unfold_payloads
    try dsimp only
    refine (cast_apply (gL (gS _ _) _ _) x).trans (nL_of ?_ ?_ ?_ h1 h2)
  all_goals try refine congrArg₂ gS ?_ ?_
  all_goals
    funext y
    pointwise [slQ, slH, slV, slP]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

/-- The accumulator, a block left of the diagonal. -/
theorem valE_C (hc0 hc1 hc2) (j : S4x512x128.Idx) : View.canon (runE c i arg3 harg3 arg4 harg4 arg5 harg5 arg6 harg6 arg7 harg7 arg8 harg8 arg9 harg9 hc0 hc1 hc2 x0 x1 x2 xs0 xs1 xs2).2.2.1 j = nC false x0 x1 x2 xs0 xs2 j := by
  unfold runE
  frame_open
  simp (disch := decide) only [↓ View.readCov_skip, ↓ View.readCov_cons_toLoadRect, ↓ View.readCov_fill]
  frame_out
  canon_tiles x h
  all_goals
    unfold_payloads
    try dsimp only
    refine (cast_apply (gC (gS _ _) (gS _ _) _ _ _ _) x).trans (nC_of ?_ ?_ ?_ ?_ ?_ ?_ h1 h2)
  all_goals try refine congrArg₂ gS ?_ ?_
  all_goals
    funext y
    pointwise [slQ, slH, slV, slP]
  all_goals first
    | rfl
    | exact congrArg _ ((ix3_inj ..).2 ⟨rfl, rfl, Fin.ext (by simp only [Attn.h0, Attn.h1, h0]; omega)⟩)
    | exact congrArg _ ((ix3_inj ..).2 ⟨Fin.ext (by simp [Attn.h0, Attn.h1, h0]; try omega), rfl, rfl⟩)

end
end Cert.KernelIdeal.Attn
end
-- ==== Proof.Attn.Body.lean ====
module

public import proofs.«01_k».proof.Proof.Attn.RunB
public import proofs.«01_k».proof.Proof.Attn.ValA
public import proofs.«01_k».proof.Proof.Attn.ValC
public import proofs.«01_k».proof.Proof.Attn.ValD
public import proofs.«01_k».proof.Proof.Attn.ValE

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A buffer written with pieces that cover it holds the pieces' contents. -/
theorem owns_of_writes {S : Shape} {e : EltTy} (c : Dev nD) (a : Memref sig .tc .vmem S e) (L : List (View.Piece (Elt F) S e)) (X : S.Idx → Elt F e)
    (hc : ∀ y, ∃ p ∈ L, y ∈ p.1.set) (hv : ∀ y, View.canon L y = X y) :
    iprop(∃ f, a.view.loc (c : Thread nD τ) ↦[a.view.set]{fullShare} a.view.writes (Elt F) f L) ⊢ (owns (c : Thread nD τ) a fullShare X : sProp 𝕄) := by
  unfold owns
  iintro ⟨%f, H⟩
  iexists _
  isplitr
  swap
  · iexact H
  ipureintro
  funext y
  exact (View.read_writes_apply_eq_canon a.view f y L (hc y)).trans (hv y)

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole)
    (arg7 : Memref sig .tc .vmem S8x512x128 .f32) (harg7 : arg7.IsWhole) (arg8 : Memref sig .tc .vmem S8x512x128 .f32) (harg8 : arg8.IsWhole) (arg9 : Memref sig .tc .vmem S4x512x128 .f32) (harg9 : arg9.IsWhole)
    (x0 : Vec F S1x512x1024 .bf16) (x1 : Vec F S1x512x1024 .bf16) (x2 : Vec F S1x512x512 .bf16) (x3 : Vec F S1x512x512 .bf16) (xs0 : Vec F S8x512x128 .f32) (xs1 : Vec F S8x512x128 .f32) (xs2 : Vec F S4x512x128 .f32)

/-- The body's triple, case A. -/
theorem bodyA (E : Set ℕ) (K : PUnit → sProp 𝕄) (hc0 : cond0_0 i) (hc1 : ¬cond0_1 i) (hc2 : cond0_2 i) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg3 fullShare x0 ∗ owns (c : Thread nD τ) arg4 fullShare x1 ∗ owns (c : Thread nD τ) arg5 fullShare x2 ∗ owns (c : Thread nD τ) arg6 fullShare (oB (nL true x0 x1 iM iL) (nC true x0 x1 x2 iM iA)) ∗ owns (c : Thread nD τ) arg7 fullShare (nM true x0 x1 iM) ∗ owns (c : Thread nD τ) arg8 fullShare (nL true x0 x1 iM iL) ∗ owns (c : Thread nD τ) arg9 fullShare (nC true x0 x1 x2 iM iA)) -∗ K ⟨⟩))
    ⊢ wp frame (wpE (defs₀ (F := F)) Variants.none c none) E (cc0_mla_attention i arg3 harg3 arg4 harg4 arg5 harg5 arg6 harg6 arg7 harg7 arg8 harg8 arg9 harg9) K := by
  iintro ⟨H0, H1, H2, H3, HS0, HS1, HS2, Hk⟩
  iapply (runA c i arg3 harg3 arg4 harg4 arg5 harg5 arg6 harg6 arg7 harg7 arg8 harg8 arg9 harg9 hc0 hc1 hc2 x0 x1 x2).2.2.2.2 E K
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitl [H0]; · iexact H0
  isplitl [H1]; · iexact H1
  isplitl [H2]; · iexact H2
  isplitl [H3]
  · iapply (owns_of_writes c arg6 _ _ (fun y => View.cover_of_tiledL (s := S1x512x512) (runA c i arg3 harg3 arg4 harg4 arg5 harg5 arg6 harg6 arg7 harg7 arg8 harg8 arg9 harg9 hc0 hc1 hc2 x0 x1 x2).1 S1x512x128.size (by sl_kernel_rfl) y) (fun y => valA_O c i arg3 harg3 arg4 harg4 arg5 harg5 arg6 harg6 arg7 harg7 arg8 harg8 arg9 harg9 x0 x1 x2 hc0 hc1 hc2 y)); iexact H3
  isplitl [HS0]
  · iapply (owns_of_writes c arg7 _ _ (fun y => View.cover_of_wholeMem (runA c i arg3 harg3 arg4 harg4 arg5 harg5 arg6 harg6 arg7 harg7 arg8 harg8 arg9 harg9 hc0 hc1 hc2 x0 x1 x2).2.1 (by sl_whole_mem) y) (fun y => valA_M c i arg3 harg3 arg4 harg4 arg5 harg5 arg6 harg6 arg7 harg7 arg8 harg8 arg9 harg9 x0 x1 x2 hc0 hc1 hc2 y)); iexact HS0
  isplitl [HS1]
  · iapply (owns_of_writes c arg8 _ _ (fun y => View.cover_of_wholeMem (runA c i arg3 harg3 arg4 harg4 arg5 harg5 arg6 harg6 arg7 harg7 arg8 harg8 arg9 harg9 hc0 hc1 hc2 x0 x1 x2).2.2.1 (by sl_whole_mem) y) (fun y => valA_L c i arg3 harg3 arg4 harg4 arg5 harg5 arg6 harg6 arg7 harg7 arg8 harg8 arg9 harg9 x0 x1 x2 hc0 hc1 hc2 y)); iexact HS1
  iapply (owns_of_writes c arg9 _ _ (fun y => View.cover_of_wholeMem (runA c i arg3 harg3 arg4 harg4 arg5 harg5 arg6 harg6 arg7 harg7 arg8 harg8 arg9 harg9 hc0 hc1 hc2 x0 x1 x2).2.2.2.1 (by sl_whole_mem) y) (fun y => valA_C c i arg3 harg3 arg4 harg4 arg5 harg5 arg6 harg6 arg7 harg7 arg8 harg8 arg9 harg9 x0 x1 x2 hc0 hc1 hc2 y)); iexact HS2

/-- The body's triple, case C. -/
theorem bodyC (E : Set ℕ) (K : PUnit → sProp 𝕄) (hc0 : cond0_0 i) (hc1 : cond0_1 i) (hc2 : ¬cond0_2 i) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (nM false x0 x1 iM) ∗ owns (c : Thread nD τ) arg8 fullShare (nL false x0 x1 iM iL) ∗ owns (c : Thread nD τ) arg9 fullShare (nC false x0 x1 x2 iM iA)) -∗ K ⟨⟩))
    ⊢ wp frame (wpE (defs₀ (F := F)) Variants.none c none) E (cc0_mla_attention i arg3 harg3 arg4 harg4 arg5 harg5 arg6 harg6 arg7 harg7 arg8 harg8 arg9 harg9) K := by
  iintro ⟨H0, H1, H2, H3, HS0, HS1, HS2, Hk⟩
  iapply (runC c i arg3 harg3 arg4 harg4 arg5 harg5 arg6 harg6 arg7 harg7 arg8 harg8 arg9 harg9 hc0 hc1 hc2 x0 x1 x2).2.2.2 x3 E K
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitl [H0]; · iexact H0
  isplitl [H1]; · iexact H1
  isplitl [H2]; · iexact H2
  isplitl [H3]
  · iexact H3
  isplitl [HS0]
  · iapply (owns_of_writes c arg7 _ _ (fun y => View.cover_of_wholeMem (runC c i arg3 harg3 arg4 harg4 arg5 harg5 arg6 harg6 arg7 harg7 arg8 harg8 arg9 harg9 hc0 hc1 hc2 x0 x1 x2).1 (by sl_whole_mem) y) (fun y => valC_M c i arg3 harg3 arg4 harg4 arg5 harg5 arg6 harg6 arg7 harg7 arg8 harg8 arg9 harg9 x0 x1 x2 hc0 hc1 hc2 y)); iexact HS0
  isplitl [HS1]
  · iapply (owns_of_writes c arg8 _ _ (fun y => View.cover_of_wholeMem (runC c i arg3 harg3 arg4 harg4 arg5 harg5 arg6 harg6 arg7 harg7 arg8 harg8 arg9 harg9 hc0 hc1 hc2 x0 x1 x2).2.1 (by sl_whole_mem) y) (fun y => valC_L c i arg3 harg3 arg4 harg4 arg5 harg5 arg6 harg6 arg7 harg7 arg8 harg8 arg9 harg9 x0 x1 x2 hc0 hc1 hc2 y)); iexact HS1
  iapply (owns_of_writes c arg9 _ _ (fun y => View.cover_of_wholeMem (runC c i arg3 harg3 arg4 harg4 arg5 harg5 arg6 harg6 arg7 harg7 arg8 harg8 arg9 harg9 hc0 hc1 hc2 x0 x1 x2).2.2.1 (by sl_whole_mem) y) (fun y => valC_C c i arg3 harg3 arg4 harg4 arg5 harg5 arg6 harg6 arg7 harg7 arg8 harg8 arg9 harg9 x0 x1 x2 hc0 hc1 hc2 y)); iexact HS2

/-- The body's triple, case D. -/
theorem bodyD (E : Set ℕ) (K : PUnit → sProp 𝕄) (hc0 : ¬cond0_0 i) (hc1 : ¬cond0_1 i) (hc2 : cond0_2 i) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
      ∗ (iprop(owns (c : Thread nD τ) arg3 fullShare x0 ∗ owns (c : Thread nD τ) arg4 fullShare x1 ∗ owns (c : Thread nD τ) arg5 fullShare x2 ∗ owns (c : Thread nD τ) arg6 fullShare (oB (nL true x0 x1 xs0 xs1) (nC true x0 x1 x2 xs0 xs2)) ∗ owns (c : Thread nD τ) arg7 fullShare (nM true x0 x1 xs0) ∗ owns (c : Thread nD τ) arg8 fullShare (nL true x0 x1 xs0 xs1) ∗ owns (c : Thread nD τ) arg9 fullShare (nC true x0 x1 x2 xs0 xs2)) -∗ K ⟨⟩))
    ⊢ wp frame (wpE (defs₀ (F := F)) Variants.none c none) E (cc0_mla_attention i arg3 harg3 arg4 harg4 arg5 harg5 arg6 harg6 arg7 harg7 arg8 harg8 arg9 harg9) K := by
  iintro ⟨H0, H1, H2, H3, HS0, HS1, HS2, Hk⟩
  iapply (runD c i arg3 harg3 arg4 harg4 arg5 harg5 arg6 harg6 arg7 harg7 arg8 harg8 arg9 harg9 hc0 hc1 hc2 x0 x1 x2 xs0 xs1 xs2).2.2.2.2 E K
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitl [H0]; · iexact H0
  isplitl [H1]; · iexact H1
  isplitl [H2]; · iexact H2
  isplitl [H3]
  · iapply (owns_of_writes c arg6 _ _ (fun y => View.cover_of_tiledL (s := S1x512x512) (runD c i arg3 harg3 arg4 harg4 arg5 harg5 arg6 harg6 arg7 harg7 arg8 harg8 arg9 harg9 hc0 hc1 hc2 x0 x1 x2 xs0 xs1 xs2).1 S1x512x128.size (by sl_kernel_rfl) y) (fun y => valD_O c i arg3 harg3 arg4 harg4 arg5 harg5 arg6 harg6 arg7 harg7 arg8 harg8 arg9 harg9 x0 x1 x2 xs0 xs1 xs2 hc0 hc1 hc2 y)); iexact H3
  isplitl [HS0]
  · iapply (owns_of_writes c arg7 _ _ (fun y => View.cover_of_tiledL (s := S8x512x128) (runD c i arg3 harg3 arg4 harg4 arg5 harg5 arg6 harg6 arg7 harg7 arg8 harg8 arg9 harg9 hc0 hc1 hc2 x0 x1 x2 xs0 xs1 xs2).2.1 S1x512x128.size (by sl_kernel_rfl) y) (fun y => valD_M c i arg3 harg3 arg4 harg4 arg5 harg5 arg6 harg6 arg7 harg7 arg8 harg8 arg9 harg9 x0 x1 x2 xs0 xs1 xs2 hc0 hc1 hc2 y)); iexact HS0
  isplitl [HS1]
  · iapply (owns_of_writes c arg8 _ _ (fun y => View.cover_of_tiledL (s := S8x512x128) (runD c i arg3 harg3 arg4 harg4 arg5 harg5 arg6 harg6 arg7 harg7 arg8 harg8 arg9 harg9 hc0 hc1 hc2 x0 x1 x2 xs0 xs1 xs2).2.2.1 S1x512x128.size (by sl_kernel_rfl) y) (fun y => valD_L c i arg3 harg3 arg4 harg4 arg5 harg5 arg6 harg6 arg7 harg7 arg8 harg8 arg9 harg9 x0 x1 x2 xs0 xs1 xs2 hc0 hc1 hc2 y)); iexact HS1
  iapply (owns_of_writes c arg9 _ _ (fun y => View.cover_of_tiledL (s := S4x512x128) (runD c i arg3 harg3 arg4 harg4 arg5 harg5 arg6 harg6 arg7 harg7 arg8 harg8 arg9 harg9 hc0 hc1 hc2 x0 x1 x2 xs0 xs1 xs2).2.2.2.1 S1x512x128.size (by sl_kernel_rfl) y) (fun y => valD_C c i arg3 harg3 arg4 harg4 arg5 harg5 arg6 harg6 arg7 harg7 arg8 harg8 arg9 harg9 x0 x1 x2 xs0 xs1 xs2 hc0 hc1 hc2 y)); iexact HS2

/-- The body's triple, case E. -/
theorem bodyE (E : Set ℕ) (K : PUnit → sProp 𝕄) (hc0 : ¬cond0_0 i) (hc1 : cond0_1 i) (hc2 : ¬cond0_2 i) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs0 ∗ owns (c : Thread nD τ) arg8 fullShare xs1 ∗ owns (c : Thread nD τ) arg9 fullShare xs2
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (nM false x0 x1 xs0) ∗ owns (c : Thread nD τ) arg8 fullShare (nL false x0 x1 xs0 xs1) ∗ owns (c : Thread nD τ) arg9 fullShare (nC false x0 x1 x2 xs0 xs2)) -∗ K ⟨⟩))
    ⊢ wp frame (wpE (defs₀ (F := F)) Variants.none c none) E (cc0_mla_attention i arg3 harg3 arg4 harg4 arg5 harg5 arg6 harg6 arg7 harg7 arg8 harg8 arg9 harg9) K := by
  iintro ⟨H0, H1, H2, H3, HS0, HS1, HS2, Hk⟩
  iapply (runE c i arg3 harg3 arg4 harg4 arg5 harg5 arg6 harg6 arg7 harg7 arg8 harg8 arg9 harg9 hc0 hc1 hc2 x0 x1 x2 xs0 xs1 xs2).2.2.2 x3 E K
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  iapply Hk
  isplitl [H0]; · iexact H0
  isplitl [H1]; · iexact H1
  isplitl [H2]; · iexact H2
  isplitl [H3]
  · iexact H3
  isplitl [HS0]
  · iapply (owns_of_writes c arg7 _ _ (fun y => View.cover_of_tiledL (s := S8x512x128) (runE c i arg3 harg3 arg4 harg4 arg5 harg5 arg6 harg6 arg7 harg7 arg8 harg8 arg9 harg9 hc0 hc1 hc2 x0 x1 x2 xs0 xs1 xs2).1 S1x512x128.size (by sl_kernel_rfl) y) (fun y => valE_M c i arg3 harg3 arg4 harg4 arg5 harg5 arg6 harg6 arg7 harg7 arg8 harg8 arg9 harg9 x0 x1 x2 xs0 xs1 xs2 hc0 hc1 hc2 y)); iexact HS0
  isplitl [HS1]
  · iapply (owns_of_writes c arg8 _ _ (fun y => View.cover_of_tiledL (s := S8x512x128) (runE c i arg3 harg3 arg4 harg4 arg5 harg5 arg6 harg6 arg7 harg7 arg8 harg8 arg9 harg9 hc0 hc1 hc2 x0 x1 x2 xs0 xs1 xs2).2.1 S1x512x128.size (by sl_kernel_rfl) y) (fun y => valE_L c i arg3 harg3 arg4 harg4 arg5 harg5 arg6 harg6 arg7 harg7 arg8 harg8 arg9 harg9 x0 x1 x2 xs0 xs1 xs2 hc0 hc1 hc2 y)); iexact HS1
  iapply (owns_of_writes c arg9 _ _ (fun y => View.cover_of_tiledL (s := S4x512x128) (runE c i arg3 harg3 arg4 harg4 arg5 harg5 arg6 harg6 arg7 harg7 arg8 harg8 arg9 harg9 hc0 hc1 hc2 x0 x1 x2 xs0 xs1 xs2).2.2.1 S1x512x128.size (by sl_kernel_rfl) y) (fun y => valE_C c i arg3 harg3 arg4 harg4 arg5 harg5 arg6 harg6 arg7 harg7 arg8 harg8 arg9 harg9 x0 x1 x2 xs0 xs1 xs2 hc0 hc1 hc2 y)); iexact HS2

end
end Cert.KernelIdeal.Attn
end
-- ==== Proof.Attn.Frame.lean ====
module

public import proofs.«01_k».proof.Proof.Attn.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried state -/

/-- What the kernel carries between points: the running maxima, the running sums, the accumulator. -/
abbrev St (F : FTy → Type) [FloatOps F] := Vec F S8x512x128 .f32 × Vec F S8x512x128 .f32 × Vec F S4x512x128 .f32

/-- The state a row of blocks starts from. -/
def ini : St F := (iM, iL, iA)

/-- One block of keys taken into the state. -/
def upd (msk : Bool) (q k : Vec F S1x512x1024 .bf16) (v : Vec F S1x512x512 .bf16) (s : St F) : St F :=
  (nM msk q k s.1, nL msk q k s.1 s.2.1, nC msk q k v s.1 s.2.2)

/-- The state after point `t`, from the one before it. -/
def stp (c : Dev nD) (t : Fin cfg0.N) (s : St F) : St F :=
  let s0 := if t.val % 16 = 0 then ini else s
  if t.val % 16 + 1 ≤ t.val / 16 % 16 then upd false (iblk m c 0 t) (iblk m c 1 t) (iblk m c 2 t) s0
  else if t.val / 16 % 16 = t.val % 16 then upd true (iblk m c 0 t) (iblk m c 1 t) (iblk m c 2 t) s0
  else s0

/-- The state after point `n`. -/
def outs (c : Dev nD) : (n : ℕ) → n < cfg0.N → St F
  | 0, h => stp m c ⟨0, h⟩ ini
  | n + 1, h => stp m c ⟨n + 1, h⟩ (outs c n (Nat.lt_of_succ_lt h))

theorem outs_pos (c : Dev nD) (t : Fin cfg0.N) (hz : t.val ≠ 0) :
    outs m c t.val t.isLt = stp m c t (outs m c (t.val - 1) (by omega)) := by
  obtain ⟨n, hn⟩ := t
  cases n with
  | zero => exact absurd rfl hz
  | succ n => rfl

theorem outs_A (c : Dev nD) (t : Fin cfg0.N) (h0 : t.val % 16 = 0) (h1 : ¬ t.val % 16 + 1 ≤ t.val / 16 % 16) (h2 : t.val / 16 % 16 = t.val % 16) :
    outs m c t.val t.isLt = upd true (iblk m c 0 t) (iblk m c 1 t) (iblk m c 2 t) ini := by
  by_cases hz : t.val = 0
  · obtain ⟨n, hn⟩ := t
    obtain rfl : n = 0 := hz
    show stp m c ⟨0, hn⟩ ini = _
    unfold stp; dsimp only; rw [if_pos h0, if_neg h1, if_pos h2]
  · rw [outs_pos m c t hz]; unfold stp; dsimp only; rw [if_pos h0, if_neg h1, if_pos h2]

theorem outs_C (c : Dev nD) (t : Fin cfg0.N) (h0 : t.val % 16 = 0) (h1 : t.val % 16 + 1 ≤ t.val / 16 % 16) :
    outs m c t.val t.isLt = upd false (iblk m c 0 t) (iblk m c 1 t) (iblk m c 2 t) ini := by
  rw [outs_pos m c t (by omega)]; unfold stp; dsimp only; rw [if_pos h0, if_pos h1]

theorem outs_D (c : Dev nD) (t : Fin cfg0.N) (h0 : ¬ t.val % 16 = 0) (h1 : ¬ t.val % 16 + 1 ≤ t.val / 16 % 16) (h2 : t.val / 16 % 16 = t.val % 16) :
    outs m c t.val t.isLt = upd true (iblk m c 0 t) (iblk m c 1 t) (iblk m c 2 t) (outs m c (t.val - 1) (by omega)) := by
  rw [outs_pos m c t (by omega)]; unfold stp; dsimp only; rw [if_neg h0, if_neg h1, if_pos h2]

theorem outs_E (c : Dev nD) (t : Fin cfg0.N) (h0 : ¬ t.val % 16 = 0) (h1 : t.val % 16 + 1 ≤ t.val / 16 % 16) :
    outs m c t.val t.isLt = upd false (iblk m c 0 t) (iblk m c 1 t) (iblk m c 2 t) (outs m c (t.val - 1) (by omega)) := by
  rw [outs_pos m c t (by omega)]; unfold stp; dsimp only; rw [if_neg h0, if_pos h1]

theorem outs_B (c : Dev nD) (t : Fin cfg0.N) (h0 : ¬ t.val % 16 = 0) (h1 : ¬ t.val % 16 + 1 ≤ t.val / 16 % 16) (h2 : ¬ t.val / 16 % 16 = t.val % 16) :
    outs m c t.val t.isLt = outs m c (t.val - 1) (by omega) := by
  rw [outs_pos m c t (by omega)]; unfold stp; dsimp only; rw [if_neg h0, if_neg h1, if_neg h2]

/-- The invariant: before the first point the scratch at anything, after it at the state. -/
def PhiS (c : Dev nD) : (n : ℕ) → n ≤ cfg0.N → sProp 𝕄
  | 0, _ => Pipeline.ΦA spec0 c
  | n + 1, hn => iprop(iprop(owns (c : Thread nD τ) scM0_0 fullShare (outs m c n hn).1 ∗ owns (c : Thread nD τ) scM0_1 fullShare (outs m c n hn).2.1 ∗ owns (c : Thread nD τ) scM0_2 fullShare (outs m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outs m c n hn).1 ∗ owns (c : Thread nD τ) scM0_1 fullShare (outs m c n hn).2.1 ∗ owns (c : Thread nD τ) scM0_2 fullShare (outs m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outs m c (n - 1) (by omega)).1 ∗ owns (c : Thread nD τ) scM0_1 fullShare (outs m c (n - 1) (by omega)).2.1 ∗ owns (c : Thread nD τ) scM0_2 fullShare (outs m c (n - 1) (by omega)).2.2) ∗ (∃ r, prngReg c r)) := by
  cases n with
  | zero => exact absurd rfl hz
  | succ n => rfl

/-- The point of `t`'s row of blocks on the diagonal, where the result is stored. -/
def diag (t : Fin cfg0.N) : Fin cfg0.N :=
  ⟨16 * (t.val / 16) + t.val / 16 % 16, by
    have ht : t.val < 1024 := lt_of_lt_of_eq t.isLt N_0
    have h : cfg0.N = 1024 := N_0
    omega⟩

/-- The state after point `t`. -/
def ost (c : Dev nD) (t : Fin cfg0.N) : St F := outs m c t.val t.isLt

/-- The result's block of `t`'s row. -/
def oblk (c : Dev nD) (t : Fin cfg0.N) : Vec F S1x512x512 .bf16 :=
  oB (ost m c (diag t)).2.1 (ost m c (diag t)).2.2

theorem diag_self (t : Fin cfg0.N) (h2 : t.val / 16 % 16 = t.val % 16) : diag t = t := Fin.ext (by
  show 16 * (t.val / 16) + t.val / 16 % 16 = t.val
  omega)

theorem oblk_self (c : Dev nD) (t : Fin cfg0.N) (h2 : t.val / 16 % 16 = t.val % 16) :
    oblk m c t = oB (outs m c t.val t.isLt).2.1 (outs m c t.val t.isLt).2.2 := by
  unfold oblk; rw [diag_self t h2]; rfl

theorem oblk_row (c : Dev nD) (t t' : Fin cfg0.N) (h : t'.val / 16 = t.val / 16) : oblk m c t' = oblk m c t := by
  unfold oblk
  rw [show diag t' = diag t from Fin.ext (by
    show 16 * (t'.val / 16) + t'.val / 16 % 16 = 16 * (t.val / 16) + t.val / 16 % 16
    rw [h])]

/-- The proof data: the arrays as launched, the inputs' blocks left in place, the output's block its row's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Off the diagonal the body leaves the output's buffer alone. -/
theorem idle3 (t : Fin cfg0.N) (h2 : ¬ t.val / 16 % 16 = t.val % 16) : cfg0.idle 3 (cfg0.grid.coords t) = true := by
  have h : ¬ (k0_cond3 (grid0.coords t) = 1#1) := fun h => h2 ((hcond0_2 t).mp h)
  show (!(k0_cond3 (grid0.coords t) == 1#1)) = true
  simpa using h

/-- On it the body stores the block. -/
theorem live3 (t : Fin cfg0.N) (h2 : t.val / 16 % 16 = t.val % 16) : cfg0.idle 3 (cfg0.grid.coords t) = false := by
  have h : k0_cond3 (grid0.coords t) = 1#1 := (hcond0_2 t).mpr h2
  show (!(k0_cond3 (grid0.coords t) == 1#1)) = false
  simpa using h

theorem noflush3 (t : Fin cfg0.N) (h : t.val % 16 ≠ 15) : (cfg0.win 3).flush t = false :=
  Bool.eq_false_iff.mpr fun hf => h ((flush0_3 t).mp hf)

/-- Right of the diagonal the output's buffer still holds its row's block. -/
theorem before0_3 (c : Dev nD) (d) : ∀ (n : ℕ) (h : n < cfg0.N), n / 16 % 16 < n % 16 →
    (dats m 0 c).before 3 ⟨n, h⟩ d = oblk m c ⟨n, h⟩ := by
  intro n
  induction n with
  | zero => intro h hlt; exact absurd hlt (by decide)
  | succ n ih =>
    intro h hlt
    rw [Pipeline.Dat.before_of_pos _ 3 ⟨n + 1, h⟩ (Nat.succ_ne_zero n) rfl d]
    have hn : n < cfg0.N := Nat.lt_of_succ_lt h
    have hf : (cfg0.win 3).flush ⟨n, hn⟩ = false := noflush3 ⟨n, hn⟩ (by show n % 16 ≠ 15; omega)
    rw [if_neg (by intro hh; exact absurd (hf.symm.trans hh) (by decide))]
    have hrow : oblk m c ⟨n, hn⟩ = oblk m c ⟨n + 1, h⟩ := oblk_row m c _ _ (by show n / 16 = (n + 1) / 16; omega)
    by_cases h2 : n / 16 % 16 = n % 16
    · unfold Pipeline.Dat.left
      show (match cfg0.idle 3 (cfg0.grid.coords ⟨n, hn⟩) with
        | true => (dats m 0 c).before 3 ⟨n, hn⟩ d
        | false => (dats m 0 c).kept 3 ⟨n, hn⟩ d) = _
      rw [live3 ⟨n, hn⟩ h2]
      exact hrow
    · unfold Pipeline.Dat.left
      show (match cfg0.idle 3 (cfg0.grid.coords ⟨n, hn⟩) with
        | true => (dats m 0 c).before 3 ⟨n, hn⟩ d
        | false => (dats m 0 c).kept 3 ⟨n, hn⟩ d) = _
      rw [idle3 ⟨n, hn⟩ h2]
      exact (ih hn (by omega)).trans hrow

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves3_left (c : Dev nD) (t : Fin cfg0.N) (h : t.val % 16 + 1 ≤ t.val / 16 % 16) :
    (dats m 0 c).leavesExact 3 t = iprop(∃ d, owns (c : Thread nD τ) (ms0_3 t) fullShare ((dats m 0 c).before 3 t d)) :=
  Pipeline.Dat.leavesExact_idle _ 3 t (idle3 t (by omega)) (noflush3 t (by omega))

theorem leaves3_diag (c : Dev nD) (t : Fin cfg0.N) (h2 : t.val / 16 % 16 = t.val % 16) :
    (dats m 0 c).leavesExact 3 t = owns (c : Thread nD τ) (ms0_3 t) fullShare (oblk m c t) := by
  unfold Dat.leavesExact; rw [live3 t h2, after0_3]

theorem leaves3_right (c : Dev nD) (t : Fin cfg0.N) (h : t.val / 16 % 16 < t.val % 16) (d) :
    owns (c : Thread nD τ) (ms0_3 t) fullShare ((dats m 0 c).before 3 t d) ⊢ (dats m 0 c).leavesExact 3 t := by
  unfold Dat.leavesExact
  rw [idle3 t (by omega)]
  by_cases hf : (cfg0.win 3).flush t = true
  · rw [hf, after0_3, before0_3 m c d t.val t.isLt h]
  · rw [Bool.eq_false_iff.mpr hf]
    iintro H
    iexists _
    iexact H

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [PhiS_castSucc m c t]
  have hN : t.val < 1024 := lt_of_lt_of_eq t.isLt (show cfg0.N = 1024 from N_0)
  by_cases h0 : t.val % 16 = 0
  · -- the scratch may hold anything
    have hany : PhiS m c t.val (Nat.le_of_lt t.isLt) ⊢ (Pipeline.ΦA spec0 c : sProp 𝕄) := by
      by_cases hz : t.val = 0
      · rw [PhiS_zero m c _ _ hz]
      · rw [PhiS_pos m c _ _ hz, PhiA0_eq]
        iintro ⟨⟨HS0, HS1, HS2⟩, Hg⟩
        isplitl [HS0 HS1 HS2]
        · isplitl [HS0]
          · iexists _; iexact HS0
          isplitl [HS1]
          · iexists _; iexact HS1
          iexists _; iexact HS2
        iexact Hg
    rw [PhiA0_eq] at hany
    refine (Idealize.SL.BI.Laws.sep_mono hany .rfl).trans ?_
    by_cases h1 : t.val % 16 + 1 ≤ t.val / 16 % 16
    · rw [leaves3_left m c t h1]
      rw [outs_C m c t h0 h1]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩⟩
      iapply (bodyC c (grid0.coords t) _ _ _ _ _ _ _ _ _ _ _ _ _ _ (iblk m c 0 t) (iblk m c 1 t) (iblk m c 2 t) _ Set.univ _ ((hcond0_0 t).mpr h0) ((hcond0_1 t).mpr h1) (fun h => absurd ((hcond0_2 t).mp h) (by omega)))
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · have h2 : t.val / 16 % 16 = t.val % 16 := by omega
      rw [leaves3_diag m c t h2, oblk_self m c t h2]
      rw [outs_A m c t h0 h1 h2]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩⟩
      iapply (bodyA c (grid0.coords t) _ _ _ _ _ _ _ _ _ _ _ _ _ _ (iblk m c 0 t) (iblk m c 1 t) (iblk m c 2 t) Set.univ _ ((hcond0_0 t).mpr h0) (fun h => h1 ((hcond0_1 t).mp h)) ((hcond0_2 t).mpr h2))
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
  · rw [PhiS_pos m c _ _ (by omega)]
    by_cases h1 : t.val % 16 + 1 ≤ t.val / 16 % 16
    · rw [leaves3_left m c t h1]
      rw [outs_E m c t h0 h1]
      iintro ⟨⟨⟨HS0, HS1, HS2⟩, Hg⟩, Ho, ⟨%d0, H0⟩, ⟨%d1, H1⟩, ⟨%d2, H2⟩, ⟨%d3, H3⟩⟩
      iapply (bodyE c (grid0.coords t) _ _ _ _ _ _ _ _ _ _ _ _ _ _ (iblk m c 0 t) (iblk m c 1 t) (iblk m c 2 t) _ _ _ _ Set.univ _ (fun h => h0 ((hcond0_0 t).mp h)) ((hcond0_1 t).mpr h1) (fun h => absurd ((hcond0_2 t).mp h) (by omega)))
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · by_cases h2 : t.val / 16 % 16 = t.val % 16
      · rw [leaves3_diag m c t h2, oblk_self m c t h2]
        rw [outs_D m c t h0 h1 h2]
        iintro ⟨⟨⟨HS0, HS1, HS2⟩, Hg⟩, Ho, ⟨%d0, H0⟩, ⟨%d1, H1⟩, ⟨%d2, H2⟩, ⟨%d3, H3⟩⟩
        iapply (bodyD c (grid0.coords t) _ _ _ _ _ _ _ _ _ _ _ _ _ _ (iblk m c 0 t) (iblk m c 1 t) (iblk m c 2 t) _ _ _ Set.univ _ (fun h => h0 ((hcond0_0 t).mp h)) (fun h => h1 ((hcond0_1 t).mp h)) ((hcond0_2 t).mpr h2))
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexact H3
      · rw [outs_B m c t h0 h1 h2]
        iintro ⟨⟨⟨HS0, HS1, HS2⟩, Hg⟩, Ho, ⟨%d0, H0⟩, ⟨%d1, H1⟩, ⟨%d2, H2⟩, ⟨%d3, H3⟩⟩
        iapply (runB c (grid0.coords t) _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iapply (leaves3_right m c t (by omega) d3); iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 1024 := N_0; omega
  rw [show (dats m 0 c).Φ (Fin.last cfg0.N) = PhiS m c (Fin.last cfg0.N).val (Nat.le_of_lt_succ (Fin.last cfg0.N).isLt) from rfl, PhiS_pos m c _ _ hne, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- The launch: every array at what the proof data names, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The result array is what the write-backs leave. -/
theorem run_blocks : θ_run defs (onTc (τ := τ) (main (F := F))) ⟨m, fun _ => 0, ρ⟩ (fun r => (∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun _ h c => ⟨((h.1 : Pipeline.FramePost cfgs (dats m) 0 (V m) _) c).1 3, h.2 c⟩)
    (θ_run_and (run_main m ρ) (unchanged m ρ))

end Cert.KernelIdeal.Attn
end
-- ==== Proof.Attn.Flash.lean ====
module

public import proofs.«01_k».proof.Proof.Attn.Step

@[expose] public section

noncomputable section

namespace Cert.KernelIdeal.Attn

open Idealize.ShloMosaic

/-! # The running softmax of one row of scores, block by block, and its closed form -/

section
variable (s v : ℕ → Fin 512 → EReal)

/-- The running maximum after `n` blocks. -/
def fm : ℕ → EReal
  | 0 => ⊥
  | n + 1 => max (fm n) ((Finset.univ : Finset (Fin 512)).fold max ⊥ fun c => s n c)

/-- The running weighted sum after `n` blocks. -/
def fa : ℕ → EReal
  | 0 => 0
  | n + 1 => Ideal.exp (fm s n - fm s (n + 1)) * fa n + ∑ c : Fin 512, Ideal.exp (s n c - fm s (n + 1)) * v n c

/-- The running sum of the weights after `n` blocks. -/
def fl : ℕ → EReal
  | 0 => 0
  | n + 1 => Ideal.exp (fm s n - fm s (n + 1)) * fl n + ∑ c : Fin 512, Ideal.exp (s n c - fm s (n + 1))

theorem fl_eq_fa (n : ℕ) : fl s n = fa s (fun _ _ => 1) n := by
  induction n with
  | zero => rfl
  | succ n ih => simp only [fl, fa, ih, mul_one]

theorem fm_le_iff (n : ℕ) (x : EReal) : fm s n ≤ x ↔ ∀ b < n, ∀ c, s b c ≤ x := by
  induction n with
  | zero => simp [fm]
  | succ n ih =>
    simp only [fm, max_le_iff, ih, Finset.fold_max_le, bot_le, true_and, Finset.mem_univ, true_imp_iff]
    constructor
    · rintro ⟨h1, h2⟩ b hb c
      rcases Nat.lt_succ_iff_lt_or_eq.mp hb with h | rfl
      · exact h1 b h c
      · exact h2 c
    · intro h
      exact ⟨fun b hb c => h b (by omega) c, fun c => h n (by omega) c⟩

variable (hT : ∀ b c, s b c ≠ ⊤) (hB : s 0 0 ≠ ⊥)
include hT in
theorem fm_ne_top (n : ℕ) : fm s n ≠ ⊤ := by
  induction n with
  | zero => exact bot_ne_top
  | succ n ih =>
    refine ne_of_lt (max_lt (lt_top_iff_ne_top.mpr ih) ?_)
    rw [Finset.fold_max_lt]
    exact ⟨bot_lt_top, fun c _ => lt_top_iff_ne_top.mpr (hT n c)⟩

include hB in
theorem fm_ne_bot (n : ℕ) : fm s (n + 1) ≠ ⊥ := by
  intro h
  exact hB (le_bot_iff.mp ((fm_le_iff s (n + 1) ⊥).mp h.le 0 (by omega) 0))

include hT hB in
theorem fm_coe (n : ℕ) : ∃ x : ℝ, fm s (n + 1) = x :=
  ⟨(fm s (n + 1)).toReal, (EReal.coe_toReal (fm_ne_top s hT _) (fm_ne_bot s hB _)).symm⟩

/-- A weight is a real number, not negative. -/
theorem weight_coe (x : EReal) (hx : x ≠ ⊤) (M : ℝ) : ∃ w : ℝ, 0 ≤ w ∧ Ideal.exp (x - M) = w ∧ (x ≠ ⊥ → 0 < w) ∧ (x = ⊥ → w = 0) := by
  induction x with
  | bot => exact ⟨0, le_rfl, by simp, fun h => absurd rfl h, fun _ => rfl⟩
  | top => exact absurd rfl hx
  | coe x => exact ⟨Real.exp (x - M), (Real.exp_pos _).le, by rw [← EReal.coe_sub, Ideal.exp_coe], fun _ => Real.exp_pos _,
      fun h => absurd h (EReal.coe_ne_bot x)⟩

/-- Rescaling a weight to a new maximum. -/
theorem weight_rescale (x : EReal) (hx : x ≠ ⊤) (M M' : ℝ) :
    Ideal.exp ((M : EReal) - M') * Ideal.exp (x - M) = Ideal.exp (x - M') := by
  induction x with
  | bot => simp
  | top => exact absurd rfl hx
  | coe x =>
    rw [← EReal.coe_sub, ← EReal.coe_sub, ← EReal.coe_sub, Ideal.exp_coe, Ideal.exp_coe, Ideal.exp_coe, ← EReal.coe_mul, ← Real.exp_add]
    congr 2
    ring

/-- A real factor, not negative, goes into a sum. -/
theorem coe_mul_sum {ι : Type} (S : Finset ι) (f : ι → EReal) (r : ℝ) (hr : 0 ≤ r) :
    (r : EReal) * ∑ k ∈ S, f k = ∑ k ∈ S, (r : EReal) * f k := by
  classical
  induction S using Finset.induction_on with
  | empty => simp
  | insert a S ha ih =>
    rw [Finset.sum_insert ha, Finset.sum_insert ha,
      EReal.left_distrib_of_nonneg_of_ne_top (EReal.coe_nonneg.mpr hr) (EReal.coe_ne_top r), ih]

include hT hB in
theorem fa_eq (n : ℕ) : fa s v (n + 1) = ∑ b ∈ Finset.range (n + 1), ∑ c : Fin 512, Ideal.exp (s b c - fm s (n + 1)) * v b c := by
  induction n with
  | zero => simp [fa]
  | succ n ih =>
    obtain ⟨M, hM⟩ := fm_coe s hT hB n
    obtain ⟨M', hM'⟩ := fm_coe s hT hB (n + 1)
    rw [fa, ih, Finset.sum_range_succ _ (n + 1), hM, hM']
    congr 1
    rw [← EReal.coe_sub, Ideal.exp_coe, coe_mul_sum _ _ _ (Real.exp_pos _).le]
    refine Finset.sum_congr rfl fun b _ => ?_
    rw [coe_mul_sum _ _ _ (Real.exp_pos _).le]
    refine Finset.sum_congr rfl fun c _ => ?_
    rw [← mul_assoc, ← Ideal.exp_coe, EReal.coe_sub, weight_rescale _ (hT b c)]

/-- A sum of reals is a real. -/
theorem sum_coe {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

end

/-! ## Plain softmax over all keys, some of them masked away -/

section
variable (S w : Fin 8192 → EReal)

/-- The maximum as plain attention takes it. -/
def pM : EReal := max ⊥ ((Finset.univ : Finset (Fin 8192)).fold max ⊥ S)

/-- The attention output as plain attention takes it. -/
def pO : EReal := ∑ k, w k * Ideal.div (Ideal.exp (S k - pM S)) (∑ k', Ideal.exp (S k' - pM S))

/-- Key `c` of block `b`. -/
def key (b : ℕ) (c : Fin 512) : Fin 8192 := ⟨(512 * b + c.val) % 8192, Nat.mod_lt _ (by decide)⟩

variable (n : ℕ) (hn : n < 16) (hT : ∀ k, S k ≠ ⊤) (h0 : S 0 ≠ ⊥) (hmask : ∀ k : Fin 8192, 512 * (n + 1) ≤ k.val → S k = ⊥)

include hn hmask in
theorem fm_eq_pM : fm (fun b c => S (key b c)) (n + 1) = pM S := by
  refine eq_of_forall_ge_iff fun x => ?_
  rw [fm_le_iff, pM, max_le_iff, Finset.fold_max_le]
  simp only [bot_le, true_and, Finset.mem_univ, true_imp_iff]
  constructor
  · intro h k
    by_cases hk : 512 * (n + 1) ≤ k.val
    · rw [hmask k hk]; exact bot_le
    · have := h (k.val / 512) (by omega) ⟨k.val % 512, Nat.mod_lt _ (by decide)⟩
      have e : key (k.val / 512) ⟨k.val % 512, Nat.mod_lt _ (by decide)⟩ = k := by
        apply Fin.ext
        show (512 * (k.val / 512) + k.val % 512) % 8192 = k.val
        omega
      rwa [e] at this
  · intro h b _ c
    exact h _

include hn in
/-- A sum over all keys whose masked terms vanish, block by block. -/
theorem sum_blocks (f : Fin 8192 → EReal) (hf : ∀ k : Fin 8192, 512 * (n + 1) ≤ k.val → f k = 0) :
    ∑ k, f k = ∑ b ∈ Finset.range (n + 1), ∑ c : Fin 512, f (key b c) := by
  rw [Fin.sum_univ_tiles 16 512 rfl f]
  have e : ∀ b : Fin 16, ∑ c : Fin 512, f ⟨b.val * 512 + c.val, by omega⟩ = ∑ c : Fin 512, f (key b.val c) := fun b =>
    Finset.sum_congr rfl fun c _ => congrArg f (Fin.ext (by
      show b.val * 512 + c.val = (512 * b.val + c.val) % 8192
      omega))
  refine (Finset.sum_congr rfl fun b _ => e b).trans ?_
  rw [Fin.sum_univ_eq_sum_range (fun b => ∑ c : Fin 512, f (key b c)) 16]
  refine (Finset.sum_subset (Finset.range_subset_range.mpr (by omega)) fun b hb hb' => ?_).symm
  refine Finset.sum_eq_zero fun c _ => hf _ ?_
  have h1 := Finset.mem_range.mp hb
  have h2 : n + 1 ≤ b := by simpa using hb'
  show 512 * (n + 1) ≤ (512 * b + c.val) % 8192
  omega

include hn hT h0 hmask in
/-- The block-by-block softmax is the plain one. -/
theorem flash : Ideal.div (fa (fun b c => S (key b c)) (fun b c => w (key b c)) (n + 1)) (fl (fun b c => S (key b c)) (n + 1)) = pO S w := by
  have hT' : ∀ b c, (fun b c => S (key b c)) b c ≠ ⊤ := fun b c => hT _
  have hB' : (fun b c => S (key b c)) 0 0 ≠ ⊥ := h0
  obtain ⟨M, hM⟩ := fm_coe _ hT' hB' n
  have hP : pM S = M := (fm_eq_pM S n hn hmask).symm.trans hM
  choose e he0 he hpos hzero using fun k => weight_coe (S k) (hT k) M
  have hl : fl (fun b c => S (key b c)) (n + 1) = ((∑ k, e k : ℝ) : EReal) := by
    rw [fl_eq_fa, fa_eq _ _ hT' hB', hM, ← sum_coe, sum_blocks n hn (fun k => (e k : EReal))
      fun k hk => by rw [hzero k (hmask k hk)]; rfl]
    refine Finset.sum_congr rfl fun b _ => Finset.sum_congr rfl fun c _ => ?_
    rw [mul_one]
    exact he _
  have ha : fa (fun b c => S (key b c)) (fun b c => w (key b c)) (n + 1) = ∑ k, (e k : EReal) * w k := by
    rw [fa_eq _ _ hT' hB', hM, sum_blocks n hn (fun k => (e k : EReal) * w k)
      fun k hk => by rw [hzero k (hmask k hk), EReal.coe_zero, zero_mul]]
    refine Finset.sum_congr rfl fun b _ => Finset.sum_congr rfl fun c _ => ?_
    exact congrArg (· * w (key b c)) (he _)
  have hpos' : 0 < ∑ k, e k := lt_of_lt_of_le (hpos 0 h0) (Finset.single_le_sum (f := e) (fun k _ => he0 k) (Finset.mem_univ 0))
  have hs : ∑ k', Ideal.exp (S k' - pM S) = ((∑ k, e k : ℝ) : EReal) := by
    rw [hP, ← sum_coe]
    exact Finset.sum_congr rfl fun k _ => he k
  unfold pO
  rw [hl, ha, hs, hP, Ideal.div_coe hpos'.ne', mul_comm, coe_mul_sum _ _ _ (one_div_nonneg.mpr hpos'.le)]
  refine Finset.sum_congr rfl fun k _ => ?_
  rw [he k, Ideal.div_coe hpos'.ne']
  ac_rfl

end
end Cert.KernelIdeal.Attn
end
-- ==== Proof.Attn.State.lean ====
module

public import proofs.«01_k».proof.Proof.Attn.Frame
public import proofs.«01_k».proof.Proof.Attn.Flash

@[expose] public section

set_option maxRecDepth 16384

noncomputable section

namespace Cert.KernelIdeal.Attn

open Idealize.ShloMosaic Idealize.ShloMosaic.TcCoe Idealize.ShloMosaic.Tactic
open Cert.KernelIdeal.Gen

variable (m : (ℓ : Loc nD τ sig) → Buf (Elt Ideal) ℓ)

/-- The block indices of the four windows at a point. -/
theorem idx : ∀ t : Fin cfg0.N, win0_0.index t = ![t.val / 256, t.val / 16 % 16, 0]
    ∧ win0_1.index t = ![t.val / 256, min (t.val / 16 % 16) (t.val % 16), 0]
    ∧ win0_2.index t = ![t.val / 256, min (t.val / 16 % 16) (t.val % 16), 0]
    ∧ win0_3.index t = ![t.val / 256, t.val / 16 % 16, 0] :=
  (by decide +kernel : ∀ t : Fin grid0.N, win0_0.index t = ![t.val / 256, t.val / 16 % 16, 0]
    ∧ win0_1.index t = ![t.val / 256, min (t.val / 16 % 16) (t.val % 16), 0]
    ∧ win0_2.index t = ![t.val / 256, min (t.val / 16 % 16) (t.val % 16), 0]
    ∧ win0_3.index t = ![t.val / 256, t.val / 16 % 16, 0])

/-- The batch of a point, and its block of queries. -/
def ptB (t : Fin cfg0.N) : Fin 4 := ⟨t.val / 256, by have ht : t.val < 1024 := lt_of_lt_of_eq t.isLt N_0; omega⟩
def ptI (t : Fin cfg0.N) : Fin 16 := ⟨t.val / 16 % 16, by omega⟩

/-- Query `r` of block `i`. -/
def qry (i : Fin 16) (r : Fin 512) : Fin 8192 := ⟨512 * i.val + r.val, by omega⟩

section
variable (A0 A1 : Vec Ideal S4x8192x1024 .bf16) (A2 : Vec Ideal S4x8192x512 .bf16)

/-- The score of a query and a key in one head. -/
def sc (b : Fin 4) (h : Fin 8) (q k : Fin 8192) : EReal :=
  ∑ d : Fin 128, A0 (ix3 b q ⟨h.val * 128 + d.val, by omega⟩) * A1 (ix3 b k ⟨h.val * 128 + d.val, by omega⟩)

/-- The score with the later keys masked away. -/
def msc (b : Fin 4) (h : Fin 8) (q k : Fin 8192) : EReal := if k.val ≤ q.val then sc A0 A1 b h q k else ⊥

/-- The head of lane `x` of pair `p`. -/
def hx (p : Fin 4) (x : Fin 128) : Fin 8 := if x.val < 64 then h0 p else h1 p

/-- A value's entry in lane `x` of pair `p`. -/
def vl (b : Fin 4) (p : Fin 4) (x : Fin 128) (k : Fin 8192) : EReal := A2 (ix3 b k ⟨p.val * 128 + x.val, by omega⟩)

/-- The state after `n` blocks of keys is the running softmax of every row. -/
structure Inv (b : Fin 4) (i : Fin 16) (n : ℕ) (s : St Ideal) : Prop where
  hM : ∀ (h : Fin 8) (r : Fin 512) (l : Fin 128), s.1 (ix3 h r l) = fm (fun e c => msc A0 A1 b h (qry i r) (key e c)) n
  hL : ∀ (h : Fin 8) (r : Fin 512) (l : Fin 128), s.2.1 (ix3 h r l) = fl (fun e c => msc A0 A1 b h (qry i r) (key e c)) n
  hC : ∀ (p : Fin 4) (r : Fin 512) (x : Fin 128), s.2.2 (ix3 p r x)
    = fa (fun e c => msc A0 A1 b (hx p x) (qry i r) (key e c)) (fun e c => vl A2 b p x (key e c)) n

theorem inv_ini (b : Fin 4) (i : Fin 16) : Inv A0 A1 A2 b i 0 ini :=
  ⟨fun h r l => congrFun iM_eq (ix3 h r l), fun h r l => congrFun iL_eq (ix3 h r l), fun p r x => congrFun iA_eq (ix3 p r x)⟩

/-- One more block of keys, given its scores and its values. -/
theorem inv_upd (b : Fin 4) (i : Fin 16) (n : ℕ) (s : St Ideal) (msk : Bool) (q k : Vec Ideal S1x512x1024 .bf16) (v : Vec Ideal S1x512x512 .bf16)
    (hs : ∀ (h : Fin 8) (r c : Fin 512), scV msk q k h (ix2 r c) = msc A0 A1 b h (qry i r) (key n c))
    (hv : ∀ (p : Fin 4) (c : Fin 512) (x : Fin 128), slV v p (ix3 0 c x) = vl A2 b p x (key n c))
    (I : Inv A0 A1 A2 b i n s) : Inv A0 A1 A2 b i (n + 1) (upd msk q k v s) := by
  have eM : ∀ (h : Fin 8) (r : Fin 512) (l : Fin 128), gM (scV msk q k h) (slH s.1 h) (ix2 r l)
      = fm (fun e c => msc A0 A1 b h (qry i r) (key e c)) (n + 1) := fun h r l => by
    rw [gM_apply]
    show max (s.1 (ix3 h r l)) _ = max _ _
    rw [I.hM h r l]
    simp only [hs]
  have eA : ∀ (h : Fin 8) (r : Fin 512) (l : Fin 128), gA (scV msk q k h) (slH s.1 h) (ix2 r l)
      = Ideal.exp (fm (fun e c => msc A0 A1 b h (qry i r) (key e c)) n - fm (fun e c => msc A0 A1 b h (qry i r) (key e c)) (n + 1)) := fun h r l => by
    rw [gA_apply, eM]
    show Ideal.exp (s.1 (ix3 h r l) - _) = _
    rw [I.hM h r l]
  have eP : ∀ (h : Fin 8) (r c : Fin 512), gP (scV msk q k h) (slH s.1 h) (ix2 r c)
      = Ideal.exp (msc A0 A1 b h (qry i r) (key n c) - fm (fun e c => msc A0 A1 b h (qry i r) (key e c)) (n + 1)) := fun h r c => by
    rw [gP_apply, eM, hs]
  refine ⟨fun h r l => eM h r l, fun h r l => ?_, fun p r x => ?_⟩
  · show gL (scV msk q k h) (slH s.1 h) (slH s.2.1 h) (ix2 r l) = _
    rw [gL_apply, eA]
    show _ * s.2.1 (ix3 h r l) + _ = _
    rw [I.hL h r l]
    simp only [eP]
    rfl
  · show gC (scV msk q k (h0 p)) (scV msk q k (h1 p)) (slH s.1 (h0 p)) (slH s.1 (h1 p)) (slV v p) (slP s.2.2 p) (ix2 r x) = _
    rw [gC_apply, eA, eA, gV_apply, gV_apply]
    show (if x.val < 64 then _ * s.2.2 (ix3 p r x) + _ else _ * s.2.2 (ix3 p r x) + _) = _
    rw [I.hC p r x]
    simp only [eP, hv]
    unfold hx
    split <;> rfl
end

/-! ## The blocks at a point -/

/-- The three argument arrays. -/
abbrev B0 (c : Dev nD) : Vec Ideal S4x8192x1024 .bf16 := m ((c : Thread nD τ).loc main_arg0)
abbrev B1 (c : Dev nD) : Vec Ideal S4x8192x1024 .bf16 := m ((c : Thread nD τ).loc main_arg1)
abbrev B2 (c : Dev nD) : Vec Ideal S4x8192x512 .bf16 := m ((c : Thread nD τ).loc main_arg2)

theorem blk_q (c : Dev nD) (t : Fin cfg0.N) (r : Fin 512) (d : Fin 1024) :
    (iblk m c 0 t : Vec Ideal S1x512x1024 .bf16) (ix3 0 r d) = B0 m c (ix3 (ptB t) (qry (ptI t) r) d) := by
  unfold ptB ptI qry B0
  blk_ext [iblk, V, idx t]

theorem blk_k (c : Dev nD) (t : Fin cfg0.N) (hj : t.val % 16 ≤ t.val / 16 % 16) (r : Fin 512) (d : Fin 1024) :
    (iblk m c 1 t : Vec Ideal S1x512x1024 .bf16) (ix3 0 r d) = B1 m c (ix3 (ptB t) (key (t.val % 16) r) d) := by
  unfold ptB key B1
  have e : min (t.val / 16 % 16) (t.val % 16) = t.val % 16 := by omega
  blk_ext [iblk, V, idx t, e]

theorem blk_v (c : Dev nD) (t : Fin cfg0.N) (hj : t.val % 16 ≤ t.val / 16 % 16) (r : Fin 512) (d : Fin 512) :
    (iblk m c 2 t : Vec Ideal S1x512x512 .bf16) (ix3 0 r d) = B2 m c (ix3 (ptB t) (key (t.val % 16) r) d) := by
  unfold ptB key B2
  have e : min (t.val / 16 % 16) (t.val % 16) = t.val % 16 := by omega
  blk_ext [iblk, V, idx t, e]

theorem scores (c : Dev nD) (t : Fin cfg0.N) (hj : t.val % 16 ≤ t.val / 16 % 16) (msk : Bool) (hm : msk = true ↔ t.val / 16 % 16 = t.val % 16)
    (h : Fin 8) (r k : Fin 512) :
    scV msk (iblk m c 0 t) (iblk m c 1 t) h (ix2 r k) = msc (B0 m c) (B1 m c) (ptB t) h (qry (ptI t) r) (key (t.val % 16) k) := by
  have e : gS (slQ (iblk m c 0 t) h) (slQ (iblk m c 1 t) h) (ix2 r k) = sc (B0 m c) (B1 m c) (ptB t) h (qry (ptI t) r) (key (t.val % 16) k) := by
    rw [gS_apply]
    exact Finset.sum_congr rfl fun d _ => congrArg₂ _ (blk_q m c t r _) (blk_k m c t hj k _)
  have hkq : (key (t.val % 16) k).val ≤ (qry (ptI t) r).val ↔ (512 * (t.val % 16) + k.val) % 8192 ≤ 512 * (t.val / 16 % 16) + r.val := Iff.rfl
  unfold msc
  cases msk
  · have hlt : ¬ (t.val / 16 % 16 = t.val % 16) := fun h => absurd (hm.mpr h) (by decide)
    rw [if_pos (hkq.mpr (by omega))]
    exact e
  · have heq := hm.mp rfl
    show gSm _ _ (ix2 r k) = _
    rw [gSm_apply, e]
    have hiff : k.val ≤ r.val ↔ (key (t.val % 16) k).val ≤ (qry (ptI t) r).val := by rw [hkq]; omega
    by_cases hc : k.val ≤ r.val
    · rw [if_pos hc, if_pos (hiff.mp hc)]
    · rw [if_neg hc, if_neg (fun h => hc (hiff.mpr h))]

theorem values (c : Dev nD) (t : Fin cfg0.N) (hj : t.val % 16 ≤ t.val / 16 % 16) (p : Fin 4) (k : Fin 512) (x : Fin 128) :
    slV (iblk m c 2 t) p (ix3 0 k x) = vl (B2 m c) (ptB t) p x (key (t.val % 16) k) :=
  blk_v m c t hj k _

/-- Left of the diagonal and on it the state is the running softmax so far. -/
theorem inv_at (c : Dev nD) : ∀ (n : ℕ) (hn : n < cfg0.N), n % 16 ≤ n / 16 % 16 →
    Inv (B0 m c) (B1 m c) (B2 m c) (ptB ⟨n, hn⟩) (ptI ⟨n, hn⟩) (n % 16 + 1) (outs m c n hn) := by
  intro n
  induction n with
  | zero =>
    intro hn hj
    rw [show outs m c 0 hn = _ from outs_A m c ⟨0, hn⟩ rfl (by show ¬ 0 % 16 + 1 ≤ 0 / 16 % 16; decide) (by show 0 / 16 % 16 = 0 % 16; decide)]
    exact inv_upd _ _ _ _ _ _ _ _ _ _ _ (scores m c ⟨0, hn⟩ hj true (by show true = true ↔ 0 / 16 % 16 = 0 % 16; decide)) (values m c ⟨0, hn⟩ hj) (inv_ini _ _ _ _ _)
  | succ n ih =>
    intro hn hj
    have step : ∀ (s : St Ideal) (msk : Bool) (hm : msk = true ↔ (n + 1) / 16 % 16 = (n + 1) % 16),
        Inv (B0 m c) (B1 m c) (B2 m c) (ptB ⟨n + 1, hn⟩) (ptI ⟨n + 1, hn⟩) ((n + 1) % 16) s →
        Inv (B0 m c) (B1 m c) (B2 m c) (ptB ⟨n + 1, hn⟩) (ptI ⟨n + 1, hn⟩) ((n + 1) % 16 + 1)
          (upd msk (iblk m c 0 ⟨n + 1, hn⟩) (iblk m c 1 ⟨n + 1, hn⟩) (iblk m c 2 ⟨n + 1, hn⟩) s) := fun s msk hm I =>
      inv_upd _ _ _ _ _ _ _ _ _ _ _ (scores m c ⟨n + 1, hn⟩ hj msk hm) (values m c ⟨n + 1, hn⟩ hj) I
    by_cases hz : (n + 1) % 16 = 0
    · have I0 : Inv (B0 m c) (B1 m c) (B2 m c) (ptB ⟨n + 1, hn⟩) (ptI ⟨n + 1, hn⟩) ((n + 1) % 16) ini := by
        rw [hz]; exact inv_ini _ _ _ _ _
      by_cases h1 : (n + 1) % 16 + 1 ≤ (n + 1) / 16 % 16
      · rw [show outs m c (n + 1) hn = _ from outs_C m c ⟨n + 1, hn⟩ hz h1]
        exact step _ false (by constructor <;> intro h <;> [exact absurd h (by decide); exact absurd h (by omega)]) I0
      · rw [show outs m c (n + 1) hn = _ from outs_A m c ⟨n + 1, hn⟩ hz h1 (by show (n + 1) / 16 % 16 = (n + 1) % 16; omega)]
        exact step _ true (by constructor <;> intro h <;> [omega; rfl]) I0
    · have hn' : n < cfg0.N := Nat.lt_of_succ_lt hn
      have I0 : Inv (B0 m c) (B1 m c) (B2 m c) (ptB ⟨n + 1, hn⟩) (ptI ⟨n + 1, hn⟩) ((n + 1) % 16) (outs m c n hn') := by
        have I := ih hn' (by omega)
        have eB : ptB ⟨n + 1, hn⟩ = ptB ⟨n, hn'⟩ := Fin.ext (by show (n + 1) / 256 = n / 256; omega)
        have eI : ptI ⟨n + 1, hn⟩ = ptI ⟨n, hn'⟩ := Fin.ext (by show (n + 1) / 16 % 16 = n / 16 % 16; omega)
        rw [eB, eI, show (n + 1) % 16 = n % 16 + 1 by omega]
        exact I
      by_cases h1 : (n + 1) % 16 + 1 ≤ (n + 1) / 16 % 16
      · rw [show outs m c (n + 1) hn = _ from outs_E m c ⟨n + 1, hn⟩ hz h1]
        exact step _ false (by constructor <;> intro h <;> [exact absurd h (by decide); exact absurd h (by omega)]) I0
      · rw [show outs m c (n + 1) hn = _ from outs_D m c ⟨n + 1, hn⟩ hz h1 (by show (n + 1) / 16 % 16 = (n + 1) % 16; omega)]
        exact step _ true (by constructor <;> intro h <;> [omega; rfl]) I0

end Cert.KernelIdeal.Attn
end
-- ==== Proof.Attn.Result.lean ====
module

public import proofs.«01_k».proof.Proof.Attn.State

@[expose] public section

set_option maxRecDepth 16384

noncomputable section

namespace Cert.KernelIdeal.Attn

open Idealize.ShloMosaic Idealize.ShloMosaic.TcCoe Idealize.ShloMosaic.Tactic
open Cert.KernelIdeal.Gen

/-- The head of a column of the result. -/
def hd (x : Fin 512) : Fin 8 := ⟨x.val / 64, by omega⟩

/-- Plain causal softmax attention, at an index of the result. -/
def att (A0 A1 : Vec Ideal S4x8192x1024 .bf16) (A2 : Vec Ideal S4x8192x512 .bf16) : Vec Ideal S4x8192x512 .bf16 :=
  fun j => pO (fun k => msc A0 A1 (j 0) (hd (j 2)) (j 1) k) (fun k => A2 (ix3 (j 0) k (j 2)))

/-- A score of finite queries and keys is a real number. -/
theorem sc_coe (A0 A1 : Vec Ideal S4x8192x1024 .bf16) (f0 : ∀ i, ∃ r : ℝ, A0 i = (r : EReal)) (f1 : ∀ i, ∃ r : ℝ, A1 i = (r : EReal))
    (b : Fin 4) (h : Fin 8) (q k : Fin 8192) : ∃ r : ℝ, sc A0 A1 b h q k = (r : EReal) := by
  choose g0 hg0 using f0
  choose g1 hg1 using f1
  refine ⟨∑ d : Fin 128, g0 (ix3 b q ⟨h.val * 128 + d.val, by omega⟩) * g1 (ix3 b k ⟨h.val * 128 + d.val, by omega⟩), ?_⟩
  unfold sc
  rw [← sum_coe]
  refine Finset.sum_congr rfl fun d _ => ?_
  rw [hg0, hg1, EReal.coe_mul]

section
variable (m : (ℓ : Loc nD τ sig) → Buf (Elt Ideal) ℓ) (ρ : Dev nD → PrngReg)
variable (f0 : ∀ c i, ∃ r : ℝ, B0 m c i = (r : EReal)) (f1 : ∀ c i, ∃ r : ℝ, B1 m c i = (r : EReal))

include f0 f1 in
/-- The running softmax of a row up to its own block, divided, is plain attention. -/
theorem flash_row (c : Dev nD) (b : Fin 4) (h : Fin 8) (i : Fin 16) (r : Fin 512) (w : Fin 8192 → EReal) :
    Ideal.div (fa (fun e k => msc (B0 m c) (B1 m c) b h (qry i r) (key e k)) (fun e k => w (key e k)) (i.val + 1))
      (fl (fun e k => msc (B0 m c) (B1 m c) b h (qry i r) (key e k)) (i.val + 1))
      = pO (fun k => msc (B0 m c) (B1 m c) b h (qry i r) k) w := by
  have hs := fun k => sc_coe (B0 m c) (B1 m c) (f0 c) (f1 c) b h (qry i r) k
  refine flash (fun k => msc (B0 m c) (B1 m c) b h (qry i r) k) w i.val i.isLt (fun k => ?_) ?_ (fun k hk => ?_)
  · unfold msc
    split
    · obtain ⟨x, hx⟩ := hs k; rw [hx]; exact EReal.coe_ne_top x
    · exact bot_ne_top
  · unfold msc
    rw [if_pos (show (0 : Fin 8192).val ≤ (qry i r).val from Nat.zero_le _)]
    obtain ⟨x, hx⟩ := hs 0; rw [hx]; exact EReal.coe_ne_bot x
  · unfold msc
    rw [if_neg]
    show ¬ k.val ≤ 512 * i.val + r.val
    omega

/-- A row's point on the diagonal, in arithmetic. -/
theorem diag_div (d : ℕ) : (16 * d + d % 16) / 16 = d ∧ (16 * d + d % 16) % 16 = d % 16 := by
  have h := Nat.mod_lt d (show 0 < 16 by decide)
  generalize d % 16 = e at h
  constructor <;> omega

include f0 f1 in
/-- A row's block of the result is plain attention there. -/
theorem oblk_val (c : Dev nD) (t : Fin cfg0.N) (r x : Fin 512) :
    oblk m c t (ix3 0 r x) = att (B0 m c) (B1 m c) (B2 m c) (ix3 (ptB t) (qry (ptI t) r) x) := by
  have ht : t.val < 1024 := lt_of_lt_of_eq t.isLt N_0
  have hd1 := diag_div (t.val / 16)
  have I := inv_at m c (diag t).val (diag t).isLt (by
    show (16 * (t.val / 16) + t.val / 16 % 16) % 16 ≤ (16 * (t.val / 16) + t.val / 16 % 16) / 16 % 16
    rw [hd1.1, hd1.2])
  rw [show (⟨(diag t).val, (diag t).isLt⟩ : Fin cfg0.N) = diag t from rfl] at I
  have eB : ptB (diag t) = ptB t := Fin.ext (by show (16 * (t.val / 16) + t.val / 16 % 16) / 256 = t.val / 256; have h := hd1.1; rw [show 256 = 16 * 16 from rfl, ← Nat.div_div_eq_div_mul, h, Nat.div_div_eq_div_mul])
  have eI : ptI (diag t) = ptI t := Fin.ext (by show (16 * (t.val / 16) + t.val / 16 % 16) / 16 % 16 = t.val / 16 % 16; rw [hd1.1])
  have en : (diag t).val % 16 = (ptI t).val := by
    show (16 * (t.val / 16) + t.val / 16 % 16) % 16 = t.val / 16 % 16; exact hd1.2
  rw [eB, eI, en] at I
  have e := flash_row m f0 f1 c (ptB t) (hd x) (ptI t) r (fun k => B2 m c (ix3 (ptB t) k x))
  show gO (slH (ost m c (diag t)).2.1 (h0 (pr x))) (slH (ost m c (diag t)).2.1 (h1 (pr x))) (slP (ost m c (diag t)).2.2 (pr x))
    (ix2 r (⟨x.val % 128, Nat.mod_lt _ (by decide)⟩ : Fin 128)) = _
  rw [gO_apply]
  refine Eq.trans ?_ e
  have hw : ∀ k, vl (B2 m c) (ptB t) (pr x) ⟨x.val % 128, Nat.mod_lt _ (by decide)⟩ k = B2 m c (ix3 (ptB t) k x) := fun k =>
    congrArg (B2 m c) ((ix3_inj ..).2 ⟨rfl, rfl, Fin.ext (by show x.val / 128 * 128 + x.val % 128 = x.val; omega)⟩)
  have hh : hx (pr x) ⟨x.val % 128, Nat.mod_lt _ (by decide)⟩ = hd x := by
    unfold hx
    split
    · rename_i hlt
      exact Fin.ext (by show 2 * (x.val / 128) = x.val / 64; have : x.val % 128 < 64 := hlt; omega)
    · rename_i hlt
      exact Fin.ext (by show 2 * (x.val / 128) + 1 = x.val / 64; have : ¬ x.val % 128 < 64 := hlt; omega)
  have hC := I.hC (pr x) r ⟨x.val % 128, Nat.mod_lt _ (by decide)⟩
  rw [hh] at hC
  simp only [hw] at hC
  have hL := I.hL (hd x) r ⟨x.val % 128, Nat.mod_lt _ (by decide)⟩
  rw [← hC, ← hL, ← hh]
  unfold hx
  split <;> rfl

include f0 f1 in
/-- The result array is plain attention. -/
theorem final (c : Dev nD) : (dats m 0 c).arrAt 3 cfg0.N = att (B0 m c) (B1 m c) (B2 m c) := by
  refine (dats m 0 c).arrAt_eq_of_covers 3 _ (by decide +kernel) fun t hf y => ?_
  blk_simp
  rw [after0_3]
  idx_vars y
  refine (oblk_val m f0 f1 c t _ _).trans ?_
  unfold ptB ptI qry
  blk_ext [idx t]

/-- The run: the result is plain attention of the arguments, which are unchanged. -/
theorem run_att (f0 : ∀ c i, ∃ r : ℝ, B0 m c i = (r : EReal)) (f1 : ∀ c i, ∃ r : ℝ, B1 m c i = (r : EReal)) :
    θ_run defs (onTc (τ := τ) (main (F := Ideal))) ⟨m, fun _ => 0, ρ⟩ (fun r => (∀ c : Dev nD,
      r.2.mem ((c.tc : Thread nD τ).loc main_v0) = att (B0 m c) (B1 m c) (B2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun _ h c => ⟨(h c).1.trans (final m f0 f1 c), (h c).2⟩) (run_blocks m ρ)

end
end Cert.KernelIdeal.Attn
end
-- ==== Proof.Attn.Ref.lean ====
module

public import proofs.«01_k».proof.Proof.Attn.Result
public import proofs.«01_k».proof.Proof.Gen.ReferenceIdeal
public import proofs.«01_k».proof.Proof.Gen.ReferenceIdeal.Run
public import proofs.«01_k».proof.Proof.Gen.Pre_finite_scores
public import Idealize.ShloMosaic.Lib.ReduceAll

@[expose] public section

set_option maxRecDepth 16384

noncomputable section

namespace Cert.KernelIdeal.Attn

open Idealize.ShloMosaic Idealize.ShloMosaic.TcCoe Idealize.ShloMosaic.Tactic

theorem ofBits_pinf : Ideal.ofBits .f32 0x7F800000#32 = ⊤ := by
  simp [Ideal.ofBits, FTy.bits]
  decide +kernel

/-- What is smaller than infinity in absolute value is a real number. -/
theorem coe_of_abs_lt (x : EReal) (h : max x (-x) < ⊤) : ∃ r : ℝ, x = (r : EReal) := by
  induction x with
  | bot => simp at h
  | top => simp at h
  | coe r => exact ⟨r, rfl⟩

/-- The comparison, read as an order. -/
theorem olt_top {x : EReal} (h : Idealize.ShloMosaic.Ideal.cmp .olt (max x (-x)) (Ideal.ofBits .f32 0x7F800000#32) = 1#1) : max x (-x) < ⊤ := by
  rw [ofBits_pinf] at h
  by_contra hn
  simp [Idealize.ShloMosaic.Ideal.cmp, hn] at h

/-- The precondition says every query and every key is a real number. -/
theorem pre_coe (A0 A1 : FVec Ideal Cert.Pre_finite_scores.S4x8192x1024 .bf16) (A2 : FVec Ideal Cert.Pre_finite_scores.S4x8192x512 .bf16)
    (h : Cert.Pre_finite_scores.fn (F := Ideal) A0 A1 A2 = fun _ => 1#1) :
    (∀ i, ∃ r : ℝ, A0 i = (r : EReal)) ∧ (∀ i, ∃ r : ℝ, A1 i = (r : EReal)) := by
  have h' := congrFun h ix0
  dsimp only [Cert.Pre_finite_scores.fn] at h'
  obtain ⟨ha, hb⟩ := IntOp.andi_eq_one.1 h'
  refine ⟨fun i => ?_, fun i => ?_⟩
  · exact coe_of_abs_lt _ (olt_top (Host.reduce_andi_all _ _ _ _ _ ha i))
  · exact coe_of_abs_lt _ (olt_top (Host.reduce_andi_all _ _ _ _ _ hb i))

section
open Cert.ReferenceIdeal Cert.ReferenceIdeal.Gen

/-- The masked scores, as the reference computes them. -/
def refS (A0 A1 : Vec Ideal S4x8192x1024 .bf16) : FVec Ideal S4x8x8192x8192 .f32 :=
  select (broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S4x8192x8x128_S4x8192x8x128_S4x8x8192x8192_3_3_1_1_02_02 none (shapeCast _ (extf .f32 A0 bitsLt_bf16_f32) shapeCasts_S4x8192x1024_S4x8192x8x128) (shapeCast _ (extf .f32 A1 bitsLt_bf16_f32) shapeCasts_S4x8192x1024_S4x8192x8x128))
    (broadcastInDim S4x8x8192x8192 ![] bcast_S_S4x8x8192x8192 (id (constant S_ .f32 0xFF800000#32)))

/-- The greatest score of each row. -/
def refM (s : FVec Ideal S4x8x8192x8192 .f32) : FVec Ideal S4x8x8192 .f32 :=
  Host.reduce FloatOps.maximumf s (constant S_ .f32 0xFF800000#32) reducesTo_S4x8x8192x8192_S4x8x8192_d3 h_S_

/-- The weights before division, from the scores and the greatest of each row. -/
def refE (s : FVec Ideal S4x8x8192x8192 .f32) (M : FVec Ideal S4x8x8192 .f32) : FVec Ideal S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) M))))

/-- The weighted values. -/
def refO (e : FVec Ideal S4x8x8192x8192 .f32) (A2 : Vec Ideal S4x8192x512 .bf16) : Vec Ideal S4x8192x512 .bf16 :=
  truncf .bf16 (shapeCast _ (transpose S4x8192x8x64 [0, 3, 1, 2] (Host.dotGeneral (φ₁ := .f32) (φ₂ := .f32) dot_S4x8192x8x64_S4x8x8192x8192_S4x8x64x8192_1_3_3_2_02_01 none (shapeCast _ (extf .f32 A2 bitsLt_bf16_f32) shapeCasts_S4x8192x512_S4x8192x8x64)
    (Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_))))) transposes_S4x8x64x8192_S4x8192x8x64_0_3_1_2) shapeCasts_S4x8192x8x64_S4x8192x512) bitsLt_bf16_f32

theorem refS_apply (A0 A1 : Vec Ideal S4x8192x1024 .bf16) (b : Fin 4) (h : Fin 8) (q k : Fin 8192) :
    refS A0 A1 (ix4 b h q k) = msc A0 A1 b h q k := by
  have e : refS A0 A1 (ix4 b h q k) = Scalar.select (IntOp.cmpi .sle (BitVec.ofNat 32 k.val) (BitVec.ofNat 32 q.val)) (sc A0 A1 b h q k) (Ideal.ofBits .f32 0xFF800000#32) := by
    pointwise [refS, hlo_ix]
    rfl
  rw [e, ofBits_ninf, msc]
  have hk := k.isLt
  have hq := q.isLt
  by_cases hc : k.val ≤ q.val
  · rw [if_pos hc, show IntOp.cmpi .sle (BitVec.ofNat 32 k.val) (BitVec.ofNat 32 q.val) = 1#1 by word_cmp]
    rfl
  · rw [if_neg hc, show IntOp.cmpi .sle (BitVec.ofNat 32 k.val) (BitVec.ofNat 32 q.val) = 0#1 by word_cmp]
    rfl

theorem refM_apply (s : FVec Ideal S4x8x8192x8192 .f32) (b : Fin 4) (h : Fin 8) (q : Fin 8192) :
    refM s (ix3 b h q) = Finset.univ.fold max ⊥ fun k : Fin 8192 => s (ix4 b h q k) := by
  have hr : S4x8x8192x8192.Reduces [3] S4x8x8192 := by decide
  rw [refM, Host.reduce_eq_fold_single FloatOps.maximumf s _ reducesTo_S4x8x8192x8192_S4x8x8192_d3 hr h_S_]
  have e : (constant (F := Ideal) S_ .f32 0xFF800000#32) (Shape.Idx.first h_S_) = ⊥ := ofBits_ninf
  rw [e]
  have hf : (s ∘ hr.lift (ix3 b h q)) = fun k : Fin 8192 => s (ix4 b h q k) := by
    funext k
    show s _ = s _
    congr 1
    funext c
    fin_cases c <;> rfl
  exact congrArg (fun f => Finset.fold max ⊥ f (Finset.univ : Finset (Fin 8192))) hf

theorem refE_apply (s : FVec Ideal S4x8x8192x8192 .f32) (M : FVec Ideal S4x8x8192 .f32) (b : Fin 4) (h : Fin 8) (q k : Fin 8192) :
    refE s M (ix4 b h q k) = Ideal.exp (s (ix4 b h q k) - max (Ideal.ofBits .f32 0xFF800000#32) (M (ix3 b h q))) := by
  pointwise [refE]

theorem refO_apply (e : FVec Ideal S4x8x8192x8192 .f32) (A2 : Vec Ideal S4x8192x512 .bf16) (b : Fin 4) (q : Fin 8192) (x : Fin 512) :
    refO e A2 (ix3 b q x) = ∑ k : Fin 8192, A2 (ix3 b k x) * Ideal.div (e (ix4 b (hd x) q k)) (∑ k' : Fin 8192, e (ix4 b (hd x) q k')) := by
  pointwise [refO]
  rfl

theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v28 m c = refO (refE (refS (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) (refM (refS (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))))) (m ((c.tc : Thread Cert.ReferenceIdeal.nD Cert.ReferenceIdeal.τ).loc Cert.ReferenceIdeal.main_arg2)) := by
  unfold Cert.ReferenceIdeal.Value.res_main_v28 refO refE refM refS
  rfl

/-- The reference's result is plain attention. -/
theorem ref_att (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v28 m c = att (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) := by
  rw [res_eq]
  funext j
  obtain ⟨b, q, x, rfl⟩ : ∃ (b : Fin 4) (q : Fin 8192) (x : Fin 512), j = ix3 b q x := ⟨j 0, j 1, j 2, eq_ix3 j⟩
  rw [refO_apply]
  simp only [refE_apply, refS_apply, refM_apply, ofBits_ninf]
  rfl
end

end Cert.KernelIdeal.Attn
end
-- ==== Proof.Ffn.Step.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Idealize.ShloMosaic Idealize.ShloMosaic.TcCoe Idealize.ShloMosaic.Tactic
open Cert.Kernel2Ideal.Gen

/-- The rows of the extended block: eight rows from the block before, then the block's own. -/
def ext (X : Vec Ideal S8x5632 .f32) (U : Fin 512 → Fin 5632 → Ideal .f32) (p : Fin 520) (f : Fin 5632) : Ideal .f32 :=
  if h : p.val < 8 then X (ix2 ⟨p.val, h⟩ f) else U ⟨p.val - 8, by have := p.isLt; omega⟩ f

theorem ext_own (X : Vec Ideal S8x5632 .f32) (U : Fin 512 → Fin 5632 → Ideal .f32) (q : Fin 520) (p : Fin 512) (f : Fin 5632)
    (h : q.val = p.val + 8) : ext X U q f = U p f := by
  rw [ext, dif_neg (by omega)]
  congr 1
  apply Fin.ext
  show q.val - 8 = p.val
  omega

/-- The left half of the buffer holds the extended block's columns from `lo` on. -/
def HalfL (E : Fin 520 → Fin 5632 → Ideal .f32) (lo : ℕ) (L : List (View.Piece (Elt Ideal) S520x512 .f32)) : Prop :=
  ∀ (y : S520x512.Idx) (f : Fin 5632), (y 1).val < 256 → f.val = lo + (y 1).val →
    View.canon (Val := Elt Ideal) (s := S520x512) (e := .f32) L y = E (y 0) f

/-- The right half of the buffer holds the extended block's columns from `lo` on. -/
def HalfR (E : Fin 520 → Fin 5632 → Ideal .f32) (lo : ℕ) (L : List (View.Piece (Elt Ideal) S520x512 .f32)) : Prop :=
  ∀ (y : S520x512.Idx) (f : Fin 5632), 256 ≤ (y 1).val → f.val + 256 = lo + (y 1).val →
    View.canon (Val := Elt Ideal) (s := S520x512) (e := .f32) L y = E (y 0) f

section
variable {s : Shape} {e : EltTy}

theorem canon_in {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon (Val := Elt Ideal) (s := s) (e := e) (⟨Rect.unit off size inb, w⟩ :: L) y = w x := by
  have : y = (Rect.unit off size inb).emb x := by
    funext a
    apply Fin.ext
    rw [Rect.emb_apply, hx a]
    show _ = off a + 1 * _
    omega
  rw [this]
  exact View.canon_cons_emb _ w L x

theorem canon_out {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon (Val := Elt Ideal) (s := s) (e := e) (⟨Rect.unit off size inb, w⟩ :: L) y
      = View.canon (Val := Elt Ideal) (s := s) (e := e) L y := by
  refine View.canon_cons_of_not_mem _ L fun h => ?_
  obtain ⟨k, hk, he⟩ := (LoadRect.mem_set _).mp h a
  have he' : (y a).val = off a + 1 * k := he
  have hk' : k < size a := hk
  omega
end

theorem halfL_mk {X : Vec Ideal S8x5632 .f32} {U : Fin 512 → Fin 5632 → Ideal .f32} {lo : ℕ}
    {L : List (View.Piece (Elt Ideal) S520x512 .f32)} {p0 : Vec Ideal S8x256 .f32} {p1 : Vec Ideal S512x256 .f32}
    (h0 : ∀ (r : Fin 8) (k : Fin 256) (f : Fin 5632), f.val = lo + k.val → p0 (ix2 r k) = X (ix2 r f))
    (h1 : ∀ (r : Fin 512) (k : Fin 256) (f : Fin 5632), f.val = lo + k.val → p1 (ix2 r k) = U r f) :
    HalfL (ext X U) lo (⟨Rect.unit ![8, 0] S512x256.size inb_S520x512_S512x256_8_0, p1⟩ ::
      ⟨Rect.unit ![0, 0] S8x256.size inb_S520x512_S8x256_0_0, p0⟩ :: L) := by
  intro y f hy hf
  obtain ⟨p, q, rfl⟩ : ∃ (p : Fin 520) (q : Fin 512), y = ix2 p q := ⟨y 0, y 1, eq_ix2 y⟩
  have hq : q.val < 256 := hy
  have hf' : f.val = lo + q.val := hf
  show _ = ext X U p f
  by_cases h : p.val < 8
  · refine (canon_out _ _ _ _ 0 (Or.inl h)).trans ?_
    refine (canon_in _ _ _ _ (ix2 ⟨p.val, h⟩ ⟨q.val, hq⟩) ?_).trans ?_
    · intro a; fin_cases a <;> simp [ix2]
    · rw [ext, dif_pos h]
      exact h0 _ _ _ hf'
  · have hp := p.isLt
    refine (canon_in _ _ _ _ (ix2 ⟨p.val - 8, by omega⟩ ⟨q.val, hq⟩) ?_).trans ?_
    · intro a
      fin_cases a
      · show p.val = 8 + (p.val - 8); omega
      · show q.val = 0 + q.val; omega
    · rw [ext, dif_neg h]
      exact h1 _ _ _ hf'

theorem halfR_mk {X : Vec Ideal S8x5632 .f32} {U : Fin 512 → Fin 5632 → Ideal .f32} {lo : ℕ}
    {L : List (View.Piece (Elt Ideal) S520x512 .f32)} {p0 : Vec Ideal S8x256 .f32} {p1 : Vec Ideal S512x256 .f32}
    (h0 : ∀ (r : Fin 8) (k : Fin 256) (f : Fin 5632), f.val = lo + k.val → p0 (ix2 r k) = X (ix2 r f))
    (h1 : ∀ (r : Fin 512) (k : Fin 256) (f : Fin 5632), f.val = lo + k.val → p1 (ix2 r k) = U r f) :
    HalfR (ext X U) lo (⟨Rect.unit ![8, 256] S512x256.size inb_S520x512_S512x256_8_256, p1⟩ ::
      ⟨Rect.unit ![0, 256] S8x256.size inb_S520x512_S8x256_0_256, p0⟩ :: L) := by
  intro y f hy hf
  obtain ⟨p, q, rfl⟩ : ∃ (p : Fin 520) (q : Fin 512), y = ix2 p q := ⟨y 0, y 1, eq_ix2 y⟩
  have hq : 256 ≤ q.val := hy
  have hq' := q.isLt
  have hf' : f.val + 256 = lo + q.val := hf
  have hf2 : f.val = lo + (q.val - 256) := by omega
  show _ = ext X U p f
  by_cases h : p.val < 8
  · refine (canon_out _ _ _ _ 0 (Or.inl h)).trans ?_
    refine (canon_in _ _ _ _ (ix2 ⟨p.val, h⟩ ⟨q.val - 256, by omega⟩) ?_).trans ?_
    · intro a
      fin_cases a
      · show p.val = 0 + p.val; omega
      · show q.val = 256 + (q.val - 256); omega
    · rw [ext, dif_pos h]
      exact h0 _ _ _ hf2
  · have hp := p.isLt
    refine (canon_in _ _ _ _ (ix2 ⟨p.val - 8, by omega⟩ ⟨q.val - 256, by omega⟩) ?_).trans ?_
    · intro a
      fin_cases a
      · show p.val = 8 + (p.val - 8); omega
      · show q.val = 256 + (q.val - 256); omega
    · rw [ext, dif_neg h]
      exact h1 _ _ _ hf2

/-- Storing the right half leaves the left one. -/
theorem halfL_keep {E : Fin 520 → Fin 5632 → Ideal .f32} {lo : ℕ}
    {L : List (View.Piece (Elt Ideal) S520x512 .f32)} {p0 : Vec Ideal S8x256 .f32} {p1 : Vec Ideal S512x256 .f32}
    (h : HalfL E lo L) :
    HalfL E lo (⟨Rect.unit ![8, 256] S512x256.size inb_S520x512_S512x256_8_256, p1⟩ ::
      ⟨Rect.unit ![0, 256] S8x256.size inb_S520x512_S8x256_0_256, p0⟩ :: L) := by
  intro y f hy hf
  rw [← h y f hy hf]
  exact (canon_out _ _ _ _ 1 (Or.inl hy)).trans (canon_out _ _ _ _ 1 (Or.inl hy))

section
variable {sig : RefSig} {κ : Kind} {sp : Space} (v : View sig κ sp S520x512 .f32)
  {E : Fin 520 → Fin 5632 → Ideal .f32} {lo : ℕ} {L : List (View.Piece (Elt Ideal) S520x512 .f32)}

theorem rdL (h : HalfL E lo L) (off : ℕ) (inb) (r : Fin 512) (k : Fin 256) (p : Fin 520) (f : Fin 5632)
    (hp : p.val = off + r.val) (hf : f.val = lo + k.val) :
    v.readCov L (Rect.unit (s := S520x512) ![off, 0] S512x256.size inb).toLoadRect (ix2 r k) = E p f := by
  rw [View.readCov_eq_canon']
  have hk := k.isLt
  have e1 : ((Rect.unit (s := S520x512) ![off, 0] S512x256.size inb).toLoadRect.idx (ix2 r k) 1).val = k.val := by
    show 0 + 1 * k.val = k.val; omega
  have e0 : (Rect.unit (s := S520x512) ![off, 0] S512x256.size inb).toLoadRect.idx (ix2 r k) 0 = p := by
    apply Fin.ext
    show off + 1 * r.val = p.val; omega
  refine (h _ f (by omega) (by omega)).trans ?_
  rw [e0]

theorem rdR (h : HalfR E lo L) (off : ℕ) (inb) (r : Fin 512) (k : Fin 256) (p : Fin 520) (f : Fin 5632)
    (hp : p.val = off + r.val) (hf : f.val = lo + k.val) :
    v.readCov L (Rect.unit (s := S520x512) ![off, 256] S512x256.size inb).toLoadRect (ix2 r k) = E p f := by
  rw [View.readCov_eq_canon']
  have hk := k.isLt
  have e1 : ((Rect.unit (s := S520x512) ![off, 256] S512x256.size inb).toLoadRect.idx (ix2 r k) 1).val = 256 + k.val := by
    show 256 + 1 * k.val = 256 + k.val; omega
  have e0 : (Rect.unit (s := S520x512) ![off, 256] S512x256.size inb).toLoadRect.idx (ix2 r k) 0 = p := by
    apply Fin.ext
    show off + 1 * r.val = p.val; omega
  refine (h _ f (by omega) (by omega)).trans ?_
  rw [e0]

/-- The last eight rows, which the kernel keeps for the next block. -/
theorem rdL8 {X : Vec Ideal S8x5632 .f32} {U : Fin 512 → Fin 5632 → Ideal .f32} (h : HalfL (ext X U) lo L) (inb)
    (r : Fin 8) (k : Fin 256) (p : Fin 512) (f : Fin 5632) (hp : p.val = 504 + r.val) (hf : f.val = lo + k.val) :
    v.readCov L (Rect.unit (s := S520x512) ![512, 0] S8x256.size inb).toLoadRect (ix2 r k) = U p f := by
  rw [View.readCov_eq_canon']
  have hk := k.isLt
  have e1 : ((Rect.unit (s := S520x512) ![512, 0] S8x256.size inb).toLoadRect.idx (ix2 r k) 1).val = k.val := by
    show 0 + 1 * k.val = k.val; omega
  have e0 : ((Rect.unit (s := S520x512) ![512, 0] S8x256.size inb).toLoadRect.idx (ix2 r k) 0).val = 512 + r.val := by
    show 512 + 1 * r.val = 512 + r.val; omega
  exact (h _ f (by omega) (by omega)).trans (ext_own X U _ p f (by rw [e0]; omega))

theorem rdR8 {X : Vec Ideal S8x5632 .f32} {U : Fin 512 → Fin 5632 → Ideal .f32} (h : HalfR (ext X U) lo L) (inb)
    (r : Fin 8) (k : Fin 256) (p : Fin 512) (f : Fin 5632) (hp : p.val = 504 + r.val) (hf : f.val = lo + k.val) :
    v.readCov L (Rect.unit (s := S520x512) ![512, 256] S8x256.size inb).toLoadRect (ix2 r k) = U p f := by
  rw [View.readCov_eq_canon']
  have hk := k.isLt
  have e1 : ((Rect.unit (s := S520x512) ![512, 256] S8x256.size inb).toLoadRect.idx (ix2 r k) 1).val = 256 + k.val := by
    show 256 + 1 * k.val = 256 + k.val; omega
  have e0 : ((Rect.unit (s := S520x512) ![512, 256] S8x256.size inb).toLoadRect.idx (ix2 r k) 0).val = 512 + r.val := by
    show 512 + 1 * r.val = 512 + r.val; omega
  exact (h _ f (by omega) (by omega)).trans (ext_own X U _ p f (by rw [e0]; omega))
end

/-- One product of the block with a column of the up projection. -/
def up (h : Vec Ideal S512x1024 .bf16) (w : Vec Ideal S1024x5632 .bf16) (r : Fin 512) (f : Fin 5632) : Ideal .f32 :=
  ∑ d : Fin 1024, h (ix2 r d) * w (ix2 d f)

/-- What is stored for a tile of columns is the product's columns. -/
theorem up_tile (h : Vec Ideal S512x1024 .bf16) {M : Memref sig .tc .vmem S1024x5632 .bf16} (hM : M.IsWhole)
    (w : Vec Ideal S1024x5632 .bf16) (lo : ℕ) (inb) (r : Fin 512) (k : Fin 256) (f : Fin 5632) (hf : f.val = lo + k.val) :
    k0_pay6 h (View.readAt (Elt Ideal) M.view (Rect.unit (s := S1024x5632) ![0, lo] S1024x256.size inb).toLoadRect
      (hM.unread w)) (ix2 r k) = up h w r f := by
  have e : ∀ u : Vec Ideal S1024x256 .bf16, k0_pay6 h u (ix2 r k) = ∑ d : Fin 1024, h (ix2 r d) * u (ix2 d k) := by
    intro u
    pointwise [k0_pay6]
  rw [e, up]
  refine Finset.sum_congr rfl fun d _ => ?_
  rw [View.readAt_eq_ld, Memref.IsWhole.read_unread]
  congr 1
  show w _ = w _
  congr 1
  funext a
  fin_cases a
  · apply Fin.ext; show 0 + 1 * d.val = d.val; omega
  · apply Fin.ext; show lo + 1 * k.val = f.val; omega

/-- What is stored above a tile is the carried rows. -/
theorem carry_tile {M : Memref sig .tc .vmem S8x5632 .f32} (hM : M.IsWhole)
    (X : Vec Ideal S8x5632 .f32) (lo : ℕ) (inb) (r : Fin 8) (k : Fin 256) (f : Fin 5632) (hf : f.val = lo + k.val) :
    k0_pay5 (View.readAt (Elt Ideal) M.view (Rect.unit (s := S8x5632) ![0, lo] S8x256.size inb).toLoadRect
      (hM.unread X)) (ix2 r k) = X (ix2 r f) := by
  have e : ∀ u : Vec Ideal S8x256 .f32, k0_pay5 u (ix2 r k) = u (ix2 r k) := by
    intro u
    pointwise [k0_pay5]
  rw [e]
  rw [View.readAt_eq_ld, Memref.IsWhole.read_unread]
  show X _ = X _
  congr 1
  funext a
  fin_cases a
  · apply Fin.ext; show 0 + 1 * r.val = r.val; omega
  · apply Fin.ext; show lo + 1 * k.val = f.val; omega

end Cert.Kernel2Ideal.Ffn
end
-- ==== Proof.Ffn.Tile.lean ====
module

public import proofs.«01_k».proof.Proof.Ffn.Step

@[expose] public section

set_option maxRecDepth 16384

noncomputable section

namespace Cert.Kernel2Ideal.Ffn

open Idealize.ShloMosaic Idealize.ShloMosaic.TcCoe Idealize.ShloMosaic.Tactic
open Cert.Kernel2Ideal.Gen

/-- The convolution over three rows of the extended block. -/
def conv (cw : Vec Ideal S3x5632 .f32) (cb : Vec Ideal S1x5632 .f32) (E : Fin 520 → Fin 5632 → Ideal .f32)
    (r : Fin 512) (f : Fin 5632) : Ideal .f32 :=
  cb (ix2 0 f) + cw (ix2 0 f) * E ⟨6 + r.val, by have := r.isLt; omega⟩ f + cw (ix2 1 f) * E ⟨7 + r.val, by have := r.isLt; omega⟩ f
    + cw (ix2 2 f) * E ⟨8 + r.val, by have := r.isLt; omega⟩ f

/-- The column of the gate. -/
def colG (g : Fin 2816) : Fin 5632 := ⟨g.val, by have := g.isLt; omega⟩

/-- The column of the value. -/
def colV (g : Fin 2816) : Fin 5632 := ⟨2816 + g.val, by have := g.isLt; omega⟩

/-- The gated value. -/
def act (cw : Vec Ideal S3x5632 .f32) (cb : Vec Ideal S1x5632 .f32) (E : Fin 520 → Fin 5632 → Ideal .f32)
    (r : Fin 512) (g : Fin 2816) : Ideal .f32 :=
  conv cw cb E r (colG g) * Ideal.logistic (conv cw cb E r (colG g)) * conv cw cb E r (colV g)

theorem tile_apply (b w0 : Vec Ideal S1x256 .f32) (e0 : Vec Ideal S512x256 .f32) (w1 : Vec Ideal S1x256 .f32)
    (e1 : Vec Ideal S512x256 .f32) (w2 : Vec Ideal S1x256 .f32) (e2 : Vec Ideal S512x256 .f32)
    (b' w0' : Vec Ideal S1x256 .f32) (e0' : Vec Ideal S512x256 .f32) (w1' : Vec Ideal S1x256 .f32)
    (e1' : Vec Ideal S512x256 .f32) (w2' : Vec Ideal S1x256 .f32) (e2' : Vec Ideal S512x256 .f32) (r : Fin 512) (k : Fin 256) :
    k0_pay12 (k0_pay11 b w0 e0 w1 e1 w2 e2 b' w0' e0' w1' e1' w2' e2') (ix2 r k) =
      (b (ix2 0 k) + w0 (ix2 0 k) * e0 (ix2 r k) + w1 (ix2 0 k) * e1 (ix2 r k) + w2 (ix2 0 k) * e2 (ix2 r k))
      * Ideal.logistic (b (ix2 0 k) + w0 (ix2 0 k) * e0 (ix2 r k) + w1 (ix2 0 k) * e1 (ix2 r k) + w2 (ix2 0 k) * e2 (ix2 r k))
      * (b' (ix2 0 k) + w0' (ix2 0 k) * e0' (ix2 r k) + w1' (ix2 0 k) * e1' (ix2 r k) + w2' (ix2 0 k) * e2' (ix2 r k)) := by
  pointwise [k0_pay12, k0_pay11]

theorem row_ld {n : ℕ} {M : Memref sig .tc .vmem ⟨2, ![n, 5632]⟩ .f32} (hM : M.IsWhole)
    (X : Vec Ideal ⟨2, ![n, 5632]⟩ .f32) (t : Fin n) (o lo : ℕ) (inb) (k : Fin 256) (f : Fin 5632) (ho : o = t.val) (hf : f.val = lo + k.val) :
    View.readAt (Elt Ideal) M.view (Rect.unit (s := ⟨2, ![n, 5632]⟩) ![o, lo] S1x256.size inb).toLoadRect
      (hM.unread X) (ix2 0 k) = X (ix2 t f) := by
  rw [View.readAt_eq_ld, Memref.IsWhole.read_unread]
  show X _ = X _
  congr 1
  funext a
  fin_cases a
  · apply Fin.ext; show o + 1 * 0 = t.val; omega
  · apply Fin.ext; show lo + 1 * k.val = f.val; omega

/-- A tile of the gated values, from the six loads of the extended block. -/
theorem act_tile {M8 : Memref sig .tc .vmem S3x5632 .f32} (h8 : M8.IsWhole) (cw : Vec Ideal S3x5632 .f32)
    {M9 : Memref sig .tc .vmem S1x5632 .f32} (h9 : M9.IsWhole) (cb : Vec Ideal S1x5632 .f32)
    (E : Fin 520 → Fin 5632 → Ideal .f32) (lo lo' : ℕ) (hlo : lo' = 2816 + lo)
    (v : View sig .tc .vmem S520x512 .f32) (L : List (View.Piece (Elt Ideal) S520x512 .f32)) (hL : HalfL E lo L) (hR : HalfR E lo' L)
    (i1 i2 i3 i4 i5 i6 j1 j2 j3 j4 j5 j6 b1 b2)
    (r : Fin 512) (k : Fin 256) (g : Fin 2816) (hg : g.val = lo + k.val) :
    k0_pay12 (k0_pay11
      (View.readAt (Elt Ideal) M9.view (Rect.unit (s := S1x5632) ![0, lo] S1x256.size b1).toLoadRect (h9.unread cb))
      (View.readAt (Elt Ideal) M8.view (Rect.unit (s := S3x5632) ![0, lo] S1x256.size i1).toLoadRect (h8.unread cw))
      (v.readCov L (Rect.unit (s := S520x512) ![6, 0] S512x256.size j1).toLoadRect)
      (View.readAt (Elt Ideal) M8.view (Rect.unit (s := S3x5632) ![1, lo] S1x256.size i2).toLoadRect (h8.unread cw))
      (v.readCov L (Rect.unit (s := S520x512) ![7, 0] S512x256.size j2).toLoadRect)
      (View.readAt (Elt Ideal) M8.view (Rect.unit (s := S3x5632) ![2, lo] S1x256.size i3).toLoadRect (h8.unread cw))
      (v.readCov L (Rect.unit (s := S520x512) ![8, 0] S512x256.size j3).toLoadRect)
      (View.readAt (Elt Ideal) M9.view (Rect.unit (s := S1x5632) ![0, lo'] S1x256.size b2).toLoadRect (h9.unread cb))
      (View.readAt (Elt Ideal) M8.view (Rect.unit (s := S3x5632) ![0, lo'] S1x256.size i4).toLoadRect (h8.unread cw))
      (v.readCov L (Rect.unit (s := S520x512) ![6, 256] S512x256.size j4).toLoadRect)
      (View.readAt (Elt Ideal) M8.view (Rect.unit (s := S3x5632) ![1, lo'] S1x256.size i5).toLoadRect (h8.unread cw))
      (v.readCov L (Rect.unit (s := S520x512) ![7, 256] S512x256.size j5).toLoadRect)
      (View.readAt (Elt Ideal) M8.view (Rect.unit (s := S3x5632) ![2, lo'] S1x256.size i6).toLoadRect (h8.unread cw))
      (v.readCov L (Rect.unit (s := S520x512) ![8, 256] S512x256.size j6).toLoadRect)) (ix2 r k) = act cw cb E r g := by
  have hG : (colG g).val = lo + k.val := hg
  have hV : (colV g).val = lo' + k.val := by show 2816 + g.val = _; omega
  rw [tile_apply, act, conv, conv]
  rw [row_ld h9 cb 0 0 lo b1 k _ rfl hG, row_ld h9 cb 0 0 lo' b2 k _ rfl hV,
    row_ld h8 cw 0 0 lo i1 k _ rfl hG, row_ld h8 cw 1 1 lo i2 k _ rfl hG, row_ld h8 cw 2 2 lo i3 k _ rfl hG,
    row_ld h8 cw 0 0 lo' i4 k _ rfl hV, row_ld h8 cw 1 1 lo' i5 k _ rfl hV, row_ld h8 cw 2 2 lo' i6 k _ rfl hV,
    rdL v hL 6 j1 r k ⟨6 + r.val, by have := r.isLt; omega⟩ _ rfl hG, rdL v hL 7 j2 r k ⟨7 + r.val, by have := r.isLt; omega⟩ _ rfl hG,
    rdL v hL 8 j3 r k ⟨8 + r.val, by have := r.isLt; omega⟩ _ rfl hG,
    rdR v hR 6 j4 r k ⟨6 + r.val, by have := r.isLt; omega⟩ _ rfl hV, rdR v hR 7 j5 r k ⟨7 + r.val, by have := r.isLt; omega⟩ _ rfl hV,
    rdR v hR 8 j6 r k ⟨8 + r.val, by have := r.isLt; omega⟩ _ rfl hV]

/-- The columns below `n` hold the gated values. -/
def Cols (A : Fin 512 → Fin 2816 → Ideal .bf16) (n : ℕ) (L : List (View.Piece (Elt Ideal) S512x2816 .bf16)) : Prop :=
  ∀ (r : Fin 512) (g : Fin 2816), g.val < n → View.canon (Val := Elt Ideal) (s := S512x2816) (e := .bf16) L (ix2 r g) = A r g

theorem cols_nil (A : Fin 512 → Fin 2816 → Ideal .bf16) : Cols A 0 [] := fun r g h => absurd h (Nat.not_lt_zero _)

theorem cols_step {A : Fin 512 → Fin 2816 → Ideal .bf16} {L : List (View.Piece (Elt Ideal) S512x2816 .bf16)}
    {p : Vec Ideal S512x256 .bf16} (lo n : ℕ) (hn : n = lo + 256) (inb : ∀ a, (![0, lo] : Fin 2 → ℕ) a + S512x256.size a ≤ S512x2816.size a)
    (hp : ∀ (r : Fin 512) (k : Fin 256) (g : Fin 2816), g.val = lo + k.val → p (ix2 r k) = A r g) (h : Cols A lo L) :
    Cols A n (⟨Rect.unit (s := S512x2816) ![0, lo] S512x256.size inb, p⟩ :: L) := by
  intro r g hg
  by_cases hc : g.val < lo
  · exact (canon_out _ _ _ _ 1 (Or.inl hc)).trans (h r g hc)
  · refine (canon_in _ _ _ _ (ix2 r ⟨g.val - lo, by omega⟩) ?_).trans ?_
    · intro a
      fin_cases a
      · show r.val = 0 + r.val; omega
      · show g.val = lo + (g.val - lo); omega
    · exact hp _ _ _ (by show g.val = lo + (g.val - lo); omega)

/-- The carried rows: what the columns already replaced hold, and the others. -/
def Cr (A Z : Fin 8 → Fin 5632 → Ideal .f32) (n m : ℕ) (L : List (View.Piece (Elt Ideal) S8x5632 .f32)) : Prop :=
  ∀ (r : Fin 8) (f : Fin 5632), View.canon (Val := Elt Ideal) (s := S8x5632) (e := .f32) L (ix2 r f)
    = if f.val < n ∨ (2816 ≤ f.val ∧ f.val < 2816 + m) then A r f else Z r f

theorem cr_nil (A Z : Fin 8 → Fin 5632 → Ideal .f32) (L : List (View.Piece (Elt Ideal) S8x5632 .f32))
    (h : ∀ r f, View.canon (Val := Elt Ideal) (s := S8x5632) (e := .f32) L (ix2 r f) = Z r f) : Cr A Z 0 0 L := by
  intro r f
  rw [if_neg (by omega)]
  exact h r f

theorem cr_left {A Z : Fin 8 → Fin 5632 → Ideal .f32} {L : List (View.Piece (Elt Ideal) S8x5632 .f32)}
    {p : Vec Ideal S8x256 .f32} (n m n' : ℕ) (hn : n' = n + 256) (inb : ∀ a, (![0, n] : Fin 2 → ℕ) a + S8x256.size a ≤ S8x5632.size a)
    (hp : ∀ (r : Fin 8) (k : Fin 256) (f : Fin 5632), f.val = n + k.val → p (ix2 r k) = A r f) (h : Cr A Z n m L) :
    Cr A Z n' m (⟨Rect.unit (s := S8x5632) ![0, n] S8x256.size inb, p⟩ :: L) := by
  intro r f
  by_cases hc : n ≤ f.val ∧ f.val < n + 256
  · rw [if_pos (by omega)]
    refine (canon_in _ _ _ _ (ix2 r ⟨f.val - n, by omega⟩) ?_).trans ?_
    · intro a
      fin_cases a
      · show r.val = 0 + r.val; omega
      · show f.val = n + (f.val - n); omega
    · exact hp _ _ _ (by show f.val = n + (f.val - n); omega)
  · refine (canon_out _ _ _ _ 1 (show f.val < n ∨ n + 256 ≤ f.val by omega)).trans ((h r f).trans ?_)
    by_cases hd : f.val < n ∨ (2816 ≤ f.val ∧ f.val < 2816 + m)
    · rw [if_pos hd, if_pos (by omega)]
    · rw [if_neg hd, if_neg (by omega)]

theorem cr_right {A Z : Fin 8 → Fin 5632 → Ideal .f32} {L : List (View.Piece (Elt Ideal) S8x5632 .f32)}
    {p : Vec Ideal S8x256 .f32} (o n m m' : ℕ) (ho : o = 2816 + m) (hm : m' = m + 256)
    (inb : ∀ a, (![0, o] : Fin 2 → ℕ) a + S8x256.size a ≤ S8x5632.size a)
    (hp : ∀ (r : Fin 8) (k : Fin 256) (f : Fin 5632), f.val = o + k.val → p (ix2 r k) = A r f) (h : Cr A Z n m L) :
    Cr A Z n m' (⟨Rect.unit (s := S8x5632) ![0, o] S8x256.size inb, p⟩ :: L) := by
  intro r f
  by_cases hc : o ≤ f.val ∧ f.val < o + 256
  · rw [if_pos (by omega)]
    refine (canon_in _ _ _ _ (ix2 r ⟨f.val - o, by omega⟩) ?_).trans ?_
    · intro a
      fin_cases a
      · show r.val = 0 + r.val; omega
      · show f.val = o + (f.val - o); omega
    · exact hp _ _ _ (by show f.val = o + (f.val - o); omega)
  · refine (canon_out _ _ _ _ 1 (show f.val < o ∨ o + 256 ≤ f.val by omega)).trans ((h r f).trans ?_)
    by_cases hd : f.val < n ∨ (2816 ≤ f.val ∧ f.val < 2816 + m)
    · rw [if_pos hd, if_pos (by omega)]
    · rw [if_neg hd, if_neg (by omega)]

theorem pay5_apply (u : Vec Ideal S8x256 .f32) (r : Fin 8) (k : Fin 256) : k0_pay5 u (ix2 r k) = u (ix2 r k) := by
  pointwise [k0_pay5]

/-- The last rows of a product, kept for the next block. -/
def tail (U : Fin 512 → Fin 5632 → Ideal .f32) (r : Fin 8) (f : Fin 5632) : Ideal .f32 :=
  U ⟨504 + r.val, by have := r.isLt; omega⟩ f

theorem keepL {X : Vec Ideal S8x5632 .f32} {U : Fin 512 → Fin 5632 → Ideal .f32} {lo : ℕ}
    {L : List (View.Piece (Elt Ideal) S520x512 .f32)} (v : View sig .tc .vmem S520x512 .f32) (h : HalfL (ext X U) lo L) (inb)
    (r : Fin 8) (k : Fin 256) (f : Fin 5632) (hf : f.val = lo + k.val) :
    k0_pay5 (v.readCov L (Rect.unit (s := S520x512) ![512, 0] S8x256.size inb).toLoadRect) (ix2 r k) = tail U r f :=
  (pay5_apply _ r k).trans (rdL8 v h inb r k _ f rfl hf)

theorem keepR {X : Vec Ideal S8x5632 .f32} {U : Fin 512 → Fin 5632 → Ideal .f32} {lo : ℕ}
    {L : List (View.Piece (Elt Ideal) S520x512 .f32)} (v : View sig .tc .vmem S520x512 .f32) (h : HalfR (ext X U) lo L) (inb)
    (r : Fin 8) (k : Fin 256) (f : Fin 5632) (hf : f.val = lo + k.val) :
    k0_pay5 (v.readCov L (Rect.unit (s := S520x512) ![512, 256] S8x256.size inb).toLoadRect) (ix2 r k) = tail U r f :=
  (pay5_apply _ r k).trans (rdR8 v h inb r k _ f rfl hf)

/-- The carried rows above the first block of a batch: zero. -/
theorem halo {A : Fin 8 → Fin 5632 → Ideal .f32} {Z : Vec Ideal S8x5632 .f32} {n m : ℕ} {L : List (View.Piece (Elt Ideal) S8x5632 .f32)}
    (v : View sig .tc .vmem S8x5632 .f32) (h : Cr A (fun r f => Z (ix2 r f)) n m L) (lo : ℕ)
    (hlo : n ≤ lo ∧ lo + 256 ≤ 2816 ∨ 2816 + m ≤ lo) (hn : n ≤ 2816) (inb) (r : Fin 8) (k : Fin 256) (f : Fin 5632) (hf : f.val = lo + k.val) :
    k0_pay5 (v.readCov L (Rect.unit (s := S8x5632) ![0, lo] S8x256.size inb).toLoadRect) (ix2 r k) = Z (ix2 r f) := by
  rw [pay5_apply, View.readCov_eq_canon']
  have hk := k.isLt
  have e : (Rect.unit (s := S8x5632) ![0, lo] S8x256.size inb).toLoadRect.idx (ix2 r k) = ix2 r f := by
    funext a
    fin_cases a
    · apply Fin.ext; show 0 + 1 * r.val = r.val; omega
    · apply Fin.ext; show lo + 1 * k.val = f.val; omega
  show View.canon (Val := Elt Ideal) (s := S8x5632) (e := .f32) L ((Rect.unit (s := S8x5632) ![0, lo] S8x256.size inb).toLoadRect.idx (ix2 r k)) = _
  rw [e, h r f, if_neg (by omega)]

end Cert.Kernel2Ideal.Ffn
end
-- ==== Proof.Ffn.Out.lean ====
module

public import proofs.«01_k».proof.Proof.Ffn.Tile

@[expose] public section

set_option maxRecDepth 16384

noncomputable section

namespace Cert.Kernel2Ideal.Ffn

open Idealize.ShloMosaic Idealize.ShloMosaic.TcCoe Idealize.ShloMosaic.Tactic
open Cert.Kernel2Ideal.Gen

/-- A row over its root mean square, times the weights. -/
def rms (x w : Fin 1024 → Ideal .f32) (d : Fin 1024) : Ideal .f32 :=
  x d * Ideal.rsqrt (Ideal.div (∑ e, x e * x e) (Ideal.ofBits .f32 0x44800000#32) + Ideal.ofBits .f32 0x358637BD#32) * w d

theorem pay3_apply (a : Vec Ideal S1x512x1024 .f32) (b : Vec Ideal S1x512x512 .bf16) (w : Vec Ideal S512x1024 .bf16)
    (b' : Vec Ideal S1x512x512 .bf16) (w' : Vec Ideal S512x1024 .bf16) (r : Fin 512) (d : Fin 1024) :
    k0_pay3 a b w b' w' (ix2 r d) = a (ix3 0 r d) + ∑ e : Fin 512, b (ix3 0 r e) * w (ix2 e d)
      + ∑ e : Fin 512, b' (ix3 0 r e) * w' (ix2 e d) := by
  pointwise [k0_pay3]

theorem pay4_apply (a : Vec Ideal S1x512x1024 .f32) (b : Vec Ideal S1x512x512 .bf16) (w : Vec Ideal S512x1024 .bf16)
    (b' : Vec Ideal S1x512x512 .bf16) (w' : Vec Ideal S512x1024 .bf16) (n : Vec Ideal S1x1024 .f32) (r : Fin 512) (d : Fin 1024) :
    k0_pay4 a b w b' w' n (ix2 r d) = rms (fun e => k0_pay3 a b w b' w' (ix2 r e)) (fun e => n (ix2 0 e)) d := by
  rw [rms]
  generalize hx : k0_pay3 a b w b' w' = x
  pointwise [k0_pay4, hx]

theorem pay1_apply (x : FVec Ideal S512x1024 .f32) (a : Vec Ideal S512x2816 .bf16) (w : Vec Ideal S2816x1024 .bf16)
    (n : Vec Ideal S1x1024 .f32) (r : Fin 512) (d : Fin 1024) :
    k0_pay1 (k0_pay100 x a w) n (k0_pay101 x a w) (ix3 0 r d)
      = rms (fun e => x (ix2 r e) + ∑ g : Fin 2816, a (ix2 r g) * w (ix2 g e)) (fun e => n (ix2 0 e)) d := by
  have hy : ∀ e, k0_pay100 x a w (ix2 r e) = x (ix2 r e) + ∑ g : Fin 2816, a (ix2 r g) * w (ix2 g e) := by
    intro e
    pointwise [k0_pay100]
  simp only [← hy]
  rw [rms]
  unfold k0_pay101
  generalize k0_pay100 x a w = y
  pointwise [k0_pay1]

/-- The block after the output projection. -/
def xB (x0 : Vec Ideal S1x512x1024 .f32) (x1 x2 : Vec Ideal S1x512x512 .bf16) (x3 : Vec Ideal S1024x1024 .bf16)
    (r : Fin 512) (d : Fin 1024) : Ideal .f32 :=
  x0 (ix3 0 r d) + ∑ e : Fin 512, x1 (ix3 0 r e) * x3 (ix2 ⟨e.val, by have := e.isLt; omega⟩ d)
    + ∑ e : Fin 512, x2 (ix3 0 r e) * x3 (ix2 ⟨512 + e.val, by have := e.isLt; omega⟩ d)

/-- The normalised block. -/
def hB (x0 : Vec Ideal S1x512x1024 .f32) (x1 x2 : Vec Ideal S1x512x512 .bf16) (x3 : Vec Ideal S1024x1024 .bf16)
    (x4 : Vec Ideal S1x1024 .f32) : Vec Ideal S512x1024 .bf16 :=
  fun j => rms (fun e => xB x0 x1 x2 x3 (j 0) e) (fun e => x4 (ix2 0 e)) (j 1)

/-- The block's result, from its inputs and the carried rows. -/
def outB (x0 : Vec Ideal S1x512x1024 .f32) (x1 x2 : Vec Ideal S1x512x512 .bf16) (x3 : Vec Ideal S1024x1024 .bf16)
    (x4 : Vec Ideal S1x1024 .f32) (x5 : Vec Ideal S1024x5632 .bf16) (x6 : Vec Ideal S3x5632 .f32) (x7 : Vec Ideal S1x5632 .f32)
    (x8 : Vec Ideal S2816x1024 .bf16) (x9 : Vec Ideal S1x1024 .f32) (X : Vec Ideal S8x5632 .f32) (r : Fin 512) (d : Fin 1024) : Ideal .f32 :=
  rms (fun e => xB x0 x1 x2 x3 r e + ∑ g : Fin 2816, act x6 x7 (ext X (up (hB x0 x1 x2 x3 x4) x5)) r g * x8 (ix2 g e))
    (fun e => x9 (ix2 0 e)) d

theorem half_ld {M : Memref sig .tc .vmem S1024x1024 .bf16} (hM : M.IsWhole) (w : Vec Ideal S1024x1024 .bf16) (o : ℕ) (inb)
    (e : Fin 512) (d p : Fin 1024) (hp : p.val = o + e.val) :
    View.readAt (Elt Ideal) M.view (Rect.unit (s := S1024x1024) ![o, 0] S512x1024.size inb).toLoadRect (hM.unread w) (ix2 e d)
      = w (ix2 p d) := by
  rw [View.readAt_eq_ld, Memref.IsWhole.read_unread]
  show w _ = w _
  congr 1
  funext a
  fin_cases a
  · apply Fin.ext; show o + 1 * e.val = p.val; omega
  · apply Fin.ext; show 0 + 1 * d.val = d.val; omega

/-- The output projection's payload, read from its loads. -/
theorem xB_ld {M2 : Memref sig .tc .vmem S1x512x1024 .f32} (h2 : M2.IsWhole) {M3 M4 : Memref sig .tc .vmem S1x512x512 .bf16}
    (h3 : M3.IsWhole) (h4 : M4.IsWhole) {M5 : Memref sig .tc .vmem S1024x1024 .bf16} (h5 : M5.IsWhole)
    (x0 : Vec Ideal S1x512x1024 .f32) (x1 x2 : Vec Ideal S1x512x512 .bf16) (x3 : Vec Ideal S1024x1024 .bf16) (i2 i3 i4 i5 i6)
    (r : Fin 512) (d : Fin 1024) :
    k0_pay3 (View.readAt (Elt Ideal) M2.view (Rect.unit (s := S1x512x1024) ![0, 0, 0] S1x512x1024.size i2).toLoadRect (h2.unread x0))
      (View.readAt (Elt Ideal) M3.view (Rect.unit (s := S1x512x512) ![0, 0, 0] S1x512x512.size i3).toLoadRect (h3.unread x1))
      (View.readAt (Elt Ideal) M5.view (Rect.unit (s := S1024x1024) ![0, 0] S512x1024.size i5).toLoadRect (h5.unread x3))
      (View.readAt (Elt Ideal) M4.view (Rect.unit (s := S1x512x512) ![0, 0, 0] S1x512x512.size i4).toLoadRect (h4.unread x2))
      (View.readAt (Elt Ideal) M5.view (Rect.unit (s := S1024x1024) ![512, 0] S512x1024.size i6).toLoadRect (h5.unread x3)) (ix2 r d)
      = xB x0 x1 x2 x3 r d := by
  have e0 : View.readAt (Elt Ideal) M2.view (Rect.unit (s := S1x512x1024) ![0, 0, 0] S1x512x1024.size i2).toLoadRect (h2.unread x0) = x0 := by
    rw [View.readAt_eq_ld, Memref.IsWhole.read_unread]
    exact View.ld_unit_lit' _ _ (by decide)
  have e1 : View.readAt (Elt Ideal) M3.view (Rect.unit (s := S1x512x512) ![0, 0, 0] S1x512x512.size i3).toLoadRect (h3.unread x1) = x1 := by
    rw [View.readAt_eq_ld, Memref.IsWhole.read_unread]
    exact View.ld_unit_lit' _ _ (by decide)
  have e2 : View.readAt (Elt Ideal) M4.view (Rect.unit (s := S1x512x512) ![0, 0, 0] S1x512x512.size i4).toLoadRect (h4.unread x2) = x2 := by
    rw [View.readAt_eq_ld, Memref.IsWhole.read_unread]
    exact View.ld_unit_lit' _ _ (by decide)
  rw [pay3_apply, xB, e0, e1, e2]
  congr 1
  · congr 1
    exact Finset.sum_congr rfl fun e _ => by rw [half_ld h5 x3 0 i5 e d ⟨e.val, by have := e.isLt; omega⟩ (by simp)]
  · exact Finset.sum_congr rfl fun e _ => by rw [half_ld h5 x3 512 i6 e d ⟨512 + e.val, by have := e.isLt; omega⟩ rfl]

/-- The normalised block's payload, read from its loads. -/
theorem hB_ld {M2 : Memref sig .tc .vmem S1x512x1024 .f32} (h2 : M2.IsWhole) {M3 M4 : Memref sig .tc .vmem S1x512x512 .bf16}
    (h3 : M3.IsWhole) (h4 : M4.IsWhole) {M5 : Memref sig .tc .vmem S1024x1024 .bf16} (h5 : M5.IsWhole)
    {M6 : Memref sig .tc .vmem S1x1024 .f32} (h6 : M6.IsWhole)
    (x0 : Vec Ideal S1x512x1024 .f32) (x1 x2 : Vec Ideal S1x512x512 .bf16) (x3 : Vec Ideal S1024x1024 .bf16) (x4 : Vec Ideal S1x1024 .f32) (i2 i3 i4 i5 i6 i7) :
    k0_pay4 (View.readAt (Elt Ideal) M2.view (Rect.unit (s := S1x512x1024) ![0, 0, 0] S1x512x1024.size i2).toLoadRect (h2.unread x0))
      (View.readAt (Elt Ideal) M3.view (Rect.unit (s := S1x512x512) ![0, 0, 0] S1x512x512.size i3).toLoadRect (h3.unread x1))
      (View.readAt (Elt Ideal) M5.view (Rect.unit (s := S1024x1024) ![0, 0] S512x1024.size i5).toLoadRect (h5.unread x3))
      (View.readAt (Elt Ideal) M4.view (Rect.unit (s := S1x512x512) ![0, 0, 0] S1x512x512.size i4).toLoadRect (h4.unread x2))
      (View.readAt (Elt Ideal) M5.view (Rect.unit (s := S1024x1024) ![512, 0] S512x1024.size i6).toLoadRect (h5.unread x3))
      (View.readAt (Elt Ideal) M6.view (Rect.unit (s := S1x1024) ![0, 0] S1x1024.size i7).toLoadRect (h6.unread x4))
      = hB x0 x1 x2 x3 x4 := by
  funext j
  obtain ⟨r, d, rfl⟩ : ∃ (r : Fin 512) (d : Fin 1024), j = ix2 r d := ⟨j 0, j 1, eq_ix2 j⟩
  have e4 : View.readAt (Elt Ideal) M6.view (Rect.unit (s := S1x1024) ![0, 0] S1x1024.size i7).toLoadRect (h6.unread x4) = x4 := by
    rw [View.readAt_eq_ld, Memref.IsWhole.read_unread]
    exact View.ld_unit_lit' _ _ (by decide)
  rw [pay4_apply, e4]
  exact congrArg (fun q => rms q (fun e => x4 (ix2 0 e)) d) (funext fun e => xB_ld h2 h3 h4 h5 x0 x1 x2 x3 i2 i3 i4 i5 i6 r e)

end Cert.Kernel2Ideal.Ffn
end
-- ==== Proof.Ffn.CaseA.lean ====
module

public import proofs.«01_k».proof.Proof.Ffn.Out

@[expose] public section

set_option maxRecDepth 16384

noncomputable section

namespace Cert.Kernel2Ideal.Ffn

open Idealize.ShloMosaic Idealize.ShloMosaic.TcCoe Idealize.ShloMosaic.Tactic
open Cert.Kernel2Ideal.Gen

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S8x5632 .f32) (harg13 : arg13.IsWhole) (arg14 : Memref sig .tc .vmem S520x512 .f32) (harg14 : arg14.IsWhole) (arg15 : Memref sig .tc .vmem S512x2816 .bf16) (harg15 : arg15.IsWhole)
variable (x0 : Vec Ideal S1x512x1024 .f32) (x1 : Vec Ideal S1x512x512 .bf16) (x2 : Vec Ideal S1x512x512 .bf16) (x3 : Vec Ideal S1024x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)

/-- No carried row. -/
def Z0 : Vec Ideal S8x5632 .f32 := fun _ => 0

theorem cA_0 : Cr (tail (up (kernelRun0_A.sl.r_1 c arg2 harg2 arg3 harg3 arg4 harg4 arg5 harg5 arg6 harg6 x0 x1 x2 x3 x4) x5)) (fun r f => Z0 (ix2 r f)) 0 0 (kernelRun0_A.sl.HS0_1 (F := Ideal)) := by
  refine cr_nil _ _ _ fun r f => ?_
  refine (canon_in _ _ _ _ (ix2 r f) ?_).trans ?_
  · intro a
    fin_cases a
    · show r.val = 0 + r.val; omega
    · show f.val = 0 + f.val; omega
  · have e : k0_pay2 (F := Ideal) (ix2 r f) = 0 := by pointwise [k0_pay2]
    exact e

theorem lA_0 : HalfL (ext Z0 (up (kernelRun0_A.sl.r_1 c arg2 harg2 arg3 harg3 arg4 harg4 arg5 harg5 arg6 harg6 x0 x1 x2 x3 x4) x5)) 0 (kernelRun0_A.sl.HS1_2 c arg2 harg2 arg3 harg3 arg4 harg4 arg5 harg5 arg6 harg6 arg7 harg7 arg13 x0 x1 x2 x3 x4 x5) :=
  halfL_mk (fun r k f hf => halo arg13.view (@cA_0 c arg2 harg2 arg3 harg3 arg4 harg4 arg5 harg5 arg6 harg6 x0 x1 x2 x3 x4 x5) 0 (by omega) (by omega) _ r k f hf) (fun r k f hf => up_tile (kernelRun0_A.sl.r_1 c arg2 harg2 arg3 harg3 arg4 harg4 arg5 harg5 arg6 harg6 x0 x1 x2 x3 x4) harg7 x5 0 _ r k f hf)

theorem cA_1 : Cr (tail (up (kernelRun0_A.sl.r_1 c arg2 harg2 arg3 harg3 arg4 harg4 arg5 harg5 arg6 harg6 x0 x1 x2 x3 x4) x5)) (fun r f => Z0 (ix2 r f)) 256 0 (kernelRun0_A.sl.HS0_2 c arg2 harg2 arg3 harg3 arg4 harg4 arg5 harg5 arg6 harg6 arg7 harg7 arg13 arg14 x0 x1 x2 x3 x4 x5) :=
  cr_left 0 0 256 rfl _ (fun r k f hf => keepL arg14.view (@lA_0 c arg2 harg2 arg3 harg3 arg4 harg4 arg5 harg5 arg6 harg6 arg7 harg7 arg13 x0 x1 x2 x3 x4 x5) _ r k f hf) (@cA_0 c arg2 harg2 arg3 harg3 arg4 harg4 arg5 harg5 arg6 harg6 x0 x1 x2 x3 x4 x5)

theorem rA_0 : HalfR (ext Z0 (up (kernelRun0_A.sl.r_1 c arg2 harg2 arg3 harg3 arg4 harg4 arg5 harg5 arg6 harg6 x0 x1 x2 x3 x4) x5)) 2816 (kernelRun0_A.sl.HS1_4 c arg2 harg2 arg3 harg3 arg4 harg4 arg5 harg5 arg6 harg6 arg7 harg7 arg13 arg14 x0 x1 x2 x3 x4 x5) :=
  halfR_mk (fun r k f hf => halo arg13.view (@cA_1 c arg2 harg2 arg3 harg3 arg4 harg4 arg5 harg5 arg6 harg6 arg7 harg7 arg13 arg14 x0 x1 x2 x3 x4 x5) 2816 (by omega) (by omega) _ r k f hf) (fun r k f hf => up_tile (kernelRun0_A.sl.r_1 c arg2 harg2 arg3 harg3 arg4 harg4 arg5 harg5 arg6 harg6 x0 x1 x2 x3 x4) harg7 x5 2816 _ r k f hf)

theorem kA_0 : HalfL (ext Z0 (up (kernelRun0_A.sl.r_1 c arg2 harg2 arg3 harg3 arg4 harg4 arg5 harg5 arg6 harg6 x0 x1 x2 x3 x4) x5)) 0 (kernelRun0_A.sl.HS1_4 c arg2 harg2 arg3 harg3 arg4 harg4 arg5 harg5 arg6 harg6 arg7 harg7 arg13 arg14 x0 x1 x2 x3 x4 x5) :=
  halfL_keep (@lA_0 c arg2 harg2 arg3 harg3 arg4 harg4 arg5 harg5 arg6 harg6 arg7 harg7 arg13 x0 x1 x2 x3 x4 x5)

theorem cA_2 : Cr (tail (up (kernelRun0_A.sl.r_1 c arg2 harg2 arg3 harg3 arg4 harg4 arg5 harg5 arg6 harg6 x0 x1 x2 x3 x4) x5)) (fun r f => Z0 (ix2 r f)) 256 256 (kernelRun0_A.sl.HS0_3 c arg2 harg2 arg3 harg3 arg4 harg4 arg5 harg5 arg6 harg6 arg7 harg7 arg13 arg14 x0 x1 x2 x3 x4 x5) :=
  cr_right 2816 256 0 256 rfl rfl _ (fun r k f hf => keepR arg14.view (@rA_0 c arg2 harg2 arg3 harg3 arg4 harg4 arg5 harg5 arg6 harg6 arg7 harg7 arg13 arg14 x0 x1 x2 x3 x4 x5) _ r k f hf) (@cA_1 c arg2 harg2 arg3 harg3 arg4 harg4 arg5 harg5 arg6 harg6 arg7 harg7 arg13 arg14 x0 x1 x2 x3 x4 x5)

theorem lA_1 : HalfL (ext Z0 (up (kernelRun0_A.sl.r_1 c arg2 harg2 arg3 harg3 arg4 harg4 arg5 harg5 arg6 harg6 x0 x1 x2 x3 x4) x5)) 256 (kernelRun0_A.sl.HS1_6 c arg2 harg2 arg3 harg3 arg4 harg4 arg5 harg5 arg6 harg6 arg7 harg7 arg13 arg14 x0 x1 x2 x3 x4 x5) :=
  halfL_mk (fun r k f hf => halo arg13.view (@cA_2 c arg2 harg2 arg3 harg3 arg4 harg4 arg5 harg5 arg6 harg6 arg7 harg7 arg13 arg14 x0 x1 x2 x3 x4 x5) 256 (by omega) (by omega) _ r k f hf) (fun r k f hf => up_tile (kernelRun0_A.sl.r_1 c arg2 harg2 arg3 harg3 arg4 harg4 arg5 harg5 arg6 harg6 x0 x1 x2 x3 x4) harg7 x5 256 _ r k f hf)

theorem cA_3 : Cr (tail (up (kernelRun0_A.sl.r_1 c arg2 harg2 arg3 harg3 arg4 harg4 arg5 harg5 arg6 harg6 x0 x1 x2 x3 x4) x5)) (fun r f => Z0 (ix2 r f)) 512 256 (kernelRun0_A.sl.HS0_4 c arg2 harg2 arg3 harg3 arg4 harg4 arg5 harg5 arg6 harg6 arg7 harg7 arg13 arg14 x0 x1 x2 x3 x4 x5) :=
  cr_left 256 256 512 rfl _ (fun r k f hf => keepL arg14.view (@lA_1 c arg2 harg2 arg3 harg3 arg4 harg4 arg5 harg5 arg6 harg6 arg7 harg7 arg13 arg14 x0 x1 x2 x3 x4 x5) _ r k f hf) (@cA_2 c arg2 harg2 arg3 harg3 arg4 harg4 arg5 harg5 arg6 harg6 arg7 harg7 arg13 arg14 x0 x1 x2 x3 x4 x5)

theorem rA_1 : HalfR (ext Z0 (up (kernelRun0_A.sl.r_1 c arg2 harg2 arg3 harg3 arg4 harg4 arg5 harg5 arg6 harg6 x0 x1 x2 x3 x4) x5)) 3072 (kernelRun0_A.sl.HS1_8 c arg2 harg2 arg3 harg3 arg4 harg4 arg5 harg5 arg6 harg6 arg7 harg7 arg13 arg14 x0 x1 x2 x3 x4 x5) :=
  halfR_mk (fun r k f hf => halo arg13.view (@cA_3 c arg2 harg2 arg3 harg3 arg4 harg4 arg5 harg5 arg6 harg6 arg7 harg7 arg13 arg14 x0 x1 x2 x3 x4 x5) 3072 (by omega) (by omega) _ r k f hf) (fun r k f hf => up_tile (kernelRun0_A.sl.r_1 c arg2 harg2 arg3 harg3 arg4 harg4 arg5 harg5 arg6 harg6 x0 x1 x2 x3 x4) harg7 x5 3072 _ r k f hf)

theorem kA_1 : HalfL (ext Z0 (up (kernelRun0_A.sl.r_1 c arg2 harg2 arg3 harg3 arg4 harg4 arg5 harg5 arg6 harg6 x0 x1 x2 x3 x4) x5)) 256 (kernelRun0_A.sl.HS1_8 c arg2 harg2 arg3 harg3 arg4 harg4 arg5 harg5 arg6 harg6 arg7 harg7 arg13 arg14 x0 x1 x2 x3 x4 x5) :=
  halfL_keep (@lA_1 c arg2 harg2 arg3 harg3 arg4 harg4 arg5 harg5 arg6 harg6 arg7 harg7 arg13 arg14 x0 x1 x2 x3 x4 x5)

theorem cA_4 : Cr (tail (up (kernelRun0_A.sl.r_1 c arg2 harg2 arg3 harg3 arg4 harg4 arg5 harg5 arg6 harg6 x0 x1 x2 x3 x4) x5)) (fun r f => Z0 (ix2 r f)) 512 512 (kernelRun0_A.sl.HS0_5 c arg2 harg2 arg3 harg3 arg4 harg4 arg5 harg5 arg6 harg6 arg7 harg7 arg13 arg14 x0 x1 x2 x3 x4 x5) :=
  cr_right 3072 512 256 512 rfl rfl _ (fun r k f hf => keepR arg14.view (@rA_1 c arg2 harg2 arg3 harg3 arg4 harg4 arg5 harg5 arg6 harg6 arg7 harg7 arg13 arg14 x0 x1 x2 x3 x4 x5) _ r k f hf) (@cA_3 c arg2 harg2 arg3 harg3 arg4 harg4 arg5 harg5 arg6 harg6 arg7 harg7 arg13 arg14 x0 x1 x2 x3 x4 x5)

theorem lA_2 : HalfL (ext Z0 (up (kernelRun0_A.sl.r_1 c arg2 harg2 arg3 harg3 arg4 harg4 arg5 harg5 arg6 harg6 x0 x1 x2 x3 x4) x5)) 512 (kernelRun0_A.sl.HS1_10 c arg2 harg2 arg3 harg3 arg4 harg4 arg5 harg5 arg6 harg6 arg7 harg7 arg13 arg14 x0 x1 x2 x3 x4 x5) :=
  halfL_mk (fun r k f hf => halo arg13.view (@cA_4 c arg2 harg2 arg3 harg3 arg4 harg4 arg5 harg5 arg6 harg6 arg7 harg7 arg13 arg14 x0 x1 x2 x3 x4 x5) 512 (by omega) (by omega) _ r k f hf) (fun r k f hf => up_tile (kernelRun0_A.sl.r_1 c arg2 harg2 arg3 harg3 arg4 harg4 arg5 harg5 arg6 harg6 x0 x1 x2 x3 x4) harg7 x5 512 _ r k f hf)

theorem cA_5 : Cr (tail (up (kernelRun0_A.sl.r_1 c arg2 harg2 arg3 harg3 arg4 harg4 arg5 harg5 arg6 harg6 x0 x1 x2 x3 x4) x5)) (fun r f => Z0 (ix2 r f)) 768 512 (kernelRun0_A.sl.HS0_6 c arg2 harg2 arg3 harg3 arg4 harg4 arg5 harg5 arg6 harg6 arg7 harg7 arg13 arg14 x0 x1 x2 x3 x4 x5) :=
  cr_left 512 512 768 rfl _ (fun r k f hf => keepL arg14.view (@lA_2 c arg2 harg2 arg3 harg3 arg4 harg4 arg5 harg5 arg6 harg6 arg7 harg7 arg13 arg14 x0 x1 x2 x3 x4 x5) _ r k f hf) (@cA_4 c arg2 harg2 arg3 harg3 arg4 harg4 arg5 harg5 arg6 harg6 arg7 harg7 arg13 arg14 x0 x1 x2 x3 x4 x5)

theorem rA_2 : HalfR (ext Z0 (up (kernelRun0_A.sl.r_1 c arg2 harg2 arg3 harg3 arg4 harg4 arg5 harg5 arg6 harg6 x0 x1 x2 x3 x4) x5)) 3328 (kernelRun0_A.sl.HS1_12 c arg2 harg2 arg3 harg3 arg4 harg4 arg5 harg5 arg6 harg6 arg7 harg7 arg13 arg14 x0 x1 x2 x3 x4 x5) :=
  halfR_mk (fun r k f hf => halo arg13.view (@cA_5 c arg2 harg2 arg3 harg3 arg4 harg4 arg5 harg5 arg6 harg6 arg7 harg7 arg13 arg14 x0 x1 x2 x3 x4 x5) 3328 (by omega) (by omega) _ r k f hf) (fun r k f hf => up_tile (kernelRun0_A.sl.r_1 c arg2 harg2 arg3 harg3 arg4 harg4 arg5 harg5 arg6 harg6 x0 x1 x2 x3 x4) harg7 x5 3328 _ r k f hf)

theorem kA_2 : HalfL (ext Z0 (up (kernelRun0_A.sl.r_1 c arg2 harg2 arg3 harg3 arg4 harg4 arg5 harg5 arg6 harg6 x0 x1 x2 x3 x4) x5)) 512 (kernelRun0_A.sl.HS1_12 c arg2 harg2 arg3 harg3 arg4 harg4 arg5 harg5 arg6 harg6 arg7 harg7 arg13 arg14 x0 x1 x2 x3 x4 x5) :=
  halfL_keep (@lA_2 c arg2 harg2 arg3 harg3 arg4 harg4 arg5 harg5 arg6 harg6 arg7 harg7 arg13 arg14 x0 x1 x2 x3 x4 x5)

theorem cA_6 : Cr (tail (up (kernelRun0_A.sl.r_1 c arg2 harg2 arg3 harg3 arg4 harg4 arg5 harg5 arg6 harg6 x0 x1 x2 x3 x4) x5)) (fun r f => Z0 (ix2 r f)) 768 768 (kernelRun0_A.sl.HS0_7 c arg2 harg2 arg3 harg3 arg4 harg4 arg5 harg5 arg6 harg6 arg7 harg7 arg13 arg14 x0 x1 x2 x3 x4 x5) :=
  cr_right 3328 768 512 768 rfl rfl _ (fun r k f hf => keepR arg14.view (@rA_2 c arg2 harg2 arg3 harg3 arg4 harg4 arg5 harg5 arg6 harg6 arg7 harg7 arg13 arg14 x0 x1 x2 x3 x4 x5) _ r k f hf) (@cA_5 c arg2 harg2 arg3 harg3 arg4 harg4 arg5 harg5 arg6 harg6 arg7 harg7 arg13 arg14 x0 x1 x2 x3 x4 x5)

theorem lA_3 : HalfL (ext Z0 (up (kernelRun0_A.sl.r_1 c arg2 harg2 arg3 harg3 arg4 harg4 arg5 harg5 arg6 harg6 x0 x1 x2 x3 x4) x5)) 768 (kernelRun0_A.sl.HS1_14 c arg2 harg2 arg3 harg3 arg4 harg4 arg5 harg5 arg6 harg6 arg7 harg7 arg13 arg14 x0 x1 x2 x3 x4 x5) :=
  halfL_mk (fun r k f hf => halo arg13.view (@cA_6 c arg2 harg2 arg3 harg3 arg4 harg4 arg5 harg5 arg6 harg6 arg7 harg7 arg13 arg14 x0 x1 x2 x3 x4 x5) 768 (by omega) (by omega) _ r k f hf) (fun r k f hf => up_tile (kernelRun0_A.sl.r_1 c arg2 harg2 arg3 harg3 arg4 harg4 arg5 harg5 arg6 harg6 x0 x1 x2 x3 x4) harg7 x5 768 _ r k f hf)

theorem cA_7 : Cr (tail (up (kernelRun0_A.sl.r_1 c arg2 harg2 arg3 harg3 arg4 harg4 arg5 harg5 arg6 harg6 x0 x1 x2 x3 x4) x5)) (fun r f => Z0 (ix2 r f)) 1024 768 (kernelRun0_A.sl.HS0_8 c arg2 harg2 arg3 harg3 arg4 harg4 arg5 harg5 arg6 harg6 arg7 harg7 arg13 arg14 x0 x1 x2 x3 x4 x5) :=
  cr_left 768 768 1024 rfl _ (fun r k f hf => keepL arg14.view (@lA_3 c arg2 harg2 arg3 harg3 arg4 harg4 arg5 harg5 arg6 harg6 arg7 harg7 arg13 arg14 x0 x1 x2 x3 x4 x5) _ r k f hf) (@cA_6 c arg2 harg2 arg3 harg3 arg4 harg4 arg5 harg5 arg6 harg6 arg7 harg7 arg13 arg14 x0 x1 x2 x3 x4 x5)

theorem rA_3 : HalfR (ext Z0 (up (kernelRun0_A.sl.r_1 c arg2 harg2 arg3 harg3 arg4 harg4 arg5 harg5 arg6 harg6 x0 x1 x2 x3 x4) x5)) 3584 (kernelRun0_A.sl.HS1_16 c arg2 harg2 arg3 harg3 arg4 harg4 arg5 harg5 arg6 harg6 arg7 harg7 arg13 arg14 x0 x1 x2 x3 x4 x5) :=
  halfR_mk (fun r k f hf => halo arg13.view (@cA_7 c arg2 harg2 arg3 harg3 arg4 harg4 arg5 harg5 arg6 harg6 arg7 harg7 arg13 arg14 x0 x1 x2 x3 x4 x5) 3584 (by omega) (by omega) _ r k f hf) (fun r k f hf => up_tile (kernelRun0_A.sl.r_1 c arg2 harg2 arg3 harg3 arg4 harg4 arg5 harg5 arg6 harg6 x0 x1 x2 x3 x4) harg7 x5 3584 _ r k f hf)

theorem kA_3 : HalfL (ext Z0 (up (kernelRun0_A.sl.r_1 c arg2 harg2 arg3 harg3 arg4 harg4 arg5 harg5 arg6 harg6 x0 x1 x2 x3 x4) x5)) 768 (kernelRun0_A.sl.HS1_16 c arg2 harg2 arg3 harg3 arg4 harg4 arg5 harg5 arg6 harg6 arg7 harg7 arg13 arg14 x0 x1 x2 x3 x4 x5) :=
  halfL_keep (@lA_3 c arg2 harg2 arg3 harg3 arg4 harg4 arg5 harg5 arg6 harg6 arg7 harg7 arg13 arg14 x0 x1 x2 x3 x4 x5)

theorem cA_8 : Cr (tail (up (kernelRun0_A.sl.r_1 c arg2 harg2 arg3 harg3 arg4 harg4 arg5 harg5 arg6 harg6 x0 x1 x2 x3 x4) x5)) (fun r f => Z0 (ix2 r f)) 1024 1024 (kernelRun0_A.sl.HS0_9 c arg2 harg2 arg3 harg3 arg4 harg4 arg5 harg5 arg6 harg6 arg7 harg7 arg13 arg14 x0 x1 x2 x3 x4 x5) :=
  cr_right 3584 1024 768 1024 rfl rfl _ (fun r k f hf => keepR arg14.view (@rA_3 c arg2 harg2 arg3 harg3 arg4 harg4 arg5 harg5 arg6 harg6 arg7 harg7 arg13 arg14 x0 x1 x2 x3 x4 x5) _ r k f hf) (@cA_7 c arg2 harg2 arg3 harg3 arg4 harg4 arg5 harg5 arg6 harg6 arg7 harg7 arg13 arg14 x0 x1 x2 x3 x4 x5)

theorem lA_4 : HalfL (ext Z0 (up (kernelRun0_A.sl.r_1 c arg2 harg2 arg3 harg3 arg4 harg4 arg5 harg5 arg6 harg6 x0 x1 x2 x3 x4) x5)) 1024 (kernelRun0_A.sl.HS1_18 c arg2 harg2 arg3 harg3 arg4 harg4 arg5 harg5 arg6 harg6 arg7 harg7 arg13 arg14 x0 x1 x2 x3 x4 x5) :=
  halfL_mk (fun r k f hf => halo arg13.view (@cA_8 c arg2 harg2 arg3 harg3 arg4 harg4 arg5 harg5 arg6 harg6 arg7 harg7 arg13 arg14 x0 x1 x2 x3 x4 x5) 1024 (by omega) (by omega) _ r k f hf) (fun r k f hf => up_tile (kernelRun0_A.sl.r_1 c arg2 harg2 arg3 harg3 arg4 harg4 arg5 harg5 arg6 harg6 x0 x1 x2 x3 x4) harg7 x5 1024 _ r k f hf)

theorem cA_9 : Cr (tail (up (kernelRun0_A.sl.r_1 c arg2 harg2 arg3 harg3 arg4 harg4 arg5 harg5 arg6 harg6 x0 x1 x2 x3 x4) x5)) (fun r f => Z0 (ix2 r f)) 1280 1024 (kernelRun0_A.sl.HS0_10 c arg2 harg2 arg3 harg3 arg4 harg4 arg5 harg5 arg6 harg6 arg7 harg7 arg13 arg14 x0 x1 x2 x3 x4 x5) :=
  cr_left 1024 1024 1280 rfl _ (fun r k f hf => keepL arg14.view (@lA_4 c arg2 harg2 arg3 harg3 arg4 harg4 arg5 harg5 arg6 harg6 arg7 harg7 arg13 arg14 x0 x1 x2 x3 x4 x5) _ r k f hf) (@cA_8 c arg2 harg2 arg3 harg3 arg4 harg4 arg5 harg5 arg6 harg6 arg7 harg7 arg13 arg14 x0 x1 x2 x3 x4 x5)

theorem rA_4 : HalfR (ext Z0 (up (kernelRun0_A.sl.r_1 c arg2 harg2 arg3 harg3 arg4 harg4 arg5 harg5 arg6 harg6 x0 x1 x2 x3 x4) x5)) 3840 (kernelRun0_A.sl.HS1_20 c arg2 harg2 arg3 harg3 arg4 harg4 arg5 harg5 arg6 harg6 arg7 harg7 arg13 arg14 x0 x1 x2 x3 x4 x5) :=
  halfR_mk (fun r k f hf => halo arg13.view (@cA_9 c arg2 harg2 arg3 harg3 arg4 harg4 arg5 harg5 arg6 harg6 arg7 harg7 arg13 arg14 x0 x1 x2 x3 x4 x5) 3840 (by omega) (by omega) _ r k f hf) (fun r k f hf => up_tile (kernelRun0_A.sl.r_1 c arg2 harg2 arg3 harg3 arg4 harg4 arg5 harg5 arg6 harg6 x0 x1 x2 x3 x4) harg7 x5 3840 _ r k f hf)

theorem kA_4 : HalfL (ext Z0 (up (kernelRun0_A.sl.r_1 c arg2 harg2 arg3 harg3 arg4 harg4 arg5 harg5 arg6 harg6 x0 x1 x2 x3 x4) x5)) 1024 (kernelRun0_A.sl.HS1_20 c arg2 harg2 arg3 harg3 arg4 harg4 arg5 harg5 arg6 harg6 arg7 harg7 arg13 arg14 x0 x1 x2 x3 x4 x5) :=
  halfL_keep (@lA_4 c arg2 harg2 arg3 harg3 arg4 harg4 arg5 harg5 arg6 harg6 arg7 harg7 arg13 arg14 x0 x1 x2 x3 x4 x5)

theorem cA_10 : Cr (tail (up (kernelRun0_A.sl.r_1 c arg2 harg2 arg3 harg3 arg4 harg4 arg5 harg5 arg6 harg6 x0 x1 x2 x3 x4) x5)) (fun r f => Z0 (ix2 r f)) 1280 1280 (kernelRun0_A.sl.HS0_11 c arg2 harg2 arg3 harg3 arg4 harg4 arg5 harg5 arg6 harg6 arg7 harg7 arg13 arg14 x0 x1 x2 x3 x4 x5) :=
  cr_right 3840 1280 1024 1280 rfl rfl _ (fun r k f hf => keepR arg14.view (@rA_4 c arg2 harg2 arg3 harg3 arg4 harg4 arg5 harg5 arg6 harg6 arg7 harg7 arg13 arg14 x0 x1 x2 x3 x4 x5) _ r k f hf) (@cA_9 c arg2 harg2 arg3 harg3 arg4 harg4 arg5 harg5 arg6 harg6 arg7 harg7 arg13 arg14 x0 x1 x2 x3 x4 x5)

theorem lA_5 : HalfL (ext Z0 (up (kernelRun0_A.sl.r_1 c arg2 harg2 arg3 harg3 arg4 harg4 arg5 harg5 arg6 harg6 x0 x1 x2 x3 x4) x5)) 1280 (kernelRun0_A.sl.HS1_22 c arg2 harg2 arg3 harg3 arg4 harg4 arg5 harg5 arg6 harg6 arg7 harg7 arg13 arg14 x0 x1 x2 x3 x4 x5) :=
  halfL_mk (fun r k f hf => halo arg13.view (@cA_10 c arg2 harg2 arg3 harg3 arg4 harg4 arg5 harg5 arg6 harg6 arg7 harg7 arg13 arg14 x0 x1 x2 x3 x4 x5) 1280 (by omega) (by omega) _ r k f hf) (fun r k f hf => up_tile (kernelRun0_A.sl.r_1 c arg2 harg2 arg3 harg3 arg4 harg4 arg5 harg5 arg6 harg6 x0 x1 x2 x3 x4) harg7 x5 1280 _ r k f hf)

theorem cA_11 : Cr (tail (up (kernelRun0_A.sl.r_1 c arg2 harg2 arg3 harg3 arg4 harg4 arg5 harg5 arg6 harg6 x0 x1 x2 x3 x4) x5)) (fun r f => Z0 (ix2 r f)) 1536 1280 (kernelRun0_A.sl.HS0_12 c arg2 harg2 arg3 harg3 arg4 harg4 arg5 harg5 arg6 harg6 arg7 harg7 arg13 arg14 x0 x1 x2 x3 x4 x5) :=
  cr_left 1280 1280 1536 rfl _ (fun r k f hf => keepL arg14.view (@lA_5 c arg2 harg2 arg3 harg3 arg4 harg4 arg5 harg5 arg6 harg6 arg7 harg7 arg13 arg14 x0 x1 x2 x3 x4 x5) _ r k f hf) (@cA_10 c arg2 harg2 arg3 harg3 arg4 harg4 arg5 harg5 arg6 harg6 arg7 harg7 arg13 arg14 x0 x1 x2 x3 x4 x5)

theorem rA_5 : HalfR (ext Z0 (up (kernelRun0_A.sl.r_1 c arg2 harg2 arg3 harg3 arg4 harg4 arg5 harg5 arg6 harg6 x0 x1 x2 x3 x4) x5)) 4096 (kernelRun0_A.sl.HS1_24 c arg2 harg2 arg3 harg3 arg4 harg4 arg5 harg5 arg6 harg6 arg7 harg7 arg13 arg14 x0 x1 x2 x3 x4 x5) :=
  halfR_mk (fun r k f hf => halo arg13.view (@cA_11 c arg2 harg2 arg3 harg3 arg4 harg4 arg5 harg5 arg6 harg6 arg7 harg7 arg13 arg14 x0 x1 x2 x3 x4 x5) 4096 (by omega) (by omega) _ r k f hf) (fun r k f hf => up_tile (kernelRun0_A.sl.r_1 c arg2 harg2 arg3 harg3 arg4 harg4 arg5 harg5 arg6 harg6 x0 x1 x2 x3 x4) harg7 x5 4096 _ r k f hf)

theorem kA_5 : HalfL (ext Z0 (up (kernelRun0_A.sl.r_1 c arg2 harg2 arg3 harg3 arg4 harg4 arg5 harg5 arg6 harg6 x0 x1 x2 x3 x4) x5)) 1280 (kernelRun0_A.sl.HS1_24 c arg2 harg2 arg3 harg3 arg4 harg4 arg5 harg5 arg6 harg6 arg7 harg7 arg13 arg14 x0 x1 x2 x3 x4 x5) :=
  halfL_keep (@lA_5 c arg2 harg2 arg3 harg3 arg4 harg4 arg5 harg5 arg6 harg6 arg7 harg7 arg13 arg14 x0 x1 x2 x3 x4 x5)

theorem cA_12 : Cr (tail (up (kernelRun0_A.sl.r_1 c arg2 harg2 arg3 harg3 arg4 harg4 arg5 harg5 arg6 harg6 x0 x1 x2 x3 x4) x5)) (fun r f => Z0 (ix2 r f)) 1536 1536 (kernelRun0_A.sl.HS0_13 c arg2 harg2 arg3 harg3 arg4 harg4 arg5 harg5 arg6 harg6 arg7 harg7 arg13 arg14 x0 x1 x2 x3 x4 x5) :=
  cr_right 4096 1536 1280 1536 rfl rfl _ (fun r k f hf => keepR arg14.view (@rA_5 c arg2 harg2 arg3 harg3 arg4 harg4 arg5 harg5 arg6 harg6 arg7 harg7 arg13 arg14 x0 x1 x2 x3 x4 x5) _ r k f hf) (@cA_11 c arg2 harg2 arg3 harg3 arg4 harg4 arg5 harg5 arg6 harg6 arg7 harg7 arg13 arg14 x0 x1 x2 x3 x4 x5)

theorem lA_6 : HalfL (ext Z0 (up (kernelRun0_A.sl.r_1 c arg2 harg2 arg3 harg3 arg4 harg4 arg5 harg5 arg6 harg6 x0 x1 x2 x3 x4) x5)) 1536 (kernelRun0_A.sl.HS1_26 c arg2 harg2 arg3 harg3 arg4 harg4 arg5 harg5 arg6 harg6 arg7 harg7 arg13 arg14 x0 x1 x2 x3 x4 x5) :=
  halfL_mk (fun r k f hf => halo arg13.view (@cA_12 c arg2 harg2 arg3 harg3 arg4 harg4 arg5 harg5 arg6 harg6 arg7 harg7 arg13 arg14 x0 x1 x2 x3 x4 x5) 1536 (by omega) (by omega) _ r k f hf) (fun r k f hf => up_tile (kernelRun0_A.sl.r_1 c arg2 harg2 arg3 harg3 arg4 harg4 arg5 harg5 arg6 harg6 x0 x1 x2 x3 x4) harg7 x5 1536 _ r k f hf)

theorem cA_13 : Cr (tail (up (kernelRun0_A.sl.r_1 c arg2 harg2 arg3 harg3 arg4 harg4 arg5 harg5 arg6 harg6 x0 x1 x2 x3 x4) x5)) (fun r f => Z0 (ix2 r f)) 1792 1536 (kernelRun0_A.sl.HS0_14 c arg2 harg2 arg3 harg3 arg4 harg4 arg5 harg5 arg6 harg6 arg7 harg7 arg13 arg14 x0 x1 x2 x3 x4 x5) :=
  cr_left 1536 1536 1792 rfl _ (fun r k f hf => keepL arg14.view (@lA_6 c arg2 harg2 arg3 harg3 arg4 harg4 arg5 harg5 arg6 harg6 arg7 harg7 arg13 arg14 x0 x1 x2 x3 x4 x5) _ r k f hf) (@cA_12 c arg2 harg2 arg3 harg3 arg4 harg4 arg5 harg5 arg6 harg6 arg7 harg7 arg13 arg14 x0 x1 x2 x3 x4 x5)

theorem rA_6 : HalfR (ext Z0 (up (kernelRun0_A.sl.r_1 c arg2 harg2 arg3 harg3 arg4 harg4 arg5 harg5 arg6 harg6 x0 x1 x2 x3 x4) x5)) 4352 (kernelRun0_A.sl.HS1_28 c arg2 harg2 arg3 harg3 arg4 harg4 arg5 harg5 arg6 harg6 arg7 harg7 arg13 arg14 x0 x1 x2 x3 x4 x5) :=
  halfR_mk (fun r k f hf => halo arg13.view (@cA_13 c arg2 harg2 arg3 harg3 arg4 harg4 arg5 harg5 arg6 harg6 arg7 harg7 arg13 arg14 x0 x1 x2 x3 x4 x5) 4352 (by omega) (by omega) _ r k f hf) (fun r k f hf => up_tile (kernelRun0_A.sl.r_1 c arg2 harg2 arg3 harg3 arg4 harg4 arg5 harg5 arg6 harg6 x0 x1 x2 x3 x4) harg7 x5 4352 _ r k f hf)

theorem kA_6 : HalfL (ext Z0 (up (kernelRun0_A.sl.r_1 c arg2 harg2 arg3 harg3 arg4 harg4 arg5 harg5 arg6 harg6 x0 x1 x2 x3 x4) x5)) 1536 (kernelRun0_A.sl.HS1_28 c arg2 harg2 arg3 harg3 arg4 harg4 arg5 harg5 arg6 harg6 arg7 harg7 arg13 arg14 x0 x1 x2 x3 x4 x5) :=
  halfL_keep (@lA_6 c arg2 harg2 arg3 harg3 arg4 harg4 arg5 harg5 arg6 harg6 arg7 harg7 arg13 arg14 x0 x1 x2 x3 x4 x5)

theorem cA_14 : Cr (tail (up (kernelRun0_A.sl.r_1 c arg2 harg2 arg3 harg3 arg4 harg4 arg5 harg5 arg6 harg6 x0 x1 x2 x3 x4) x5)) (fun r f => Z0 (ix2 r f)) 1792 1792 (kernelRun0_A.sl.HS0_15 c arg2 harg2 arg3 harg3 arg4 harg4 arg5 harg5 arg6 harg6 arg7 harg7 arg13 arg14 x0 x1 x2 x3 x4 x5) :=
  cr_right 4352 1792 1536 1792 rfl rfl _ (fun r k f hf => keepR arg14.view (@rA_6 c arg2 harg2 arg3 harg3 arg4 harg4 arg5 harg5 arg6 harg6 arg7 harg7 arg13 arg14 x0 x1 x2 x3 x4 x5) _ r k f hf) (@cA_13 c arg2 harg2 arg3 harg3 arg4 harg4 arg5 harg5 arg6 harg6 arg7 harg7 arg13 arg14 x0 x1 x2 x3 x4 x5)

theorem lA_7 : HalfL (ext Z0 (up (kernelRun0_A.sl.r_1 c arg2 harg2 arg3 harg3 arg4 harg4 arg5 harg5 arg6 harg6 x0 x1 x2 x3 x4) x5)) 1792 (kernelRun0_A.sl.HS1_30 c arg2 harg2 arg3 harg3 arg4 harg4 arg5 harg5 arg6 harg6 arg7 harg7 arg13 arg14 x0 x1 x2 x3 x4 x5) :=
  halfL_mk (fun r k f hf => halo arg13.view (@cA_14 c arg2 harg2 arg3 harg3 arg4 harg4 arg5 harg5 arg6 harg6 arg7 harg7 arg13 arg14 x0 x1 x2 x3 x4 x5) 1792 (by omega) (by omega) _ r k f hf) (fun r k f hf => up_tile (kernelRun0_A.sl.r_1 c arg2 harg2 arg3 harg3 arg4 harg4 arg5 harg5 arg6 harg6 x0 x1 x2 x3 x4) harg7 x5 1792 _ r k f hf)

theorem cA_15 : Cr (tail (up (kernelRun0_A.sl.r_1 c arg2 harg2 arg3 harg3 arg4 harg4 arg5 harg5 arg6 harg6 x0 x1 x2 x3 x4) x5)) (fun r f => Z0 (ix2 r f)) 2048 1792 (kernelRun0_A.sl.HS0_16 c arg2 harg2 arg3 harg3 arg4 harg4 arg5 harg5 arg6 harg6 arg7 harg7 arg13 arg14 x0 x1 x2 x3 x4 x5) :=
  cr_left 1792 1792 2048 rfl _ (fun r k f hf => keepL arg14.view (@lA_7 c arg2 harg2 arg3 harg3 arg4 harg4 arg5 harg5 arg6 harg6 arg7 harg7 arg13 arg14 x0 x1 x2 x3 x4 x5) _ r k f hf) (@cA_14 c arg2 harg2 arg3 harg3 arg4 harg4 arg5 harg5 arg6 harg6 arg7 harg7 arg13 arg14 x0 x1 x2 x3 x4 x5)

theorem rA_7 : HalfR (ext Z0 (up (kernelRun0_A.sl.r_1 c arg2 harg2 arg3 harg3 arg4 harg4 arg5 harg5 arg6 harg6 x0 x1 x2 x3 x4) x5)) 4608 (kernelRun0_A.sl.HS1_32 c arg2 harg2 arg3 harg3 arg4 harg4 arg5 harg5 arg6 harg6 arg7 harg7 arg13 arg14 x0 x1 x2 x3 x4 x5) :=
  halfR_mk (fun r k f hf => halo arg13.view (@cA_15 c arg2 harg2 arg3 harg3 arg4 harg4 arg5 harg5 arg6 harg6 arg7 harg7 arg13 arg14 x0 x1 x2 x3 x4 x5) 4608 (by omega) (by omega) _ r k f hf) (fun r k f hf => up_tile (kernelRun0_A.sl.r_1 c arg2 harg2 arg3 harg3 arg4 harg4 arg5 harg5 arg6 harg6 x0 x1 x2 x3 x4) harg7 x5 4608 _ r k f hf)

theorem kA_7 : HalfL (ext Z0 (up (kernelRun0_A.sl.r_1 c arg2 harg2 arg3 harg3 arg4 harg4 arg5 harg5 arg6 harg6 x0 x1 x2 x3 x4) x5)) 1792 (kernelRun0_A.sl.HS1_32 c arg2 harg2 arg3 harg3 arg4 harg4 arg5 harg5 arg6 harg6 arg7 harg7 arg13 arg14 x0 x1 x2 x3 x4 x5) :=
  halfL_keep (@lA_7 c arg2 harg2 arg3 harg3 arg4 harg4 arg5 harg5 arg6 harg6 arg7 harg7 arg13 arg14 x0 x1 x2 x3 x4 x5)

theorem cA_16 : Cr (tail (up (kernelRun0_A.sl.r_1 c arg2 harg2 arg3 harg3 arg4 harg4 arg5 harg5 arg6 harg6 x0 x1 x2 x3 x4) x5)) (fun r f => Z0 (ix2 r f)) 2048 2048 (kernelRun0_A.sl.HS0_17 c arg2 harg2 arg3 harg3 arg4 harg4 arg5 harg5 arg6 harg6 arg7 harg7 arg13 arg14 x0 x1 x2 x3 x4 x5) :=
  cr_right 4608 2048 1792 2048 rfl rfl _ (fun r k f hf => keepR arg14.view (@rA_7 c arg2 harg2 arg3 harg3 arg4 harg4 arg5 harg5 arg6 harg6 arg7 harg7 arg13 arg14 x0 x1 x2 x3 x4 x5) _ r k f hf) (@cA_15 c arg2 harg2 arg3 harg3 arg4 harg4 arg5 harg5 arg6 harg6 arg7 harg7 arg13 arg14 x0 x1 x2 x3 x4 x5)

theorem lA_8 : HalfL (ext Z0 (up (kernelRun0_A.sl.r_1 c arg2 harg2 arg3 harg3 arg4 harg4 arg5 harg5 arg6 harg6 x0 x1 x2 x3 x4) x5)) 2048 (kernelRun0_A.sl.HS1_34 c arg2 harg2 arg3 harg3 arg4 harg4 arg5 harg5 arg6 harg6 arg7 harg7 arg13 arg14 x0 x1 x2 x3 x4 x5) :=
  halfL_mk (fun r k f hf => halo arg13.view (@cA_16 c arg2 harg2 arg3 harg3 arg4 harg4 arg5 harg5 arg6 harg6 arg7 harg7 arg13 arg14 x0 x1 x2 x3 x4 x5) 2048 (by omega) (by omega) _ r k f hf) (fun r k f hf => up_tile (kernelRun0_A.sl.r_1 c arg2 harg2 arg3 harg3 arg4 harg4 arg5 harg5 arg6 harg6 x0 x1 x2 x3 x4) harg7 x5 2048 _ r k f hf)

theorem cA_17 : Cr (tail (up (kernelRun0_A.sl.r_1 c arg2 harg2 arg3 harg3 arg4 harg4 arg5 harg5 arg6 harg6 x0 x1 x2 x3 x4) x5)) (fun r f => Z0 (ix2 r f)) 2304 2048 (kernelRun0_A.sl.HS0_18 c arg2 harg2 arg3 harg3 arg4 harg4 arg5 harg5 arg6 harg6 arg7 harg7 arg13 arg14 x0 x1 x2 x3 x4 x5) :=
  cr_left 2048 2048 2304 rfl _ (fun r k f hf => keepL arg14.view (@lA_8 c arg2 harg2 arg3 harg3 arg4 harg4 arg5 harg5 arg6 harg6 arg7 harg7 arg13 arg14 x0 x1 x2 x3 x4 x5) _ r k f hf) (@cA_16 c arg2 harg2 arg3 harg3 arg4 harg4 arg5 harg5 arg6 harg6 arg7 harg7 arg13 arg14 x0 x1 x2 x3 x4 x5)

theorem rA_8 : HalfR (ext Z0 (up (kernelRun0_A.sl.r_1 c arg2 harg2 arg3 harg3 arg4 harg4 arg5 harg5 arg6 harg6 x0 x1 x2 x3 x4) x5)) 4864 (kernelRun0_A.sl.HS1_36 c arg2 harg2 arg3 harg3 arg4 harg4 arg5 harg5 arg6 harg6 arg7 harg7 arg13 arg14 x0 x1 x2 x3 x4 x5) :=
  halfR_mk (fun r k f hf => halo arg13.view (@cA_17 c arg2 harg2 arg3 harg3 arg4 harg4 arg5 harg5 arg6 harg6 arg7 harg7 arg13 arg14 x0 x1 x2 x3 x4 x5) 4864 (by omega) (by omega) _ r k f hf) (fun r k f hf => up_tile (kernelRun0_A.sl.r_1 c arg2 harg2 arg3 harg3 arg4 harg4 arg5 harg5 arg6 harg6 x0 x1 x2 x3 x4) harg7 x5 4864 _ r k f hf)

theorem kA_8 : HalfL (ext Z0 (up (kernelRun0_A.sl.r_1 c arg2 harg2 arg3 harg3 arg4 harg4 arg5 harg5 arg6 harg6 x0 x1 x2 x3 x4) x5)) 2048 (kernelRun0_A.sl.HS1_36 c arg2 harg2 arg3 harg3 arg4 harg4 arg5 harg5 arg6 harg6 arg7 harg7 arg13 arg14 x0 x1 x2 x3 x4 x5) :=
  halfL_keep (@lA_8 c arg2 harg2 arg3 harg3 arg4 harg4 arg5 harg5 arg6 harg6 arg7 harg7 arg13 arg14 x0 x1 x2 x3 x4 x5)

theorem cA_18 : Cr (tail (up (kernelRun0_A.sl.r_1 c arg2 harg2 arg3 harg3 arg4 harg4 arg5 harg5 arg6 harg6 x0 x1 x2 x3 x4) x5)) (fun r f => Z0 (ix2 r f)) 2304 2304 (kernelRun0_A.sl.HS0_19 c arg2 harg2 arg3 harg3 arg4 harg4 arg5 harg5 arg6 harg6 arg7 harg7 arg13 arg14 x0 x1 x2 x3 x4 x5) :=
  cr_right 4864 2304 2048 2304 rfl rfl _ (fun r k f hf => keepR arg14.view (@rA_8 c arg2 harg2 arg3 harg3 arg4 harg4 arg5 harg5 arg6 harg6 arg7 harg7 arg13 arg14 x0 x1 x2 x3 x4 x5) _ r k f hf) (@cA_17 c arg2 harg2 arg3 harg3 arg4 harg4 arg5 harg5 arg6 harg6 arg7 harg7 arg13 arg14 x0 x1 x2 x3 x4 x5)

theorem lA_9 : HalfL (ext Z0 (up (kernelRun0_A.sl.r_1 c arg2 harg2 arg3 harg3 arg4 harg4 arg5 harg5 arg6 harg6 x0 x1 x2 x3 x4) x5)) 2304 (kernelRun0_A.sl.HS1_38 c arg2 harg2 arg3 harg3 arg4 harg4 arg5 harg5 arg6 harg6 arg7 harg7 arg13 arg14 x0 x1 x2 x3 x4 x5) :=
  halfL_mk (fun r k f hf => halo arg13.view (@cA_18 c arg2 harg2 arg3 harg3 arg4 harg4 arg5 harg5 arg6 harg6 arg7 harg7 arg13 arg14 x0 x1 x2 x3 x4 x5) 2304 (by omega) (by omega) _ r k f hf) (fun r k f hf => up_tile (kernelRun0_A.sl.r_1 c arg2 harg2 arg3 harg3 arg4 harg4 arg5 harg5 arg6 harg6 x0 x1 x2 x3 x4) harg7 x5 2304 _ r k f hf)

theorem cA_19 : Cr (tail (up (kernelRun0_A.sl.r_1 c arg2 harg2 arg3 harg3 arg4 harg4 arg5 harg5 arg6 harg6 x0 x1 x2 x3 x4) x5)) (fun r f => Z0 (ix2 r f)) 2560 2304 (kernelRun0_A.sl.HS0_20 c arg2 harg2 arg3 harg3 arg4 harg4 arg5 harg5 arg6 harg6 arg7 harg7 arg13 arg14 x0 x1 x2 x3 x4 x5) :=
  cr_left 2304 2304 2560 rfl _ (fun r k f hf => keepL arg14.view (@lA_9 c arg2 harg2 arg3 harg3 arg4 harg4 arg5 harg5 arg6 harg6 arg7 harg7 arg13 arg14 x0 x1 x2 x3 x4 x5) _ r k f hf) (@cA_18 c arg2 harg2 arg3 harg3 arg4 harg4 arg5 harg5 arg6 harg6 arg7 harg7 arg13 arg14 x0 x1 x2 x3 x4 x5)

theorem rA_9 : HalfR (ext Z0 (up (kernelRun0_A.sl.r_1 c arg2 harg2 arg3 harg3 arg4 harg4 arg5 harg5 arg6 harg6 x0 x1 x2 x3 x4) x5)) 5120 (kernelRun0_A.sl.HS1_40 c arg2 harg2 arg3 harg3 arg4 harg4 arg5 harg5 arg6 harg6 arg7 harg7 arg13 arg14 x0 x1 x2 x3 x4 x5) :=
  halfR_mk (fun r k f hf => halo arg13.view (@cA_19 c arg2 harg2 arg3 harg3 arg4 harg4 arg5 harg5 arg6 harg6 arg7 harg7 arg13 arg14 x0 x1 x2 x3 x4 x5) 5120 (by omega) (by omega) _ r k f hf) (fun r k f hf => up_tile (kernelRun0_A.sl.r_1 c arg2 harg2 arg3 harg3 arg4 harg4 arg5 harg5 arg6 harg6 x0 x1 x2 x3 x4) harg7 x5 5120 _ r k f hf)

theorem kA_9 : HalfL (ext Z0 (up (kernelRun0_A.sl.r_1 c arg2 harg2 arg3 harg3 arg4 harg4 arg5 harg5 arg6 harg6 x0 x1 x2 x3 x4) x5)) 2304 (kernelRun0_A.sl.HS1_40 c arg2 harg2 arg3 harg3 arg4 harg4 arg5 harg5 arg6 harg6 arg7 harg7 arg13 arg14 x0 x1 x2 x3 x4 x5) :=
  halfL_keep (@lA_9 c arg2 harg2 arg3 harg3 arg4 harg4 arg5 harg5 arg6 harg6 arg7 harg7 arg13 arg14 x0 x1 x2 x3 x4 x5)

theorem cA_20 : Cr (tail (up (kernelRun0_A.sl.r_1 c arg2 harg2 arg3 harg3 arg4 harg4 arg5 harg5 arg6 harg6 x0 x1 x2 x3 x4) x5)) (fun r f => Z0 (ix2 r f)) 2560 2560 (kernelRun0_A.sl.HS0_21 c arg2 harg2 arg3 harg3 arg4 harg4 arg5 harg5 arg6 harg6 arg7 harg7 arg13 arg14 x0 x1 x2 x3 x4 x5) :=
  cr_right 5120 2560 2304 2560 rfl rfl _ (fun r k f hf => keepR arg14.view (@rA_9 c arg2 harg2 arg3 harg3 arg4 harg4 arg5 harg5 arg6 harg6 arg7 harg7 arg13 arg14 x0 x1 x2 x3 x4 x5) _ r k f hf) (@cA_19 c arg2 harg2 arg3 harg3 arg4 harg4 arg5 harg5 arg6 harg6 arg7 harg7 arg13 arg14 x0 x1 x2 x3 x4 x5)

theorem lA_10 : HalfL (ext Z0 (up (kernelRun0_A.sl.r_1 c arg2 harg2 arg3 harg3 arg4 harg4 arg5 harg5 arg6 harg6 x0 x1 x2 x3 x4) x5)) 2560 (kernelRun0_A.sl.HS1_42 c arg2 harg2 arg3 harg3 arg4 harg4 arg5 harg5 arg6 harg6 arg7 harg7 arg13 arg14 x0 x1 x2 x3 x4 x5) :=
  halfL_mk (fun r k f hf => halo arg13.view (@cA_20 c arg2 harg2 arg3 harg3 arg4 harg4 arg5 harg5 arg6 harg6 arg7 harg7 arg13 arg14 x0 x1 x2 x3 x4 x5) 2560 (by omega) (by omega) _ r k f hf) (fun r k f hf => up_tile (kernelRun0_A.sl.r_1 c arg2 harg2 arg3 harg3 arg4 harg4 arg5 harg5 arg6 harg6 x0 x1 x2 x3 x4) harg7 x5 2560 _ r k f hf)

theorem cA_21 : Cr (tail (up (kernelRun0_A.sl.r_1 c arg2 harg2 arg3 harg3 arg4 harg4 arg5 harg5 arg6 harg6 x0 x1 x2 x3 x4) x5)) (fun r f => Z0 (ix2 r f)) 2816 2560 (kernelRun0_A.sl.HS0_22 c arg2 harg2 arg3 harg3 arg4 harg4 arg5 harg5 arg6 harg6 arg7 harg7 arg13 arg14 x0 x1 x2 x3 x4 x5) :=
  cr_left 2560 2560 2816 rfl _ (fun r k f hf => keepL arg14.view (@lA_10 c arg2 harg2 arg3 harg3 arg4 harg4 arg5 harg5 arg6 harg6 arg7 harg7 arg13 arg14 x0 x1 x2 x3 x4 x5) _ r k f hf) (@cA_20 c arg2 harg2 arg3 harg3 arg4 harg4 arg5 harg5 arg6 harg6 arg7 harg7 arg13 arg14 x0 x1 x2 x3 x4 x5)

theorem rA_10 : HalfR (ext Z0 (up (kernelRun0_A.sl.r_1 c arg2 harg2 arg3 harg3 arg4 harg4 arg5 harg5 arg6 harg6 x0 x1 x2 x3 x4) x5)) 5376 (kernelRun0_A.sl.HS1_44 c arg2 harg2 arg3 harg3 arg4 harg4 arg5 harg5 arg6 harg6 arg7 harg7 arg13 arg14 x0 x1 x2 x3 x4 x5) :=
  halfR_mk (fun r k f hf => halo arg13.view (@cA_21 c arg2 harg2 arg3 harg3 arg4 harg4 arg5 harg5 arg6 harg6 arg7 harg7 arg13 arg14 x0 x1 x2 x3 x4 x5) 5376 (by omega) (by omega) _ r k f hf) (fun r k f hf => up_tile (kernelRun0_A.sl.r_1 c arg2 harg2 arg3 harg3 arg4 harg4 arg5 harg5 arg6 harg6 x0 x1 x2 x3 x4) harg7 x5 5376 _ r k f hf)

theorem kA_10 : HalfL (ext Z0 (up (kernelRun0_A.sl.r_1 c arg2 harg2 arg3 harg3 arg4 harg4 arg5 harg5 arg6 harg6 x0 x1 x2 x3 x4) x5)) 2560 (kernelRun0_A.sl.HS1_44 c arg2 harg2 arg3 harg3 arg4 harg4 arg5 harg5 arg6 harg6 arg7 harg7 arg13 arg14 x0 x1 x2 x3 x4 x5) :=
  halfL_keep (@lA_10 c arg2 harg2 arg3 harg3 arg4 harg4 arg5 harg5 arg6 harg6 arg7 harg7 arg13 arg14 x0 x1 x2 x3 x4 x5)

theorem colsA : Cols (act x6 x7 (ext Z0 (up (kernelRun0_A.sl.r_1 c arg2 harg2 arg3 harg3 arg4 harg4 arg5 harg5 arg6 harg6 x0 x1 x2 x3 x4) x5))) 2816 (kernelRun0_A.sl.HS2_11 c arg2 harg2 arg3 harg3 arg4 harg4 arg5 harg5 arg6 harg6 arg7 harg7 arg8 harg8 arg9 harg9 arg13 arg14 x0 x1 x2 x3 x4 x5 x6 x7) :=
  (cols_step 2560 2816 rfl _ (fun r k g hg => act_tile harg8 x6 harg9 x7 (ext Z0 (up (kernelRun0_A.sl.r_1 c arg2 harg2 arg3 harg3 arg4 harg4 arg5 harg5 arg6 harg6 x0 x1 x2 x3 x4) x5)) 2560 5376 rfl arg14.view _ (@kA_10 c arg2 harg2 arg3 harg3 arg4 harg4 arg5 harg5 arg6 harg6 arg7 harg7 arg13 arg14 x0 x1 x2 x3 x4 x5) (@rA_10 c arg2 harg2 arg3 harg3 arg4 harg4 arg5 harg5 arg6 harg6 arg7 harg7 arg13 arg14 x0 x1 x2 x3 x4 x5) _ _ _ _ _ _ _ _ _ _ _ _ _ _ r k g hg)
    (cols_step 2304 2560 rfl _ (fun r k g hg => act_tile harg8 x6 harg9 x7 (ext Z0 (up (kernelRun0_A.sl.r_1 c arg2 harg2 arg3 harg3 arg4 harg4 arg5 harg5 arg6 harg6 x0 x1 x2 x3 x4) x5)) 2304 5120 rfl arg14.view _ (@kA_9 c arg2 harg2 arg3 harg3 arg4 harg4 arg5 harg5 arg6 harg6 arg7 harg7 arg13 arg14 x0 x1 x2 x3 x4 x5) (@rA_9 c arg2 harg2 arg3 harg3 arg4 harg4 arg5 harg5 arg6 harg6 arg7 harg7 arg13 arg14 x0 x1 x2 x3 x4 x5) _ _ _ _ _ _ _ _ _ _ _ _ _ _ r k g hg)
    (cols_step 2048 2304 rfl _ (fun r k g hg => act_tile harg8 x6 harg9 x7 (ext Z0 (up (kernelRun0_A.sl.r_1 c arg2 harg2 arg3 harg3 arg4 harg4 arg5 harg5 arg6 harg6 x0 x1 x2 x3 x4) x5)) 2048 4864 rfl arg14.view _ (@kA_8 c arg2 harg2 arg3 harg3 arg4 harg4 arg5 harg5 arg6 harg6 arg7 harg7 arg13 arg14 x0 x1 x2 x3 x4 x5) (@rA_8 c arg2 harg2 arg3 harg3 arg4 harg4 arg5 harg5 arg6 harg6 arg7 harg7 arg13 arg14 x0 x1 x2 x3 x4 x5) _ _ _ _ _ _ _ _ _ _ _ _ _ _ r k g hg)
    (cols_step 1792 2048 rfl _ (fun r k g hg => act_tile harg8 x6 harg9 x7 (ext Z0 (up (kernelRun0_A.sl.r_1 c arg2 harg2 arg3 harg3 arg4 harg4 arg5 harg5 arg6 harg6 x0 x1 x2 x3 x4) x5)) 1792 4608 rfl arg14.view _ (@kA_7 c arg2 harg2 arg3 harg3 arg4 harg4 arg5 harg5 arg6 harg6 arg7 harg7 arg13 arg14 x0 x1 x2 x3 x4 x5) (@rA_7 c arg2 harg2 arg3 harg3 arg4 harg4 arg5 harg5 arg6 harg6 arg7 harg7 arg13 arg14 x0 x1 x2 x3 x4 x5) _ _ _ _ _ _ _ _ _ _ _ _ _ _ r k g hg)
    (cols_step 1536 1792 rfl _ (fun r k g hg => act_tile harg8 x6 harg9 x7 (ext Z0 (up (kernelRun0_A.sl.r_1 c arg2 harg2 arg3 harg3 arg4 harg4 arg5 harg5 arg6 harg6 x0 x1 x2 x3 x4) x5)) 1536 4352 rfl arg14.view _ (@kA_6 c arg2 harg2 arg3 harg3 arg4 harg4 arg5 harg5 arg6 harg6 arg7 harg7 arg13 arg14 x0 x1 x2 x3 x4 x5) (@rA_6 c arg2 harg2 arg3 harg3 arg4 harg4 arg5 harg5 arg6 harg6 arg7 harg7 arg13 arg14 x0 x1 x2 x3 x4 x5) _ _ _ _ _ _ _ _ _ _ _ _ _ _ r k g hg)
    (cols_step 1280 1536 rfl _ (fun r k g hg => act_tile harg8 x6 harg9 x7 (ext Z0 (up (kernelRun0_A.sl.r_1 c arg2 harg2 arg3 harg3 arg4 harg4 arg5 harg5 arg6 harg6 x0 x1 x2 x3 x4) x5)) 1280 4096 rfl arg14.view _ (@kA_5 c arg2 harg2 arg3 harg3 arg4 harg4 arg5 harg5 arg6 harg6 arg7 harg7 arg13 arg14 x0 x1 x2 x3 x4 x5) (@rA_5 c arg2 harg2 arg3 harg3 arg4 harg4 arg5 harg5 arg6 harg6 arg7 harg7 arg13 arg14 x0 x1 x2 x3 x4 x5) _ _ _ _ _ _ _ _ _ _ _ _ _ _ r k g hg)
    (cols_step 1024 1280 rfl _ (fun r k g hg => act_tile harg8 x6 harg9 x7 (ext Z0 (up (kernelRun0_A.sl.r_1 c arg2 harg2 arg3 harg3 arg4 harg4 arg5 harg5 arg6 harg6 x0 x1 x2 x3 x4) x5)) 1024 3840 rfl arg14.view _ (@kA_4 c arg2 harg2 arg3 harg3 arg4 harg4 arg5 harg5 arg6 harg6 arg7 harg7 arg13 arg14 x0 x1 x2 x3 x4 x5) (@rA_4 c arg2 harg2 arg3 harg3 arg4 harg4 arg5 harg5 arg6 harg6 arg7 harg7 arg13 arg14 x0 x1 x2 x3 x4 x5) _ _ _ _ _ _ _ _ _ _ _ _ _ _ r k g hg)
    (cols_step 768 1024 rfl _ (fun r k g hg => act_tile harg8 x6 harg9 x7 (ext Z0 (up (kernelRun0_A.sl.r_1 c arg2 harg2 arg3 harg3 arg4 harg4 arg5 harg5 arg6 harg6 x0 x1 x2 x3 x4) x5)) 768 3584 rfl arg14.view _ (@kA_3 c arg2 harg2 arg3 harg3 arg4 harg4 arg5 harg5 arg6 harg6 arg7 harg7 arg13 arg14 x0 x1 x2 x3 x4 x5) (@rA_3 c arg2 harg2 arg3 harg3 arg4 harg4 arg5 harg5 arg6 harg6 arg7 harg7 arg13 arg14 x0 x1 x2 x3 x4 x5) _ _ _ _ _ _ _ _ _ _ _ _ _ _ r k g hg)
    (cols_step 512 768 rfl _ (fun r k g hg => act_tile harg8 x6 harg9 x7 (ext Z0 (up (kernelRun0_A.sl.r_1 c arg2 harg2 arg3 harg3 arg4 harg4 arg5 harg5 arg6 harg6 x0 x1 x2 x3 x4) x5)) 512 3328 rfl arg14.view _ (@kA_2 c arg2 harg2 arg3 harg3 arg4 harg4 arg5 harg5 arg6 harg6 arg7 harg7 arg13 arg14 x0 x1 x2 x3 x4 x5) (@rA_2 c arg2 harg2 arg3 harg3 arg4 harg4 arg5 harg5 arg6 harg6 arg7 harg7 arg13 arg14 x0 x1 x2 x3 x4 x5) _ _ _ _ _ _ _ _ _ _ _ _ _ _ r k g hg)
    (cols_step 256 512 rfl _ (fun r k g hg => act_tile harg8 x6 harg9 x7 (ext Z0 (up (kernelRun0_A.sl.r_1 c arg2 harg2 arg3 harg3 arg4 harg4 arg5 harg5 arg6 harg6 x0 x1 x2 x3 x4) x5)) 256 3072 rfl arg14.view _ (@kA_1 c arg2 harg2 arg3 harg3 arg4 harg4 arg5 harg5 arg6 harg6 arg7 harg7 arg13 arg14 x0 x1 x2 x3 x4 x5) (@rA_1 c arg2 harg2 arg3 harg3 arg4 harg4 arg5 harg5 arg6 harg6 arg7 harg7 arg13 arg14 x0 x1 x2 x3 x4 x5) _ _ _ _ _ _ _ _ _ _ _ _ _ _ r k g hg)
    (cols_step 0 256 rfl _ (fun r k g hg => act_tile harg8 x6 harg9 x7 (ext Z0 (up (kernelRun0_A.sl.r_1 c arg2 harg2 arg3 harg3 arg4 harg4 arg5 harg5 arg6 harg6 x0 x1 x2 x3 x4) x5)) 0 2816 rfl arg14.view _ (@kA_0 c arg2 harg2 arg3 harg3 arg4 harg4 arg5 harg5 arg6 harg6 arg7 harg7 arg13 arg14 x0 x1 x2 x3 x4 x5) (@rA_0 c arg2 harg2 arg3 harg3 arg4 harg4 arg5 harg5 arg6 harg6 arg7 harg7 arg13 arg14 x0 x1 x2 x3 x4 x5) _ _ _ _ _ _ _ _ _ _ _ _ _ _ r k g hg)
    (cols_nil _))))))))))))

theorem crA (hc0 : cond0_0 i) : Cr (tail (up (kernelRun0_A.sl.r_1 c arg2 harg2 arg3 harg3 arg4 harg4 arg5 harg5 arg6 harg6 x0 x1 x2 x3 x4) x5)) (fun r f => Z0 (ix2 r f)) 2816 2816 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 :=
  cr_right 5376 2816 2560 2816 rfl rfl _ (fun r k f hf => keepR arg14.view (@rA_10 c arg2 harg2 arg3 harg3 arg4 harg4 arg5 harg5 arg6 harg6 arg7 harg7 arg13 arg14 x0 x1 x2 x3 x4 x5) _ r k f hf) (@cA_21 c arg2 harg2 arg3 harg3 arg4 harg4 arg5 harg5 arg6 harg6 arg7 harg7 arg13 arg14 x0 x1 x2 x3 x4 x5)

/-- The rows carried to the next point are the last eight of the block's own product. -/
theorem carryA (hc0 : cond0_0 i) (r : Fin 8) (f : Fin 5632) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 r f) = tail (up (kernelRun0_A.sl.r_1 c arg2 harg2 arg3 harg3 arg4 harg4 arg5 harg5 arg6 harg6 x0 x1 x2 x3 x4) x5) r f := by
  have h := crA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 hc0 r f
  have hf := f.isLt
  rw [if_pos (by omega)] at h
  rw [← h]
  unfold sout0_A_0
  rw [View.read_writes_junk_eq_canon]

/-- The rows of the result. -/
theorem resA (hc0 : cond0_0 i) (r : Fin 512) (d : Fin 1024) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix3 0 r d)
      = rms (fun e => kernelRun0_A.sl.r c arg2 harg2 arg3 harg3 arg4 harg4 arg5 harg5 x0 x1 x2 x3 (ix2 r e) + ∑ g : Fin 2816, act x6 x7 (ext Z0 (up (kernelRun0_A.sl.r_1 c arg2 harg2 arg3 harg3 arg4 harg4 arg5 harg5 arg6 harg6 x0 x1 x2 x3 x4) x5)) r g * x8 (ix2 g e)) (fun e => x9 (ix2 0 e)) d := by
  have ha : ∀ g, kernelRun0_A.sl.v766 c arg2 harg2 arg3 harg3 arg4 harg4 arg5 harg5 arg6 harg6 arg7 harg7 arg8 harg8 arg9 harg9 arg13 arg14 arg15 x0 x1 x2 x3 x4 x5 x6 x7 (ix2 r g) = act x6 x7 (ext Z0 (up (kernelRun0_A.sl.r_1 c arg2 harg2 arg3 harg3 arg4 harg4 arg5 harg5 arg6 harg6 x0 x1 x2 x3 x4) x5)) r g := by
    intro g
    rw [← colsA c arg2 harg2 arg3 harg3 arg4 harg4 arg5 harg5 arg6 harg6 arg7 harg7 arg8 harg8 arg9 harg9 arg13 arg14 x0 x1 x2 x3 x4 x5 x6 x7 r g g.isLt]
    unfold kernelRun0_A.sl.v766
    rw [View.readCov_eq_canon']
    show View.canon (Val := Elt Ideal) (s := S512x2816) (e := .bf16) _ ((Rect.unit (s := S512x2816) ![0, 0] S512x2816.size inb_S512x2816_S512x2816_0_0).toLoadRect.idx (ix2 r g)) = _
    congr 1
    funext a
    fin_cases a
    · apply Fin.ext; show 0 + 1 * r.val = r.val; omega
    · apply Fin.ext; show 0 + 1 * g.val = g.val; omega
  simp only [← ha]
  have hl : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 = [⟨Rect.unit ![0, 0, 0] S1x512x1024.size inb_S1x512x1024_S1x512x1024_0_0_0,
      k0_pay1 (kernelRun0_A.sl.r_36 c arg2 harg2 arg3 harg3 arg4 harg4 arg5 harg5 arg6 harg6 arg7 harg7 arg8 harg8 arg9 harg9 arg10 harg10 arg13 arg14 arg15 x0 x1 x2 x3 x4 x5 x6 x7 x8) (kernelRun0_A.sl.r_37 c arg11 harg11 x9) (kernelRun0_A.sl.r_38 c arg2 harg2 arg3 harg3 arg4 harg4 arg5 harg5 arg6 harg6 arg7 harg7 arg8 harg8 arg9 harg9 arg10 harg10 arg13 arg14 arg15 x0 x1 x2 x3 x4 x5 x6 x7 x8)⟩] := rfl
  unfold out0_A_10
  rw [View.read_writes_junk_eq_canon, hl]
  refine (canon_in _ _ _ _ (ix3 0 r d) ?_).trans ?_
  · intro a
    fin_cases a
    · rfl
    · show r.val = 0 + r.val; omega
    · show d.val = 0 + d.val; omega
  · have e8 : View.readAt (Elt Ideal) arg10.view (Rect.unit ![0, 0] S2816x1024.size inb_S2816x1024_S2816x1024_0_0).toLoadRect (harg10.unread x8) = x8 := by
      rw [View.readAt_eq_ld, Memref.IsWhole.read_unread]
      exact View.ld_unit_lit' _ _ (by decide)
    have e9 : View.readAt (Elt Ideal) arg11.view (Rect.unit ![0, 0] S1x1024.size inb_S1x1024_S1x1024_0_0).toLoadRect (harg11.unread x9) = x9 := by
      rw [View.readAt_eq_ld, Memref.IsWhole.read_unread]
      exact View.ld_unit_lit' _ _ (by decide)
    unfold kernelRun0_A.sl.r_36 kernelRun0_A.sl.r_37 kernelRun0_A.sl.r_38
    rw [e8, e9]
    exact pay1_apply _ _ _ _ r d

theorem rxA (r : Fin 512) (d : Fin 1024) : kernelRun0_A.sl.r c arg2 harg2 arg3 harg3 arg4 harg4 arg5 harg5 x0 x1 x2 x3 (ix2 r d) = xB x0 x1 x2 x3 r d :=
  xB_ld harg2 harg3 harg4 harg5 x0 x1 x2 x3 _ _ _ _ _ r d

theorem rhA : kernelRun0_A.sl.r_1 c arg2 harg2 arg3 harg3 arg4 harg4 arg5 harg5 arg6 harg6 x0 x1 x2 x3 x4 = hB x0 x1 x2 x3 x4 :=
  hB_ld harg2 harg3 harg4 harg5 harg6 x0 x1 x2 x3 x4 _ _ _ _ _ _

/-- The rows of the result, from the block's inputs. -/
theorem valA (hc0 : cond0_0 i) (r : Fin 512) (d : Fin 1024) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix3 0 r d) = outB x0 x1 x2 x3 x4 x5 x6 x7 x8 x9 Z0 r d := by
  rw [resA, outB, rhA]
  simp only [rxA]

/-- The carried rows, from the block's inputs. -/
theorem carA (hc0 : cond0_0 i) (r : Fin 8) (f : Fin 5632) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 (ix2 r f) = tail (up (hB x0 x1 x2 x3 x4) x5) r f := by
  rw [carryA, rhA]

end
end Cert.Kernel2Ideal.Ffn
end
-- ==== Proof.Ffn.CaseB.lean ====
module

public import proofs.«01_k».proof.Proof.Ffn.Out

@[expose] public section

set_option maxRecDepth 16384

noncomputable section

namespace Cert.Kernel2Ideal.Ffn

open Idealize.ShloMosaic Idealize.ShloMosaic.TcCoe Idealize.ShloMosaic.Tactic
open Cert.Kernel2Ideal.Gen

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S8x5632 .f32) (harg13 : arg13.IsWhole) (arg14 : Memref sig .tc .vmem S520x512 .f32) (harg14 : arg14.IsWhole) (arg15 : Memref sig .tc .vmem S512x2816 .bf16) (harg15 : arg15.IsWhole)
variable (x0 : Vec Ideal S1x512x1024 .f32) (x1 : Vec Ideal S1x512x512 .bf16) (x2 : Vec Ideal S1x512x512 .bf16) (x3 : Vec Ideal S1024x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32) (xs0 : Vec Ideal S8x5632 .f32)

theorem lB_0 : HalfL (ext xs0 (up (kernelRun0_B.sl.r_1 c arg2 harg2 arg3 harg3 arg4 harg4 arg5 harg5 arg6 harg6 x0 x1 x2 x3 x4) x5)) 0 (kernelRun0_B.sl.HS1_2 c arg2 harg2 arg3 harg3 arg4 harg4 arg5 harg5 arg6 harg6 arg7 harg7 arg13 harg13 x0 x1 x2 x3 x4 x5 xs0) :=
  halfL_mk (fun r k f hf => carry_tile harg13 xs0 0 _ r k f hf) (fun r k f hf => up_tile (kernelRun0_B.sl.r_1 c arg2 harg2 arg3 harg3 arg4 harg4 arg5 harg5 arg6 harg6 x0 x1 x2 x3 x4) harg7 x5 0 _ r k f hf)

theorem rB_0 : HalfR (ext xs0 (up (kernelRun0_B.sl.r_1 c arg2 harg2 arg3 harg3 arg4 harg4 arg5 harg5 arg6 harg6 x0 x1 x2 x3 x4) x5)) 2816 (kernelRun0_B.sl.HS1_4 c arg2 harg2 arg3 harg3 arg4 harg4 arg5 harg5 arg6 harg6 arg7 harg7 arg13 harg13 x0 x1 x2 x3 x4 x5 xs0) :=
  halfR_mk (fun r k f hf => carry_tile harg13 xs0 2816 _ r k f hf) (fun r k f hf => up_tile (kernelRun0_B.sl.r_1 c arg2 harg2 arg3 harg3 arg4 harg4 arg5 harg5 arg6 harg6 x0 x1 x2 x3 x4) harg7 x5 2816 _ r k f hf)

theorem kB_0 : HalfL (ext xs0 (up (kernelRun0_B.sl.r_1 c arg2 harg2 arg3 harg3 arg4 harg4 arg5 harg5 arg6 harg6 x0 x1 x2 x3 x4) x5)) 0 (kernelRun0_B.sl.HS1_4 c arg2 harg2 arg3 harg3 arg4 harg4 arg5 harg5 arg6 harg6 arg7 harg7 arg13 harg13 x0 x1 x2 x3 x4 x5 xs0) :=
  halfL_keep (@lB_0 c arg2 harg2 arg3 harg3 arg4 harg4 arg5 harg5 arg6 harg6 arg7 harg7 arg13 harg13 x0 x1 x2 x3 x4 x5 xs0)

theorem lB_1 : HalfL (ext xs0 (up (kernelRun0_B.sl.r_1 c arg2 harg2 arg3 harg3 arg4 harg4 arg5 harg5 arg6 harg6 x0 x1 x2 x3 x4) x5)) 256 (kernelRun0_B.sl.HS1_6 c arg2 harg2 arg3 harg3 arg4 harg4 arg5 harg5 arg6 harg6 arg7 harg7 arg13 harg13 x0 x1 x2 x3 x4 x5 xs0) :=
  halfL_mk (fun r k f hf => carry_tile harg13 xs0 256 _ r k f hf) (fun r k f hf => up_tile (kernelRun0_B.sl.r_1 c arg2 harg2 arg3 harg3 arg4 harg4 arg5 harg5 arg6 harg6 x0 x1 x2 x3 x4) harg7 x5 256 _ r k f hf)

theorem rB_1 : HalfR (ext xs0 (up (kernelRun0_B.sl.r_1 c arg2 harg2 arg3 harg3 arg4 harg4 arg5 harg5 arg6 harg6 x0 x1 x2 x3 x4) x5)) 3072 (kernelRun0_B.sl.HS1_8 c arg2 harg2 arg3 harg3 arg4 harg4 arg5 harg5 arg6 harg6 arg7 harg7 arg13 harg13 x0 x1 x2 x3 x4 x5 xs0) :=
  halfR_mk (fun r k f hf => carry_tile harg13 xs0 3072 _ r k f hf) (fun r k f hf => up_tile (kernelRun0_B.sl.r_1 c arg2 harg2 arg3 harg3 arg4 harg4 arg5 harg5 arg6 harg6 x0 x1 x2 x3 x4) harg7 x5 3072 _ r k f hf)

theorem kB_1 : HalfL (ext xs0 (up (kernelRun0_B.sl.r_1 c arg2 harg2 arg3 harg3 arg4 harg4 arg5 harg5 arg6 harg6 x0 x1 x2 x3 x4) x5)) 256 (kernelRun0_B.sl.HS1_8 c arg2 harg2 arg3 harg3 arg4 harg4 arg5 harg5 arg6 harg6 arg7 harg7 arg13 harg13 x0 x1 x2 x3 x4 x5 xs0) :=
  halfL_keep (@lB_1 c arg2 harg2 arg3 harg3 arg4 harg4 arg5 harg5 arg6 harg6 arg7 harg7 arg13 harg13 x0 x1 x2 x3 x4 x5 xs0)

theorem lB_2 : HalfL (ext xs0 (up (kernelRun0_B.sl.r_1 c arg2 harg2 arg3 harg3 arg4 harg4 arg5 harg5 arg6 harg6 x0 x1 x2 x3 x4) x5)) 512 (kernelRun0_B.sl.HS1_10 c arg2 harg2 arg3 harg3 arg4 harg4 arg5 harg5 arg6 harg6 arg7 harg7 arg13 harg13 x0 x1 x2 x3 x4 x5 xs0) :=
  halfL_mk (fun r k f hf => carry_tile harg13 xs0 512 _ r k f hf) (fun r k f hf => up_tile (kernelRun0_B.sl.r_1 c arg2 harg2 arg3 harg3 arg4 harg4 arg5 harg5 arg6 harg6 x0 x1 x2 x3 x4) harg7 x5 512 _ r k f hf)

theorem rB_2 : HalfR (ext xs0 (up (kernelRun0_B.sl.r_1 c arg2 harg2 arg3 harg3 arg4 harg4 arg5 harg5 arg6 harg6 x0 x1 x2 x3 x4) x5)) 3328 (kernelRun0_B.sl.HS1_12 c arg2 harg2 arg3 harg3 arg4 harg4 arg5 harg5 arg6 harg6 arg7 harg7 arg13 harg13 x0 x1 x2 x3 x4 x5 xs0) :=
  halfR_mk (fun r k f hf => carry_tile harg13 xs0 3328 _ r k f hf) (fun r k f hf => up_tile (kernelRun0_B.sl.r_1 c arg2 harg2 arg3 harg3 arg4 harg4 arg5 harg5 arg6 harg6 x0 x1 x2 x3 x4) harg7 x5 3328 _ r k f hf)

theorem kB_2 : HalfL (ext xs0 (up (kernelRun0_B.sl.r_1 c arg2 harg2 arg3 harg3 arg4 harg4 arg5 harg5 arg6 harg6 x0 x1 x2 x3 x4) x5)) 512 (kernelRun0_B.sl.HS1_12 c arg2 harg2 arg3 harg3 arg4 harg4 arg5 harg5 arg6 harg6 arg7 harg7 arg13 harg13 x0 x1 x2 x3 x4 x5 xs0) :=
  halfL_keep (@lB_2 c arg2 harg2 arg3 harg3 arg4 harg4 arg5 harg5 arg6 harg6 arg7 harg7 arg13 harg13 x0 x1 x2 x3 x4 x5 xs0)

theorem lB_3 : HalfL (ext xs0 (up (kernelRun0_B.sl.r_1 c arg2 harg2 arg3 harg3 arg4 harg4 arg5 harg5 arg6 harg6 x0 x1 x2 x3 x4) x5)) 768 (kernelRun0_B.sl.HS1_14 c arg2 harg2 arg3 harg3 arg4 harg4 arg5 harg5 arg6 harg6 arg7 harg7 arg13 harg13 x0 x1 x2 x3 x4 x5 xs0) :=
  halfL_mk (fun r k f hf => carry_tile harg13 xs0 768 _ r k f hf) (fun r k f hf => up_tile (kernelRun0_B.sl.r_1 c arg2 harg2 arg3 harg3 arg4 harg4 arg5 harg5 arg6 harg6 x0 x1 x2 x3 x4) harg7 x5 768 _ r k f hf)

theorem rB_3 : HalfR (ext xs0 (up (kernelRun0_B.sl.r_1 c arg2 harg2 arg3 harg3 arg4 harg4 arg5 harg5 arg6 harg6 x0 x1 x2 x3 x4) x5)) 3584 (kernelRun0_B.sl.HS1_16 c arg2 harg2 arg3 harg3 arg4 harg4 arg5 harg5 arg6 harg6 arg7 harg7 arg13 harg13 x0 x1 x2 x3 x4 x5 xs0) :=
  halfR_mk (fun r k f hf => carry_tile harg13 xs0 3584 _ r k f hf) (fun r k f hf => up_tile (kernelRun0_B.sl.r_1 c arg2 harg2 arg3 harg3 arg4 harg4 arg5 harg5 arg6 harg6 x0 x1 x2 x3 x4) harg7 x5 3584 _ r k f hf)

theorem kB_3 : HalfL (ext xs0 (up (kernelRun0_B.sl.r_1 c arg2 harg2 arg3 harg3 arg4 harg4 arg5 harg5 arg6 harg6 x0 x1 x2 x3 x4) x5)) 768 (kernelRun0_B.sl.HS1_16 c arg2 harg2 arg3 harg3 arg4 harg4 arg5 harg5 arg6 harg6 arg7 harg7 arg13 harg13 x0 x1 x2 x3 x4 x5 xs0) :=
  halfL_keep (@lB_3 c arg2 harg2 arg3 harg3 arg4 harg4 arg5 harg5 arg6 harg6 arg7 harg7 arg13 harg13 x0 x1 x2 x3 x4 x5 xs0)

theorem lB_4 : HalfL (ext xs0 (up (kernelRun0_B.sl.r_1 c arg2 harg2 arg3 harg3 arg4 harg4 arg5 harg5 arg6 harg6 x0 x1 x2 x3 x4) x5)) 1024 (kernelRun0_B.sl.HS1_18 c arg2 harg2 arg3 harg3 arg4 harg4 arg5 harg5 arg6 harg6 arg7 harg7 arg13 harg13 x0 x1 x2 x3 x4 x5 xs0) :=
  halfL_mk (fun r k f hf => carry_tile harg13 xs0 1024 _ r k f hf) (fun r k f hf => up_tile (kernelRun0_B.sl.r_1 c arg2 harg2 arg3 harg3 arg4 harg4 arg5 harg5 arg6 harg6 x0 x1 x2 x3 x4) harg7 x5 1024 _ r k f hf)

theorem rB_4 : HalfR (ext xs0 (up (kernelRun0_B.sl.r_1 c arg2 harg2 arg3 harg3 arg4 harg4 arg5 harg5 arg6 harg6 x0 x1 x2 x3 x4) x5)) 3840 (kernelRun0_B.sl.HS1_20 c arg2 harg2 arg3 harg3 arg4 harg4 arg5 harg5 arg6 harg6 arg7 harg7 arg13 harg13 x0 x1 x2 x3 x4 x5 xs0) :=
  halfR_mk (fun r k f hf => carry_tile harg13 xs0 3840 _ r k f hf) (fun r k f hf => up_tile (kernelRun0_B.sl.r_1 c arg2 harg2 arg3 harg3 arg4 harg4 arg5 harg5 arg6 harg6 x0 x1 x2 x3 x4) harg7 x5 3840 _ r k f hf)

theorem kB_4 : HalfL (ext xs0 (up (kernelRun0_B.sl.r_1 c arg2 harg2 arg3 harg3 arg4 harg4 arg5 harg5 arg6 harg6 x0 x1 x2 x3 x4) x5)) 1024 (kernelRun0_B.sl.HS1_20 c arg2 harg2 arg3 harg3 arg4 harg4 arg5 harg5 arg6 harg6 arg7 harg7 arg13 harg13 x0 x1 x2 x3 x4 x5 xs0) :=
  halfL_keep (@lB_4 c arg2 harg2 arg3 harg3 arg4 harg4 arg5 harg5 arg6 harg6 arg7 harg7 arg13 harg13 x0 x1 x2 x3 x4 x5 xs0)

theorem lB_5 : HalfL (ext xs0 (up (kernelRun0_B.sl.r_1 c arg2 harg2 arg3 harg3 arg4 harg4 arg5 harg5 arg6 harg6 x0 x1 x2 x3 x4) x5)) 1280 (kernelRun0_B.sl.HS1_22 c arg2 harg2 arg3 harg3 arg4 harg4 arg5 harg5 arg6 harg6 arg7 harg7 arg13 harg13 x0 x1 x2 x3 x4 x5 xs0) :=
  halfL_mk (fun r k f hf => carry_tile harg13 xs0 1280 _ r k f hf) (fun r k f hf => up_tile (kernelRun0_B.sl.r_1 c arg2 harg2 arg3 harg3 arg4 harg4 arg5 harg5 arg6 harg6 x0 x1 x2 x3 x4) harg7 x5 1280 _ r k f hf)

theorem rB_5 : HalfR (ext xs0 (up (kernelRun0_B.sl.r_1 c arg2 harg2 arg3 harg3 arg4 harg4 arg5 harg5 arg6 harg6 x0 x1 x2 x3 x4) x5)) 4096 (kernelRun0_B.sl.HS1_24 c arg2 harg2 arg3 harg3 arg4 harg4 arg5 harg5 arg6 harg6 arg7 harg7 arg13 harg13 x0 x1 x2 x3 x4 x5 xs0) :=
  halfR_mk (fun r k f hf => carry_tile harg13 xs0 4096 _ r k f hf) (fun r k f hf => up_tile (kernelRun0_B.sl.r_1 c arg2 harg2 arg3 harg3 arg4 harg4 arg5 harg5 arg6 harg6 x0 x1 x2 x3 x4) harg7 x5 4096 _ r k f hf)

theorem kB_5 : HalfL (ext xs0 (up (kernelRun0_B.sl.r_1 c arg2 harg2 arg3 harg3 arg4 harg4 arg5 harg5 arg6 harg6 x0 x1 x2 x3 x4) x5)) 1280 (kernelRun0_B.sl.HS1_24 c arg2 harg2 arg3 harg3 arg4 harg4 arg5 harg5 arg6 harg6 arg7 harg7 arg13 harg13 x0 x1 x2 x3 x4 x5 xs0) :=
  halfL_keep (@lB_5 c arg2 harg2 arg3 harg3 arg4 harg4 arg5 harg5 arg6 harg6 arg7 harg7 arg13 harg13 x0 x1 x2 x3 x4 x5 xs0)

theorem lB_6 : HalfL (ext xs0 (up (kernelRun0_B.sl.r_1 c arg2 harg2 arg3 harg3 arg4 harg4 arg5 harg5 arg6 harg6 x0 x1 x2 x3 x4) x5)) 1536 (kernelRun0_B.sl.HS1_26 c arg2 harg2 arg3 harg3 arg4 harg4 arg5 harg5 arg6 harg6 arg7 harg7 arg13 harg13 x0 x1 x2 x3 x4 x5 xs0) :=
  halfL_mk (fun r k f hf => carry_tile harg13 xs0 1536 _ r k f hf) (fun r k f hf => up_tile (kernelRun0_B.sl.r_1 c arg2 harg2 arg3 harg3 arg4 harg4 arg5 harg5 arg6 harg6 x0 x1 x2 x3 x4) harg7 x5 1536 _ r k f hf)

theorem rB_6 : HalfR (ext xs0 (up (kernelRun0_B.sl.r_1 c arg2 harg2 arg3 harg3 arg4 harg4 arg5 harg5 arg6 harg6 x0 x1 x2 x3 x4) x5)) 4352 (kernelRun0_B.sl.HS1_28 c arg2 harg2 arg3 harg3 arg4 harg4 arg5 harg5 arg6 harg6 arg7 harg7 arg13 harg13 x0 x1 x2 x3 x4 x5 xs0) :=
  halfR_mk (fun r k f hf => carry_tile harg13 xs0 4352 _ r k f hf) (fun r k f hf => up_tile (kernelRun0_B.sl.r_1 c arg2 harg2 arg3 harg3 arg4 harg4 arg5 harg5 arg6 harg6 x0 x1 x2 x3 x4) harg7 x5 4352 _ r k f hf)

theorem kB_6 : HalfL (ext xs0 (up (kernelRun0_B.sl.r_1 c arg2 harg2 arg3 harg3 arg4 harg4 arg5 harg5 arg6 harg6 x0 x1 x2 x3 x4) x5)) 1536 (kernelRun0_B.sl.HS1_28 c arg2 harg2 arg3 harg3 arg4 harg4 arg5 harg5 arg6 harg6 arg7 harg7 arg13 harg13 x0 x1 x2 x3 x4 x5 xs0) :=
  halfL_keep (@lB_6 c arg2 harg2 arg3 harg3 arg4 harg4 arg5 harg5 arg6 harg6 arg7 harg7 arg13 harg13 x0 x1 x2 x3 x4 x5 xs0)

theorem lB_7 : HalfL (ext xs0 (up (kernelRun0_B.sl.r_1 c arg2 harg2 arg3 harg3 arg4 harg4 arg5 harg5 arg6 harg6 x0 x1 x2 x3 x4) x5)) 1792 (kernelRun0_B.sl.HS1_30 c arg2 harg2 arg3 harg3 arg4 harg4 arg5 harg5 arg6 harg6 arg7 harg7 arg13 harg13 x0 x1 x2 x3 x4 x5 xs0) :=
  halfL_mk (fun r k f hf => carry_tile harg13 xs0 1792 _ r k f hf) (fun r k f hf => up_tile (kernelRun0_B.sl.r_1 c arg2 harg2 arg3 harg3 arg4 harg4 arg5 harg5 arg6 harg6 x0 x1 x2 x3 x4) harg7 x5 1792 _ r k f hf)

theorem rB_7 : HalfR (ext xs0 (up (kernelRun0_B.sl.r_1 c arg2 harg2 arg3 harg3 arg4 harg4 arg5 harg5 arg6 harg6 x0 x1 x2 x3 x4) x5)) 4608 (kernelRun0_B.sl.HS1_32 c arg2 harg2 arg3 harg3 arg4 harg4 arg5 harg5 arg6 harg6 arg7 harg7 arg13 harg13 x0 x1 x2 x3 x4 x5 xs0) :=
  halfR_mk (fun r k f hf => carry_tile harg13 xs0 4608 _ r k f hf) (fun r k f hf => up_tile (kernelRun0_B.sl.r_1 c arg2 harg2 arg3 harg3 arg4 harg4 arg5 harg5 arg6 harg6 x0 x1 x2 x3 x4) harg7 x5 4608 _ r k f hf)

theorem kB_7 : HalfL (ext xs0 (up (kernelRun0_B.sl.r_1 c arg2 harg2 arg3 harg3 arg4 harg4 arg5 harg5 arg6 harg6 x0 x1 x2 x3 x4) x5)) 1792 (kernelRun0_B.sl.HS1_32 c arg2 harg2 arg3 harg3 arg4 harg4 arg5 harg5 arg6 harg6 arg7 harg7 arg13 harg13 x0 x1 x2 x3 x4 x5 xs0) :=
  halfL_keep (@lB_7 c arg2 harg2 arg3 harg3 arg4 harg4 arg5 harg5 arg6 harg6 arg7 harg7 arg13 harg13 x0 x1 x2 x3 x4 x5 xs0)

theorem lB_8 : HalfL (ext xs0 (up (kernelRun0_B.sl.r_1 c arg2 harg2 arg3 harg3 arg4 harg4 arg5 harg5 arg6 harg6 x0 x1 x2 x3 x4) x5)) 2048 (kernelRun0_B.sl.HS1_34 c arg2 harg2 arg3 harg3 arg4 harg4 arg5 harg5 arg6 harg6 arg7 harg7 arg13 harg13 x0 x1 x2 x3 x4 x5 xs0) :=
  halfL_mk (fun r k f hf => carry_tile harg13 xs0 2048 _ r k f hf) (fun r k f hf => up_tile (kernelRun0_B.sl.r_1 c arg2 harg2 arg3 harg3 arg4 harg4 arg5 harg5 arg6 harg6 x0 x1 x2 x3 x4) harg7 x5 2048 _ r k f hf)

theorem rB_8 : HalfR (ext xs0 (up (kernelRun0_B.sl.r_1 c arg2 harg2 arg3 harg3 arg4 harg4 arg5 harg5 arg6 harg6 x0 x1 x2 x3 x4) x5)) 4864 (kernelRun0_B.sl.HS1_36 c arg2 harg2 arg3 harg3 arg4 harg4 arg5 harg5 arg6 harg6 arg7 harg7 arg13 harg13 x0 x1 x2 x3 x4 x5 xs0) :=
  halfR_mk (fun r k f hf => carry_tile harg13 xs0 4864 _ r k f hf) (fun r k f hf => up_tile (kernelRun0_B.sl.r_1 c arg2 harg2 arg3 harg3 arg4 harg4 arg5 harg5 arg6 harg6 x0 x1 x2 x3 x4) harg7 x5 4864 _ r k f hf)

theorem kB_8 : HalfL (ext xs0 (up (kernelRun0_B.sl.r_1 c arg2 harg2 arg3 harg3 arg4 harg4 arg5 harg5 arg6 harg6 x0 x1 x2 x3 x4) x5)) 2048 (kernelRun0_B.sl.HS1_36 c arg2 harg2 arg3 harg3 arg4 harg4 arg5 harg5 arg6 harg6 arg7 harg7 arg13 harg13 x0 x1 x2 x3 x4 x5 xs0) :=
  halfL_keep (@lB_8 c arg2 harg2 arg3 harg3 arg4 harg4 arg5 harg5 arg6 harg6 arg7 harg7 arg13 harg13 x0 x1 x2 x3 x4 x5 xs0)

theorem lB_9 : HalfL (ext xs0 (up (kernelRun0_B.sl.r_1 c arg2 harg2 arg3 harg3 arg4 harg4 arg5 harg5 arg6 harg6 x0 x1 x2 x3 x4) x5)) 2304 (kernelRun0_B.sl.HS1_38 c arg2 harg2 arg3 harg3 arg4 harg4 arg5 harg5 arg6 harg6 arg7 harg7 arg13 harg13 x0 x1 x2 x3 x4 x5 xs0) :=
  halfL_mk (fun r k f hf => carry_tile harg13 xs0 2304 _ r k f hf) (fun r k f hf => up_tile (kernelRun0_B.sl.r_1 c arg2 harg2 arg3 harg3 arg4 harg4 arg5 harg5 arg6 harg6 x0 x1 x2 x3 x4) harg7 x5 2304 _ r k f hf)

theorem rB_9 : HalfR (ext xs0 (up (kernelRun0_B.sl.r_1 c arg2 harg2 arg3 harg3 arg4 harg4 arg5 harg5 arg6 harg6 x0 x1 x2 x3 x4) x5)) 5120 (kernelRun0_B.sl.HS1_40 c arg2 harg2 arg3 harg3 arg4 harg4 arg5 harg5 arg6 harg6 arg7 harg7 arg13 harg13 x0 x1 x2 x3 x4 x5 xs0) :=
  halfR_mk (fun r k f hf => carry_tile harg13 xs0 5120 _ r k f hf) (fun r k f hf => up_tile (kernelRun0_B.sl.r_1 c arg2 harg2 arg3 harg3 arg4 harg4 arg5 harg5 arg6 harg6 x0 x1 x2 x3 x4) harg7 x5 5120 _ r k f hf)

theorem kB_9 : HalfL (ext xs0 (up (kernelRun0_B.sl.r_1 c arg2 harg2 arg3 harg3 arg4 harg4 arg5 harg5 arg6 harg6 x0 x1 x2 x3 x4) x5)) 2304 (kernelRun0_B.sl.HS1_40 c arg2 harg2 arg3 harg3 arg4 harg4 arg5 harg5 arg6 harg6 arg7 harg7 arg13 harg13 x0 x1 x2 x3 x4 x5 xs0) :=
  halfL_keep (@lB_9 c arg2 harg2 arg3 harg3 arg4 harg4 arg5 harg5 arg6 harg6 arg7 harg7 arg13 harg13 x0 x1 x2 x3 x4 x5 xs0)

theorem lB_10 : HalfL (ext xs0 (up (kernelRun0_B.sl.r_1 c arg2 harg2 arg3 harg3 arg4 harg4 arg5 harg5 arg6 harg6 x0 x1 x2 x3 x4) x5)) 2560 (kernelRun0_B.sl.HS1_42 c arg2 harg2 arg3 harg3 arg4 harg4 arg5 harg5 arg6 harg6 arg7 harg7 arg13 harg13 x0 x1 x2 x3 x4 x5 xs0) :=
  halfL_mk (fun r k f hf => carry_tile harg13 xs0 2560 _ r k f hf) (fun r k f hf => up_tile (kernelRun0_B.sl.r_1 c arg2 harg2 arg3 harg3 arg4 harg4 arg5 harg5 arg6 harg6 x0 x1 x2 x3 x4) harg7 x5 2560 _ r k f hf)

theorem rB_10 : HalfR (ext xs0 (up (kernelRun0_B.sl.r_1 c arg2 harg2 arg3 harg3 arg4 harg4 arg5 harg5 arg6 harg6 x0 x1 x2 x3 x4) x5)) 5376 (kernelRun0_B.sl.HS1_44 c arg2 harg2 arg3 harg3 arg4 harg4 arg5 harg5 arg6 harg6 arg7 harg7 arg13 harg13 x0 x1 x2 x3 x4 x5 xs0) :=
  halfR_mk (fun r k f hf => carry_tile harg13 xs0 5376 _ r k f hf) (fun r k f hf => up_tile (kernelRun0_B.sl.r_1 c arg2 harg2 arg3 harg3 arg4 harg4 arg5 harg5 arg6 harg6 x0 x1 x2 x3 x4) harg7 x5 5376 _ r k f hf)

theorem kB_10 : HalfL (ext xs0 (up (kernelRun0_B.sl.r_1 c arg2 harg2 arg3 harg3 arg4 harg4 arg5 harg5 arg6 harg6 x0 x1 x2 x3 x4) x5)) 2560 (kernelRun0_B.sl.HS1_44 c arg2 harg2 arg3 harg3 arg4 harg4 arg5 harg5 arg6 harg6 arg7 harg7 arg13 harg13 x0 x1 x2 x3 x4 x5 xs0) :=
  halfL_keep (@lB_10 c arg2 harg2 arg3 harg3 arg4 harg4 arg5 harg5 arg6 harg6 arg7 harg7 arg13 harg13 x0 x1 x2 x3 x4 x5 xs0)

theorem colsB : Cols (act x6 x7 (ext xs0 (up (kernelRun0_B.sl.r_1 c arg2 harg2 arg3 harg3 arg4 harg4 arg5 harg5 arg6 harg6 x0 x1 x2 x3 x4) x5))) 2816 (kernelRun0_B.sl.HS2_11 c arg2 harg2 arg3 harg3 arg4 harg4 arg5 harg5 arg6 harg6 arg7 harg7 arg8 harg8 arg9 harg9 arg13 harg13 arg14 x0 x1 x2 x3 x4 x5 x6 x7 xs0) :=
  (cols_step 2560 2816 rfl _ (fun r k g hg => act_tile harg8 x6 harg9 x7 (ext xs0 (up (kernelRun0_B.sl.r_1 c arg2 harg2 arg3 harg3 arg4 harg4 arg5 harg5 arg6 harg6 x0 x1 x2 x3 x4) x5)) 2560 5376 rfl arg14.view _ (@kB_10 c arg2 harg2 arg3 harg3 arg4 harg4 arg5 harg5 arg6 harg6 arg7 harg7 arg13 harg13 x0 x1 x2 x3 x4 x5 xs0) (@rB_10 c arg2 harg2 arg3 harg3 arg4 harg4 arg5 harg5 arg6 harg6 arg7 harg7 arg13 harg13 x0 x1 x2 x3 x4 x5 xs0) _ _ _ _ _ _ _ _ _ _ _ _ _ _ r k g hg)
    (cols_step 2304 2560 rfl _ (fun r k g hg => act_tile harg8 x6 harg9 x7 (ext xs0 (up (kernelRun0_B.sl.r_1 c arg2 harg2 arg3 harg3 arg4 harg4 arg5 harg5 arg6 harg6 x0 x1 x2 x3 x4) x5)) 2304 5120 rfl arg14.view _ (@kB_9 c arg2 harg2 arg3 harg3 arg4 harg4 arg5 harg5 arg6 harg6 arg7 harg7 arg13 harg13 x0 x1 x2 x3 x4 x5 xs0) (@rB_9 c arg2 harg2 arg3 harg3 arg4 harg4 arg5 harg5 arg6 harg6 arg7 harg7 arg13 harg13 x0 x1 x2 x3 x4 x5 xs0) _ _ _ _ _ _ _ _ _ _ _ _ _ _ r k g hg)
    (cols_step 2048 2304 rfl _ (fun r k g hg => act_tile harg8 x6 harg9 x7 (ext xs0 (up (kernelRun0_B.sl.r_1 c arg2 harg2 arg3 harg3 arg4 harg4 arg5 harg5 arg6 harg6 x0 x1 x2 x3 x4) x5)) 2048 4864 rfl arg14.view _ (@kB_8 c arg2 harg2 arg3 harg3 arg4 harg4 arg5 harg5 arg6 harg6 arg7 harg7 arg13 harg13 x0 x1 x2 x3 x4 x5 xs0) (@rB_8 c arg2 harg2 arg3 harg3 arg4 harg4 arg5 harg5 arg6 harg6 arg7 harg7 arg13 harg13 x0 x1 x2 x3 x4 x5 xs0) _ _ _ _ _ _ _ _ _ _ _ _ _ _ r k g hg)
    (cols_step 1792 2048 rfl _ (fun r k g hg => act_tile harg8 x6 harg9 x7 (ext xs0 (up (kernelRun0_B.sl.r_1 c arg2 harg2 arg3 harg3 arg4 harg4 arg5 harg5 arg6 harg6 x0 x1 x2 x3 x4) x5)) 1792 4608 rfl arg14.view _ (@kB_7 c arg2 harg2 arg3 harg3 arg4 harg4 arg5 harg5 arg6 harg6 arg7 harg7 arg13 harg13 x0 x1 x2 x3 x4 x5 xs0) (@rB_7 c arg2 harg2 arg3 harg3 arg4 harg4 arg5 harg5 arg6 harg6 arg7 harg7 arg13 harg13 x0 x1 x2 x3 x4 x5 xs0) _ _ _ _ _ _ _ _ _ _ _ _ _ _ r k g hg)
    (cols_step 1536 1792 rfl _ (fun r k g hg => act_tile harg8 x6 harg9 x7 (ext xs0 (up (kernelRun0_B.sl.r_1 c arg2 harg2 arg3 harg3 arg4 harg4 arg5 harg5 arg6 harg6 x0 x1 x2 x3 x4) x5)) 1536 4352 rfl arg14.view _ (@kB_6 c arg2 harg2 arg3 harg3 arg4 harg4 arg5 harg5 arg6 harg6 arg7 harg7 arg13 harg13 x0 x1 x2 x3 x4 x5 xs0) (@rB_6 c arg2 harg2 arg3 harg3 arg4 harg4 arg5 harg5 arg6 harg6 arg7 harg7 arg13 harg13 x0 x1 x2 x3 x4 x5 xs0) _ _ _ _ _ _ _ _ _ _ _ _ _ _ r k g hg)
    (cols_step 1280 1536 rfl _ (fun r k g hg => act_tile harg8 x6 harg9 x7 (ext xs0 (up (kernelRun0_B.sl.r_1 c arg2 harg2 arg3 harg3 arg4 harg4 arg5 harg5 arg6 harg6 x0 x1 x2 x3 x4) x5)) 1280 4096 rfl arg14.view _ (@kB_5 c arg2 harg2 arg3 harg3 arg4 harg4 arg5 harg5 arg6 harg6 arg7 harg7 arg13 harg13 x0 x1 x2 x3 x4 x5 xs0) (@rB_5 c arg2 harg2 arg3 harg3 arg4 harg4 arg5 harg5 arg6 harg6 arg7 harg7 arg13 harg13 x0 x1 x2 x3 x4 x5 xs0) _ _ _ _ _ _ _ _ _ _ _ _ _ _ r k g hg)
    (cols_step 1024 1280 rfl _ (fun r k g hg => act_tile harg8 x6 harg9 x7 (ext xs0 (up (kernelRun0_B.sl.r_1 c arg2 harg2 arg3 harg3 arg4 harg4 arg5 harg5 arg6 harg6 x0 x1 x2 x3 x4) x5)) 1024 3840 rfl arg14.view _ (@kB_4 c arg2 harg2 arg3 harg3 arg4 harg4 arg5 harg5 arg6 harg6 arg7 harg7 arg13 harg13 x0 x1 x2 x3 x4 x5 xs0) (@rB_4 c arg2 harg2 arg3 harg3 arg4 harg4 arg5 harg5 arg6 harg6 arg7 harg7 arg13 harg13 x0 x1 x2 x3 x4 x5 xs0) _ _ _ _ _ _ _ _ _ _ _ _ _ _ r k g hg)
    (cols_step 768 1024 rfl _ (fun r k g hg => act_tile harg8 x6 harg9 x7 (ext xs0 (up (kernelRun0_B.sl.r_1 c arg2 harg2 arg3 harg3 arg4 harg4 arg5 harg5 arg6 harg6 x0 x1 x2 x3 x4) x5)) 768 3584 rfl arg14.view _ (@kB_3 c arg2 harg2 arg3 harg3 arg4 harg4 arg5 harg5 arg6 harg6 arg7 harg7 arg13 harg13 x0 x1 x2 x3 x4 x5 xs0) (@rB_3 c arg2 harg2 arg3 harg3 arg4 harg4 arg5 harg5 arg6 harg6 arg7 harg7 arg13 harg13 x0 x1 x2 x3 x4 x5 xs0) _ _ _ _ _ _ _ _ _ _ _ _ _ _ r k g hg)
    (cols_step 512 768 rfl _ (fun r k g hg => act_tile harg8 x6 harg9 x7 (ext xs0 (up (kernelRun0_B.sl.r_1 c arg2 harg2 arg3 harg3 arg4 harg4 arg5 harg5 arg6 harg6 x0 x1 x2 x3 x4) x5)) 512 3328 rfl arg14.view _ (@kB_2 c arg2 harg2 arg3 harg3 arg4 harg4 arg5 harg5 arg6 harg6 arg7 harg7 arg13 harg13 x0 x1 x2 x3 x4 x5 xs0) (@rB_2 c arg2 harg2 arg3 harg3 arg4 harg4 arg5 harg5 arg6 harg6 arg7 harg7 arg13 harg13 x0 x1 x2 x3 x4 x5 xs0) _ _ _ _ _ _ _ _ _ _ _ _ _ _ r k g hg)
    (cols_step 256 512 rfl _ (fun r k g hg => act_tile harg8 x6 harg9 x7 (ext xs0 (up (kernelRun0_B.sl.r_1 c arg2 harg2 arg3 harg3 arg4 harg4 arg5 harg5 arg6 harg6 x0 x1 x2 x3 x4) x5)) 256 3072 rfl arg14.view _ (@kB_1 c arg2 harg2 arg3 harg3 arg4 harg4 arg5 harg5 arg6 harg6 arg7 harg7 arg13 harg13 x0 x1 x2 x3 x4 x5 xs0) (@rB_1 c arg2 harg2 arg3 harg3 arg4 harg4 arg5 harg5 arg6 harg6 arg7 harg7 arg13 harg13 x0 x1 x2 x3 x4 x5 xs0) _ _ _ _ _ _ _ _ _ _ _ _ _ _ r k g hg)
    (cols_step 0 256 rfl _ (fun r k g hg => act_tile harg8 x6 harg9 x7 (ext xs0 (up (kernelRun0_B.sl.r_1 c arg2 harg2 arg3 harg3 arg4 harg4 arg5 harg5 arg6 harg6 x0 x1 x2 x3 x4) x5)) 0 2816 rfl arg14.view _ (@kB_0 c arg2 harg2 arg3 harg3 arg4 harg4 arg5 harg5 arg6 harg6 arg7 harg7 arg13 harg13 x0 x1 x2 x3 x4 x5 xs0) (@rB_0 c arg2 harg2 arg3 harg3 arg4 harg4 arg5 harg5 arg6 harg6 arg7 harg7 arg13 harg13 x0 x1 x2 x3 x4 x5 xs0) _ _ _ _ _ _ _ _ _ _ _ _ _ _ r k g hg)
    (cols_nil _))))))))))))

theorem crB (hc0 : ¬cond0_0 i) : Cr (tail (up (kernelRun0_B.sl.r_1 c arg2 harg2 arg3 harg3 arg4 harg4 arg5 harg5 arg6 harg6 x0 x1 x2 x3 x4) x5)) (fun r f => View.canon (Val := Elt Ideal) (s := S8x5632) (e := .f32) [] (ix2 r f)) 2816 2816 (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).2.1 :=
  (cr_right 5376 2816 2560 2816 rfl rfl _ (fun r k f hf => keepR arg14.view (@rB_10 c arg2 harg2 arg3 harg3 arg4 harg4 arg5 harg5 arg6 harg6 arg7 harg7 arg13 harg13 x0 x1 x2 x3 x4 x5 xs0) _ r k f hf)
    (cr_left 2560 2560 2816 rfl _ (fun r k f hf => keepL arg14.view (@lB_10 c arg2 harg2 arg3 harg3 arg4 harg4 arg5 harg5 arg6 harg6 arg7 harg7 arg13 harg13 x0 x1 x2 x3 x4 x5 xs0) _ r k f hf)
    (cr_right 5120 2560 2304 2560 rfl rfl _ (fun r k f hf => keepR arg14.view (@rB_9 c arg2 harg2 arg3 harg3 arg4 harg4 arg5 harg5 arg6 harg6 arg7 harg7 arg13 harg13 x0 x1 x2 x3 x4 x5 xs0) _ r k f hf)
    (cr_left 2304 2304 2560 rfl _ (fun r k f hf => keepL arg14.view (@lB_9 c arg2 harg2 arg3 harg3 arg4 harg4 arg5 harg5 arg6 harg6 arg7 harg7 arg13 harg13 x0 x1 x2 x3 x4 x5 xs0) _ r k f hf)
    (cr_right 4864 2304 2048 2304 rfl rfl _ (fun r k f hf => keepR arg14.view (@rB_8 c arg2 harg2 arg3 harg3 arg4 harg4 arg5 harg5 arg6 harg6 arg7 harg7 arg13 harg13 x0 x1 x2 x3 x4 x5 xs0) _ r k f hf)
    (cr_left 2048 2048 2304 rfl _ (fun r k f hf => keepL arg14.view (@lB_8 c arg2 harg2 arg3 harg3 arg4 harg4 arg5 harg5 arg6 harg6 arg7 harg7 arg13 harg13 x0 x1 x2 x3 x4 x5 xs0) _ r k f hf)
    (cr_right 4608 2048 1792 2048 rfl rfl _ (fun r k f hf => keepR arg14.view (@rB_7 c arg2 harg2 arg3 harg3 arg4 harg4 arg5 harg5 arg6 harg6 arg7 harg7 arg13 harg13 x0 x1 x2 x3 x4 x5 xs0) _ r k f hf)
    (cr_left 1792 1792 2048 rfl _ (fun r k f hf => keepL arg14.view (@lB_7 c arg2 harg2 arg3 harg3 arg4 harg4 arg5 harg5 arg6 harg6 arg7 harg7 arg13 harg13 x0 x1 x2 x3 x4 x5 xs0) _ r k f hf)
    (cr_right 4352 1792 1536 1792 rfl rfl _ (fun r k f hf => keepR arg14.view (@rB_6 c arg2 harg2 arg3 harg3 arg4 harg4 arg5 harg5 arg6 harg6 arg7 harg7 arg13 harg13 x0 x1 x2 x3 x4 x5 xs0) _ r k f hf)
    (cr_left 1536 1536 1792 rfl _ (fun r k f hf => keepL arg14.view (@lB_6 c arg2 harg2 arg3 harg3 arg4 harg4 arg5 harg5 arg6 harg6 arg7 harg7 arg13 harg13 x0 x1 x2 x3 x4 x5 xs0) _ r k f hf)
    (cr_right 4096 1536 1280 1536 rfl rfl _ (fun r k f hf => keepR arg14.view (@rB_5 c arg2 harg2 arg3 harg3 arg4 harg4 arg5 harg5 arg6 harg6 arg7 harg7 arg13 harg13 x0 x1 x2 x3 x4 x5 xs0) _ r k f hf)
    (cr_left 1280 1280 1536 rfl _ (fun r k f hf => keepL arg14.view (@lB_5 c arg2 harg2 arg3 harg3 arg4 harg4 arg5 harg5 arg6 harg6 arg7 harg7 arg13 harg13 x0 x1 x2 x3 x4 x5 xs0) _ r k f hf)
    (cr_right 3840 1280 1024 1280 rfl rfl _ (fun r k f hf => keepR arg14.view (@rB_4 c arg2 harg2 arg3 harg3 arg4 harg4 arg5 harg5 arg6 harg6 arg7 harg7 arg13 harg13 x0 x1 x2 x3 x4 x5 xs0) _ r k f hf)
    (cr_left 1024 1024 1280 rfl _ (fun r k f hf => keepL arg14.view (@lB_4 c arg2 harg2 arg3 harg3 arg4 harg4 arg5 harg5 arg6 harg6 arg7 harg7 arg13 harg13 x0 x1 x2 x3 x4 x5 xs0) _ r k f hf)
    (cr_right 3584 1024 768 1024 rfl rfl _ (fun r k f hf => keepR arg14.view (@rB_3 c arg2 harg2 arg3 harg3 arg4 harg4 arg5 harg5 arg6 harg6 arg7 harg7 arg13 harg13 x0 x1 x2 x3 x4 x5 xs0) _ r k f hf)
    (cr_left 768 768 1024 rfl _ (fun r k f hf => keepL arg14.view (@lB_3 c arg2 harg2 arg3 harg3 arg4 harg4 arg5 harg5 arg6 harg6 arg7 harg7 arg13 harg13 x0 x1 x2 x3 x4 x5 xs0) _ r k f hf)
    (cr_right 3328 768 512 768 rfl rfl _ (fun r k f hf => keepR arg14.view (@rB_2 c arg2 harg2 arg3 harg3 arg4 harg4 arg5 harg5 arg6 harg6 arg7 harg7 arg13 harg13 x0 x1 x2 x3 x4 x5 xs0) _ r k f hf)
    (cr_left 512 512 768 rfl _ (fun r k f hf => keepL arg14.view (@lB_2 c arg2 harg2 arg3 harg3 arg4 harg4 arg5 harg5 arg6 harg6 arg7 harg7 arg13 harg13 x0 x1 x2 x3 x4 x5 xs0) _ r k f hf)
    (cr_right 3072 512 256 512 rfl rfl _ (fun r k f hf => keepR arg14.view (@rB_1 c arg2 harg2 arg3 harg3 arg4 harg4 arg5 harg5 arg6 harg6 arg7 harg7 arg13 harg13 x0 x1 x2 x3 x4 x5 xs0) _ r k f hf)
    (cr_left 256 256 512 rfl _ (fun r k f hf => keepL arg14.view (@lB_1 c arg2 harg2 arg3 harg3 arg4 harg4 arg5 harg5 arg6 harg6 arg7 harg7 arg13 harg13 x0 x1 x2 x3 x4 x5 xs0) _ r k f hf)
    (cr_right 2816 256 0 256 rfl rfl _ (fun r k f hf => keepR arg14.view (@rB_0 c arg2 harg2 arg3 harg3 arg4 harg4 arg5 harg5 arg6 harg6 arg7 harg7 arg13 harg13 x0 x1 x2 x3 x4 x5 xs0) _ r k f hf)
    (cr_left 0 0 256 rfl _ (fun r k f hf => keepL arg14.view (@lB_0 c arg2 harg2 arg3 harg3 arg4 harg4 arg5 harg5 arg6 harg6 arg7 harg7 arg13 harg13 x0 x1 x2 x3 x4 x5 xs0) _ r k f hf)
    (cr_nil _ _ _ fun r f => rfl)))))))))))))))))))))))

/-- The rows carried to the next point are the last eight of the block's own product. -/
theorem carryB (hc0 : ¬cond0_0 i) (r : Fin 8) (f : Fin 5632) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 (ix2 r f) = tail (up (kernelRun0_B.sl.r_1 c arg2 harg2 arg3 harg3 arg4 harg4 arg5 harg5 arg6 harg6 x0 x1 x2 x3 x4) x5) r f := by
  have h := crB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 xs0 hc0 r f
  have hf := f.isLt
  rw [if_pos (by omega)] at h
  rw [← h]
  unfold sout0_B_0
  rw [View.read_writes_junk_eq_canon]

/-- The rows of the result. -/
theorem resB (hc0 : ¬cond0_0 i) (r : Fin 512) (d : Fin 1024) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 (ix3 0 r d)
      = rms (fun e => kernelRun0_B.sl.r c arg2 harg2 arg3 harg3 arg4 harg4 arg5 harg5 x0 x1 x2 x3 (ix2 r e) + ∑ g : Fin 2816, act x6 x7 (ext xs0 (up (kernelRun0_B.sl.r_1 c arg2 harg2 arg3 harg3 arg4 harg4 arg5 harg5 arg6 harg6 x0 x1 x2 x3 x4) x5)) r g * x8 (ix2 g e)) (fun e => x9 (ix2 0 e)) d := by
  have ha : ∀ g, kernelRun0_B.sl.v766 c arg2 harg2 arg3 harg3 arg4 harg4 arg5 harg5 arg6 harg6 arg7 harg7 arg8 harg8 arg9 harg9 arg13 harg13 arg14 arg15 x0 x1 x2 x3 x4 x5 x6 x7 xs0 (ix2 r g) = act x6 x7 (ext xs0 (up (kernelRun0_B.sl.r_1 c arg2 harg2 arg3 harg3 arg4 harg4 arg5 harg5 arg6 harg6 x0 x1 x2 x3 x4) x5)) r g := by
    intro g
    rw [← colsB c arg2 harg2 arg3 harg3 arg4 harg4 arg5 harg5 arg6 harg6 arg7 harg7 arg8 harg8 arg9 harg9 arg13 harg13 arg14 x0 x1 x2 x3 x4 x5 x6 x7 xs0 r g g.isLt]
    unfold kernelRun0_B.sl.v766
    rw [View.readCov_eq_canon']
    show View.canon (Val := Elt Ideal) (s := S512x2816) (e := .bf16) _ ((Rect.unit (s := S512x2816) ![0, 0] S512x2816.size inb_S512x2816_S512x2816_0_0).toLoadRect.idx (ix2 r g)) = _
    congr 1
    funext a
    fin_cases a
    · apply Fin.ext; show 0 + 1 * r.val = r.val; omega
    · apply Fin.ext; show 0 + 1 * g.val = g.val; omega
  simp only [← ha]
  have hl : (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).1 = [⟨Rect.unit ![0, 0, 0] S1x512x1024.size inb_S1x512x1024_S1x512x1024_0_0_0,
      k0_pay1 (kernelRun0_B.sl.r_37 c arg2 harg2 arg3 harg3 arg4 harg4 arg5 harg5 arg6 harg6 arg7 harg7 arg8 harg8 arg9 harg9 arg10 harg10 arg13 harg13 arg14 arg15 x0 x1 x2 x3 x4 x5 x6 x7 x8 xs0) (kernelRun0_B.sl.r_38 c arg11 harg11 x9) (kernelRun0_B.sl.r_39 c arg2 harg2 arg3 harg3 arg4 harg4 arg5 harg5 arg6 harg6 arg7 harg7 arg8 harg8 arg9 harg9 arg10 harg10 arg13 harg13 arg14 arg15 x0 x1 x2 x3 x4 x5 x6 x7 x8 xs0)⟩] := rfl
  unfold out0_B_10
  rw [View.read_writes_junk_eq_canon, hl]
  refine (canon_in _ _ _ _ (ix3 0 r d) ?_).trans ?_
  · intro a
    fin_cases a
    · rfl
    · show r.val = 0 + r.val; omega
    · show d.val = 0 + d.val; omega
  · have e8 : View.readAt (Elt Ideal) arg10.view (Rect.unit ![0, 0] S2816x1024.size inb_S2816x1024_S2816x1024_0_0).toLoadRect (harg10.unread x8) = x8 := by
      rw [View.readAt_eq_ld, Memref.IsWhole.read_unread]
      exact View.ld_unit_lit' _ _ (by decide)
    have e9 : View.readAt (Elt Ideal) arg11.view (Rect.unit ![0, 0] S1x1024.size inb_S1x1024_S1x1024_0_0).toLoadRect (harg11.unread x9) = x9 := by
      rw [View.readAt_eq_ld, Memref.IsWhole.read_unread]
      exact View.ld_unit_lit' _ _ (by decide)
    unfold kernelRun0_B.sl.r_37 kernelRun0_B.sl.r_38 kernelRun0_B.sl.r_39
    rw [e8, e9]
    exact pay1_apply _ _ _ _ r d

theorem rxB (r : Fin 512) (d : Fin 1024) : kernelRun0_B.sl.r c arg2 harg2 arg3 harg3 arg4 harg4 arg5 harg5 x0 x1 x2 x3 (ix2 r d) = xB x0 x1 x2 x3 r d :=
  xB_ld harg2 harg3 harg4 harg5 x0 x1 x2 x3 _ _ _ _ _ r d

theorem rhB : kernelRun0_B.sl.r_1 c arg2 harg2 arg3 harg3 arg4 harg4 arg5 harg5 arg6 harg6 x0 x1 x2 x3 x4 = hB x0 x1 x2 x3 x4 :=
  hB_ld harg2 harg3 harg4 harg5 harg6 x0 x1 x2 x3 x4 _ _ _ _ _ _

/-- The rows of the result, from the block's inputs. -/
theorem valB (hc0 : ¬cond0_0 i) (r : Fin 512) (d : Fin 1024) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 (ix3 0 r d) = outB x0 x1 x2 x3 x4 x5 x6 x7 x8 x9 xs0 r d := by
  rw [resB, outB, rhB]
  simp only [rxB]

/-- The carried rows, from the block's inputs. -/
theorem carB (hc0 : ¬cond0_0 i) (r : Fin 8) (f : Fin 5632) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 (ix2 r f) = tail (up (hB x0 x1 x2 x3 x4) x5) r f := by
  rw [carryB, rhB]

end
end Cert.Kernel2Ideal.Ffn
end
-- ==== Proof.Ffn.Result.lean ====
module

public import proofs.«01_k».proof.Proof.Ffn.CaseA
public import proofs.«01_k».proof.Proof.Ffn.CaseB
public import proofs.«01_k».proof.Proof.Gen.Kernel2Ideal.Value

@[expose] public section

set_option maxRecDepth 16384

noncomputable section

namespace Cert.Kernel2Ideal.Ffn

open Idealize.ShloMosaic Idealize.ShloMosaic.TcCoe Idealize.ShloMosaic.Tactic
open Cert.Kernel2Ideal.Gen

/-! ## The function of the arrays -/

section
variable (A0 : Vec Ideal S4x8192x1024 .f32) (A1 A2 : Vec Ideal S4x8192x512 .bf16) (A3 : Vec Ideal S1024x1024 .bf16)
  (A4 : Vec Ideal S1x1024 .f32) (A5 : Vec Ideal S1024x5632 .bf16) (A6 : Vec Ideal S3x5632 .f32) (A7 : Vec Ideal S1x5632 .f32)
  (A8 : Vec Ideal S2816x1024 .bf16) (A9 : Vec Ideal S1x1024 .f32)

/-- The rows after the output projection. -/
def xG (b : Fin 4) (s : Fin 8192) (d : Fin 1024) : Ideal .f32 :=
  A0 (ix3 b s d) + ∑ e : Fin 512, A1 (ix3 b s e) * A3 (ix2 ⟨e.val, by have := e.isLt; omega⟩ d)
    + ∑ e : Fin 512, A2 (ix3 b s e) * A3 (ix2 ⟨512 + e.val, by have := e.isLt; omega⟩ d)

/-- The normalised rows. -/
def hG (b : Fin 4) (s : Fin 8192) (d : Fin 1024) : Ideal .f32 :=
  rms (fun e => xG A0 A1 A2 A3 b s e) (fun e => A4 (ix2 0 e)) d

/-- The widened rows. -/
def uG (b : Fin 4) (s : Fin 8192) (f : Fin 5632) : Ideal .f32 :=
  ∑ d : Fin 1024, hG A0 A1 A2 A3 A4 b s d * A5 (ix2 d f)

/-- The widened rows after two rows of zeros. -/
def pG (b : Fin 4) (n : ℕ) (f : Fin 5632) : Ideal .f32 :=
  if h : 2 ≤ n ∧ n < 8194 then uG A0 A1 A2 A3 A4 A5 b ⟨n - 2, by omega⟩ f else 0

/-- The convolution over three rows. -/
def cG (b : Fin 4) (s : Fin 8192) (f : Fin 5632) : Ideal .f32 :=
  A7 (ix2 0 f) + A6 (ix2 0 f) * pG A0 A1 A2 A3 A4 A5 b s.val f + A6 (ix2 1 f) * pG A0 A1 A2 A3 A4 A5 b (s.val + 1) f
    + A6 (ix2 2 f) * pG A0 A1 A2 A3 A4 A5 b (s.val + 2) f

/-- The gated values. -/
def aG (b : Fin 4) (s : Fin 8192) (g : Fin 2816) : Ideal .f32 :=
  cG A0 A1 A2 A3 A4 A5 A6 A7 b s (colG g) * Ideal.logistic (cG A0 A1 A2 A3 A4 A5 A6 A7 b s (colG g))
    * cG A0 A1 A2 A3 A4 A5 A6 A7 b s (colV g)

/-- The layer's second half, at an index of the result. -/
def ffn : Vec Ideal S4x8192x1024 .f32 := fun j =>
  rms (fun e => xG A0 A1 A2 A3 (j 0) (j 1) e + ∑ g : Fin 2816, aG A0 A1 A2 A3 A4 A5 A6 A7 (j 0) (j 1) g * A8 (ix2 g e))
    (fun e => A9 (ix2 0 e)) (j 2)

/-- Row `r` of block `i`. -/
def row (i : Fin 16) (r : Fin 512) : Fin 8192 := ⟨512 * i.val + r.val, by have := i.isLt; have := r.isLt; omega⟩

/-- What a block's widened rows are, from what its inputs are. -/
theorem up_uG (x0 : Vec Ideal S1x512x1024 .f32) (x1 x2 : Vec Ideal S1x512x512 .bf16) (b : Fin 4) (i : Fin 16)
    (h0 : ∀ r d, x0 (ix3 0 r d) = A0 (ix3 b (row i r) d)) (h1 : ∀ r d, x1 (ix3 0 r d) = A1 (ix3 b (row i r) d))
    (h2 : ∀ r d, x2 (ix3 0 r d) = A2 (ix3 b (row i r) d)) :
    (∀ r d, xB x0 x1 x2 A3 r d = xG A0 A1 A2 A3 b (row i r) d)
      ∧ (∀ r f, up (hB x0 x1 x2 A3 A4) A5 r f = uG A0 A1 A2 A3 A4 A5 b (row i r) f) := by
  have hx : ∀ r d, xB x0 x1 x2 A3 r d = xG A0 A1 A2 A3 b (row i r) d := fun r d => by
    rw [xB, xG]
    simp only [h0, h1, h2]
  refine ⟨hx, fun r f => ?_⟩
  rw [up, uG]
  refine Finset.sum_congr rfl fun d _ => ?_
  have e : hB x0 x1 x2 A3 A4 (ix2 r d) = hG A0 A1 A2 A3 A4 b (row i r) d := by
    show rms (fun e => xB x0 x1 x2 A3 r e) (fun e => A4 (ix2 0 e)) d = _
    rw [hG]
    exact congrArg (fun q => rms q (fun e => A4 (ix2 0 e)) d) (funext fun e => hx r e)
  rw [e]

/-- What a block's result is, from what its inputs and its carried rows are. -/
theorem outB_ffn (x0 : Vec Ideal S1x512x1024 .f32) (x1 x2 : Vec Ideal S1x512x512 .bf16) (X : Vec Ideal S8x5632 .f32) (b : Fin 4) (i : Fin 16)
    (h0 : ∀ r d, x0 (ix3 0 r d) = A0 (ix3 b (row i r) d)) (h1 : ∀ r d, x1 (ix3 0 r d) = A1 (ix3 b (row i r) d))
    (h2 : ∀ r d, x2 (ix3 0 r d) = A2 (ix3 b (row i r) d))
    (hX : ∀ (q : Fin 8) f, 6 ≤ q.val → X (ix2 q f) = pG A0 A1 A2 A3 A4 A5 b (512 * i.val + q.val - 6) f)
    (r : Fin 512) (d : Fin 1024) :
    outB x0 x1 x2 A3 A4 A5 A6 A7 A8 A9 X r d = ffn A0 A1 A2 A3 A4 A5 A6 A7 A8 A9 (ix3 b (row i r) d) := by
  obtain ⟨hx, hu⟩ := up_uG A0 A1 A2 A3 A4 A5 x0 x1 x2 b i h0 h1 h2
  have hE : ∀ (p : Fin 520) f, 6 ≤ p.val → ext X (up (hB x0 x1 x2 A3 A4) A5) p f
      = pG A0 A1 A2 A3 A4 A5 b (512 * i.val + p.val - 6) f := fun p f hp => by
    rw [ext]
    split
    · rename_i h
      exact hX ⟨p.val, h⟩ f hp
    · rename_i h
      have hi := i.isLt
      have hl := p.isLt
      rw [hu, pG, dif_pos (by omega)]
      congr 1
      apply Fin.ext
      show 512 * i.val + (p.val - 8) = 512 * i.val + p.val - 6 - 2
      omega
  have hc : ∀ f, conv A6 A7 (ext X (up (hB x0 x1 x2 A3 A4) A5)) r f = cG A0 A1 A2 A3 A4 A5 A6 A7 b (row i r) f := fun f => by
    rw [conv, cG, hE _ _ (by show 6 ≤ 6 + r.val; omega), hE _ _ (by show 6 ≤ 7 + r.val; omega), hE _ _ (by show 6 ≤ 8 + r.val; omega),
      show 512 * i.val + (6 + r.val) - 6 = (row i r).val by show _ = 512 * i.val + r.val; omega,
      show 512 * i.val + (7 + r.val) - 6 = (row i r).val + 1 by show _ = 512 * i.val + r.val + 1; omega,
      show 512 * i.val + (8 + r.val) - 6 = (row i r).val + 2 by show _ = 512 * i.val + r.val + 2; omega]
  have ha : ∀ g, act A6 A7 (ext X (up (hB x0 x1 x2 A3 A4) A5)) r g = aG A0 A1 A2 A3 A4 A5 A6 A7 b (row i r) g := fun g => by
    rw [act, aG, hc, hc]
  rw [outB]
  show _ = rms (fun e => xG A0 A1 A2 A3 b (row i r) e + ∑ g : Fin 2816, aG A0 A1 A2 A3 A4 A5 A6 A7 b (row i r) g * A8 (ix2 g e))
    (fun e => A9 (ix2 0 e)) d
  refine congrArg (fun q => rms q (fun e => A9 (ix2 0 e)) d) (funext fun e => ?_)
  rw [hx]
  refine congrArg (fun q => xG A0 A1 A2 A3 b (row i r) e + q) (Finset.sum_congr rfl fun g _ => ?_)
  rw [ha]

theorem up_blk (x0 : Vec Ideal S1x512x1024 .f32) (x1 x2 : Vec Ideal S1x512x512 .bf16) (x3 : Vec Ideal S1024x1024 .bf16) (x4 : Vec Ideal S1x1024 .f32) (x5 : Vec Ideal S1024x5632 .bf16)
    (b : Fin 4) (i : Fin 16) (h0 : ∀ r d, x0 (ix3 0 r d) = A0 (ix3 b (row i r) d)) (h1 : ∀ r d, x1 (ix3 0 r d) = A1 (ix3 b (row i r) d))
    (h2 : ∀ r d, x2 (ix3 0 r d) = A2 (ix3 b (row i r) d)) (h3 : x3 = A3) (h4 : x4 = A4) (h5 : x5 = A5) (r : Fin 512) (f : Fin 5632) :
    up (hB x0 x1 x2 x3 x4) x5 r f = uG A0 A1 A2 A3 A4 A5 b (row i r) f := by
  subst h3 h4 h5
  exact (up_uG A0 A1 A2 x3 x4 x5 x0 x1 x2 b i h0 h1 h2).2 r f

theorem out_blk (x0 : Vec Ideal S1x512x1024 .f32) (x1 x2 : Vec Ideal S1x512x512 .bf16) (x3 : Vec Ideal S1024x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32)
    (X : Vec Ideal S8x5632 .f32) (b : Fin 4) (i : Fin 16) (h0 : ∀ r d, x0 (ix3 0 r d) = A0 (ix3 b (row i r) d)) (h1 : ∀ r d, x1 (ix3 0 r d) = A1 (ix3 b (row i r) d))
    (h2 : ∀ r d, x2 (ix3 0 r d) = A2 (ix3 b (row i r) d)) (h3 : x3 = A3) (h4 : x4 = A4) (h5 : x5 = A5) (h6 : x6 = A6) (h7 : x7 = A7) (h8 : x8 = A8) (h9 : x9 = A9)
    (hX : ∀ (q : Fin 8) f, 6 ≤ q.val → X (ix2 q f) = pG A0 A1 A2 A3 A4 A5 b (512 * i.val + q.val - 6) f)
    (r : Fin 512) (d : Fin 1024) :
    outB x0 x1 x2 x3 x4 x5 x6 x7 x8 x9 X r d = ffn A0 A1 A2 A3 A4 A5 A6 A7 A8 A9 (ix3 b (row i r) d) := by
  subst h3 h4 h5 h6 h7 h8 h9
  exact outB_ffn A0 A1 A2 x3 x4 x5 x6 x7 x8 x9 x0 x1 x2 X b i h0 h1 h2 hX r d
end

/-! ## The blocks at a point -/

section
variable (m : (ℓ : Loc nD τ sig) → Buf (Elt Ideal) ℓ) (ρ : Dev nD → PrngReg)

/-- The argument arrays. -/
abbrev B0 (c : Dev nD) : Vec Ideal S4x8192x1024 .f32 := m ((c : Thread nD τ).loc main_arg0)
abbrev B1 (c : Dev nD) : Vec Ideal S4x8192x512 .bf16 := m ((c : Thread nD τ).loc main_arg1)
abbrev B2 (c : Dev nD) : Vec Ideal S4x8192x512 .bf16 := m ((c : Thread nD τ).loc main_arg2)
abbrev B3 (c : Dev nD) : Vec Ideal S1024x1024 .bf16 := m ((c : Thread nD τ).loc main_arg3)
abbrev B4 (c : Dev nD) : Vec Ideal S1x1024 .f32 := m ((c : Thread nD τ).loc main_arg4)
abbrev B5 (c : Dev nD) : Vec Ideal S1024x5632 .bf16 := m ((c : Thread nD τ).loc main_arg5)
abbrev B6 (c : Dev nD) : Vec Ideal S3x5632 .f32 := m ((c : Thread nD τ).loc main_arg6)
abbrev B7 (c : Dev nD) : Vec Ideal S1x5632 .f32 := m ((c : Thread nD τ).loc main_arg7)
abbrev B8 (c : Dev nD) : Vec Ideal S2816x1024 .bf16 := m ((c : Thread nD τ).loc main_arg8)
abbrev B9 (c : Dev nD) : Vec Ideal S1x1024 .f32 := m ((c : Thread nD τ).loc main_arg9)

/-- The batch and the block of rows at a point. -/
def ptB (t : Fin cfg0.N) : Fin 4 := ⟨t.val / 16, by have ht : t.val < 64 := lt_of_lt_of_eq t.isLt N_0; omega⟩
def ptI (t : Fin cfg0.N) : Fin 16 := ⟨t.val % 16, by omega⟩

/-- The block indices of the windows at a point. -/
theorem idx : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 16, t.val % 16, 0] :=
  (by decide +kernel : ∀ t : Fin grid0.N, win0_0.index t = ![t.val / 16, t.val % 16, 0]
    ∧ win0_1.index t = ![t.val / 16, t.val % 16, 0]
    ∧ win0_2.index t = ![t.val / 16, t.val % 16, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 16, t.val % 16, 0])

theorem blk_0 (c : Dev nD) (t : Fin cfg0.N) (r : Fin 512) (d : Fin 1024) :
    (iblk m c 0 t : Vec Ideal S1x512x1024 .f32) (ix3 0 r d) = B0 m c (ix3 (ptB t) (row (ptI t) r) d) := by
  unfold ptB ptI row B0
  blk_ext [iblk, V, idx t]

theorem blk_1 (c : Dev nD) (t : Fin cfg0.N) (r : Fin 512) (d : Fin 512) :
    (iblk m c 1 t : Vec Ideal S1x512x512 .bf16) (ix3 0 r d) = B1 m c (ix3 (ptB t) (row (ptI t) r) d) := by
  unfold ptB ptI row B1
  blk_ext [iblk, V, idx t]

theorem blk_2 (c : Dev nD) (t : Fin cfg0.N) (r : Fin 512) (d : Fin 512) :
    (iblk m c 2 t : Vec Ideal S1x512x512 .bf16) (ix3 0 r d) = B2 m c (ix3 (ptB t) (row (ptI t) r) d) := by
  unfold ptB ptI row B2
  blk_ext [iblk, V, idx t]

theorem blk_3 (c : Dev nD) (t : Fin cfg0.N) : (iblk m c 3 t : Vec Ideal S1024x1024 .bf16) = B3 m c := by
  funext j
  obtain ⟨a, b, rfl⟩ : ∃ (a : Fin 1024) (b : Fin 1024), j = ix2 a b := ⟨j 0, j 1, eq_ix2 j⟩
  unfold B3
  blk_ext [iblk, V, idx t]

theorem blk_4 (c : Dev nD) (t : Fin cfg0.N) : (iblk m c 4 t : Vec Ideal S1x1024 .f32) = B4 m c := by
  funext j
  obtain ⟨a, b, rfl⟩ : ∃ (a : Fin 1) (b : Fin 1024), j = ix2 a b := ⟨j 0, j 1, eq_ix2 j⟩
  unfold B4
  blk_ext [iblk, V, idx t]

theorem blk_5 (c : Dev nD) (t : Fin cfg0.N) : (iblk m c 5 t : Vec Ideal S1024x5632 .bf16) = B5 m c := by
  funext j
  obtain ⟨a, b, rfl⟩ : ∃ (a : Fin 1024) (b : Fin 5632), j = ix2 a b := ⟨j 0, j 1, eq_ix2 j⟩
  unfold B5
  blk_ext [iblk, V, idx t]

theorem blk_6 (c : Dev nD) (t : Fin cfg0.N) : (iblk m c 6 t : Vec Ideal S3x5632 .f32) = B6 m c := by
  funext j
  obtain ⟨a, b, rfl⟩ : ∃ (a : Fin 3) (b : Fin 5632), j = ix2 a b := ⟨j 0, j 1, eq_ix2 j⟩
  unfold B6
  blk_ext [iblk, V, idx t]

theorem blk_7 (c : Dev nD) (t : Fin cfg0.N) : (iblk m c 7 t : Vec Ideal S1x5632 .f32) = B7 m c := by
  funext j
  obtain ⟨a, b, rfl⟩ : ∃ (a : Fin 1) (b : Fin 5632), j = ix2 a b := ⟨j 0, j 1, eq_ix2 j⟩
  unfold B7
  blk_ext [iblk, V, idx t]

theorem blk_8 (c : Dev nD) (t : Fin cfg0.N) : (iblk m c 8 t : Vec Ideal S2816x1024 .bf16) = B8 m c := by
  funext j
  obtain ⟨a, b, rfl⟩ : ∃ (a : Fin 2816) (b : Fin 1024), j = ix2 a b := ⟨j 0, j 1, eq_ix2 j⟩
  unfold B8
  blk_ext [iblk, V, idx t]

theorem blk_9 (c : Dev nD) (t : Fin cfg0.N) : (iblk m c 9 t : Vec Ideal S1x1024 .f32) = B9 m c := by
  funext j
  obtain ⟨a, b, rfl⟩ : ∃ (a : Fin 1) (b : Fin 1024), j = ix2 a b := ⟨j 0, j 1, eq_ix2 j⟩
  unfold B9
  blk_ext [iblk, V, idx t]

set_option maxHeartbeats 1000000 in
/-- The rows a point leaves for the next. -/
theorem carry_at (c : Dev nD) (t : Fin cfg0.N) (q : Fin 8) (f : Fin 5632) :
    (outsAt0 m c t.val t.isLt).2 (ix2 q f)
      = uG (B0 m c) (B1 m c) (B2 m c) (B3 m c) (B4 m c) (B5 m c) (ptB t) (row (ptI t) ⟨504 + q.val, by have := q.isLt; omega⟩) f := by
  by_cases h0 : t.val % 16 = 0
  · rw [outsAt0_A m c t h0]
    refine (carA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) q f).trans ?_
    exact up_blk (B0 m c) (B1 m c) (B2 m c) (B3 m c) (B4 m c) (B5 m c) _ _ _ _ _ _ (ptB t) (ptI t) (blk_0 m c t) (blk_1 m c t) (blk_2 m c t) (blk_3 m c t) (blk_4 m c t) (blk_5 m c t) _ f
  · rw [outsAt0_B m c t h0]
    refine (carB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 (fun h => h0 ((hcond0_0 t).mp h)) q f).trans ?_
    exact up_blk (B0 m c) (B1 m c) (B2 m c) (B3 m c) (B4 m c) (B5 m c) _ _ _ _ _ _ (ptB t) (ptI t) (blk_0 m c t) (blk_1 m c t) (blk_2 m c t) (blk_3 m c t) (blk_4 m c t) (blk_5 m c t) _ f

set_option maxHeartbeats 1000000 in
/-- A point's block of the result. -/
theorem out_at (c : Dev nD) (t : Fin cfg0.N) (r : Fin 512) (d : Fin 1024) :
    (outsAt0 m c t.val t.isLt).1 (ix3 0 r d)
      = ffn (B0 m c) (B1 m c) (B2 m c) (B3 m c) (B4 m c) (B5 m c) (B6 m c) (B7 m c) (B8 m c) (B9 m c) (ix3 (ptB t) (row (ptI t) r) d) := by
  have ht : t.val < 64 := lt_of_lt_of_eq t.isLt N_0
  by_cases h0 : t.val % 16 = 0
  · rw [outsAt0_A m c t h0]
    have e := valA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) r d
    dsimp only
    rw [e]
    clear e
    refine out_blk (B0 m c) (B1 m c) (B2 m c) (B3 m c) (B4 m c) (B5 m c) (B6 m c) (B7 m c) (B8 m c) (B9 m c) _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (fun q f hq => ?_) r d
    have hl := q.isLt
    rw [pG, dif_neg (by show ¬ (2 ≤ 512 * (t.val % 16) + q.val - 6 ∧ _); omega)]
    rfl
  · rw [outsAt0_B m c t h0]
    have e := valB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2 (fun h => h0 ((hcond0_0 t).mp h)) r d
    dsimp only
    rw [e]
    clear e
    refine out_blk (B0 m c) (B1 m c) (B2 m c) (B3 m c) (B4 m c) (B5 m c) (B6 m c) (B7 m c) (B8 m c) (B9 m c) _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (fun q f hq => ?_) r d
    have hl := q.isLt
    have hp : t.val - 1 < cfg0.N := Nat.lt_of_le_of_lt (Nat.sub_le _ _) t.isLt
    refine (carry_at m c ⟨t.val - 1, hp⟩ q f).trans ?_
    have eB : ptB ⟨t.val - 1, hp⟩ = ptB t := Fin.ext (by show (t.val - 1) / 16 = t.val / 16; omega)
    rw [pG, dif_pos (by show 2 ≤ 512 * (t.val % 16) + q.val - 6 ∧ 512 * (t.val % 16) + q.val - 6 < 8194; omega), eB]
    congr 1
    apply Fin.ext
    show 512 * ((t.val - 1) % 16) + (504 + q.val) = 512 * (t.val % 16) + q.val - 6 - 2
    omega

/-- The result array. -/
theorem final (c : Dev nD) : (dats m 0 c).arrAt 10 cfg0.N
    = ffn (B0 m c) (B1 m c) (B2 m c) (B3 m c) (B4 m c) (B5 m c) (B6 m c) (B7 m c) (B8 m c) (B9 m c) := by
  refine (dats m 0 c).arrAt_eq_of_covers 10 _ (by decide +kernel) fun t hf y => ?_
  blk_simp
  rw [after0_10]
  idx_vars y
  obtain rfl : y0 = 0 := Fin.ext (by omega)
  refine (out_at m c t y1 y2).trans ?_
  unfold ptB ptI row
  blk_ext [idx t]

/-- The run: the result, and the arguments unchanged. -/
theorem run_ffn :
    θ_run defs (onTc (τ := τ) (main (F := Ideal))) ⟨m, fun _ => 0, ρ⟩ (fun r => ∀ c : Dev nD,
      r.2.mem ((c.tc : Thread nD τ).loc main_v0)
        = ffn (B0 m c) (B1 m c) (B2 m c) (B3 m c) (B4 m c) (B5 m c) (B6 m c) (B7 m c) (B8 m c) (B9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (final m c), (h c).2⟩) (Cert.Kernel2Ideal.Value.run_blocks m ρ)

end
end Cert.Kernel2Ideal.Ffn
end
-- ==== Proof.Ffn.Ref.lean ====
module

public import proofs.«01_k».proof.Proof.Ffn.Result
public import proofs.«01_k».proof.Proof.Gen.Reference2Ideal
public import proofs.«01_k».proof.Proof.Gen.Reference2Ideal.Run

@[expose] public section

set_option maxRecDepth 16384

noncomputable section

namespace Cert.Kernel2Ideal.Ffn

open Idealize.ShloMosaic Idealize.ShloMosaic.TcCoe Idealize.ShloMosaic.Tactic

section
open Cert.Reference2Ideal Cert.Reference2Ideal.Gen

/-- The rows after the output projection, as the reference computes them. -/
def refX (A0 : Vec Ideal S4x8192x1024 .f32) (A1 A2 : Vec Ideal S4x8192x512 .bf16) (A3 : Vec Ideal S1024x1024 .bf16) : FVec Ideal S4x8192x1024 .f32 :=
  addf A0 (Host.dotGeneral (φ₁ := .f32) (φ₂ := .f32) dot_S4x8192x1024_S1024x1024_S4x8192x1024_2_0_01_1_n_n none (extf .f32 (concatenate S4x8192x1024 2 [⟨S4x8192x512, A1⟩, ⟨S4x8192x512, A2⟩] concatenates_S4x8192x512_S4x8192x512_S4x8192x1024_d2) bitsLt_bf16_f32) (extf .f32 A3 bitsLt_bf16_f32))

/-- Rows over their root mean square, times the weights. -/
def refN (x : FVec Ideal S4x8192x1024 .f32) (w : Vec Ideal S1x1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ w shapeCasts_S1x1024_S1024)))

/-- The widened rows. -/
def refU (h : FVec Ideal S4x8192x1024 .f32) (A5 : Vec Ideal S1024x5632 .bf16) : FVec Ideal S4x8192x5632 .f32 :=
  Host.dotGeneral (φ₁ := .f32) (φ₂ := .f32) dot_S4x8192x1024_S1024x5632_S4x8192x5632_2_0_01_1_n_n none h (extf .f32 A5 bitsLt_bf16_f32)

/-- Two rows of zeros before them. -/
def refP (u : FVec Ideal S4x8192x5632 .f32) : FVec Ideal S4x8194x5632 .f32 :=
  pad S4x8194x5632 ![0, 2, 0] ![0, 0, 0] ![0, 0, 0] u (sitofp .f32 (constantI S_ 32 0#32)) pads_S4x8192x5632_S4x8194x5632_000_200_000 h_S_

/-- The convolution over three rows. -/
def refC (p : FVec Ideal S4x8194x5632 .f32) (A6 : Vec Ideal S3x5632 .f32) (A7 : Vec Ideal S1x5632 .f32) : FVec Ideal S4x8192x5632 .f32 :=
  addf (broadcastInDim S4x8192x5632 ![0, 1, 2] bcast_S1x1x5632_S4x8192x5632_0_1_2 (broadcastInDim S1x1x5632 ![2] bcast_S5632_S1x1x5632_2 (shapeCast _ A7 shapeCasts_S1x5632_S5632))) (addf (addf (addf (broadcastInDim S4x8192x5632 ![] bcast_S_S4x8192x5632 (constant S_ .f32 0x00000000#32)) (mulf (broadcastInDim S4x8192x5632 ![0, 1, 2] bcast_S1x1x5632_S4x8192x5632_0_1_2 (broadcastInDim S1x1x5632 ![2] bcast_S5632_S1x1x5632_2 (shapeCast _ (extractStridedSlice S1x5632 ![0, 0] A6 slices_S3x5632_S1x5632_0_0) shapeCasts_S1x5632_S5632))) (extractStridedSlice S4x8192x5632 ![0, 0, 0] p slices_S4x8194x5632_S4x8192x5632_0_0_0))) (mulf (broadcastInDim S4x8192x5632 ![0, 1, 2] bcast_S1x1x5632_S4x8192x5632_0_1_2 (broadcastInDim S1x1x5632 ![2] bcast_S5632_S1x1x5632_2 (shapeCast _ (extractStridedSlice S1x5632 ![1, 0] A6 slices_S3x5632_S1x5632_1_0) shapeCasts_S1x5632_S5632))) (extractStridedSlice S4x8192x5632 ![0, 1, 0] p slices_S4x8194x5632_S4x8192x5632_0_1_0))) (mulf (broadcastInDim S4x8192x5632 ![0, 1, 2] bcast_S1x1x5632_S4x8192x5632_0_1_2 (broadcastInDim S1x1x5632 ![2] bcast_S5632_S1x1x5632_2 (shapeCast _ (extractStridedSlice S1x5632 ![2, 0] A6 slices_S3x5632_S1x5632_2_0) shapeCasts_S1x5632_S5632))) (extractStridedSlice S4x8192x5632 ![0, 2, 0] p slices_S4x8194x5632_S4x8192x5632_0_2_0)))

/-- The gated values. -/
def refA (v : FVec Ideal S4x8192x5632 .f32) : FVec Ideal S4x8192x2816 .f32 :=
  mulf (mulf (extractStridedSlice S4x8192x2816 ![0, 0, 0] v slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] v slices_S4x8192x5632_S4x8192x2816_0_0_0)))))) (extractStridedSlice S4x8192x2816 ![0, 0, 2816] v slices_S4x8192x5632_S4x8192x2816_0_0_2816)

/-- The rows after the second half. -/
def refY (x : FVec Ideal S4x8192x1024 .f32) (a : FVec Ideal S4x8192x2816 .f32) (A8 : Vec Ideal S2816x1024 .bf16) : FVec Ideal S4x8192x1024 .f32 :=
  addf x (Host.dotGeneral (φ₁ := .f32) (φ₂ := .f32) dot_S4x8192x2816_S2816x1024_S4x8192x1024_2_0_01_1_n_n none a (extf .f32 A8 bitsLt_bf16_f32))

theorem refX_dot (A0 : Vec Ideal S4x8192x1024 .f32) (y : Vec Ideal S4x8192x1024 .bf16) (A3 : Vec Ideal S1024x1024 .bf16) (b : Fin 4) (s : Fin 8192) (d : Fin 1024) :
    addf (F := Ideal) (φ := .f32) A0 (Host.dotGeneral (φ₁ := .f32) (φ₂ := .f32) dot_S4x8192x1024_S1024x1024_S4x8192x1024_2_0_01_1_n_n none (extf .f32 y bitsLt_bf16_f32) (extf .f32 A3 bitsLt_bf16_f32)) (ix3 b s d)
      = A0 (ix3 b s d) + ∑ e : Fin 1024, y (ix3 b s e) * A3 (ix2 e d) := by
  pointwise []

theorem refX_apply (A0 : Vec Ideal S4x8192x1024 .f32) (A1 A2 : Vec Ideal S4x8192x512 .bf16) (A3 : Vec Ideal S1024x1024 .bf16) (b : Fin 4) (s : Fin 8192) (d : Fin 1024) :
    refX A0 A1 A2 A3 (ix3 b s d) = xG A0 A1 A2 A3 b s d := by
  rw [refX, refX_dot, xG, add_assoc]
  congr 1
  refine (Fin.sum_univ_add (a := 512) (b := 512) (fun e : Fin (512 + 512) => concatenate S4x8192x1024 2 [⟨S4x8192x512, A1⟩, ⟨S4x8192x512, A2⟩] concatenates_S4x8192x512_S4x8192x512_S4x8192x1024_d2 (ix3 b s (show Fin 1024 from e)) * A3 (ix2 (show Fin 1024 from e) d))).trans ?_
  refine congrArg₂ _ (Finset.sum_congr rfl fun e _ => ?_) (Finset.sum_congr rfl fun e _ => ?_)
  · refine congrArg₂ _ ?_ rfl
    exact concatenate_pair_apply_left (t := S4x8192x1024) 2 A1 A2 _ _ rfl (ix3 b s e) (fun a => by fin_cases a <;> rfl)
  · refine congrArg₂ _ ?_ rfl
    refine concatenate_pair_apply_right (t := S4x8192x1024) 2 A1 A2 _ _ rfl rfl (ix3 b s e) (fun a ha => ?_) ?_
    · fin_cases a
      · rfl
      · rfl
      · exact absurd rfl ha
    · show e.val + 512 = 512 + e.val
      omega

theorem refN_apply (x : FVec Ideal S4x8192x1024 .f32) (w : Vec Ideal S1x1024 .f32) (b : Fin 4) (s : Fin 8192) (d : Fin 1024) :
    refN x w (ix3 b s d) = rms (fun e => x (ix3 b s e)) (fun e => w (ix2 0 e)) d := by
  rw [rms]
  pointwise [refN]

theorem refU_apply (h : FVec Ideal S4x8192x1024 .f32) (A5 : Vec Ideal S1024x5632 .bf16) (b : Fin 4) (s : Fin 8192) (f : Fin 5632) :
    refU h A5 (ix3 b s f) = ∑ d : Fin 1024, h (ix3 b s d) * A5 (ix2 d f) := by
  pointwise [refU]

theorem refP_apply (u : FVec Ideal S4x8192x5632 .f32) (b : Fin 4) (n : Fin 8194) (f : Fin 5632) :
    refP u (ix3 b n f) = if h : 2 ≤ n.val ∧ n.val < 8194 then u (ix3 b ⟨n.val - 2, by omega⟩ f) else 0 := by
  rw [refP, pad]
  by_cases h : 2 ≤ n.val
  · have hl := n.isLt
    rw [dif_pos (show 2 ≤ n.val ∧ n.val < 8194 from ⟨h, hl⟩)]
    refine (dif_pos ?_).trans ?_
    · intro a
      have hb := b.isLt
      have hf := f.isLt
      fin_cases a
      · show 0 ≤ b.val ∧ (b.val - 0) % 1 = 0 ∧ (b.val - 0) / 1 < 4; omega
      · show 2 ≤ n.val ∧ (n.val - 2) % 1 = 0 ∧ (n.val - 2) / 1 < 8192; omega
      · show 0 ≤ f.val ∧ (f.val - 0) % 1 = 0 ∧ (f.val - 0) / 1 < 5632; omega
    · congr 1
      funext a
      fin_cases a
      · apply Fin.ext; show (b.val - 0) / 1 = b.val; omega
      · apply Fin.ext; show (n.val - 2) / 1 = n.val - 2; omega
      · apply Fin.ext; show (f.val - 0) / 1 = f.val; omega
  · rw [dif_neg (fun q => h (q 1).1), dif_neg (fun q => h q.1)]
    show ((((0#32 : BitVec 32).toInt : ℝ)) : EReal) = 0
    simp

theorem refC_apply (p : FVec Ideal S4x8194x5632 .f32) (A6 : Vec Ideal S3x5632 .f32) (A7 : Vec Ideal S1x5632 .f32) (b : Fin 4) (s : Fin 8192) (f : Fin 5632) :
    refC p A6 A7 (ix3 b s f) = A7 (ix2 0 f) + A6 (ix2 0 f) * p (ix3 b ⟨s.val, by have := s.isLt; omega⟩ f)
      + A6 (ix2 1 f) * p (ix3 b ⟨s.val + 1, by have := s.isLt; omega⟩ f)
      + A6 (ix2 2 f) * p (ix3 b ⟨s.val + 2, by have := s.isLt; omega⟩ f) := by
  have e : refC p A6 A7 (ix3 b s f) = A7 (ix2 0 f) + (((0 + A6 (ix2 0 f) * p (ix3 b ⟨s.val, by have := s.isLt; omega⟩ f))
      + A6 (ix2 1 f) * p (ix3 b ⟨s.val + 1, by have := s.isLt; omega⟩ f))
      + A6 (ix2 2 f) * p (ix3 b ⟨s.val + 2, by have := s.isLt; omega⟩ f)) := by
    pointwise [refC]
    simp only [Nat.add_comm 1 s.val, Nat.add_comm 2 s.val]
  rw [e, zero_add, add_assoc, add_assoc, add_assoc]

theorem refA_apply (v : FVec Ideal S4x8192x5632 .f32) (b : Fin 4) (s : Fin 8192) (g : Fin 2816) :
    refA v (ix3 b s g) = v (ix3 b s (colG g)) * Ideal.logistic (v (ix3 b s (colG g))) * v (ix3 b s (colV g)) := by
  unfold Ideal.logistic colG colV
  pointwise [refA]

theorem refY_apply (x : FVec Ideal S4x8192x1024 .f32) (a : FVec Ideal S4x8192x2816 .f32) (A8 : Vec Ideal S2816x1024 .bf16) (b : Fin 4) (s : Fin 8192) (d : Fin 1024) :
    refY x a A8 (ix3 b s d) = x (ix3 b s d) + ∑ g : Fin 2816, a (ix3 b s g) * A8 (ix2 g d) := by
  pointwise [refY]

theorem res_eq (m : (ℓ : Loc Cert.Reference2Ideal.nD Cert.Reference2Ideal.τ Cert.Reference2Ideal.sig) → Buf (Elt Ideal) ℓ) (c : Dev Cert.Reference2Ideal.nD) :
    Cert.Reference2Ideal.Value.res_main_v68 m c = refN (refY (refX (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) (refA (refC (refP (refU (refN (refX (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) (m ((c.tc : Thread Cert.Reference2Ideal.nD Cert.Reference2Ideal.τ).loc Cert.Reference2Ideal.main_arg4))) (m ((c.tc : Thread Cert.Reference2Ideal.nD Cert.Reference2Ideal.τ).loc Cert.Reference2Ideal.main_arg5)))) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)))) (m ((c.tc : Thread Cert.Reference2Ideal.nD Cert.Reference2Ideal.τ).loc Cert.Reference2Ideal.main_arg8))) (m ((c.tc : Thread Cert.Reference2Ideal.nD Cert.Reference2Ideal.τ).loc Cert.Reference2Ideal.main_arg9)) := by
  unfold Cert.Reference2Ideal.Value.res_main_v68 refN refY refA refC refP refU refX
  rfl

/-- The stages together, at an index. -/
theorem ref_stages (A0 : Vec Ideal S4x8192x1024 .f32) (A1 A2 : Vec Ideal S4x8192x512 .bf16) (A3 : Vec Ideal S1024x1024 .bf16)
    (A4 : Vec Ideal S1x1024 .f32) (A5 : Vec Ideal S1024x5632 .bf16) (A6 : Vec Ideal S3x5632 .f32) (A7 : Vec Ideal S1x5632 .f32)
    (A8 : Vec Ideal S2816x1024 .bf16) (A9 : Vec Ideal S1x1024 .f32) :
    refN (refY (refX A0 A1 A2 A3) (refA (refC (refP (refU (refN (refX A0 A1 A2 A3) A4) A5)) A6 A7)) A8) A9
      = ffn A0 A1 A2 A3 A4 A5 A6 A7 A8 A9 := by
  have hu : ∀ b s f, refU (refN (refX A0 A1 A2 A3) A4) A5 (ix3 b s f) = uG A0 A1 A2 A3 A4 A5 b s f := fun b s f => by
    rw [refU_apply, uG]
    refine Finset.sum_congr rfl fun d _ => ?_
    rw [refN_apply, hG]
    simp only [refX_apply]
  have hp : ∀ (b : Fin 4) (n : Fin 8194) (f : Fin 5632), refP (refU (refN (refX A0 A1 A2 A3) A4) A5) (ix3 b n f) = pG A0 A1 A2 A3 A4 A5 b n.val f := fun b n f => by
    rw [refP_apply, pG]
    simp only [hu]
  have hc : ∀ b s f, refC (refP (refU (refN (refX A0 A1 A2 A3) A4) A5)) A6 A7 (ix3 b s f) = cG A0 A1 A2 A3 A4 A5 A6 A7 b s f := fun b s f => by
    rw [refC_apply, cG, hp, hp, hp]
  have ha : ∀ b s g, refA (refC (refP (refU (refN (refX A0 A1 A2 A3) A4) A5)) A6 A7) (ix3 b s g) = aG A0 A1 A2 A3 A4 A5 A6 A7 b s g := fun b s g => by
    rw [refA_apply, aG, hc, hc]
  funext j
  obtain ⟨b, s, d, rfl⟩ : ∃ (b : Fin 4) (s : Fin 8192) (d : Fin 1024), j = ix3 b s d := ⟨j 0, j 1, j 2, eq_ix3 j⟩
  rw [refN_apply]
  simp only [refY_apply, refX_apply, ha]
  rfl

/-- The reference's result is the layer's second half. -/
theorem ref_ffn (m : (ℓ : Loc Cert.Reference2Ideal.nD Cert.Reference2Ideal.τ Cert.Reference2Ideal.sig) → Buf (Elt Ideal) ℓ) (c : Dev Cert.Reference2Ideal.nD) :
    Cert.Reference2Ideal.Value.res_main_v68 m c = ffn (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) :=
  (res_eq m c).trans (ref_stages _ _ _ _ _ _ _ _ _ _)
end

end Cert.Kernel2Ideal.Ffn
end
-- ==== Proof.Inp.Step.lean ====
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Inp

open Idealize.ShloMosaic Idealize.ShloMosaic.TcCoe Idealize.ShloMosaic.Tactic
open Cert.Kernel3Ideal.Gen

/-- A row over its root mean square, times the weights; `k` is the word of the row's length. -/
def rms {n : ℕ} (k : BitVec 32) (x w : Fin n → Ideal .f32) (d : Fin n) : Ideal .f32 :=
  x d * Ideal.rsqrt (Ideal.div (∑ e, x e * x e) (Ideal.ofBits .f32 k) + Ideal.ofBits .f32 897988541#32) * w d

/-- The mask of the first halves of 32. -/
theorem mask32 (r : Fin 512) (l : Fin 128) : k0_pay5 (ix2 r l) = if l.val % 64 < 32 then 1#1 else 0#1 := by
  have e : ∀ l : Fin 128, IntOp.cmpi CmpIPredicate.slt
      (Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)))
      32#32 = if l.val % 64 < 32 then 1#1 else 0#1 := by decide +kernel
  rw [← e]
  pointwise [k0_pay5]

/-- The mask of the lanes before 80. -/
theorem mask80 (r : Fin 512) (l : Fin 128) : k0_pay6 (ix2 r l) = if l.val < 80 then 1#1 else 0#1 := by
  have e : ∀ l : Fin 128, IntOp.cmpi CmpIPredicate.slt (BitVec.ofNat 32 l.val) 80#32 = if l.val < 80 then 1#1 else 0#1 := by decide +kernel
  rw [← e]
  pointwise [k0_pay6]

/-- A choice between two entries by a decided condition is the entry at the chosen index. -/
theorem sel_idx {n : ℕ} (b : BitVec 1) (c : Prop) [Decidable c] (hb : b = if c then 1#1 else 0#1) (f : Fin n → Ideal .f32) (x y z : Fin n)
    (h1 : c → x = z) (h2 : ¬c → y = z) : Scalar.select b (f x) (f y) = f z := by
  rw [hb]
  split <;> rename_i h
  · rw [← h1 h]; rfl
  · rw [← h2 h]; rfl

/-- The other lane of a pair of halves of 32. -/
def sw (j : Fin 512) : Fin 512 := ⟨if j.val % 64 < 32 then j.val + 32 else j.val - 32, by have := j.isLt; split <;> omega⟩

/-- The other lane of a pair of halves of 16, within a head of 128. -/
def swm {n : ℕ} (j : Fin (128 * n)) : Fin (128 * n) :=
  ⟨if j.val % 128 < 80 then j.val + 16 else j.val - 16, by have := j.isLt; split <;> omega⟩

/-- Between the lanes 32 after and 32 before, within a block of 128 columns that begins at `o`, the mask of the first halves
picks the other lane of the pair. -/
theorem sel32 (b : BitVec 1) (l : Fin 128) (hb : b = if l.val % 64 < 32 then 1#1 else 0#1) (o : ℕ) (ho : o % 128 = 0)
    (f : Fin 512 → Ideal .f32) (x y z : Fin 512) (hx : x.val = o + (l.val + 128 - 96) % 128)
    (hy : y.val = o + (l.val + 128 - 32) % 128) (hz : z.val = o + l.val) : Scalar.select b (f x) (f y) = f (sw z) := by
  have hl := l.isLt
  refine sel_idx b _ hb f x y (sw z) (fun h => Fin.ext ?_) (fun h => Fin.ext ?_)
  · simp only [sw, if_pos (show z.val % 64 < 32 by omega)]; omega
  · simp only [sw, if_neg (show ¬ z.val % 64 < 32 by omega)]; omega

/-- The same for halves of 16 in a head of 128 lanes: the mask is that of the lanes before 80. -/
theorem sel16 {n : ℕ} (b : BitVec 1) (l : Fin 128) (hb : b = if l.val < 80 then 1#1 else 0#1) (o : ℕ) (ho : o % 128 = 0)
    (f : Fin (128 * n) → Ideal .f32) (x y z : Fin (128 * n)) (hx : x.val = o + (l.val + 128 - 112) % 128)
    (hy : y.val = o + (l.val + 128 - 16) % 128) (hz : z.val = o + l.val) : Scalar.select b (f x) (f y) = f (swm z) := by
  have hl := l.isLt
  refine sel_idx b _ hb f x y (swm z) (fun h => Fin.ext ?_) (fun h => Fin.ext ?_)
  · simp only [swm, if_pos (show z.val % 128 < 80 by omega)]; omega
  · simp only [swm, if_neg (show ¬ z.val % 128 < 80 by omega)]; omega

/-- Two rotated heads of the retention's queries, at a lane of their block. -/
theorem pay13_apply (h : FVec Ideal S512x1024 .bf16) (M : IVec S512x128 1) (C : FVec Ideal S512x128 .f32) (x : Vec Ideal S1x512x128 .f32) (W : Vec Ideal S1024x512 .bf16) (r : Fin 512) (l : Fin 128)
    (hM : M (ix2 r l) = if l.val % 64 < 32 then 1#1 else 0#1) (j : Fin 512) (hj : j.val = l.val) :
    k0_pay13 h M C x W (ix3 0 r l) = k0_pay11 h W (ix2 r j) * C (ix2 r l) + k0_pay11 h W (ix2 r (sw j)) * k0_pay8 x (ix2 r l) := by
  have hl := l.isLt
  obtain ⟨v, hv⟩ := j
  dsimp only at hj
  subst hj
  unfold k0_pay13
  generalize k0_pay11 h W = P
  generalize k0_pay8 x = S
  have e := sel32 (M (ix2 r l)) l hM 0 (by norm_num) (fun q => P (ix2 r q)) ⟨(l.val + 128 - 96) % 128, by omega⟩ ⟨(l.val + 128 - 32) % 128, by omega⟩ ⟨l.val, by omega⟩ (Nat.zero_add _).symm (Nat.zero_add _).symm (Nat.zero_add _).symm
  try dsimp only at e
  rw [← e]
  pointwise []

/-- Two rotated heads of the retention's queries, at a lane of their block. -/
theorem pay16_apply (M : IVec S512x128 1) (C S : FVec Ideal S512x128 .f32) (P : FVec Ideal S512x512 .f32) (r : Fin 512) (l : Fin 128)
    (hM : M (ix2 r l) = if l.val % 64 < 32 then 1#1 else 0#1) (j : Fin 512) (hj : j.val = 128 + l.val) :
    k0_pay16 M C S P (ix3 0 r l) = P (ix2 r j) * C (ix2 r l) + P (ix2 r (sw j)) * S (ix2 r l) := by
  have hl := l.isLt
  obtain ⟨v, hv⟩ := j
  dsimp only at hj
  subst hj
  unfold k0_pay16
  have e := sel32 (M (ix2 r l)) l hM 128 (by norm_num) (fun q => P (ix2 r q)) ⟨128 + (l.val + 128 - 96) % 128, by omega⟩ ⟨128 + (l.val + 128 - 32) % 128, by omega⟩ ⟨128 + l.val, by omega⟩ rfl rfl rfl
  try dsimp only at e
  rw [← e]
  pointwise []

/-- Two rotated heads of the retention's queries, at a lane of their block. -/
theorem pay18_apply (M : IVec S512x128 1) (C S : FVec Ideal S512x128 .f32) (P : FVec Ideal S512x512 .f32) (r : Fin 512) (l : Fin 128)
    (hM : M (ix2 r l) = if l.val % 64 < 32 then 1#1 else 0#1) (j : Fin 512) (hj : j.val = 256 + l.val) :
    k0_pay18 M C S P (ix3 0 r l) = P (ix2 r j) * C (ix2 r l) + P (ix2 r (sw j)) * S (ix2 r l) := by
  have hl := l.isLt
  obtain ⟨v, hv⟩ := j
  dsimp only at hj
  subst hj
  unfold k0_pay18
  have e := sel32 (M (ix2 r l)) l hM 256 (by norm_num) (fun q => P (ix2 r q)) ⟨256 + (l.val + 128 - 96) % 128, by omega⟩ ⟨256 + (l.val + 128 - 32) % 128, by omega⟩ ⟨256 + l.val, by omega⟩ rfl rfl rfl
  try dsimp only at e
  rw [← e]
  pointwise []

/-- Two rotated heads of the retention's queries, at a lane of their block. -/
theorem pay22_apply (M : IVec S512x128 1) (C S : FVec Ideal S512x128 .f32) (P : FVec Ideal S512x512 .f32) (r : Fin 512) (l : Fin 128)
    (hM : M (ix2 r l) = if l.val % 64 < 32 then 1#1 else 0#1) (j : Fin 512) (hj : j.val = 384 + l.val) :
    k0_pay22 M C S P (ix3 0 r l) = P (ix2 r j) * C (ix2 r l) + P (ix2 r (sw j)) * S (ix2 r l) := by
  have hl := l.isLt
  obtain ⟨v, hv⟩ := j
  dsimp only at hj
  subst hj
  unfold k0_pay22
  have e := sel32 (M (ix2 r l)) l hM 384 (by norm_num) (fun q => P (ix2 r q)) ⟨384 + (l.val + 128 - 96) % 128, by omega⟩ ⟨384 + (l.val + 128 - 32) % 128, by omega⟩ ⟨384 + l.val, by omega⟩ rfl rfl rfl
  try dsimp only at e
  rw [← e]
  pointwise []

/-- Two rotated and scaled heads of the retention's keys, at a lane of their block. -/
theorem pay14_apply (h : FVec Ideal S512x1024 .bf16) (M : IVec S512x128 1) (C : FVec Ideal S512x128 .f32) (x : Vec Ideal S1x512x128 .f32) (W : Vec Ideal S1024x512 .bf16) (r : Fin 512) (l : Fin 128)
    (hM : M (ix2 r l) = if l.val % 64 < 32 then 1#1 else 0#1) (j : Fin 512) (hj : j.val = l.val) :
    k0_pay15 (k0_pay14 h M C x W) (ix3 0 r l) = (k0_pay12 h W (ix2 r j) * C (ix2 r l) + k0_pay12 h W (ix2 r (sw j)) * k0_pay8 x (ix2 r l)) * Ideal.ofBits .f32 1040187392#32 := by
  have hl := l.isLt
  obtain ⟨v, hv⟩ := j
  dsimp only at hj
  subst hj
  unfold k0_pay15 k0_pay14
  generalize k0_pay12 h W = P
  generalize k0_pay8 x = S
  have e := sel32 (M (ix2 r l)) l hM 0 (by norm_num) (fun q => P (ix2 r q)) ⟨(l.val + 128 - 96) % 128, by omega⟩ ⟨(l.val + 128 - 32) % 128, by omega⟩ ⟨l.val, by omega⟩ (Nat.zero_add _).symm (Nat.zero_add _).symm (Nat.zero_add _).symm
  try dsimp only at e
  rw [← e]
  pointwise []

/-- Two rotated and scaled heads of the retention's keys, at a lane of their block. -/
theorem pay17_apply (M : IVec S512x128 1) (C S : FVec Ideal S512x128 .f32) (P : FVec Ideal S512x512 .f32) (r : Fin 512) (l : Fin 128)
    (hM : M (ix2 r l) = if l.val % 64 < 32 then 1#1 else 0#1) (j : Fin 512) (hj : j.val = 128 + l.val) :
    k0_pay17 M C S P (ix3 0 r l) = (P (ix2 r j) * C (ix2 r l) + P (ix2 r (sw j)) * S (ix2 r l)) * Ideal.ofBits .f32 1040187392#32 := by
  have hl := l.isLt
  obtain ⟨v, hv⟩ := j
  dsimp only at hj
  subst hj
  unfold k0_pay17
  have e := sel32 (M (ix2 r l)) l hM 128 (by norm_num) (fun q => P (ix2 r q)) ⟨128 + (l.val + 128 - 96) % 128, by omega⟩ ⟨128 + (l.val + 128 - 32) % 128, by omega⟩ ⟨128 + l.val, by omega⟩ rfl rfl rfl
  try dsimp only at e
  rw [← e]
  pointwise []

/-- Two rotated and scaled heads of the retention's keys, at a lane of their block. -/
theorem pay23_apply (M : IVec S512x128 1) (C S : FVec Ideal S512x128 .f32) (P : FVec Ideal S512x512 .f32) (r : Fin 512) (l : Fin 128)
    (hM : M (ix2 r l) = if l.val % 64 < 32 then 1#1 else 0#1) (j : Fin 512) (hj : j.val = 384 + l.val) :
    k0_pay23 M C S P (ix3 0 r l) = (P (ix2 r j) * C (ix2 r l) + P (ix2 r (sw j)) * S (ix2 r l)) * Ideal.ofBits .f32 1040187392#32 := by
  have hl := l.isLt
  obtain ⟨v, hv⟩ := j
  dsimp only at hj
  subst hj
  unfold k0_pay23
  have e := sel32 (M (ix2 r l)) l hM 384 (by norm_num) (fun q => P (ix2 r q)) ⟨384 + (l.val + 128 - 96) % 128, by omega⟩ ⟨384 + (l.val + 128 - 32) % 128, by omega⟩ ⟨384 + l.val, by omega⟩ rfl rfl rfl
  try dsimp only at e
  rw [← e]
  pointwise []

/-- Two rotated and scaled heads of the retention's keys, at a lane of their block. -/
theorem pay21_apply (M : IVec S512x128 1) (C S : FVec Ideal S512x128 .f32) (P : FVec Ideal S512x512 .f32) (r : Fin 512) (l : Fin 128)
    (hM : M (ix2 r l) = if l.val % 64 < 32 then 1#1 else 0#1) (j : Fin 512) (hj : j.val = 256 + l.val) :
    k0_pay21 M C S (k0_pay19 P) (k0_pay20 P) 32#32 (ix3 0 r l) = (P (ix2 r j) * C (ix2 r l) + P (ix2 r (sw j)) * S (ix2 r l)) * Ideal.ofBits .f32 1040187392#32 := by
  have hl := l.isLt
  obtain ⟨v, hv⟩ := j
  dsimp only at hj
  subst hj
  unfold k0_pay21 k0_pay20 k0_pay19
  have e := sel32 (M (ix2 r l)) l hM 256 (by norm_num) (fun q => P (ix2 r q)) ⟨256 + (l.val + 128 - 96) % 128, by omega⟩ ⟨256 + (l.val + 128 - 32) % 128, by omega⟩ ⟨256 + l.val, by omega⟩ rfl rfl rfl
  try dsimp only at e
  rw [← e]
  pointwise []

/-- A rotated and scaled head of the attention's queries, at a lane. -/
theorem pay37_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = l.val) :
    k0_pay37 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay37
  have e := sel16 (n := 8) (M (ix2 r l)) l hM 0 (by norm_num) (fun q => P (ix2 r q)) ⟨(l.val + 128 - 112) % 128, by omega⟩ ⟨(l.val + 128 - 16) % 128, by omega⟩ ⟨l.val, by omega⟩ (Nat.zero_add _).symm (Nat.zero_add _).symm (Nat.zero_add _).symm
  try dsimp only at e
  rw [← e]
  pointwise []

/-- A rotated and scaled head of the attention's queries, at a lane. -/
theorem pay40_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = 128 + l.val) :
    k0_pay40 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay40
  have e := sel16 (n := 8) (M (ix2 r l)) l hM 128 (by norm_num) (fun q => P (ix2 r q)) ⟨128 + (l.val + 128 - 112) % 128, by omega⟩ ⟨128 + (l.val + 128 - 16) % 128, by omega⟩ ⟨128 + l.val, by omega⟩ rfl rfl rfl
  try dsimp only at e
  rw [← e]
  pointwise []

/-- A rotated and scaled head of the attention's queries, at a lane. -/
theorem pay42_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = 256 + l.val) :
    k0_pay42 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay42
  have e := sel16 (n := 8) (M (ix2 r l)) l hM 256 (by norm_num) (fun q => P (ix2 r q)) ⟨256 + (l.val + 128 - 112) % 128, by omega⟩ ⟨256 + (l.val + 128 - 16) % 128, by omega⟩ ⟨256 + l.val, by omega⟩ rfl rfl rfl
  try dsimp only at e
  rw [← e]
  pointwise []

/-- A rotated and scaled head of the attention's queries, at a lane. -/
theorem pay45_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = 384 + l.val) :
    k0_pay45 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay45
  have e := sel16 (n := 8) (M (ix2 r l)) l hM 384 (by norm_num) (fun q => P (ix2 r q)) ⟨384 + (l.val + 128 - 112) % 128, by omega⟩ ⟨384 + (l.val + 128 - 16) % 128, by omega⟩ ⟨384 + l.val, by omega⟩ rfl rfl rfl
  try dsimp only at e
  rw [← e]
  pointwise []

/-- A rotated and scaled head of the attention's queries, at a lane. -/
theorem pay47_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = 512 + l.val) :
    k0_pay47 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay47
  have e := sel16 (n := 8) (M (ix2 r l)) l hM 512 (by norm_num) (fun q => P (ix2 r q)) ⟨512 + (l.val + 128 - 112) % 128, by omega⟩ ⟨512 + (l.val + 128 - 16) % 128, by omega⟩ ⟨512 + l.val, by omega⟩ rfl rfl rfl
  try dsimp only at e
  rw [← e]
  pointwise []

/-- A rotated and scaled head of the attention's queries, at a lane. -/
theorem pay50_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = 640 + l.val) :
    k0_pay50 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay50
  have e := sel16 (n := 8) (M (ix2 r l)) l hM 640 (by norm_num) (fun q => P (ix2 r q)) ⟨640 + (l.val + 128 - 112) % 128, by omega⟩ ⟨640 + (l.val + 128 - 16) % 128, by omega⟩ ⟨640 + l.val, by omega⟩ rfl rfl rfl
  try dsimp only at e
  rw [← e]
  pointwise []

/-- A rotated and scaled head of the attention's queries, at a lane. -/
theorem pay52_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = 768 + l.val) :
    k0_pay52 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay52
  have e := sel16 (n := 8) (M (ix2 r l)) l hM 768 (by norm_num) (fun q => P (ix2 r q)) ⟨768 + (l.val + 128 - 112) % 128, by omega⟩ ⟨768 + (l.val + 128 - 16) % 128, by omega⟩ ⟨768 + l.val, by omega⟩ rfl rfl rfl
  try dsimp only at e
  rw [← e]
  pointwise []

/-- A rotated and scaled head of the attention's queries, at a lane. -/
theorem pay2_apply (M : IVec S512x128 1) (C S : FVec Ideal S512x128 .f32) (P : FVec Ideal S512x1024 .f32) (r : Fin 512) (l : Fin 128)
    (hM : M (ix2 r l) = if l.val < 80 then 1#1 else 0#1) (j : Fin 1024) (hj : j.val = 896 + l.val) :
    k0_pay2 M C S P (ix3 0 r l) = (P (ix2 r j) * C (ix2 r l) + P (ix2 r (swm (n := 8) j)) * S (ix2 r l)) * Ideal.ofBits .f32 1037108716#32 := by
  have hl := l.isLt
  obtain ⟨v, hv⟩ := j
  dsimp only at hj
  subst hj
  unfold k0_pay2
  have e := sel16 (n := 8) (M (ix2 r l)) l hM 896 (by norm_num) (fun q => P (ix2 r q)) ⟨896 + (l.val + 128 - 112) % 128, by omega⟩ ⟨896 + (l.val + 128 - 16) % 128, by omega⟩ ⟨896 + l.val, by omega⟩ rfl rfl rfl
  try dsimp only at e
  rw [← e]
  pointwise []

/-- A head of the keys, at a lane: its own part and the shared key. -/
theorem pay41_apply (E : FVec Ideal S512x128 .f32) (K : FVec Ideal S512x1024 .f32) (r : Fin 512) (l : Fin 128)
    (j : Fin 1024) (hj : j.val = 128 + l.val) : k0_pay41 E K (ix3 0 r l) = K (ix2 r j) + E (ix2 r l) := by
  have hl := l.isLt
  obtain ⟨v, hv⟩ := j
  dsimp only at hj
  subst hj
  pointwise [k0_pay41]

/-- A head of the keys, at a lane: its own part and the shared key. -/
theorem pay44_apply (E : FVec Ideal S512x128 .f32) (K : FVec Ideal S512x1024 .f32) (r : Fin 512) (l : Fin 128)
    (j : Fin 1024) (hj : j.val = 256 + l.val) : k0_pay44 E (k0_pay43 K) (ix3 0 r l) = K (ix2 r j) + E (ix2 r l) := by
  have hl := l.isLt
  obtain ⟨v, hv⟩ := j
  dsimp only at hj
  subst hj
  pointwise [k0_pay44, k0_pay43]

/-- A head of the keys, at a lane: its own part and the shared key. -/
theorem pay46_apply (E : FVec Ideal S512x128 .f32) (K : FVec Ideal S512x1024 .f32) (r : Fin 512) (l : Fin 128)
    (j : Fin 1024) (hj : j.val = 384 + l.val) : k0_pay46 E K (ix3 0 r l) = K (ix2 r j) + E (ix2 r l) := by
  have hl := l.isLt
  obtain ⟨v, hv⟩ := j
  dsimp only at hj
  subst hj
  pointwise [k0_pay46]

/-- A head of the keys, at a lane: its own part and the shared key. -/
theorem pay49_apply (E : FVec Ideal S512x128 .f32) (K : FVec Ideal S512x1024 .f32) (r : Fin 512) (l : Fin 128)
    (j : Fin 1024) (hj : j.val = 512 + l.val) : k0_pay49 E (k0_pay48 K) (ix3 0 r l) = K (ix2 r j) + E (ix2 r l) := by
  have hl := l.isLt
  obtain ⟨v, hv⟩ := j
  dsimp only at hj
  subst hj
  pointwise [k0_pay49, k0_pay48]

/-- A head of the keys, at a lane: its own part and the shared key. -/
theorem pay51_apply (E : FVec Ideal S512x128 .f32) (K : FVec Ideal S512x1024 .f32) (r : Fin 512) (l : Fin 128)
    (j : Fin 1024) (hj : j.val = 640 + l.val) : k0_pay51 E K (ix3 0 r l) = K (ix2 r j) + E (ix2 r l) := by
  have hl := l.isLt
  obtain ⟨v, hv⟩ := j
  dsimp only at hj
  subst hj
  pointwise [k0_pay51]

/-- A head of the keys, at a lane: its own part and the shared key. -/
theorem pay1_apply (E : FVec Ideal S512x128 .f32) (K : FVec Ideal S512x1024 .f32) (r : Fin 512) (l : Fin 128)
    (j : Fin 1024) (hj : j.val = 768 + l.val) : k0_pay1 E (k0_pay53 K) (ix3 0 r l) = K (ix2 r j) + E (ix2 r l) := by
  have hl := l.isLt
  obtain ⟨v, hv⟩ := j
  dsimp only at hj
  subst hj
  pointwise [k0_pay1, k0_pay53]

/-- A head of the keys, at a lane: its own part and the shared key. -/
theorem pay3_apply (E : FVec Ideal S512x128 .f32) (K : FVec Ideal S512x1024 .f32) (r : Fin 512) (l : Fin 128)
    (j : Fin 1024) (hj : j.val = 896 + l.val) : k0_pay3 E K (ix3 0 r l) = K (ix2 r j) + E (ix2 r l) := by
  have hl := l.isLt
  obtain ⟨v, hv⟩ := j
  dsimp only at hj
  subst hj
  pointwise [k0_pay3]

/-- The first head of the keys: its own part and the shared key. -/
theorem pay39_apply (E : FVec Ideal S512x128 .f32) (A : FVec Ideal S512x128 .f32) (w : Vec Ideal S1x128 .f32) (W : Vec Ideal S128x1024 .bf16)
    (r : Fin 512) (l : Fin 128) (j : Fin 1024) (hj : j.val = l.val) :
    k0_pay39 E (k0_pay38 A w W) (ix3 0 r l) = k0_pay35 A w W (ix2 r j) + E (ix2 r l) := by
  have hl := l.isLt
  obtain ⟨v, hv⟩ := j
  dsimp only at hj
  subst hj
  unfold k0_pay38
  generalize k0_pay35 A w W = K
  pointwise [k0_pay39]

/-- The block's normalised rows. -/
theorem pay4_apply (x : Vec Ideal S1x512x1024 .f32) (w : Vec Ideal S1x1024 .f32) (r : Fin 512) (d : Fin 1024) :
    k0_pay4 x w (ix2 r d) = rms 1149239296#32 (fun e => x (ix3 0 r e)) (fun e => w (ix2 0 e)) d := by
  rw [rms]
  pointwise [k0_pay4]

/-- The attention's queries before the rotation, a sum of sums. -/
theorem pay27_apply (h : FVec Ideal S512x1024 .bf16) (a : Vec Ideal S1024x256 .bf16) (w : Vec Ideal S1x256 .f32) (b : Vec Ideal S256x1024 .bf16) (r : Fin 512) (j : Fin 1024) :
    k0_pay27 h a w b (ix2 r j) = ∑ e : Fin 256, rms 1132462080#32 (fun q => ∑ d : Fin 1024, h (ix2 r d) * a (ix2 d q)) (fun q => w (ix2 0 q)) e * b (ix2 e j) := by
  simp only [rms]
  pointwise [k0_pay27]

/-- The normalised latent keys and values. -/
theorem pay34_apply (A : FVec Ideal S512x128 .f32) (w : Vec Ideal S1x128 .f32) (r : Fin 512) (e : Fin 128) :
    k0_pay34 A w (ix2 r e) = rms 1124073472#32 (fun q => A (ix2 r q)) (fun q => w (ix2 0 q)) e := by
  simp only [rms]
  pointwise [k0_pay34]

/-- The heads' own part of the keys. -/
theorem pay35_apply (A : FVec Ideal S512x128 .f32) (w : Vec Ideal S1x128 .f32) (b : Vec Ideal S128x1024 .bf16) (r : Fin 512) (j : Fin 1024) :
    k0_pay35 A w b (ix2 r j) = ∑ e : Fin 128, k0_pay34 A w (ix2 r e) * b (ix2 e j) := by
  unfold k0_pay35
  generalize k0_pay34 A w = H
  pointwise []

/-- The attention's values. -/
theorem pay36_apply (A : FVec Ideal S512x128 .f32) (w : Vec Ideal S1x128 .f32) (b : Vec Ideal S128x512 .bf16) (r : Fin 512) (j : Fin 512) :
    k0_pay36 A w b (ix3 0 r j) = ∑ e : Fin 128, k0_pay34 A w (ix2 r e) * b (ix2 e j) := by
  unfold k0_pay36
  generalize k0_pay34 A w = H
  pointwise []

/-- A product with a window of the projection's weights, at a column. -/
theorem pay11_apply (h : FVec Ideal S512x1024 .bf16) (a : Vec Ideal S1024x512 .bf16) (r : Fin 512) (j : Fin 512) :
    k0_pay11 h a (ix2 r j) = ∑ d : Fin 1024, h (ix2 r d) * a (ix2 d j) := by
  pointwise [k0_pay11]

/-- A product with a window of the projection's weights, at a column. -/
theorem pay12_apply (h : FVec Ideal S512x1024 .bf16) (a : Vec Ideal S1024x512 .bf16) (r : Fin 512) (j : Fin 512) :
    k0_pay12 h a (ix2 r j) = ∑ d : Fin 1024, h (ix2 r d) * a (ix2 d j) := by
  pointwise [k0_pay12]

/-- A product with a window of the projection's weights, at a column. -/
theorem pay25_apply (h : FVec Ideal S512x1024 .bf16) (a : Vec Ideal S1024x512 .bf16) (r : Fin 512) (j : Fin 512) :
    k0_pay25 (k0_pay24 h a) (ix3 0 r j) = ∑ d : Fin 1024, h (ix2 r d) * a (ix2 d j) := by
  pointwise [k0_pay25, k0_pay24]

/-- A product with a window of the projection's weights, at a column. -/
theorem pay26_apply (h : FVec Ideal S512x1024 .bf16) (a : Vec Ideal S1024x512 .bf16) (r : Fin 512) (j : Fin 512) :
    k0_pay26 h a (ix3 0 r j) = ∑ d : Fin 1024, h (ix2 r d) * a (ix2 d j) := by
  pointwise [k0_pay26]

/-- The latent columns of the last window. -/
theorem pay29_apply (h : FVec Ideal S512x1024 .bf16) (a : Vec Ideal S1024x256 .bf16) (r : Fin 512) (j : Fin 128) :
    k0_pay29 h a (ix2 r j) = ∑ d : Fin 1024, h (ix2 r d) * a (ix2 d ⟨j.val, by omega⟩) := by
  pointwise [k0_pay29, k0_pay28]

/-- The shared key's columns of the last window. -/
theorem pay30_apply (h : FVec Ideal S512x1024 .bf16) (a : Vec Ideal S1024x256 .bf16) (r : Fin 512) (j : Fin 128) :
    k0_pay30 h a (ix2 r j) = ∑ d : Fin 1024, h (ix2 r d) * a (ix2 d ⟨128 + j.val, by omega⟩) := by
  pointwise [k0_pay30, k0_pay28]

/-- The shared key, rotated. -/
theorem pay33_apply (h : FVec Ideal S512x1024 .bf16) (M : IVec S512x128 1) (C S : FVec Ideal S512x128 .f32) (a : Vec Ideal S1024x256 .bf16)
    (r : Fin 512) (l : Fin 128) (hM : M (ix2 r l) = if l.val < 80 then 1#1 else 0#1) :
    k0_pay33 S (k0_pay31 h M a) (k0_pay32 h C a) (ix2 r l)
      = k0_pay30 h a (ix2 r l) * C (ix2 r l) + k0_pay30 h a (ix2 r (swm (n := 1) l)) * S (ix2 r l) := by
  have hl := l.isLt
  unfold k0_pay31 k0_pay32
  generalize k0_pay30 h a = P
  have e := sel_idx (M (ix2 r l)) (l.val < 80) hM (fun q => P (ix2 r q)) ⟨(l.val + 128 - 112) % 128, by omega⟩ ⟨(l.val + 128 - 16) % 128, by omega⟩ (swm (n := 1) l)
    (fun h => Fin.ext (by
      have h' : l.val % 128 < 80 := by omega
      simp only [swm, if_pos h']; omega))
    (fun h => Fin.ext (by
      have h' : ¬ l.val % 128 < 80 := by omega
      simp only [swm, if_neg h']; omega))
  try dsimp only at e
  rw [← e]
  pointwise [k0_pay33]

/-- A block of a table, at a lane. -/
theorem pay7_apply (x : Vec Ideal S1x512x128 .f32) (r : Fin 512) (l : Fin 128) : k0_pay7 x (ix2 r l) = x (ix3 0 r l) := by
  pointwise [k0_pay7]
/-- A block of a table, at a lane. -/
theorem pay8_apply (x : Vec Ideal S1x512x128 .f32) (r : Fin 512) (l : Fin 128) : k0_pay8 x (ix2 r l) = x (ix3 0 r l) := by
  pointwise [k0_pay8]
/-- A block of a table, at a lane. -/
theorem pay9_apply (x : Vec Ideal S1x512x128 .f32) (r : Fin 512) (l : Fin 128) : k0_pay9 x (ix2 r l) = x (ix3 0 r l) := by
  pointwise [k0_pay9]
/-- A block of a table, at a lane. -/
theorem pay10_apply (x : Vec Ideal S1x512x128 .f32) (r : Fin 512) (l : Fin 128) : k0_pay10 x (ix2 r l) = x (ix3 0 r l) := by
  pointwise [k0_pay10]

/-- A window of the projection's weights, at a column. -/
theorem ld_win (o n : ℕ) (h : ∀ a, (![0, o] : Fin 2 → ℕ) a + (![1024, n] : Fin 2 → ℕ) a ≤ S1024x2560.size a) (x : Vec Ideal S1024x2560 .bf16) (d : Fin 1024) (q : Fin n)
    (j : Fin 2560) (hj : j.val = o + q.val) :
    View.ld x (Rect.unit (s := S1024x2560) ![0, o] ![1024, n] h) (ix2 d q) = x (ix2 d j) := by
  show x _ = x _
  congr 1
  funext a
  apply Fin.ext
  fin_cases a
  · show 0 + 1 * d.val = d.val; omega
  · show o + 1 * q.val = j.val; omega

end Cert.Kernel3Ideal.Inp
-- ==== Proof.Inp.Out.lean ====
module

public import proofs.«01_k».proof.Proof.Inp.Step

@[expose] public section

set_option maxRecDepth 16384

noncomputable section

namespace Cert.Kernel3Ideal.Inp

open Idealize.ShloMosaic Idealize.ShloMosaic.TcCoe Idealize.ShloMosaic.Tactic
open Cert.Kernel3Ideal.Gen

section
variable {s : Shape} {e : EltTy}
/-- Inside a stored piece, the buffer holds the piece. -/
theorem canon_in {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon (Val := Elt Ideal) (s := s) (e := e) (⟨Rect.unit off size inb, w⟩ :: L) y = w x := by
  have : y = (Rect.unit off size inb).emb x := by
    funext a
    apply Fin.ext
    rw [Rect.emb_apply, hx a]
    show _ = off a + 1 * _
    omega
  rw [this]
  exact View.canon_cons_emb _ w L x

/-- Outside a stored piece, the buffer holds what the earlier pieces left. -/
theorem canon_out {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon (Val := Elt Ideal) (s := s) (e := e) (⟨Rect.unit off size inb, w⟩ :: L) y
      = View.canon (Val := Elt Ideal) (s := s) (e := e) L y := by
  refine View.canon_cons_of_not_mem _ L fun h => ?_
  obtain ⟨k, hk, he⟩ := (LoadRect.mem_set _).mp h a
  have he' : (y a).val = off a + 1 * k := he
  have hk' : k < size a := hk
  omega
end

/-! ## A row's results -/

section
variable (x : Fin 1024 → Ideal .f32) (C S C' S' : Fin 128 → Ideal .f32)
  (a5 : Vec Ideal S1x1024 .f32) (a6 : Vec Ideal S1024x2560 .bf16) (a7 : Vec Ideal S1x256 .f32) (a8 : Vec Ideal S256x1024 .bf16)
  (a9 : Vec Ideal S1x128 .f32) (a10 : Vec Ideal S128x1024 .bf16) (a11 : Vec Ideal S128x512 .bf16)

/-- The normalised row. -/
def hR (d : Fin 1024) : Ideal .f32 := rms 1149239296#32 x (fun e => a5 (ix2 0 e)) d

/-- The projected row. -/
def pR (f : Fin 2560) : Ideal .f32 := ∑ d : Fin 1024, hR x a5 d * a6 (ix2 d f)

/-- A column's lane in its block of 128. -/
def lane {n : ℕ} (j : Fin n) : Fin 128 := ⟨j.val % 128, by omega⟩

/-- The retention's query columns of the projection. -/
def qcol (j : Fin 512) : Fin 2560 := ⟨j.val, by omega⟩
/-- The retention's key columns. -/
def kcol (j : Fin 512) : Fin 2560 := ⟨512 + j.val, by omega⟩
/-- The retention's value columns. -/
def vcol (j : Fin 512) : Fin 2560 := ⟨1024 + j.val, by omega⟩
/-- The retention's gate columns. -/
def gcol (j : Fin 512) : Fin 2560 := ⟨1536 + j.val, by omega⟩
/-- The columns of the latent queries. -/
def cqcol (j : Fin 256) : Fin 2560 := ⟨2048 + j.val, by omega⟩
/-- The columns of the latent keys and values. -/
def kvcol (j : Fin 128) : Fin 2560 := ⟨2304 + j.val, by omega⟩
/-- The columns of the shared rotated key. -/
def pecol (j : Fin 128) : Fin 2560 := ⟨2432 + j.val, by omega⟩

/-- A row's retention queries. -/
def rqR (j : Fin 512) : Ideal .f32 :=
  pR x a5 a6 (qcol j) * C (lane j) + pR x a5 a6 (qcol (sw j)) * S (lane j)

/-- A row's retention keys. -/
def rkR (j : Fin 512) : Ideal .f32 :=
  (pR x a5 a6 (kcol j) * C (lane j) + pR x a5 a6 (kcol (sw j)) * S (lane j)) * Ideal.ofBits .f32 1040187392#32

/-- A row's normalised latent queries. -/
def cqR (e : Fin 256) : Ideal .f32 := rms 1132462080#32 (fun q => pR x a5 a6 (cqcol q)) (fun q => a7 (ix2 0 q)) e

/-- A row's attention queries before the rotation. -/
def uqR (j : Fin 1024) : Ideal .f32 := ∑ e : Fin 256, cqR x a5 a6 a7 e * a8 (ix2 e j)

/-- A row's attention queries. -/
def qR (j : Fin 1024) : Ideal .f32 :=
  (uqR x a5 a6 a7 a8 j * C' (lane j) + uqR x a5 a6 a7 a8 (swm (n := 8) j) * S' (lane j)) * Ideal.ofBits .f32 1037108716#32

/-- A row's normalised latent keys and values. -/
def kvR (e : Fin 128) : Ideal .f32 := rms 1124073472#32 (fun q => pR x a5 a6 (kvcol q)) (fun q => a9 (ix2 0 q)) e

/-- A row's shared rotated key. -/
def krR (l : Fin 128) : Ideal .f32 := pR x a5 a6 (pecol l) * C' l + pR x a5 a6 (pecol (swm (n := 1) l)) * S' l

/-- A row's attention keys. -/
def kR (j : Fin 1024) : Ideal .f32 := ∑ e : Fin 128, kvR x a5 a6 a9 e * a10 (ix2 e j) + krR x C' S' a5 a6 (lane j)

/-- A row's attention values. -/
def vR (j : Fin 512) : Ideal .f32 := ∑ e : Fin 128, kvR x a5 a6 a9 e * a11 (ix2 e j)

end

/-! ## The pieces of a result's block -/

/-- Four blocks of 128 columns that hold a function of the column fill a block of 512. -/
theorem canon4 {e : EltTy} (G : Fin 512 → Elt Ideal e) (p0 p1 p2 p3 : Vec Ideal S1x512x128 e) (r : Fin 512)
    (h0 : ∀ (l : Fin 128) (j : Fin 512), j.val = l.val → p0 (ix3 0 r l) = G j)
    (h1 : ∀ (l : Fin 128) (j : Fin 512), j.val = 128 + l.val → p1 (ix3 0 r l) = G j)
    (h2 : ∀ (l : Fin 128) (j : Fin 512), j.val = 256 + l.val → p2 (ix3 0 r l) = G j)
    (h3 : ∀ (l : Fin 128) (j : Fin 512), j.val = 384 + l.val → p3 (ix3 0 r l) = G j)
    (j : Fin 512) : View.canon (Val := Elt Ideal) (s := S1x512x512) (e := e) [⟨r0_8, p3⟩, ⟨r0_7, p2⟩, ⟨r0_6, p1⟩, ⟨r0_5, p0⟩] (ix3 0 r j) = G j := by
  have hj := j.isLt
  by_cases g3 : 384 ≤ j.val
  · refine (canon_in _ _ _ _ (ix3 0 r ⟨j.val - 384, by omega⟩) ?_).trans (h3 _ j (by dsimp only; omega))
    intro a
    fin_cases a
    · rfl
    · show r.val = 0 + r.val; omega
    · show j.val = 384 + (j.val - 384); omega
  refine (canon_out _ _ _ _ 2 (Or.inl (by show j.val < 384; omega))).trans ?_
  by_cases g2 : 256 ≤ j.val
  · refine (canon_in _ _ _ _ (ix3 0 r ⟨j.val - 256, by omega⟩) ?_).trans (h2 _ j (by dsimp only; omega))
    intro a
    fin_cases a
    · rfl
    · show r.val = 0 + r.val; omega
    · show j.val = 256 + (j.val - 256); omega
  refine (canon_out _ _ _ _ 2 (Or.inl (by show j.val < 256; omega))).trans ?_
  by_cases g1 : 128 ≤ j.val
  · refine (canon_in _ _ _ _ (ix3 0 r ⟨j.val - 128, by omega⟩) ?_).trans (h1 _ j (by dsimp only; omega))
    intro a
    fin_cases a
    · rfl
    · show r.val = 0 + r.val; omega
    · show j.val = 128 + (j.val - 128); omega
  refine (canon_out _ _ _ _ 2 (Or.inl (by show j.val < 128; omega))).trans ?_
  · refine (canon_in _ _ _ _ (ix3 0 r ⟨j.val - 0, by omega⟩) ?_).trans (h0 _ j (by dsimp only; omega))
    intro a
    fin_cases a
    · rfl
    · show r.val = 0 + r.val; omega
    · show j.val = 0 + (j.val - 0); omega

/-- Eight such blocks fill a block of 1024. -/
theorem canon8 {e : EltTy} (G : Fin 1024 → Elt Ideal e) (p0 p1 p2 p3 p4 p5 p6 p7 : Vec Ideal S1x512x128 e) (r : Fin 512)
    (h0 : ∀ (l : Fin 128) (j : Fin 1024), j.val = l.val → p0 (ix3 0 r l) = G j)
    (h1 : ∀ (l : Fin 128) (j : Fin 1024), j.val = 128 + l.val → p1 (ix3 0 r l) = G j)
    (h2 : ∀ (l : Fin 128) (j : Fin 1024), j.val = 256 + l.val → p2 (ix3 0 r l) = G j)
    (h3 : ∀ (l : Fin 128) (j : Fin 1024), j.val = 384 + l.val → p3 (ix3 0 r l) = G j)
    (h4 : ∀ (l : Fin 128) (j : Fin 1024), j.val = 512 + l.val → p4 (ix3 0 r l) = G j)
    (h5 : ∀ (l : Fin 128) (j : Fin 1024), j.val = 640 + l.val → p5 (ix3 0 r l) = G j)
    (h6 : ∀ (l : Fin 128) (j : Fin 1024), j.val = 768 + l.val → p6 (ix3 0 r l) = G j)
    (h7 : ∀ (l : Fin 128) (j : Fin 1024), j.val = 896 + l.val → p7 (ix3 0 r l) = G j)
    (j : Fin 1024) : View.canon (Val := Elt Ideal) (s := S1x512x1024) (e := e) [⟨r0_26, p7⟩, ⟨r0_25, p6⟩, ⟨r0_24, p5⟩, ⟨r0_23, p4⟩, ⟨r0_22, p3⟩, ⟨r0_21, p2⟩, ⟨r0_20, p1⟩, ⟨r0_19, p0⟩] (ix3 0 r j) = G j := by
  have hj := j.isLt
  by_cases g7 : 896 ≤ j.val
  · refine (canon_in _ _ _ _ (ix3 0 r ⟨j.val - 896, by omega⟩) ?_).trans (h7 _ j (by dsimp only; omega))
    intro a
    fin_cases a
    · rfl
    · show r.val = 0 + r.val; omega
    · show j.val = 896 + (j.val - 896); omega
  refine (canon_out _ _ _ _ 2 (Or.inl (by show j.val < 896; omega))).trans ?_
  by_cases g6 : 768 ≤ j.val
  · refine (canon_in _ _ _ _ (ix3 0 r ⟨j.val - 768, by omega⟩) ?_).trans (h6 _ j (by dsimp only; omega))
    intro a
    fin_cases a
    · rfl
    · show r.val = 0 + r.val; omega
    · show j.val = 768 + (j.val - 768); omega
  refine (canon_out _ _ _ _ 2 (Or.inl (by show j.val < 768; omega))).trans ?_
  by_cases g5 : 640 ≤ j.val
  · refine (canon_in _ _ _ _ (ix3 0 r ⟨j.val - 640, by omega⟩) ?_).trans (h5 _ j (by dsimp only; omega))
    intro a
    fin_cases a
    · rfl
    · show r.val = 0 + r.val; omega
    · show j.val = 640 + (j.val - 640); omega
  refine (canon_out _ _ _ _ 2 (Or.inl (by show j.val < 640; omega))).trans ?_
  by_cases g4 : 512 ≤ j.val
  · refine (canon_in _ _ _ _ (ix3 0 r ⟨j.val - 512, by omega⟩) ?_).trans (h4 _ j (by dsimp only; omega))
    intro a
    fin_cases a
    · rfl
    · show r.val = 0 + r.val; omega
    · show j.val = 512 + (j.val - 512); omega
  refine (canon_out _ _ _ _ 2 (Or.inl (by show j.val < 512; omega))).trans ?_
  by_cases g3 : 384 ≤ j.val
  · refine (canon_in _ _ _ _ (ix3 0 r ⟨j.val - 384, by omega⟩) ?_).trans (h3 _ j (by dsimp only; omega))
    intro a
    fin_cases a
    · rfl
    · show r.val = 0 + r.val; omega
    · show j.val = 384 + (j.val - 384); omega
  refine (canon_out _ _ _ _ 2 (Or.inl (by show j.val < 384; omega))).trans ?_
  by_cases g2 : 256 ≤ j.val
  · refine (canon_in _ _ _ _ (ix3 0 r ⟨j.val - 256, by omega⟩) ?_).trans (h2 _ j (by dsimp only; omega))
    intro a
    fin_cases a
    · rfl
    · show r.val = 0 + r.val; omega
    · show j.val = 256 + (j.val - 256); omega
  refine (canon_out _ _ _ _ 2 (Or.inl (by show j.val < 256; omega))).trans ?_
  by_cases g1 : 128 ≤ j.val
  · refine (canon_in _ _ _ _ (ix3 0 r ⟨j.val - 128, by omega⟩) ?_).trans (h1 _ j (by dsimp only; omega))
    intro a
    fin_cases a
    · rfl
    · show r.val = 0 + r.val; omega
    · show j.val = 128 + (j.val - 128); omega
  refine (canon_out _ _ _ _ 2 (Or.inl (by show j.val < 128; omega))).trans ?_
  · refine (canon_in _ _ _ _ (ix3 0 r ⟨j.val - 0, by omega⟩) ?_).trans (h0 _ j (by dsimp only; omega))
    intro a
    fin_cases a
    · rfl
    · show r.val = 0 + r.val; omega
    · show j.val = 0 + (j.val - 0); omega

/-- One store of a whole block fills it. -/
theorem canon1 {e : EltTy} (p : Vec Ideal S1x512x512 e) (r j : Fin 512) :
    View.canon (Val := Elt Ideal) (s := S1x512x512) (e := e) [⟨r0_10, p⟩] (ix3 0 r j) = p (ix3 0 r j) := by
  refine canon_in (off := ![0, 0, 0]) (size := S1x512x512.size) inb_S1x512x512_S1x512x512_0_0_0 p [] (ix3 0 r j) (ix3 0 r j : S1x512x512.Idx) ?_
  intro a
  fin_cases a
  · rfl
  · show r.val = 0 + r.val; omega
  · show j.val = 0 + j.val; omega

/-! ## The results' blocks -/

section
variable (x0 : Vec Ideal S1x512x1024 .f32) (x1 x2 x3 x4 : Vec Ideal S1x512x128 .f32) (x5 : Vec Ideal S1x1024 .f32) (x6 : Vec Ideal S1024x2560 .bf16)
  (x7 : Vec Ideal S1x256 .f32) (x8 : Vec Ideal S256x1024 .bf16) (x9 : Vec Ideal S1x128 .f32) (x10 : Vec Ideal S128x1024 .bf16) (x11 : Vec Ideal S128x512 .bf16)

/-- A row of a block. -/
abbrev rw0 (r : Fin 512) : Fin 1024 → Ideal .f32 := fun d => x0 (ix3 0 r d)
/-- A row of a table. -/
abbrev rwT (x1 : Vec Ideal S1x512x128 .f32) (r : Fin 512) : Fin 128 → Ideal .f32 := fun l => x1 (ix3 0 r l)

/-- The block's normalised rows. -/
theorem p54 (r : Fin 512) (d : Fin 1024) : k0_pay54 x0 x1 x2 x3 x4 x5 x6 x7 x8 x9 x10 x11 (ix2 r d) = hR (rw0 x0 r) x5 d := by
  unfold k0_pay54
  rw [View.ld_unit_lit' _ _ (by decide), View.ld_unit_lit' _ _ (by decide), pay4_apply]
  rfl

/-- A product with a window of the projection, at a column. -/
theorem pcol (o n : ℕ) (h : ∀ a, (![0, o] : Fin 2 → ℕ) a + (![1024, n] : Fin 2 → ℕ) a ≤ S1024x2560.size a) (r : Fin 512) (q : Fin n) (j : Fin 2560) (hj : j.val = o + q.val) :
    ∑ d : Fin 1024, k0_pay54 x0 x1 x2 x3 x4 x5 x6 x7 x8 x9 x10 x11 (ix2 r d) * View.ld x6 (Rect.unit (s := S1024x2560) ![0, o] ![1024, n] h) (ix2 d q) = pR (rw0 x0 r) x5 x6 j := by
  rw [pR]
  exact Finset.sum_congr rfl fun d _ => by rw [p54, ld_win o n h x6 d q j hj]

/-- The mask of the first halves of 32. -/
theorem p55 (r : Fin 512) (l : Fin 128) : k0_pay55 x0 x1 x2 x3 x4 x5 x6 x7 x8 x9 x10 x11 (ix2 r l) = if l.val % 64 < 32 then 1#1 else 0#1 := mask32 r l

/-- The mask of the lanes before 80. -/
theorem p56 (r : Fin 512) (l : Fin 128) : k0_pay56 x0 x1 x2 x3 x4 x5 x6 x7 x8 x9 x10 x11 (ix2 r l) = if l.val < 80 then 1#1 else 0#1 := mask80 r l

/-- The rows of the first table. -/
theorem p57 (r : Fin 512) (l : Fin 128) : k0_pay57 x0 x1 x2 x3 x4 x5 x6 x7 x8 x9 x10 x11 (ix2 r l) = rwT x1 r l := by
  unfold k0_pay57
  rw [View.ld_unit_lit' _ _ (by decide), pay7_apply]

/-- The rows of the second table. -/
theorem p58 (r : Fin 512) (l : Fin 128) : k0_pay58 x0 x1 x2 x3 x4 x5 x6 x7 x8 x9 x10 x11 (ix2 r l) = rwT x2 r l := by
  unfold k0_pay58
  rw [View.ld_unit_lit' _ _ (by decide), pay8_apply]

/-- The rows of the third table. -/
theorem p59 (r : Fin 512) (l : Fin 128) : k0_pay59 x0 x1 x2 x3 x4 x5 x6 x7 x8 x9 x10 x11 (ix2 r l) = rwT x3 r l := by
  unfold k0_pay59
  rw [View.ld_unit_lit' _ _ (by decide), pay9_apply]

/-- The rows of the fourth table. -/
theorem p60 (r : Fin 512) (l : Fin 128) : k0_pay60 x0 x1 x2 x3 x4 x5 x6 x7 x8 x9 x10 x11 (ix2 r l) = rwT x4 r l := by
  unfold k0_pay60
  rw [View.ld_unit_lit' _ _ (by decide), pay10_apply]

/-- The retention's queries before the rotation. -/
theorem p61 (r j : Fin 512) : k0_pay61 x0 x1 x2 x3 x4 x5 x6 x7 x8 x9 x10 x11 (ix2 r j) = pR (rw0 x0 r) x5 x6 (qcol j) := by
  unfold k0_pay61
  rw [pay11_apply]
  exact pcol x0 x1 x2 x3 x4 x5 x6 x7 x8 x9 x10 x11 0 512 _ r j _ (by show j.val = 0 + j.val; omega)

/-- The retention's keys before the rotation. -/
theorem p62 (r j : Fin 512) : k0_pay62 x0 x1 x2 x3 x4 x5 x6 x7 x8 x9 x10 x11 (ix2 r j) = pR (rw0 x0 r) x5 x6 (kcol j) := by
  unfold k0_pay62
  rw [pay12_apply]
  exact pcol x0 x1 x2 x3 x4 x5 x6 x7 x8 x9 x10 x11 512 512 _ r j _ rfl

/-- The attention's queries before the rotation. -/
theorem p63 (r : Fin 512) (j : Fin 1024) : k0_pay63 x0 x1 x2 x3 x4 x5 x6 x7 x8 x9 x10 x11 (ix2 r j) = uqR (rw0 x0 r) x5 x6 x7 x8 j := by
  unfold k0_pay63
  rw [View.ld_unit_lit' _ x7 (by decide), View.ld_unit_lit' _ x8 (by decide), pay27_apply, uqR]
  refine Finset.sum_congr rfl fun e _ => ?_
  rw [cqR]
  have h : (fun q : Fin 256 => ∑ d : Fin 1024, k0_pay54 x0 x1 x2 x3 x4 x5 x6 x7 x8 x9 x10 x11 (ix2 r d) * View.ld x6 r0_12 (ix2 d q)) = fun q => pR (rw0 x0 r) x5 x6 (cqcol q) :=
    funext fun q => pcol x0 x1 x2 x3 x4 x5 x6 x7 x8 x9 x10 x11 2048 256 _ r q _ rfl
  exact congrArg (fun f => rms 1132462080#32 f (fun q => x7 (ix2 0 q)) e * x8 (ix2 e j)) h

/-- The latent keys and values before their norm. -/
theorem p64 (r : Fin 512) (j : Fin 128) : k0_pay64 x0 x1 x2 x3 x4 x5 x6 x7 x8 x9 x10 x11 (ix2 r j) = pR (rw0 x0 r) x5 x6 (kvcol j) := by
  unfold k0_pay64
  rw [pay29_apply]
  exact pcol x0 x1 x2 x3 x4 x5 x6 x7 x8 x9 x10 x11 2304 256 _ r _ _ rfl

/-- The shared key before the rotation. -/
theorem pe (r : Fin 512) (j : Fin 128) : k0_pay30 (k0_pay54 x0 x1 x2 x3 x4 x5 x6 x7 x8 x9 x10 x11) (View.ld x6 r0_15) (ix2 r j) = pR (rw0 x0 r) x5 x6 (pecol j) := by
  rw [pay30_apply]
  exact pcol x0 x1 x2 x3 x4 x5 x6 x7 x8 x9 x10 x11 2304 256 _ r _ _ (by show 2432 + j.val = 2304 + (128 + j.val); omega)

/-- The shared key, rotated. -/
theorem p65 (r : Fin 512) (l : Fin 128) : k0_pay65 x0 x1 x2 x3 x4 x5 x6 x7 x8 x9 x10 x11 (ix2 r l) = krR (rw0 x0 r) (rwT x3 r) (rwT x4 r) x5 x6 l := by
  unfold k0_pay65
  rw [pay33_apply _ _ _ _ _ _ _ (p56 x0 x1 x2 x3 x4 x5 x6 x7 x8 x9 x10 x11 r l), pe, pe, p59, p60, krR]

/-- The normalised latent keys and values. -/
theorem kv (r : Fin 512) (e : Fin 128) : k0_pay34 (k0_pay64 x0 x1 x2 x3 x4 x5 x6 x7 x8 x9 x10 x11) x9 (ix2 r e) = kvR (rw0 x0 r) x5 x6 x9 e := by
  rw [pay34_apply, kvR]
  exact congrArg (fun f => rms 1124073472#32 f (fun q => x9 (ix2 0 q)) e) (funext fun q => p64 x0 x1 x2 x3 x4 x5 x6 x7 x8 x9 x10 x11 r q)

/-- The heads' own part of the keys. -/
theorem kf (r : Fin 512) (j : Fin 1024) : k0_pay35 (k0_pay64 x0 x1 x2 x3 x4 x5 x6 x7 x8 x9 x10 x11) x9 x10 (ix2 r j) = ∑ e : Fin 128, kvR (rw0 x0 r) x5 x6 x9 e * x10 (ix2 e j) := by
  rw [pay35_apply]
  exact Finset.sum_congr rfl fun e _ => by rw [kv]

/-- The heads' own part of the keys, as the later stores read it. -/
theorem p66 (r : Fin 512) (j : Fin 1024) : k0_pay66 x0 x1 x2 x3 x4 x5 x6 x7 x8 x9 x10 x11 (ix2 r j) = ∑ e : Fin 128, kvR (rw0 x0 r) x5 x6 x9 e * x10 (ix2 e j) := by
  unfold k0_pay66
  rw [View.ld_unit_lit' _ x9 (by decide), View.ld_unit_lit' _ x10 (by decide)]
  exact kf x0 x1 x2 x3 x4 x5 x6 x7 x8 x9 x10 x11 r j

/-- The lane of a column that is given by its block and lane. -/
theorem lane_eq {n : ℕ} (j : Fin n) (l : Fin 128) (k : ℕ) (h : j.val = 128 * k + l.val) : lane j = l :=
  Fin.ext (by have := l.isLt; show j.val % 128 = l.val; omega)

/-- The block of the retention's queries. -/
theorem out12 (r j : Fin 512) : out0_12 x0 x1 x2 x3 x4 x5 x6 x7 x8 x9 x10 x11 (ix3 0 r j) = rqR (rw0 x0 r) (rwT x1 r) (rwT x2 r) x5 x6 j := by
  unfold out0_12
  refine canon4 (e := .bf16) (rqR (rw0 x0 r) (rwT x1 r) (rwT x2 r) x5 x6) _ _ _ _ r (fun l j hj => ?_) (fun l j hj => ?_) (fun l j hj => ?_) (fun l j hj => ?_) j
  · rw [pay13_apply _ _ _ _ _ r l (p55 x0 x1 x2 x3 x4 x5 x6 x7 x8 x9 x10 x11 r l) j hj, View.ld_unit_lit' _ x2 (by decide), pay8_apply, p57, rqR, lane_eq j l 0 (by omega)]
    have h : ∀ j, k0_pay11 (k0_pay54 x0 x1 x2 x3 x4 x5 x6 x7 x8 x9 x10 x11) (View.ld x6 r0_3) (ix2 r j) = pR (rw0 x0 r) x5 x6 (qcol j) := p61 x0 x1 x2 x3 x4 x5 x6 x7 x8 x9 x10 x11 r
    rw [h, h]
  · rw [pay16_apply _ _ _ _ r l (p55 x0 x1 x2 x3 x4 x5 x6 x7 x8 x9 x10 x11 r l) j hj, p57, p58, p61, p61, rqR, lane_eq j l 1 (by omega)]
  · rw [pay18_apply _ _ _ _ r l (p55 x0 x1 x2 x3 x4 x5 x6 x7 x8 x9 x10 x11 r l) j hj, p57, p58, p61, p61, rqR, lane_eq j l 2 (by omega)]
  · rw [pay22_apply _ _ _ _ r l (p55 x0 x1 x2 x3 x4 x5 x6 x7 x8 x9 x10 x11 r l) j hj, p57, p58, p61, p61, rqR, lane_eq j l 3 (by omega)]

/-- The block of the retention's keys. -/
theorem out13 (r j : Fin 512) : out0_13 x0 x1 x2 x3 x4 x5 x6 x7 x8 x9 x10 x11 (ix3 0 r j) = rkR (rw0 x0 r) (rwT x1 r) (rwT x2 r) x5 x6 j := by
  unfold out0_13
  refine canon4 (e := .bf16) (rkR (rw0 x0 r) (rwT x1 r) (rwT x2 r) x5 x6) _ _ _ _ r (fun l j hj => ?_) (fun l j hj => ?_) (fun l j hj => ?_) (fun l j hj => ?_) j
  · rw [pay14_apply _ _ _ _ _ r l (p55 x0 x1 x2 x3 x4 x5 x6 x7 x8 x9 x10 x11 r l) j hj, View.ld_unit_lit' _ x2 (by decide), pay8_apply, p57, rkR, lane_eq j l 0 (by omega)]
    have h : ∀ j, k0_pay12 (k0_pay54 x0 x1 x2 x3 x4 x5 x6 x7 x8 x9 x10 x11) (View.ld x6 r0_4) (ix2 r j) = pR (rw0 x0 r) x5 x6 (kcol j) := p62 x0 x1 x2 x3 x4 x5 x6 x7 x8 x9 x10 x11 r
    rw [h, h]
  · rw [pay17_apply _ _ _ _ r l (p55 x0 x1 x2 x3 x4 x5 x6 x7 x8 x9 x10 x11 r l) j hj, p57, p58, p62, p62, rkR, lane_eq j l 1 (by omega)]
  · rw [pay21_apply _ _ _ _ r l (p55 x0 x1 x2 x3 x4 x5 x6 x7 x8 x9 x10 x11 r l) j hj, p57, p58, p62, p62, rkR, lane_eq j l 2 (by omega)]
  · rw [pay23_apply _ _ _ _ r l (p55 x0 x1 x2 x3 x4 x5 x6 x7 x8 x9 x10 x11 r l) j hj, p57, p58, p62, p62, rkR, lane_eq j l 3 (by omega)]

/-- The block of the retention's values. -/
theorem out14 (r j : Fin 512) : out0_14 x0 x1 x2 x3 x4 x5 x6 x7 x8 x9 x10 x11 (ix3 0 r j) = pR (rw0 x0 r) x5 x6 (vcol j) := by
  unfold out0_14
  rw [canon1, pay25_apply]
  exact pcol x0 x1 x2 x3 x4 x5 x6 x7 x8 x9 x10 x11 1024 512 _ r j _ rfl

/-- The block of the retention's gate. -/
theorem out15 (r j : Fin 512) : out0_15 x0 x1 x2 x3 x4 x5 x6 x7 x8 x9 x10 x11 (ix3 0 r j) = pR (rw0 x0 r) x5 x6 (gcol j) := by
  unfold out0_15
  rw [canon1, pay26_apply]
  exact pcol x0 x1 x2 x3 x4 x5 x6 x7 x8 x9 x10 x11 1536 512 _ r j _ rfl

/-- The block of the attention's queries. -/
theorem out16 (r : Fin 512) (j : Fin 1024) : out0_16 x0 x1 x2 x3 x4 x5 x6 x7 x8 x9 x10 x11 (ix3 0 r j) = qR (rw0 x0 r) (rwT x3 r) (rwT x4 r) x5 x6 x7 x8 j := by
  unfold out0_16
  refine canon8 (e := .bf16) (qR (rw0 x0 r) (rwT x3 r) (rwT x4 r) x5 x6 x7 x8) _ _ _ _ _ _ _ _ r (fun l j hj => ?_) (fun l j hj => ?_) (fun l j hj => ?_) (fun l j hj => ?_) (fun l j hj => ?_) (fun l j hj => ?_) (fun l j hj => ?_) (fun l j hj => ?_) j
  · rw [pay37_apply _ _ _ _ r l (p56 x0 x1 x2 x3 x4 x5 x6 x7 x8 x9 x10 x11 r l) j hj, p59, p60, p63, p63, qR, lane_eq j l 0 (by omega)]
  · rw [pay40_apply _ _ _ _ r l (p56 x0 x1 x2 x3 x4 x5 x6 x7 x8 x9 x10 x11 r l) j hj, p59, p60, p63, p63, qR, lane_eq j l 1 (by omega)]
  · rw [pay42_apply _ _ _ _ r l (p56 x0 x1 x2 x3 x4 x5 x6 x7 x8 x9 x10 x11 r l) j hj, p59, p60, p63, p63, qR, lane_eq j l 2 (by omega)]
  · rw [pay45_apply _ _ _ _ r l (p56 x0 x1 x2 x3 x4 x5 x6 x7 x8 x9 x10 x11 r l) j hj, p59, p60, p63, p63, qR, lane_eq j l 3 (by omega)]
  · rw [pay47_apply _ _ _ _ r l (p56 x0 x1 x2 x3 x4 x5 x6 x7 x8 x9 x10 x11 r l) j hj, p59, p60, p63, p63, qR, lane_eq j l 4 (by omega)]
  · rw [pay50_apply _ _ _ _ r l (p56 x0 x1 x2 x3 x4 x5 x6 x7 x8 x9 x10 x11 r l) j hj, p59, p60, p63, p63, qR, lane_eq j l 5 (by omega)]
  · rw [pay52_apply _ _ _ _ r l (p56 x0 x1 x2 x3 x4 x5 x6 x7 x8 x9 x10 x11 r l) j hj, p59, p60, p63, p63, qR, lane_eq j l 6 (by omega)]
  · rw [pay2_apply _ _ _ _ r l (p56 x0 x1 x2 x3 x4 x5 x6 x7 x8 x9 x10 x11 r l) j hj, p59, p60, p63, p63, qR, lane_eq j l 7 (by omega)]

/-- The block of the attention's keys. -/
theorem out17 (r : Fin 512) (j : Fin 1024) : out0_17 x0 x1 x2 x3 x4 x5 x6 x7 x8 x9 x10 x11 (ix3 0 r j) = kR (rw0 x0 r) (rwT x3 r) (rwT x4 r) x5 x6 x9 x10 j := by
  unfold out0_17
  refine canon8 (e := .bf16) (kR (rw0 x0 r) (rwT x3 r) (rwT x4 r) x5 x6 x9 x10) _ _ _ _ _ _ _ _ r (fun l j hj => ?_) (fun l j hj => ?_) (fun l j hj => ?_) (fun l j hj => ?_) (fun l j hj => ?_) (fun l j hj => ?_) (fun l j hj => ?_) (fun l j hj => ?_) j
  · rw [pay39_apply _ _ _ _ r l j hj, View.ld_unit_lit' _ x9 (by decide), View.ld_unit_lit' _ x10 (by decide), kf, p65, kR, lane_eq j l 0 (by omega)]
  · rw [pay41_apply _ _ r l j hj, p65, p66, kR, lane_eq j l 1 (by omega)]
  · rw [pay44_apply _ _ r l j hj, p65, p66, kR, lane_eq j l 2 (by omega)]
  · rw [pay46_apply _ _ r l j hj, p65, p66, kR, lane_eq j l 3 (by omega)]
  · rw [pay49_apply _ _ r l j hj, p65, p66, kR, lane_eq j l 4 (by omega)]
  · rw [pay51_apply _ _ r l j hj, p65, p66, kR, lane_eq j l 5 (by omega)]
  · rw [pay1_apply _ _ r l j hj, p65, p66, kR, lane_eq j l 6 (by omega)]
  · rw [pay3_apply _ _ r l j hj, p65, p66, kR, lane_eq j l 7 (by omega)]

/-- The block of the attention's values. -/
theorem out18 (r j : Fin 512) : out0_18 x0 x1 x2 x3 x4 x5 x6 x7 x8 x9 x10 x11 (ix3 0 r j) = vR (rw0 x0 r) x5 x6 x9 x11 j := by
  unfold out0_18
  rw [canon1, View.ld_unit_lit' _ x9 (by decide), View.ld_unit_lit' _ x11 (by decide), pay36_apply, vR]
  exact Finset.sum_congr rfl fun e _ => by rw [kv]

end
end Cert.Kernel3Ideal.Inp
-- ==== Proof.Inp.Host.lean ====
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Inp

open Idealize.ShloMosaic Idealize.ShloMosaic.TcCoe Idealize.ShloMosaic.Tactic
open Cert.Kernel3Ideal.Gen

/-- The start indices of a take: a negative index counts from the end. -/
def fixIdx (n : BitVec 32) (ix : IVec S128 32) : IVec S128x1 32 :=
  broadcastInDim S128x1 ![0] bcast_S128_S128x1_0
    (select (cmpi .slt ix (broadcastInDim S128 ![] bcast_S_S128 (constantI S_ 32 0#32)))
      (addi ix (broadcastInDim S128 ![] bcast_S_S128 (constantI S_ 32 n))) ix)

/-- Which lanes have an index in range. -/
def okIdx (n : BitVec 32) (ix : IVec S128x1 32) : IVec S128 1 :=
  Host.reduce IntOp.andi
    (andi (cmpi .sge ix (broadcastInDim S128x1 ![] bcast_S_S128x1 (constantI S_ 32 0#32)))
      (cmpi .sle ix (broadcastInDim S128x1 ![0, 1] bcast_S1x1_S128x1_0_1 (broadcastInDim S1x1 ![1] bcast_S1_S1x1_1 (constantI S1 32 n)))))
    (constantI S_ 1 1#1) reducesTo_S128x1_S128_d1 h_S_

/-- The take along the last axis of 32. -/
def tk32 (x : FVec Ideal S4x8192x32 .f32) (ix : IVec S128 32) : FVec Ideal S4x8192x128 .f32 :=
  select (broadcastInDim S4x8192x128 ![2] bcast_S128_S4x8192x128_2 (okIdx 31#32 (fixIdx 32#32 ix)))
    (Host.gather gather_S4x8192x32_S128x1_S4x8192x128_01_2_n_n_2_1_481921 x (fixIdx 32#32 ix))
    (broadcastInDim S4x8192x128 ![] bcast_S_S4x8192x128 (constant (F := Ideal) S_ .f32 0x7FC00000#32))

/-- The take along the last axis of 16. -/
def tk16 (x : FVec Ideal S4x8192x16 .f32) (ix : IVec S128 32) : FVec Ideal S4x8192x128 .f32 :=
  select (broadcastInDim S4x8192x128 ![2] bcast_S128_S4x8192x128_2 (okIdx 15#32 (fixIdx 16#32 ix)))
    (Host.gather gather_S4x8192x16_S128x1_S4x8192x128_01_2_n_n_2_1_481921 x (fixIdx 16#32 ix))
    (broadcastInDim S4x8192x128 ![] bcast_S_S4x8192x128 (constant (F := Ideal) S_ .f32 0x7FC00000#32))

/-- A table under a mask of lanes, with one value elsewhere. -/
def wh (mk : IVec S128 1) (x : FVec Ideal S4x8192x128 .f32) (k : FVec Ideal S_ .f32) : FVec Ideal S4x8192x128 .f32 :=
  select (broadcastInDim S4x8192x128 ![2] bcast_S128_S4x8192x128_2 mk) x (broadcastInDim S4x8192x128 ![] bcast_S_S4x8192x128 k)

/-- A table times a sign per lane. -/
def sg (x : FVec Ideal S4x8192x128 .f32) (s : FVec Ideal S128 .f32) : FVec Ideal S4x8192x128 .f32 :=
  mulf x (broadcastInDim S4x8192x128 ![0, 1, 2] bcast_S1x1x128_S4x8192x128_0_1_2 (broadcastInDim S1x1x128 ![2] bcast_S128_S1x1x128_2 s))

/-- The angles of the 64-wide rotary embedding. -/
def ang32 (p : IVec S4x8192 32) : FVec Ideal S4x8192x32 .f32 :=
  mulf (broadcastInDim S4x8192x32 ![0, 1, 2] bcast_S4x8192x1_S4x8192x32_0_1_2 (broadcastInDim S4x8192x1 ![0, 1] bcast_S4x8192_S4x8192x1_0_1 (sitofp (F := Ideal) .f32 p)))
    (broadcastInDim S4x8192x32 ![0, 1, 2] bcast_S1x1x32_S4x8192x32_0_1_2 (broadcastInDim S1x1x32 ![2] bcast_S32_S1x1x32_2
      (Host.powf (broadcastInDim S32 ![] bcast_S_S32 (constant (F := Ideal) S_ .f32 0x461C4000#32))
        (Host.divf (Host.negf (addf (broadcastInDim S32 ![] bcast_S_S32 (constant (F := Ideal) S_ .f32 0x00000000#32))
          (mulf (broadcastInDim S32 ![] bcast_S_S32 (constant (F := Ideal) S_ .f32 0x40000000#32)) (sitofp (F := Ideal) .f32 (iotaInDim S32 32 0)))))
          (broadcastInDim S32 ![] bcast_S_S32 (constant (F := Ideal) S_ .f32 0x42800000#32))))))

/-- The angles of the 32-wide rotary embedding. -/
def ang16 (p : IVec S4x8192 32) : FVec Ideal S4x8192x16 .f32 :=
  mulf (broadcastInDim S4x8192x16 ![0, 1, 2] bcast_S4x8192x1_S4x8192x16_0_1_2 (broadcastInDim S4x8192x1 ![0, 1] bcast_S4x8192_S4x8192x1_0_1 (sitofp (F := Ideal) .f32 p)))
    (broadcastInDim S4x8192x16 ![0, 1, 2] bcast_S1x1x16_S4x8192x16_0_1_2 (broadcastInDim S1x1x16 ![2] bcast_S16_S1x1x16_2
      (Host.powf (broadcastInDim S16 ![] bcast_S_S16 (constant (F := Ideal) S_ .f32 0x461C4000#32))
        (Host.divf (Host.negf (addf (broadcastInDim S16 ![] bcast_S_S16 (constant (F := Ideal) S_ .f32 0x00000000#32))
          (mulf (broadcastInDim S16 ![] bcast_S_S16 (constant (F := Ideal) S_ .f32 0x40000000#32)) (sitofp (F := Ideal) .f32 (iotaInDim S16 32 0)))))
          (broadcastInDim S16 ![] bcast_S_S16 (constant (F := Ideal) S_ .f32 0x42000000#32))))))

/-- A literal table over the lanes. -/
def litI {w : ℕ} (l : Fin 128 → BitVec w) : IVec S128 w := fun i => l (S128.rowMajor i)
/-- A literal float table over the lanes. -/
def litF (l : Fin 128 → BitVec 32) : FVec Ideal S128 .f32 := fun i => FloatOps.ofBits .f32 (l (S128.rowMajor i))

/-- The four tables. -/
def tCr (p : IVec S4x8192 32) : FVec Ideal S4x8192x128 .f32 :=
  wh (constantI S128 1 1#1) (tk32 (Host.cos (ang32 p)) (litI lit0)) (constant (F := Ideal) S_ .f32 0x3F800000#32)
/-- The retention's table of signed sines. -/
def tSr (p : IVec S4x8192 32) : FVec Ideal S4x8192x128 .f32 :=
  sg (wh (constantI S128 1 1#1) (tk32 (Host.sin (ang32 p)) (litI lit0)) (constant (F := Ideal) S_ .f32 0x00000000#32)) (litF lit1)
/-- The attention's table of cosines, 1 outside the rotated lanes. -/
def tCm (p : IVec S4x8192 32) : FVec Ideal S4x8192x128 .f32 :=
  wh (litI lit3) (tk16 (Host.cos (ang16 p)) (litI lit2)) (constant (F := Ideal) S_ .f32 0x3F800000#32)
/-- The attention's table of signed sines, 0 outside the rotated lanes. -/
def tSm (p : IVec S4x8192 32) : FVec Ideal S4x8192x128 .f32 :=
  sg (wh (litI lit3) (tk16 (Host.sin (ang16 p)) (litI lit2)) (constant (F := Ideal) S_ .f32 0x00000000#32)) (litF lit4)

variable (m : (ℓ : Loc nD τ sig) → Buf (Elt Ideal) ℓ)

set_option maxHeartbeats 1000000 in
/-- The host leaves the first table where the call reads it. -/
theorem V19 (c : Dev nD) : V m c main_v19 = tCr (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf, id]
  simp -implicitDefEqProofs only [StableHlo.TRef.toBuf, StableHlo.TRef.ofBuf, cast_cast, cast_eq]
  unfold tCr wh tk32 okIdx fixIdx ang32 litI
  rfl

set_option maxHeartbeats 1000000 in
/-- The same of the second table. -/
theorem V24 (c : Dev nD) : V m c main_v24 = tSr (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf, id]
  simp -implicitDefEqProofs only [StableHlo.TRef.toBuf, StableHlo.TRef.ofBuf, cast_cast, cast_eq]
  unfold tSr sg wh tk32 okIdx fixIdx ang32 litI litF
  rfl

set_option maxHeartbeats 1000000 in
/-- The same of the third table. -/
theorem V42 (c : Dev nD) : V m c main_v42 = tCm (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf, id]
  simp -implicitDefEqProofs only [StableHlo.TRef.toBuf, StableHlo.TRef.ofBuf, cast_cast, cast_eq]
  unfold tCm wh tk16 okIdx fixIdx ang16 litI
  rfl

set_option maxHeartbeats 1000000 in
/-- The same of the fourth table. -/
theorem V47 (c : Dev nD) : V m c main_v47 = tSm (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  simp only [StableHlo.TRef.ofBuf_toBuf, id]
  simp -implicitDefEqProofs only [StableHlo.TRef.toBuf, StableHlo.TRef.ofBuf, cast_cast, cast_eq]
  unfold tSm sg wh tk16 okIdx fixIdx ang16 litI litF
  rfl

end Cert.Kernel3Ideal.Inp
-- ==== Proof.Inp.Tab.lean ====
module

public import proofs.«01_k».proof.Proof.Inp.Host
public import Idealize.ShloMosaic.Lib.ReduceAll

@[expose] public section

set_option maxRecDepth 16384

noncomputable section

namespace Cert.Kernel3Ideal.Inp

open Idealize.ShloMosaic Idealize.ShloMosaic.TcCoe Idealize.ShloMosaic.Tactic
open Cert.Kernel3Ideal.Gen

/-- A gather along the last axis, at a lane whose index is known: 32 angles. -/
theorem gather32_apply (x : FVec Ideal S4x8192x32 .f32) (ix : IVec S128x1 32) (b : Fin 4) (s : Fin 8192) (l : Fin 128)
    (k : Fin 32) (hk : min (ix (ix2 l 0)).toInt.toNat 31 = k.val) :
    Host.gather gather_S4x8192x32_S128x1_S4x8192x128_01_2_n_n_2_1_481921 x ix (ix3 b s l) = x (ix3 b s k) := by
  unfold Host.gather
  congr 1
  funext a
  refine Fin.ext ?_
  set d := gather_S4x8192x32_S128x1_S4x8192x128_01_2_n_n_2_1_481921
  show d.start (ix3 b s l) ix a + d.batchCoord (ix3 b s l) a + d.offCoord (ix3 b s l) a = _
  rw [GatherDims.batchCoord_eq_zero _ _ _ List.not_mem_nil]
  fin_cases a
  · have h0 : d.start (ix3 b s l) ix 0 = 0 := by
      unfold GatherDims.start
      rw [dif_neg (by decide)]
    show d.start (ix3 b s l) ix 0 + 0 + d.offCoord (ix3 b s l) 0 = b.val
    simp only [h0, Nat.zero_add, Nat.add_zero]
    rfl
  · have h0 : d.start (ix3 b s l) ix 1 = 0 := by
      unfold GatherDims.start
      rw [dif_neg (by decide)]
    show d.start (ix3 b s l) ix 1 + 0 + d.offCoord (ix3 b s l) 1 = s.val
    simp only [h0, Nat.zero_add, Nat.add_zero]
    rfl
  · show d.start (ix3 b s l) ix 2 + 0 + d.offCoord (ix3 b s l) 2 = k.val
    rw [GatherDims.offCoord_eq_zero _ _ _ (fun h => ((GatherDims.mem_sKept _ _).mp h).1 (List.mem_singleton.mpr rfl)), ← hk]
    unfold GatherDims.start
    rw [dif_pos (show (2 : Fin 3) ∈ d.startIndexMap from List.mem_singleton.mpr rfl)]
    have hsi : d.siIdx (ix3 b s l) ⟨List.idxOf (2 : Fin 3) d.startIndexMap,
        List.idxOf_lt_length_iff.2 (List.mem_singleton.mpr rfl)⟩ = ix2 l 0 := by
      funext a; refine Fin.ext ?_
      match a with
      | ⟨0, _⟩ => rfl
      | ⟨1, _⟩ => rfl
    rw [hsi]
    rfl

/-- The same for 16 angles. -/
theorem gather16_apply (x : FVec Ideal S4x8192x16 .f32) (ix : IVec S128x1 32) (b : Fin 4) (s : Fin 8192) (l : Fin 128)
    (k : Fin 16) (hk : min (ix (ix2 l 0)).toInt.toNat 15 = k.val) :
    Host.gather gather_S4x8192x16_S128x1_S4x8192x128_01_2_n_n_2_1_481921 x ix (ix3 b s l) = x (ix3 b s k) := by
  unfold Host.gather
  congr 1
  funext a
  refine Fin.ext ?_
  set d := gather_S4x8192x16_S128x1_S4x8192x128_01_2_n_n_2_1_481921
  show d.start (ix3 b s l) ix a + d.batchCoord (ix3 b s l) a + d.offCoord (ix3 b s l) a = _
  rw [GatherDims.batchCoord_eq_zero _ _ _ List.not_mem_nil]
  fin_cases a
  · have h0 : d.start (ix3 b s l) ix 0 = 0 := by
      unfold GatherDims.start
      rw [dif_neg (by decide)]
    show d.start (ix3 b s l) ix 0 + 0 + d.offCoord (ix3 b s l) 0 = b.val
    simp only [h0, Nat.zero_add, Nat.add_zero]
    rfl
  · have h0 : d.start (ix3 b s l) ix 1 = 0 := by
      unfold GatherDims.start
      rw [dif_neg (by decide)]
    show d.start (ix3 b s l) ix 1 + 0 + d.offCoord (ix3 b s l) 1 = s.val
    simp only [h0, Nat.zero_add, Nat.add_zero]
    rfl
  · show d.start (ix3 b s l) ix 2 + 0 + d.offCoord (ix3 b s l) 2 = k.val
    rw [GatherDims.offCoord_eq_zero _ _ _ (fun h => ((GatherDims.mem_sKept _ _).mp h).1 (List.mem_singleton.mpr rfl)), ← hk]
    unfold GatherDims.start
    rw [dif_pos (show (2 : Fin 3) ∈ d.startIndexMap from List.mem_singleton.mpr rfl)]
    have hsi : d.siIdx (ix3 b s l) ⟨List.idxOf (2 : Fin 3) d.startIndexMap,
        List.idxOf_lt_length_iff.2 (List.mem_singleton.mpr rfl)⟩ = ix2 l 0 := by
      funext a; refine Fin.ext ?_
      match a with
      | ⟨0, _⟩ => rfl
      | ⟨1, _⟩ => rfl
    rw [hsi]
    rfl

/-- The place of a lane in an array of 128. -/
theorem rm (l : Fin 128) : S128.rowMajor (ix1 l) = l := by
  apply Fin.ext
  exact Shape.rowMajor_val_one _

/-- A choice by a bit. -/
theorem sel_bit {α : Type} (c : BitVec 1) (a b : α) : Scalar.select c a b = if c = 1#1 then a else b := rfl

/-- The index of a lane: its place in a half of 32. -/
theorem fix32_apply (i : S128x1.Idx) : fixIdx 32#32 (litI lit0) i = BitVec.ofNat 32 ((i 0).val % 32) := by
  obtain ⟨l, q, rfl⟩ : ∃ (l : Fin 128) (q : Fin 1), i = ix2 l q := ⟨i 0, i 1, eq_ix2 i⟩
  have e : ∀ l : Fin 128, Scalar.select (IntOp.cmpi CmpIPredicate.slt (lit0 l) 0#32) (IntOp.addi (lit0 l) 32#32) (lit0 l) = BitVec.ofNat 32 (l.val % 32) := by
    decide +kernel
  refine Eq.trans ?_ (e l)
  have hr := rm l
  pointwise [fixIdx, litI, hr]

/-- No index is out of range. -/
theorem ok32_apply (l : Fin 128) : okIdx 31#32 (fixIdx 32#32 (litI lit0)) (ix1 l) = 1#1 := by
  unfold okIdx
  refine Host.reduce_andi_one _ _ _ _ _ rfl fun i => ?_
  obtain ⟨l, q, rfl⟩ : ∃ (l : Fin 128) (q : Fin 1), i = ix2 l q := ⟨i 0, i 1, eq_ix2 i⟩
  have e : ∀ l : Fin 128, IntOp.andi (IntOp.cmpi .sge (BitVec.ofNat 32 (l.val % 32)) 0#32) (IntOp.cmpi .sle (BitVec.ofNat 32 (l.val % 32)) 31#32) = 1#1 := by
    decide +kernel
  refine Eq.trans ?_ (e l)
  have h := fix32_apply (ix2 l q)
  generalize fixIdx 32#32 (litI lit0) = X at h
  pointwise [h]

/-- The entry taken at a lane, of 32. -/
theorem tk32_apply (x : FVec Ideal S4x8192x32 .f32) (b : Fin 4) (s : Fin 8192) (l : Fin 128) :
    tk32 x (litI lit0) (ix3 b s l) = x (ix3 b s ⟨l.val % 32, by omega⟩) := by
  have e : ∀ l : Fin 128, min (BitVec.ofNat 32 (l.val % 32)).toInt.toNat 31 = l.val % 32 := by decide +kernel
  have hg := gather32_apply x (fixIdx 32#32 (litI lit0)) b s l ⟨l.val % 32, by omega⟩ (by rw [fix32_apply]; exact e l)
  have ho := ok32_apply l
  unfold tk32
  generalize okIdx 31#32 (fixIdx 32#32 (litI lit0)) = O at ho ⊢
  generalize Host.gather gather_S4x8192x32_S128x1_S4x8192x128_01_2_n_n_2_1_481921 x (fixIdx 32#32 (litI lit0)) = G at hg ⊢
  rw [← hg]
  pointwise [ho]

/-- The angle of lane `k` of the 64-wide embedding at position `x`. -/
def th32 (x : BitVec 32) (k : ℕ) : Ideal .f32 :=
  (FloatOps.sitofp .f32 x : Ideal .f32) * Ideal.pow (Ideal.ofBits .f32 1176256512#32)
    (Ideal.div (-(Ideal.ofBits .f32 1073741824#32 * (FloatOps.sitofp .f32 (BitVec.ofNat 32 k) : Ideal .f32))) (Ideal.ofBits .f32 1115684864#32))

/-- The angle, of 32. -/
theorem ang32_apply (p : IVec S4x8192 32) (b : Fin 4) (s : Fin 8192) (k : Fin 32) : ang32 p (ix3 b s k) = th32 (p (ix2 b s)) k.val := by
  pointwise [ang32, th32]

/-- The index of a lane: its place in a half of 16. -/
theorem fix16_apply (i : S128x1.Idx) : fixIdx 16#32 (litI lit2) i = BitVec.ofNat 32 ((i 0).val % 16) := by
  obtain ⟨l, q, rfl⟩ : ∃ (l : Fin 128) (q : Fin 1), i = ix2 l q := ⟨i 0, i 1, eq_ix2 i⟩
  have e : ∀ l : Fin 128, Scalar.select (IntOp.cmpi CmpIPredicate.slt (lit2 l) 0#32) (IntOp.addi (lit2 l) 16#32) (lit2 l) = BitVec.ofNat 32 (l.val % 16) := by
    decide +kernel
  refine Eq.trans ?_ (e l)
  have hr := rm l
  pointwise [fixIdx, litI, hr]

/-- No index is out of range. -/
theorem ok16_apply (l : Fin 128) : okIdx 15#32 (fixIdx 16#32 (litI lit2)) (ix1 l) = 1#1 := by
  unfold okIdx
  refine Host.reduce_andi_one _ _ _ _ _ rfl fun i => ?_
  obtain ⟨l, q, rfl⟩ : ∃ (l : Fin 128) (q : Fin 1), i = ix2 l q := ⟨i 0, i 1, eq_ix2 i⟩
  have e : ∀ l : Fin 128, IntOp.andi (IntOp.cmpi .sge (BitVec.ofNat 32 (l.val % 16)) 0#32) (IntOp.cmpi .sle (BitVec.ofNat 32 (l.val % 16)) 15#32) = 1#1 := by
    decide +kernel
  refine Eq.trans ?_ (e l)
  have h := fix16_apply (ix2 l q)
  generalize fixIdx 16#32 (litI lit2) = X at h
  pointwise [h]

/-- The entry taken at a lane, of 16. -/
theorem tk16_apply (x : FVec Ideal S4x8192x16 .f32) (b : Fin 4) (s : Fin 8192) (l : Fin 128) :
    tk16 x (litI lit2) (ix3 b s l) = x (ix3 b s ⟨l.val % 16, by omega⟩) := by
  have e : ∀ l : Fin 128, min (BitVec.ofNat 32 (l.val % 16)).toInt.toNat 15 = l.val % 16 := by decide +kernel
  have hg := gather16_apply x (fixIdx 16#32 (litI lit2)) b s l ⟨l.val % 16, by omega⟩ (by rw [fix16_apply]; exact e l)
  have ho := ok16_apply l
  unfold tk16
  generalize okIdx 15#32 (fixIdx 16#32 (litI lit2)) = O at ho ⊢
  generalize Host.gather gather_S4x8192x16_S128x1_S4x8192x128_01_2_n_n_2_1_481921 x (fixIdx 16#32 (litI lit2)) = G at hg ⊢
  rw [← hg]
  pointwise [ho]

/-- The angle of lane `k` of the 32-wide embedding at position `x`. -/
def th16 (x : BitVec 32) (k : ℕ) : Ideal .f32 :=
  (FloatOps.sitofp .f32 x : Ideal .f32) * Ideal.pow (Ideal.ofBits .f32 1176256512#32)
    (Ideal.div (-(Ideal.ofBits .f32 1073741824#32 * (FloatOps.sitofp .f32 (BitVec.ofNat 32 k) : Ideal .f32))) (Ideal.ofBits .f32 1107296256#32))

/-- The angle, of 16. -/
theorem ang16_apply (p : IVec S4x8192 32) (b : Fin 4) (s : Fin 8192) (k : Fin 16) : ang16 p (ix3 b s k) = th16 (p (ix2 b s)) k.val := by
  pointwise [ang16, th16]

/-- The word of minus one. -/
theorem ofBits_neg1 : Ideal.ofBits .f32 3212836864#32 = -1 :=
  IdealRules.sign_bit.ideal_negOnePat .f32
/-- The word of one. -/
theorem ofBits_pos1 : Ideal.ofBits .f32 1065353216#32 = 1 :=
  IdealRules.sign_bit.ideal_onePat .f32

/-- A table of signs, at a lane. -/
theorem sign_apply (lit : Fin 128 → BitVec 32) (P : Fin 128 → Prop) [DecidablePred P]
    (e : ∀ l, lit l = if P l then 3212836864#32 else 1065353216#32) (l : Fin 128) :
    litF lit (ix1 l) = if P l then -1 else 1 := by
  show Ideal.ofBits .f32 (lit (S128.rowMajor (ix1 l))) = _
  rw [rm, e]
  split
  · exact ofBits_neg1
  · exact ofBits_pos1

/-- The signs of the halves of 32. -/
theorem lit1_apply (l : Fin 128) : litF lit1 (ix1 l) = if l.val % 64 < 32 then -1 else 1 :=
  sign_apply lit1 (fun l => l.val % 64 < 32) (by decide +kernel) l

/-- The signs of the lanes before and from 80. -/
theorem lit4_apply (l : Fin 128) : litF lit4 (ix1 l) = if l.val < 80 then -1 else 1 :=
  sign_apply lit4 (fun l => l.val < 80) (by decide +kernel) l

/-- The lanes that the attention rotates. -/
theorem lit3_apply (l : Fin 128) : litI lit3 (ix1 l) = if 64 ≤ l.val ∧ l.val < 96 then 1#1 else 0#1 := by
  have e : ∀ l : Fin 128, lit3 l = if 64 ≤ l.val ∧ l.val < 96 then 1#1 else 0#1 := by decide +kernel
  show lit3 (S128.rowMajor (ix1 l)) = _
  rw [rm, e]

/-- The first table, at a row and lane. -/
theorem tCr_apply (p : IVec S4x8192 32) (b : Fin 4) (s : Fin 8192) (l : Fin 128) :
    tCr p (ix3 b s l) = Ideal.cos (th32 (p (ix2 b s)) (l.val % 32)) := by
  have h := tk32_apply (Host.cos (ang32 p)) b s l
  unfold tCr wh
  generalize tk32 (Host.cos (ang32 p)) (litI lit0) = T at h ⊢
  have ha := ang32_apply p b s ⟨l.val % 32, by omega⟩
  generalize ang32 p = A at h ha
  pointwise [h, ha]

/-- The second table, at a row and lane. -/
theorem tSr_apply (p : IVec S4x8192 32) (b : Fin 4) (s : Fin 8192) (l : Fin 128) :
    tSr p (ix3 b s l) = Ideal.sin (th32 (p (ix2 b s)) (l.val % 32)) * (if l.val % 64 < 32 then -1 else 1) := by
  have h := tk32_apply (Host.sin (ang32 p)) b s l
  have hs := lit1_apply l
  unfold tSr sg wh
  generalize tk32 (Host.sin (ang32 p)) (litI lit0) = T at h ⊢
  have ha := ang32_apply p b s ⟨l.val % 32, by omega⟩
  generalize ang32 p = A at h ha
  generalize litF lit1 = L at hs ⊢
  pointwise [h, ha, hs]

/-- The third table, at a row and lane. -/
theorem tCm_apply (p : IVec S4x8192 32) (b : Fin 4) (s : Fin 8192) (l : Fin 128) :
    tCm p (ix3 b s l) = if 64 ≤ l.val ∧ l.val < 96 then Ideal.cos (th16 (p (ix2 b s)) (l.val % 16)) else 1 := by
  have h := tk16_apply (Host.cos (ang16 p)) b s l
  have hm := lit3_apply l
  unfold tCm wh
  generalize tk16 (Host.cos (ang16 p)) (litI lit2) = T at h ⊢
  have ha := ang16_apply p b s ⟨l.val % 16, by omega⟩
  generalize ang16 p = A at h ha
  generalize litI lit3 = M at hm ⊢
  split at hm <;> rename_i hc
  · rw [if_pos hc]
    pointwise [h, ha, hm]
  · rw [if_neg hc]
    pointwise [hm]

/-- The fourth table, at a row and lane. -/
theorem tSm_apply (p : IVec S4x8192 32) (b : Fin 4) (s : Fin 8192) (l : Fin 128) :
    tSm p (ix3 b s l) = (if 64 ≤ l.val ∧ l.val < 96 then Ideal.sin (th16 (p (ix2 b s)) (l.val % 16)) else 0) * (if l.val < 80 then -1 else 1) := by
  have h := tk16_apply (Host.sin (ang16 p)) b s l
  have hm := lit3_apply l
  have hs := lit4_apply l
  unfold tSm sg wh
  generalize tk16 (Host.sin (ang16 p)) (litI lit2) = T at h ⊢
  have ha := ang16_apply p b s ⟨l.val % 16, by omega⟩
  generalize ang16 p = A at h ha
  generalize litI lit3 = M at hm ⊢
  generalize litF lit4 = L at hs ⊢
  split at hm <;> rename_i hc
  · rw [if_pos hc]
    pointwise [h, ha, hm, hs]
  · rw [if_neg hc]
    pointwise [hm, hs]

end Cert.Kernel3Ideal.Inp
-- ==== Proof.Inp.Result.lean ====
module

public import proofs.«01_k».proof.Proof.Inp.Out
public import proofs.«01_k».proof.Proof.Inp.Tab

@[expose] public section

set_option maxRecDepth 16384

noncomputable section

namespace Cert.Kernel3Ideal.Inp

open Idealize.ShloMosaic Idealize.ShloMosaic.TcCoe Idealize.ShloMosaic.Tactic
open Cert.Kernel3Ideal.Gen

/-! ## The functions of the arrays -/

section
variable (A0 : Vec Ideal S4x8192x1024 .f32) (A1 : IVec S4x8192 32) (A2 : Vec Ideal S1x1024 .f32) (A3 : Vec Ideal S1024x2560 .bf16)
  (A4 : Vec Ideal S1x256 .f32) (A5 : Vec Ideal S256x1024 .bf16) (A6 : Vec Ideal S1x128 .f32) (A7 : Vec Ideal S128x1024 .bf16)
  (A8 : Vec Ideal S128x512 .bf16)

/-- A row of the input. -/
abbrev xr (b : Fin 4) (s : Fin 8192) : Fin 1024 → Ideal .f32 := fun d => A0 (ix3 b s d)
/-- The tables at a row. -/
abbrev cr (b : Fin 4) (s : Fin 8192) : Fin 128 → Ideal .f32 := fun l => tCr A1 (ix3 b s l)
abbrev sr (b : Fin 4) (s : Fin 8192) : Fin 128 → Ideal .f32 := fun l => tSr A1 (ix3 b s l)
abbrev cm (b : Fin 4) (s : Fin 8192) : Fin 128 → Ideal .f32 := fun l => tCm A1 (ix3 b s l)
abbrev sm (b : Fin 4) (s : Fin 8192) : Fin 128 → Ideal .f32 := fun l => tSm A1 (ix3 b s l)

/-- The retention's queries, keys, values and gates; the attention's queries, keys and values. -/
def gRq : Vec Ideal S4x8192x512 .bf16 := fun j => rqR (xr A0 (j 0) (j 1)) (cr A1 (j 0) (j 1)) (sr A1 (j 0) (j 1)) A2 A3 (j 2)
/-- The retention's keys. -/
def gRk : Vec Ideal S4x8192x512 .bf16 := fun j => rkR (xr A0 (j 0) (j 1)) (cr A1 (j 0) (j 1)) (sr A1 (j 0) (j 1)) A2 A3 (j 2)
/-- The retention's values. -/
def gRv : Vec Ideal S4x8192x512 .bf16 := fun j => pR (xr A0 (j 0) (j 1)) A2 A3 (vcol (j 2))
/-- The retention's gate. -/
def gRg : Vec Ideal S4x8192x512 .f32 := fun j => pR (xr A0 (j 0) (j 1)) A2 A3 (gcol (j 2))
/-- The attention's queries. -/
def gQ : Vec Ideal S4x8192x1024 .bf16 := fun j => qR (xr A0 (j 0) (j 1)) (cm A1 (j 0) (j 1)) (sm A1 (j 0) (j 1)) A2 A3 A4 A5 (j 2)
/-- The attention's keys. -/
def gK : Vec Ideal S4x8192x1024 .bf16 := fun j => kR (xr A0 (j 0) (j 1)) (cm A1 (j 0) (j 1)) (sm A1 (j 0) (j 1)) A2 A3 A6 A7 (j 2)
/-- The attention's values. -/
def gV : Vec Ideal S4x8192x512 .bf16 := fun j => vR (xr A0 (j 0) (j 1)) A2 A3 A6 A8 (j 2)

/-- Row `r` of block `i`. -/
def row (i : Fin 16) (r : Fin 512) : Fin 8192 := ⟨512 * i.val + r.val, by have := i.isLt; have := r.isLt; omega⟩

/-- Block `i` of the retention's queries, from what the body stores there. -/
theorem blk12
    (x0 : Vec Ideal S1x512x1024 .f32) (x1 x2 x3 x4 : Vec Ideal S1x512x128 .f32) (x5 : Vec Ideal S1x1024 .f32) (x6 : Vec Ideal S1024x2560 .bf16)
    (x7 : Vec Ideal S1x256 .f32) (x8 : Vec Ideal S256x1024 .bf16) (x9 : Vec Ideal S1x128 .f32) (x10 : Vec Ideal S128x1024 .bf16) (x11 : Vec Ideal S128x512 .bf16)
    (b : Fin 4) (i : Fin 16) (h0 : ∀ r d, x0 (ix3 0 r d) = A0 (ix3 b (row i r) d)) (h1 : ∀ r l, x1 (ix3 0 r l) = tCr A1 (ix3 b (row i r) l))
    (h2 : ∀ r l, x2 (ix3 0 r l) = tSr A1 (ix3 b (row i r) l)) (h3 : ∀ r l, x3 (ix3 0 r l) = tCm A1 (ix3 b (row i r) l))
    (h4 : ∀ r l, x4 (ix3 0 r l) = tSm A1 (ix3 b (row i r) l)) (h5 : x5 = A2) (h6 : x6 = A3) (h7 : x7 = A4) (h8 : x8 = A5)
    (h9 : x9 = A6) (h10 : x10 = A7) (h11 : x11 = A8)
    (r : Fin 512) (j : Fin 512) : out0_12 x0 x1 x2 x3 x4 x5 x6 x7 x8 x9 x10 x11 (ix3 0 r j) = gRq A0 A1 A2 A3 (ix3 b (row i r) j) := by
  subst h5 h6 h7 h8 h9 h10 h11
  have e0 : rw0 x0 r = xr A0 b (row i r) := funext (h0 r)
  have e1 : rwT x1 r = cr A1 b (row i r) := funext (h1 r)
  have e2 : rwT x2 r = sr A1 b (row i r) := funext (h2 r)
  have e3 : rwT x3 r = cm A1 b (row i r) := funext (h3 r)
  have e4 : rwT x4 r = sm A1 b (row i r) := funext (h4 r)
  rw [out12, e0, e1, e2]
  rfl

/-- Block `i` of the retention's keys, from what the body stores there. -/
theorem blk13
    (x0 : Vec Ideal S1x512x1024 .f32) (x1 x2 x3 x4 : Vec Ideal S1x512x128 .f32) (x5 : Vec Ideal S1x1024 .f32) (x6 : Vec Ideal S1024x2560 .bf16)
    (x7 : Vec Ideal S1x256 .f32) (x8 : Vec Ideal S256x1024 .bf16) (x9 : Vec Ideal S1x128 .f32) (x10 : Vec Ideal S128x1024 .bf16) (x11 : Vec Ideal S128x512 .bf16)
    (b : Fin 4) (i : Fin 16) (h0 : ∀ r d, x0 (ix3 0 r d) = A0 (ix3 b (row i r) d)) (h1 : ∀ r l, x1 (ix3 0 r l) = tCr A1 (ix3 b (row i r) l))
    (h2 : ∀ r l, x2 (ix3 0 r l) = tSr A1 (ix3 b (row i r) l)) (h3 : ∀ r l, x3 (ix3 0 r l) = tCm A1 (ix3 b (row i r) l))
    (h4 : ∀ r l, x4 (ix3 0 r l) = tSm A1 (ix3 b (row i r) l)) (h5 : x5 = A2) (h6 : x6 = A3) (h7 : x7 = A4) (h8 : x8 = A5)
    (h9 : x9 = A6) (h10 : x10 = A7) (h11 : x11 = A8)
    (r : Fin 512) (j : Fin 512) : out0_13 x0 x1 x2 x3 x4 x5 x6 x7 x8 x9 x10 x11 (ix3 0 r j) = gRk A0 A1 A2 A3 (ix3 b (row i r) j) := by
  subst h5 h6 h7 h8 h9 h10 h11
  have e0 : rw0 x0 r = xr A0 b (row i r) := funext (h0 r)
  have e1 : rwT x1 r = cr A1 b (row i r) := funext (h1 r)
  have e2 : rwT x2 r = sr A1 b (row i r) := funext (h2 r)
  have e3 : rwT x3 r = cm A1 b (row i r) := funext (h3 r)
  have e4 : rwT x4 r = sm A1 b (row i r) := funext (h4 r)
  rw [out13, e0, e1, e2]
  rfl

/-- Block `i` of the retention's values, from what the body stores there. -/
theorem blk14
    (x0 : Vec Ideal S1x512x1024 .f32) (x1 x2 x3 x4 : Vec Ideal S1x512x128 .f32) (x5 : Vec Ideal S1x1024 .f32) (x6 : Vec Ideal S1024x2560 .bf16)
    (x7 : Vec Ideal S1x256 .f32) (x8 : Vec Ideal S256x1024 .bf16) (x9 : Vec Ideal S1x128 .f32) (x10 : Vec Ideal S128x1024 .bf16) (x11 : Vec Ideal S128x512 .bf16)
    (b : Fin 4) (i : Fin 16) (h0 : ∀ r d, x0 (ix3 0 r d) = A0 (ix3 b (row i r) d)) (h1 : ∀ r l, x1 (ix3 0 r l) = tCr A1 (ix3 b (row i r) l))
    (h2 : ∀ r l, x2 (ix3 0 r l) = tSr A1 (ix3 b (row i r) l)) (h3 : ∀ r l, x3 (ix3 0 r l) = tCm A1 (ix3 b (row i r) l))
    (h4 : ∀ r l, x4 (ix3 0 r l) = tSm A1 (ix3 b (row i r) l)) (h5 : x5 = A2) (h6 : x6 = A3) (h7 : x7 = A4) (h8 : x8 = A5)
    (h9 : x9 = A6) (h10 : x10 = A7) (h11 : x11 = A8)
    (r : Fin 512) (j : Fin 512) : out0_14 x0 x1 x2 x3 x4 x5 x6 x7 x8 x9 x10 x11 (ix3 0 r j) = gRv A0 A2 A3 (ix3 b (row i r) j) := by
  subst h5 h6 h7 h8 h9 h10 h11
  have e0 : rw0 x0 r = xr A0 b (row i r) := funext (h0 r)
  have e1 : rwT x1 r = cr A1 b (row i r) := funext (h1 r)
  have e2 : rwT x2 r = sr A1 b (row i r) := funext (h2 r)
  have e3 : rwT x3 r = cm A1 b (row i r) := funext (h3 r)
  have e4 : rwT x4 r = sm A1 b (row i r) := funext (h4 r)
  rw [out14, e0]
  rfl

/-- Block `i` of the retention's gate, from what the body stores there. -/
theorem blk15
    (x0 : Vec Ideal S1x512x1024 .f32) (x1 x2 x3 x4 : Vec Ideal S1x512x128 .f32) (x5 : Vec Ideal S1x1024 .f32) (x6 : Vec Ideal S1024x2560 .bf16)
    (x7 : Vec Ideal S1x256 .f32) (x8 : Vec Ideal S256x1024 .bf16) (x9 : Vec Ideal S1x128 .f32) (x10 : Vec Ideal S128x1024 .bf16) (x11 : Vec Ideal S128x512 .bf16)
    (b : Fin 4) (i : Fin 16) (h0 : ∀ r d, x0 (ix3 0 r d) = A0 (ix3 b (row i r) d)) (h1 : ∀ r l, x1 (ix3 0 r l) = tCr A1 (ix3 b (row i r) l))
    (h2 : ∀ r l, x2 (ix3 0 r l) = tSr A1 (ix3 b (row i r) l)) (h3 : ∀ r l, x3 (ix3 0 r l) = tCm A1 (ix3 b (row i r) l))
    (h4 : ∀ r l, x4 (ix3 0 r l) = tSm A1 (ix3 b (row i r) l)) (h5 : x5 = A2) (h6 : x6 = A3) (h7 : x7 = A4) (h8 : x8 = A5)
    (h9 : x9 = A6) (h10 : x10 = A7) (h11 : x11 = A8)
    (r : Fin 512) (j : Fin 512) : out0_15 x0 x1 x2 x3 x4 x5 x6 x7 x8 x9 x10 x11 (ix3 0 r j) = gRg A0 A2 A3 (ix3 b (row i r) j) := by
  subst h5 h6 h7 h8 h9 h10 h11
  have e0 : rw0 x0 r = xr A0 b (row i r) := funext (h0 r)
  have e1 : rwT x1 r = cr A1 b (row i r) := funext (h1 r)
  have e2 : rwT x2 r = sr A1 b (row i r) := funext (h2 r)
  have e3 : rwT x3 r = cm A1 b (row i r) := funext (h3 r)
  have e4 : rwT x4 r = sm A1 b (row i r) := funext (h4 r)
  rw [out15, e0]
  rfl

/-- Block `i` of the attention's queries, from what the body stores there. -/
theorem blk16
    (x0 : Vec Ideal S1x512x1024 .f32) (x1 x2 x3 x4 : Vec Ideal S1x512x128 .f32) (x5 : Vec Ideal S1x1024 .f32) (x6 : Vec Ideal S1024x2560 .bf16)
    (x7 : Vec Ideal S1x256 .f32) (x8 : Vec Ideal S256x1024 .bf16) (x9 : Vec Ideal S1x128 .f32) (x10 : Vec Ideal S128x1024 .bf16) (x11 : Vec Ideal S128x512 .bf16)
    (b : Fin 4) (i : Fin 16) (h0 : ∀ r d, x0 (ix3 0 r d) = A0 (ix3 b (row i r) d)) (h1 : ∀ r l, x1 (ix3 0 r l) = tCr A1 (ix3 b (row i r) l))
    (h2 : ∀ r l, x2 (ix3 0 r l) = tSr A1 (ix3 b (row i r) l)) (h3 : ∀ r l, x3 (ix3 0 r l) = tCm A1 (ix3 b (row i r) l))
    (h4 : ∀ r l, x4 (ix3 0 r l) = tSm A1 (ix3 b (row i r) l)) (h5 : x5 = A2) (h6 : x6 = A3) (h7 : x7 = A4) (h8 : x8 = A5)
    (h9 : x9 = A6) (h10 : x10 = A7) (h11 : x11 = A8)
    (r : Fin 512) (j : Fin 1024) : out0_16 x0 x1 x2 x3 x4 x5 x6 x7 x8 x9 x10 x11 (ix3 0 r j) = gQ A0 A1 A2 A3 A4 A5 (ix3 b (row i r) j) := by
  subst h5 h6 h7 h8 h9 h10 h11
  have e0 : rw0 x0 r = xr A0 b (row i r) := funext (h0 r)
  have e1 : rwT x1 r = cr A1 b (row i r) := funext (h1 r)
  have e2 : rwT x2 r = sr A1 b (row i r) := funext (h2 r)
  have e3 : rwT x3 r = cm A1 b (row i r) := funext (h3 r)
  have e4 : rwT x4 r = sm A1 b (row i r) := funext (h4 r)
  rw [out16, e0, e3, e4]
  rfl

/-- Block `i` of the attention's keys, from what the body stores there. -/
theorem blk17
    (x0 : Vec Ideal S1x512x1024 .f32) (x1 x2 x3 x4 : Vec Ideal S1x512x128 .f32) (x5 : Vec Ideal S1x1024 .f32) (x6 : Vec Ideal S1024x2560 .bf16)
    (x7 : Vec Ideal S1x256 .f32) (x8 : Vec Ideal S256x1024 .bf16) (x9 : Vec Ideal S1x128 .f32) (x10 : Vec Ideal S128x1024 .bf16) (x11 : Vec Ideal S128x512 .bf16)
    (b : Fin 4) (i : Fin 16) (h0 : ∀ r d, x0 (ix3 0 r d) = A0 (ix3 b (row i r) d)) (h1 : ∀ r l, x1 (ix3 0 r l) = tCr A1 (ix3 b (row i r) l))
    (h2 : ∀ r l, x2 (ix3 0 r l) = tSr A1 (ix3 b (row i r) l)) (h3 : ∀ r l, x3 (ix3 0 r l) = tCm A1 (ix3 b (row i r) l))
    (h4 : ∀ r l, x4 (ix3 0 r l) = tSm A1 (ix3 b (row i r) l)) (h5 : x5 = A2) (h6 : x6 = A3) (h7 : x7 = A4) (h8 : x8 = A5)
    (h9 : x9 = A6) (h10 : x10 = A7) (h11 : x11 = A8)
    (r : Fin 512) (j : Fin 1024) : out0_17 x0 x1 x2 x3 x4 x5 x6 x7 x8 x9 x10 x11 (ix3 0 r j) = gK A0 A1 A2 A3 A6 A7 (ix3 b (row i r) j) := by
  subst h5 h6 h7 h8 h9 h10 h11
  have e0 : rw0 x0 r = xr A0 b (row i r) := funext (h0 r)
  have e1 : rwT x1 r = cr A1 b (row i r) := funext (h1 r)
  have e2 : rwT x2 r = sr A1 b (row i r) := funext (h2 r)
  have e3 : rwT x3 r = cm A1 b (row i r) := funext (h3 r)
  have e4 : rwT x4 r = sm A1 b (row i r) := funext (h4 r)
  rw [out17, e0, e3, e4]
  rfl

/-- Block `i` of the attention's values, from what the body stores there. -/
theorem blk18
    (x0 : Vec Ideal S1x512x1024 .f32) (x1 x2 x3 x4 : Vec Ideal S1x512x128 .f32) (x5 : Vec Ideal S1x1024 .f32) (x6 : Vec Ideal S1024x2560 .bf16)
    (x7 : Vec Ideal S1x256 .f32) (x8 : Vec Ideal S256x1024 .bf16) (x9 : Vec Ideal S1x128 .f32) (x10 : Vec Ideal S128x1024 .bf16) (x11 : Vec Ideal S128x512 .bf16)
    (b : Fin 4) (i : Fin 16) (h0 : ∀ r d, x0 (ix3 0 r d) = A0 (ix3 b (row i r) d)) (h1 : ∀ r l, x1 (ix3 0 r l) = tCr A1 (ix3 b (row i r) l))
    (h2 : ∀ r l, x2 (ix3 0 r l) = tSr A1 (ix3 b (row i r) l)) (h3 : ∀ r l, x3 (ix3 0 r l) = tCm A1 (ix3 b (row i r) l))
    (h4 : ∀ r l, x4 (ix3 0 r l) = tSm A1 (ix3 b (row i r) l)) (h5 : x5 = A2) (h6 : x6 = A3) (h7 : x7 = A4) (h8 : x8 = A5)
    (h9 : x9 = A6) (h10 : x10 = A7) (h11 : x11 = A8)
    (r : Fin 512) (j : Fin 512) : out0_18 x0 x1 x2 x3 x4 x5 x6 x7 x8 x9 x10 x11 (ix3 0 r j) = gV A0 A2 A3 A6 A8 (ix3 b (row i r) j) := by
  subst h5 h6 h7 h8 h9 h10 h11
  have e0 : rw0 x0 r = xr A0 b (row i r) := funext (h0 r)
  have e1 : rwT x1 r = cr A1 b (row i r) := funext (h1 r)
  have e2 : rwT x2 r = sr A1 b (row i r) := funext (h2 r)
  have e3 : rwT x3 r = cm A1 b (row i r) := funext (h3 r)
  have e4 : rwT x4 r = sm A1 b (row i r) := funext (h4 r)
  rw [out18, e0]
  rfl

end

/-! ## The blocks at a point -/

section
variable (m : (ℓ : Loc nD τ sig) → Buf (Elt Ideal) ℓ) (ρ : Dev nD → PrngReg)

/-- The argument arrays. -/
abbrev B0 (c : Dev nD) : Vec Ideal S4x8192x1024 .f32 := m ((c : Thread nD τ).loc main_arg0)
abbrev B1 (c : Dev nD) : IVec S4x8192 32 := m ((c : Thread nD τ).loc main_arg1)
abbrev B2 (c : Dev nD) : Vec Ideal S1x1024 .f32 := m ((c : Thread nD τ).loc main_arg2)
abbrev B3 (c : Dev nD) : Vec Ideal S1024x2560 .bf16 := m ((c : Thread nD τ).loc main_arg3)
abbrev B4 (c : Dev nD) : Vec Ideal S1x256 .f32 := m ((c : Thread nD τ).loc main_arg4)
abbrev B5 (c : Dev nD) : Vec Ideal S256x1024 .bf16 := m ((c : Thread nD τ).loc main_arg5)
abbrev B6 (c : Dev nD) : Vec Ideal S1x128 .f32 := m ((c : Thread nD τ).loc main_arg6)
abbrev B7 (c : Dev nD) : Vec Ideal S128x1024 .bf16 := m ((c : Thread nD τ).loc main_arg7)
abbrev B8 (c : Dev nD) : Vec Ideal S128x512 .bf16 := m ((c : Thread nD τ).loc main_arg8)

/-- The batch and the block of rows at a point. -/
def ptB (t : Fin cfg0.N) : Fin 4 := ⟨t.val / 16, by have ht : t.val < 64 := lt_of_lt_of_eq t.isLt N_0; omega⟩
/-- The block of rows at a point. -/
def ptI (t : Fin cfg0.N) : Fin 16 := ⟨t.val % 16, by omega⟩

/-- The block indices of the windows at a point. -/
theorem idx : ∀ t : Fin cfg0.N, win0_0.index t = ![t.val / 16, t.val % 16, 0] ∧ win0_1.index t = ![t.val / 16, t.val % 16, 0] ∧ win0_2.index t = ![t.val / 16, t.val % 16, 0] ∧ win0_3.index t = ![t.val / 16, t.val % 16, 0] ∧ win0_4.index t = ![t.val / 16, t.val % 16, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val / 16, t.val % 16, 0] ∧ win0_13.index t = ![t.val / 16, t.val % 16, 0] ∧ win0_14.index t = ![t.val / 16, t.val % 16, 0] ∧ win0_15.index t = ![t.val / 16, t.val % 16, 0] ∧ win0_16.index t = ![t.val / 16, t.val % 16, 0] ∧ win0_17.index t = ![t.val / 16, t.val % 16, 0] ∧ win0_18.index t = ![t.val / 16, t.val % 16, 0] :=
  (by decide +kernel : ∀ t : Fin grid0.N, win0_0.index t = ![t.val / 16, t.val % 16, 0] ∧ win0_1.index t = ![t.val / 16, t.val % 16, 0] ∧ win0_2.index t = ![t.val / 16, t.val % 16, 0] ∧ win0_3.index t = ![t.val / 16, t.val % 16, 0] ∧ win0_4.index t = ![t.val / 16, t.val % 16, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val / 16, t.val % 16, 0] ∧ win0_13.index t = ![t.val / 16, t.val % 16, 0] ∧ win0_14.index t = ![t.val / 16, t.val % 16, 0] ∧ win0_15.index t = ![t.val / 16, t.val % 16, 0] ∧ win0_16.index t = ![t.val / 16, t.val % 16, 0] ∧ win0_17.index t = ![t.val / 16, t.val % 16, 0] ∧ win0_18.index t = ![t.val / 16, t.val % 16, 0])

/-- The block of the input that a point reads. -/
theorem blk_0 (c : Dev nD) (t : Fin cfg0.N) (r : Fin 512) (d : Fin 1024) :
    (iblk m c 0 t : Vec Ideal S1x512x1024 .f32) (ix3 0 r d) = B0 m c (ix3 (ptB t) (row (ptI t) r) d) := by
  unfold ptB ptI row B0
  blk_ext [iblk, V, idx t]

/-- The block of the first table that a point reads. -/
theorem blk_1 (c : Dev nD) (t : Fin cfg0.N) (r : Fin 512) (d : Fin 128) :
    (iblk m c 1 t : Vec Ideal S1x512x128 .f32) (ix3 0 r d) = tCr (B1 m c) (ix3 (ptB t) (row (ptI t) r) d) := by
  have e : V m c main_v19 (ix3 (ptB t) (row (ptI t) r) d) = tCr (B1 m c) (ix3 (ptB t) (row (ptI t) r) d) := congrFun (V19 m c) _
  rw [← e]
  unfold ptB ptI row
  blk_ext [iblk, idx t]

/-- The block of the second table that a point reads. -/
theorem blk_2 (c : Dev nD) (t : Fin cfg0.N) (r : Fin 512) (d : Fin 128) :
    (iblk m c 2 t : Vec Ideal S1x512x128 .f32) (ix3 0 r d) = tSr (B1 m c) (ix3 (ptB t) (row (ptI t) r) d) := by
  have e : V m c main_v24 (ix3 (ptB t) (row (ptI t) r) d) = tSr (B1 m c) (ix3 (ptB t) (row (ptI t) r) d) := congrFun (V24 m c) _
  rw [← e]
  unfold ptB ptI row
  blk_ext [iblk, idx t]

/-- The block of the third table that a point reads. -/
theorem blk_3 (c : Dev nD) (t : Fin cfg0.N) (r : Fin 512) (d : Fin 128) :
    (iblk m c 3 t : Vec Ideal S1x512x128 .f32) (ix3 0 r d) = tCm (B1 m c) (ix3 (ptB t) (row (ptI t) r) d) := by
  have e : V m c main_v42 (ix3 (ptB t) (row (ptI t) r) d) = tCm (B1 m c) (ix3 (ptB t) (row (ptI t) r) d) := congrFun (V42 m c) _
  rw [← e]
  unfold ptB ptI row
  blk_ext [iblk, idx t]

/-- The block of the fourth table that a point reads. -/
theorem blk_4 (c : Dev nD) (t : Fin cfg0.N) (r : Fin 512) (d : Fin 128) :
    (iblk m c 4 t : Vec Ideal S1x512x128 .f32) (ix3 0 r d) = tSm (B1 m c) (ix3 (ptB t) (row (ptI t) r) d) := by
  have e : V m c main_v47 (ix3 (ptB t) (row (ptI t) r) d) = tSm (B1 m c) (ix3 (ptB t) (row (ptI t) r) d) := congrFun (V47 m c) _
  rw [← e]
  unfold ptB ptI row
  blk_ext [iblk, idx t]

/-- Every point reads the whole of the first norm's weights. -/
theorem blk_5 (c : Dev nD) (t : Fin cfg0.N) : (iblk m c 5 t : Vec Ideal S1x1024 .f32) = B2 m c := by
  funext j
  obtain ⟨a, b, rfl⟩ : ∃ (a : Fin 1) (b : Fin 1024), j = ix2 a b := ⟨j 0, j 1, eq_ix2 j⟩
  unfold B2
  blk_ext [iblk, V, idx t]

/-- Every point reads the whole of the projection's weights. -/
theorem blk_6 (c : Dev nD) (t : Fin cfg0.N) : (iblk m c 6 t : Vec Ideal S1024x2560 .bf16) = B3 m c := by
  funext j
  obtain ⟨a, b, rfl⟩ : ∃ (a : Fin 1024) (b : Fin 2560), j = ix2 a b := ⟨j 0, j 1, eq_ix2 j⟩
  unfold B3
  blk_ext [iblk, V, idx t]

/-- Every point reads the whole of the query norm's weights. -/
theorem blk_7 (c : Dev nD) (t : Fin cfg0.N) : (iblk m c 7 t : Vec Ideal S1x256 .f32) = B4 m c := by
  funext j
  obtain ⟨a, b, rfl⟩ : ∃ (a : Fin 1) (b : Fin 256), j = ix2 a b := ⟨j 0, j 1, eq_ix2 j⟩
  unfold B4
  blk_ext [iblk, V, idx t]

/-- Every point reads the whole of the query weights. -/
theorem blk_8 (c : Dev nD) (t : Fin cfg0.N) : (iblk m c 8 t : Vec Ideal S256x1024 .bf16) = B5 m c := by
  funext j
  obtain ⟨a, b, rfl⟩ : ∃ (a : Fin 256) (b : Fin 1024), j = ix2 a b := ⟨j 0, j 1, eq_ix2 j⟩
  unfold B5
  blk_ext [iblk, V, idx t]

/-- Every point reads the whole of the latent norm's weights. -/
theorem blk_9 (c : Dev nD) (t : Fin cfg0.N) : (iblk m c 9 t : Vec Ideal S1x128 .f32) = B6 m c := by
  funext j
  obtain ⟨a, b, rfl⟩ : ∃ (a : Fin 1) (b : Fin 128), j = ix2 a b := ⟨j 0, j 1, eq_ix2 j⟩
  unfold B6
  blk_ext [iblk, V, idx t]

/-- Every point reads the whole of the key weights. -/
theorem blk_10 (c : Dev nD) (t : Fin cfg0.N) : (iblk m c 10 t : Vec Ideal S128x1024 .bf16) = B7 m c := by
  funext j
  obtain ⟨a, b, rfl⟩ : ∃ (a : Fin 128) (b : Fin 1024), j = ix2 a b := ⟨j 0, j 1, eq_ix2 j⟩
  unfold B7
  blk_ext [iblk, V, idx t]

/-- Every point reads the whole of the value weights. -/
theorem blk_11 (c : Dev nD) (t : Fin cfg0.N) : (iblk m c 11 t : Vec Ideal S128x512 .bf16) = B8 m c := by
  funext j
  obtain ⟨a, b, rfl⟩ : ∃ (a : Fin 128) (b : Fin 512), j = ix2 a b := ⟨j 0, j 1, eq_ix2 j⟩
  unfold B8
  blk_ext [iblk, V, idx t]

set_option maxHeartbeats 1000000 in
/-- After the last point the array of the retention's queries is complete. -/
theorem final12 (c : Dev nD) : (dats m 0 c).arrAt 12 cfg0.N = gRq (B0 m c) (B1 m c) (B2 m c) (B3 m c) := by
  refine (dats m 0 c).arrAt_eq_of_covers 12 _ (by decide +kernel) fun t hf y => ?_
  blk_simp
  rw [after0_12]
  idx_vars y
  obtain rfl : y0 = 0 := Fin.ext (by omega)
  refine (blk12 (B0 m c) (B1 m c) (B2 m c) (B3 m c) (B4 m c) (B5 m c) (B6 m c) (B7 m c) (B8 m c) _ _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (blk_10 m c t) (blk_11 m c t) y1 y2).trans ?_
  unfold ptB ptI row
  blk_ext [idx t]

set_option maxHeartbeats 1000000 in
/-- After the last point the array of the retention's keys is complete. -/
theorem final13 (c : Dev nD) : (dats m 0 c).arrAt 13 cfg0.N = gRk (B0 m c) (B1 m c) (B2 m c) (B3 m c) := by
  refine (dats m 0 c).arrAt_eq_of_covers 13 _ (by decide +kernel) fun t hf y => ?_
  blk_simp
  rw [after0_13]
  idx_vars y
  obtain rfl : y0 = 0 := Fin.ext (by omega)
  refine (blk13 (B0 m c) (B1 m c) (B2 m c) (B3 m c) (B4 m c) (B5 m c) (B6 m c) (B7 m c) (B8 m c) _ _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (blk_10 m c t) (blk_11 m c t) y1 y2).trans ?_
  unfold ptB ptI row
  blk_ext [idx t]

set_option maxHeartbeats 1000000 in
/-- After the last point the array of the retention's values is complete. -/
theorem final14 (c : Dev nD) : (dats m 0 c).arrAt 14 cfg0.N = gRv (B0 m c) (B2 m c) (B3 m c) := by
  refine (dats m 0 c).arrAt_eq_of_covers 14 _ (by decide +kernel) fun t hf y => ?_
  blk_simp
  rw [after0_14]
  idx_vars y
  obtain rfl : y0 = 0 := Fin.ext (by omega)
  refine (blk14 (B0 m c) (B1 m c) (B2 m c) (B3 m c) (B4 m c) (B5 m c) (B6 m c) (B7 m c) (B8 m c) _ _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (blk_10 m c t) (blk_11 m c t) y1 y2).trans ?_
  unfold ptB ptI row
  blk_ext [idx t]

set_option maxHeartbeats 1000000 in
/-- After the last point the array of the retention's gate is complete. -/
theorem final15 (c : Dev nD) : (dats m 0 c).arrAt 15 cfg0.N = gRg (B0 m c) (B2 m c) (B3 m c) := by
  refine (dats m 0 c).arrAt_eq_of_covers 15 _ (by decide +kernel) fun t hf y => ?_
  blk_simp
  rw [after0_15]
  idx_vars y
  obtain rfl : y0 = 0 := Fin.ext (by omega)
  refine (blk15 (B0 m c) (B1 m c) (B2 m c) (B3 m c) (B4 m c) (B5 m c) (B6 m c) (B7 m c) (B8 m c) _ _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (blk_10 m c t) (blk_11 m c t) y1 y2).trans ?_
  unfold ptB ptI row
  blk_ext [idx t]

set_option maxHeartbeats 1000000 in
/-- After the last point the array of the attention's queries is complete. -/
theorem final16 (c : Dev nD) : (dats m 0 c).arrAt 16 cfg0.N = gQ (B0 m c) (B1 m c) (B2 m c) (B3 m c) (B4 m c) (B5 m c) := by
  refine (dats m 0 c).arrAt_eq_of_covers 16 _ (by decide +kernel) fun t hf y => ?_
  blk_simp
  rw [after0_16]
  idx_vars y
  obtain rfl : y0 = 0 := Fin.ext (by omega)
  refine (blk16 (B0 m c) (B1 m c) (B2 m c) (B3 m c) (B4 m c) (B5 m c) (B6 m c) (B7 m c) (B8 m c) _ _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (blk_10 m c t) (blk_11 m c t) y1 y2).trans ?_
  unfold ptB ptI row
  blk_ext [idx t]

set_option maxHeartbeats 1000000 in
/-- After the last point the array of the attention's keys is complete. -/
theorem final17 (c : Dev nD) : (dats m 0 c).arrAt 17 cfg0.N = gK (B0 m c) (B1 m c) (B2 m c) (B3 m c) (B6 m c) (B7 m c) := by
  refine (dats m 0 c).arrAt_eq_of_covers 17 _ (by decide +kernel) fun t hf y => ?_
  blk_simp
  rw [after0_17]
  idx_vars y
  obtain rfl : y0 = 0 := Fin.ext (by omega)
  refine (blk17 (B0 m c) (B1 m c) (B2 m c) (B3 m c) (B4 m c) (B5 m c) (B6 m c) (B7 m c) (B8 m c) _ _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (blk_10 m c t) (blk_11 m c t) y1 y2).trans ?_
  unfold ptB ptI row
  blk_ext [idx t]

set_option maxHeartbeats 1000000 in
/-- After the last point the array of the attention's values is complete. -/
theorem final18 (c : Dev nD) : (dats m 0 c).arrAt 18 cfg0.N = gV (B0 m c) (B2 m c) (B3 m c) (B6 m c) (B8 m c) := by
  refine (dats m 0 c).arrAt_eq_of_covers 18 _ (by decide +kernel) fun t hf y => ?_
  blk_simp
  rw [after0_18]
  idx_vars y
  obtain rfl : y0 = 0 := Fin.ext (by omega)
  refine (blk18 (B0 m c) (B1 m c) (B2 m c) (B3 m c) (B4 m c) (B5 m c) (B6 m c) (B7 m c) (B8 m c) _ _ _ _ _ _ _ _ _ _ _ _ (ptB t) (ptI t) (blk_0 m c t) (blk_1 m c t) (blk_2 m c t) (blk_3 m c t) (blk_4 m c t) (blk_5 m c t) (blk_6 m c t) (blk_7 m c t) (blk_8 m c t) (blk_9 m c t) (blk_10 m c t) (blk_11 m c t) y1 y2).trans ?_
  unfold ptB ptI row
  blk_ext [idx t]

/-- The run: the results, and the arguments unchanged. -/
theorem run_inp :
    θ_run defs (onTc (τ := τ) (main (F := Ideal))) ⟨m, fun _ => 0, ρ⟩ (fun r => ∀ c : Dev nD,
      r.2.mem ((c.tc : Thread nD τ).loc main_v48_0) = gRq (B0 m c) (B1 m c) (B2 m c) (B3 m c)
      ∧ r.2.mem ((c.tc : Thread nD τ).loc main_v48_1) = gRk (B0 m c) (B1 m c) (B2 m c) (B3 m c)
      ∧ r.2.mem ((c.tc : Thread nD τ).loc main_v48_2) = gRv (B0 m c) (B2 m c) (B3 m c)
      ∧ r.2.mem ((c.tc : Thread nD τ).loc main_v48_3) = gRg (B0 m c) (B2 m c) (B3 m c)
      ∧ r.2.mem ((c.tc : Thread nD τ).loc main_v48_4) = gQ (B0 m c) (B1 m c) (B2 m c) (B3 m c) (B4 m c) (B5 m c)
      ∧ r.2.mem ((c.tc : Thread nD τ).loc main_v48_5) = gK (B0 m c) (B1 m c) (B2 m c) (B3 m c) (B6 m c) (B7 m c)
      ∧ r.2.mem ((c.tc : Thread nD τ).loc main_v48_6) = gV (B0 m c) (B2 m c) (B3 m c) (B6 m c) (B8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (final12 m c), (h c).2.1.trans (final13 m c), (h c).2.2.1.trans (final14 m c), (h c).2.2.2.1.trans (final15 m c), (h c).2.2.2.2.1.trans (final16 m c), (h c).2.2.2.2.2.1.trans (final17 m c), (h c).2.2.2.2.2.2.1.trans (final18 m c), (h c).2.2.2.2.2.2.2⟩) (Cert.Kernel3Ideal.Value.run_blocks m ρ)

end
end Cert.Kernel3Ideal.Inp
end
-- ==== Proof.Inp.Stage.lean ====
module

public import proofs.«01_k».proof.Proof.Inp.Result
public import proofs.«01_k».proof.Proof.Gen.Reference3Ideal
public import proofs.«01_k».proof.Proof.Gen.Reference3Ideal.Run

@[expose] public section

set_option maxRecDepth 16384

noncomputable section

namespace Cert.Kernel3Ideal.Inp

open Idealize.ShloMosaic Idealize.ShloMosaic.TcCoe Idealize.ShloMosaic.Tactic
section
open Cert.Reference3Ideal Cert.Reference3Ideal.Gen

/-- Rows of 1024 over their root mean square, times the weights. -/
def refN1024 (x : FVec Ideal S4x8192x1024 .f32) (w : Vec Ideal S1x1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ w shapeCasts_S1x1024_S1024)))

/-- The first norm, at a column. -/
theorem refN1024_apply (x : FVec Ideal S4x8192x1024 .f32) (w : Vec Ideal S1x1024 .f32) (b : Fin 4) (s : Fin 8192) (d : Fin 1024) :
    refN1024 x w (ix3 b s d) = rms 1149239296#32 (fun e => x (ix3 b s e)) (fun e => w (ix2 0 e)) d := by
  rw [rms]
  pointwise [refN1024]

/-- Rows of 256 over their root mean square, times the weights. -/
def refN256 (x : FVec Ideal S4x8192x256 .f32) (w : Vec Ideal S1x256 .f32) : FVec Ideal S4x8192x256 .f32 :=
  mulf (mulf x (broadcastInDim S4x8192x256 ![0, 1, 2] bcast_S4x8192x1_S4x8192x256_0_1_2 (Host.rsqrt (addf (Host.divf (broadcastInDim S4x8192x1 ![0, 1] bcast_S4x8192_S4x8192x1_0_1 (Host.reduceAdd (mulf x x) (constant S_ .f32 0x00000000#32) reducesTo_S4x8192x256_S4x8192_d2 h_S_)) (broadcastInDim S4x8192x1 ![] bcast_S_S4x8192x1 (constant S_ .f32 0x43800000#32))) (broadcastInDim S4x8192x1 ![] bcast_S_S4x8192x1 (constant S_ .f32 0x358637BD#32)))))) (broadcastInDim S4x8192x256 ![0, 1, 2] bcast_S1x1x256_S4x8192x256_0_1_2 (broadcastInDim S1x1x256 ![2] bcast_S256_S1x1x256_2 (shapeCast _ w shapeCasts_S1x256_S256)))

/-- The norm of the latent queries, at a column. -/
theorem refN256_apply (x : FVec Ideal S4x8192x256 .f32) (w : Vec Ideal S1x256 .f32) (b : Fin 4) (s : Fin 8192) (d : Fin 256) :
    refN256 x w (ix3 b s d) = rms 1132462080#32 (fun e => x (ix3 b s e)) (fun e => w (ix2 0 e)) d := by
  rw [rms]
  pointwise [refN256]

/-- Rows of 128 over their root mean square, times the weights. -/
def refN128 (x : FVec Ideal S4x8192x128 .f32) (w : Vec Ideal S1x128 .f32) : FVec Ideal S4x8192x128 .f32 :=
  mulf (mulf x (broadcastInDim S4x8192x128 ![0, 1, 2] bcast_S4x8192x1_S4x8192x128_0_1_2 (Host.rsqrt (addf (Host.divf (broadcastInDim S4x8192x1 ![0, 1] bcast_S4x8192_S4x8192x1_0_1 (Host.reduceAdd (mulf x x) (constant S_ .f32 0x00000000#32) reducesTo_S4x8192x128_S4x8192_d2 h_S_)) (broadcastInDim S4x8192x1 ![] bcast_S_S4x8192x1 (constant S_ .f32 0x43000000#32))) (broadcastInDim S4x8192x1 ![] bcast_S_S4x8192x1 (constant S_ .f32 0x358637BD#32)))))) (broadcastInDim S4x8192x128 ![0, 1, 2] bcast_S1x1x128_S4x8192x128_0_1_2 (broadcastInDim S1x1x128 ![2] bcast_S128_S1x1x128_2 (shapeCast _ w shapeCasts_S1x128_S128)))

/-- The norm of the latent keys and values, at a column. -/
theorem refN128_apply (x : FVec Ideal S4x8192x128 .f32) (w : Vec Ideal S1x128 .f32) (b : Fin 4) (s : Fin 8192) (d : Fin 128) :
    refN128 x w (ix3 b s d) = rms 1124073472#32 (fun e => x (ix3 b s e)) (fun e => w (ix2 0 e)) d := by
  rw [rms]
  pointwise [refN128]

/-- The product with the projection's weights. -/
def dotP (h : FVec Ideal S4x8192x1024 .f32) (W : Vec Ideal S1024x2560 .bf16) : FVec Ideal S4x8192x2560 .f32 :=
  Host.dotGeneral (φ₁ := .f32) (φ₂ := .f32) dot_S4x8192x1024_S1024x2560_S4x8192x2560_2_0_01_1_n_n none h (extf .f32 W bitsLt_bf16_f32)

/-- It is a sum over the model's width. -/
theorem dotP_apply (h : FVec Ideal S4x8192x1024 .f32) (W : Vec Ideal S1024x2560 .bf16) (b : Fin 4) (s : Fin 8192) (f : Fin 2560) :
    dotP h W (ix3 b s f) = ∑ d : Fin 1024, h (ix3 b s d) * W (ix2 d f) := by
  pointwise [dotP]

/-- The product with the query weights. -/
def dotQ (h : FVec Ideal S4x8192x256 .f32) (W : Vec Ideal S256x1024 .bf16) : FVec Ideal S4x8192x1024 .f32 :=
  Host.dotGeneral (φ₁ := .f32) (φ₂ := .f32) dot_S4x8192x256_S256x1024_S4x8192x1024_2_0_01_1_n_n none h (extf .f32 W bitsLt_bf16_f32)

/-- It is a sum over the latent queries' width. -/
theorem dotQ_apply (h : FVec Ideal S4x8192x256 .f32) (W : Vec Ideal S256x1024 .bf16) (b : Fin 4) (s : Fin 8192) (f : Fin 1024) :
    dotQ h W (ix3 b s f) = ∑ d : Fin 256, h (ix3 b s d) * W (ix2 d f) := by
  pointwise [dotQ]

/-- The product with the key weights. -/
def dotK (h : FVec Ideal S4x8192x128 .f32) (W : Vec Ideal S128x1024 .bf16) : FVec Ideal S4x8192x1024 .f32 :=
  Host.dotGeneral (φ₁ := .f32) (φ₂ := .f32) dot_S4x8192x128_S128x1024_S4x8192x1024_2_0_01_1_n_n none h (extf .f32 W bitsLt_bf16_f32)

/-- It is a sum over the latent width. -/
theorem dotK_apply (h : FVec Ideal S4x8192x128 .f32) (W : Vec Ideal S128x1024 .bf16) (b : Fin 4) (s : Fin 8192) (f : Fin 1024) :
    dotK h W (ix3 b s f) = ∑ d : Fin 128, h (ix3 b s d) * W (ix2 d f) := by
  pointwise [dotK]

/-- The product with the value weights. -/
def dotV (h : FVec Ideal S4x8192x128 .f32) (W : Vec Ideal S128x512 .bf16) : FVec Ideal S4x8192x512 .f32 :=
  Host.dotGeneral (φ₁ := .f32) (φ₂ := .f32) dot_S4x8192x128_S128x512_S4x8192x512_2_0_01_1_n_n none h (extf .f32 W bitsLt_bf16_f32)

/-- It is a sum over the latent width. -/
theorem dotV_apply (h : FVec Ideal S4x8192x128 .f32) (W : Vec Ideal S128x512 .bf16) (b : Fin 4) (s : Fin 8192) (f : Fin 512) :
    dotV h W (ix3 b s f) = ∑ d : Fin 128, h (ix3 b s d) * W (ix2 d f) := by
  pointwise [dotV]

/-- The rows projected. -/
def refP (A0 : Vec Ideal S4x8192x1024 .f32) (A2 : Vec Ideal S1x1024 .f32) (A3 : Vec Ideal S1024x2560 .bf16) : FVec Ideal S4x8192x2560 .f32 :=
  dotP (refN1024 A0 A2) A3

/-- The projection, at a column. -/
theorem refP_apply (A0 : Vec Ideal S4x8192x1024 .f32) (A2 : Vec Ideal S1x1024 .f32) (A3 : Vec Ideal S1024x2560 .bf16) (b : Fin 4) (s : Fin 8192) (f : Fin 2560) :
    refP A0 A2 A3 (ix3 b s f) = pR (xr A0 b s) A2 A3 f := by
  rw [refP, dotP_apply, pR]
  exact Finset.sum_congr rfl fun d _ => by rw [refN1024_apply, hR]

/-- The angles of the retention's rotation. -/
def refA32 (A1 : IVec S4x8192 32) : FVec Ideal S4x8192x1x32 .f32 :=
  broadcastInDim S4x8192x1x32 ![0, 1, 3] bcast_S4x8192x32_S4x8192x1x32_0_1_3 (mulf (broadcastInDim S4x8192x32 ![0, 1, 2] bcast_S4x8192x1_S4x8192x32_0_1_2 (broadcastInDim S4x8192x1 ![0, 1] bcast_S4x8192_S4x8192x1_0_1 (sitofp .f32 A1))) (broadcastInDim S4x8192x32 ![0, 1, 2] bcast_S1x1x32_S4x8192x32_0_1_2 (broadcastInDim S1x1x32 ![2] bcast_S32_S1x1x32_2 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))

/-- The angles of the attention's rotation. -/
def refA16 (A1 : IVec S4x8192 32) : FVec Ideal S4x8192x16 .f32 :=
  mulf (broadcastInDim S4x8192x16 ![0, 1, 2] bcast_S4x8192x1_S4x8192x16_0_1_2 (broadcastInDim S4x8192x1 ![0, 1] bcast_S4x8192_S4x8192x1_0_1 (sitofp .f32 A1))) (broadcastInDim S4x8192x16 ![0, 1, 2] bcast_S1x1x16_S4x8192x16_0_1_2 (broadcastInDim S1x1x16 ![2] bcast_S16_S1x1x16_2 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The angles of the attention, with an axis for the heads. -/
def refA16h (a : FVec Ideal S4x8192x16 .f32) : FVec Ideal S4x8192x1x16 .f32 :=
  broadcastInDim S4x8192x1x16 ![0, 1, 3] bcast_S4x8192x16_S4x8192x1x16_0_1_3 a

/-- The retention's angle, at a position. -/
theorem refA32_apply (A1 : IVec S4x8192 32) (b : Fin 4) (s : Fin 8192) (e : Fin 32) : refA32 A1 (ix4 b s 0 e) = th32 (A1 (ix2 b s)) e.val := by
  unfold th32
  pointwise [refA32]

/-- The attention's angle, at a position. -/
theorem refA16_apply (A1 : IVec S4x8192 32) (b : Fin 4) (s : Fin 8192) (e : Fin 16) : refA16 A1 (ix3 b s e) = th16 (A1 (ix2 b s)) e.val := by
  unfold th16
  pointwise [refA16]

/-- The axis for the heads changes nothing. -/
theorem refA16h_apply (a : FVec Ideal S4x8192x16 .f32) (b : Fin 4) (s : Fin 8192) (e : Fin 16) : refA16h a (ix4 b s 0 e) = a (ix3 b s e) := by
  pointwise [refA16h]

/-- The first half of a head rotated. -/
def rotA (x : FVec Ideal S4x8192x8x64 .f32) (C S : FVec Ideal S4x8192x1x32 .f32) : FVec Ideal S4x8192x8x32 .f32 :=
  subf (mulf (extractStridedSlice S4x8192x8x32 ![0, 0, 0, 0] x slices_S4x8192x8x64_S4x8192x8x32_0_0_0_0) (broadcastInDim S4x8192x8x32 ![0, 1, 2, 3] bcast_S4x8192x1x32_S4x8192x8x32_0_1_2_3 C))
    (mulf (extractStridedSlice S4x8192x8x32 ![0, 0, 0, 32] x slices_S4x8192x8x64_S4x8192x8x32_0_0_0_32) (broadcastInDim S4x8192x8x32 ![0, 1, 2, 3] bcast_S4x8192x1x32_S4x8192x8x32_0_1_2_3 S))

/-- The second half. -/
def rotB (x : FVec Ideal S4x8192x8x64 .f32) (C S : FVec Ideal S4x8192x1x32 .f32) : FVec Ideal S4x8192x8x32 .f32 :=
  addf (mulf (extractStridedSlice S4x8192x8x32 ![0, 0, 0, 0] x slices_S4x8192x8x64_S4x8192x8x32_0_0_0_0) (broadcastInDim S4x8192x8x32 ![0, 1, 2, 3] bcast_S4x8192x1x32_S4x8192x8x32_0_1_2_3 S))
    (mulf (extractStridedSlice S4x8192x8x32 ![0, 0, 0, 32] x slices_S4x8192x8x64_S4x8192x8x32_0_0_0_32) (broadcastInDim S4x8192x8x32 ![0, 1, 2, 3] bcast_S4x8192x1x32_S4x8192x8x32_0_1_2_3 C))

/-- A first half of 32, at a lane. -/
theorem rotA_apply (x : FVec Ideal S4x8192x8x64 .f32) (C S : FVec Ideal S4x8192x1x32 .f32) (b : Fin 4) (s : Fin 8192) (h : Fin 8) (e : Fin 32) :
    rotA x C S (ix4 b s h e) = x (ix4 b s h ⟨e.val, by omega⟩) * C (ix4 b s 0 e) - x (ix4 b s h ⟨32 + e.val, by omega⟩) * S (ix4 b s 0 e) := by
  pointwise [rotA]

/-- A second half of 32, at a lane. -/
theorem rotB_apply (x : FVec Ideal S4x8192x8x64 .f32) (C S : FVec Ideal S4x8192x1x32 .f32) (b : Fin 4) (s : Fin 8192) (h : Fin 8) (e : Fin 32) :
    rotB x C S (ix4 b s h e) = x (ix4 b s h ⟨e.val, by omega⟩) * S (ix4 b s 0 e) + x (ix4 b s h ⟨32 + e.val, by omega⟩) * C (ix4 b s 0 e) := by
  pointwise [rotB]

/-- The same for the attention's queries. -/
def rotC (x : FVec Ideal S4x8192x8x32 .f32) (C S : FVec Ideal S4x8192x1x16 .f32) : FVec Ideal S4x8192x8x16 .f32 :=
  subf (mulf (extractStridedSlice S4x8192x8x16 ![0, 0, 0, 0] x slices_S4x8192x8x32_S4x8192x8x16_0_0_0_0) (broadcastInDim S4x8192x8x16 ![0, 1, 2, 3] bcast_S4x8192x1x16_S4x8192x8x16_0_1_2_3 C))
    (mulf (extractStridedSlice S4x8192x8x16 ![0, 0, 0, 16] x slices_S4x8192x8x32_S4x8192x8x16_0_0_0_16) (broadcastInDim S4x8192x8x16 ![0, 1, 2, 3] bcast_S4x8192x1x16_S4x8192x8x16_0_1_2_3 S))

/-- The second halves of 16 rotated, in every head. -/
def rotD (x : FVec Ideal S4x8192x8x32 .f32) (C S : FVec Ideal S4x8192x1x16 .f32) : FVec Ideal S4x8192x8x16 .f32 :=
  addf (mulf (extractStridedSlice S4x8192x8x16 ![0, 0, 0, 0] x slices_S4x8192x8x32_S4x8192x8x16_0_0_0_0) (broadcastInDim S4x8192x8x16 ![0, 1, 2, 3] bcast_S4x8192x1x16_S4x8192x8x16_0_1_2_3 S))
    (mulf (extractStridedSlice S4x8192x8x16 ![0, 0, 0, 16] x slices_S4x8192x8x32_S4x8192x8x16_0_0_0_16) (broadcastInDim S4x8192x8x16 ![0, 1, 2, 3] bcast_S4x8192x1x16_S4x8192x8x16_0_1_2_3 C))

/-- A first half of 16, at a lane. -/
theorem rotC_apply (x : FVec Ideal S4x8192x8x32 .f32) (C S : FVec Ideal S4x8192x1x16 .f32) (b : Fin 4) (s : Fin 8192) (h : Fin 8) (e : Fin 16) :
    rotC x C S (ix4 b s h e) = x (ix4 b s h ⟨e.val, by omega⟩) * C (ix4 b s 0 e) - x (ix4 b s h ⟨16 + e.val, by omega⟩) * S (ix4 b s 0 e) := by
  pointwise [rotC]

/-- A second half of 16, at a lane. -/
theorem rotD_apply (x : FVec Ideal S4x8192x8x32 .f32) (C S : FVec Ideal S4x8192x1x16 .f32) (b : Fin 4) (s : Fin 8192) (h : Fin 8) (e : Fin 16) :
    rotD x C S (ix4 b s h e) = x (ix4 b s h ⟨e.val, by omega⟩) * S (ix4 b s 0 e) + x (ix4 b s h ⟨16 + e.val, by omega⟩) * C (ix4 b s 0 e) := by
  pointwise [rotD]

/-- The same for the lanes the attention's keys share. -/
def rotE (x : FVec Ideal S4x8192x32 .f32) (C S : FVec Ideal S4x8192x16 .f32) : FVec Ideal S4x8192x16 .f32 :=
  subf (mulf (extractStridedSlice S4x8192x16 ![0, 0, 0] x slices_S4x8192x32_S4x8192x16_0_0_0) C)
    (mulf (extractStridedSlice S4x8192x16 ![0, 0, 16] x slices_S4x8192x32_S4x8192x16_0_0_16) S)

/-- The second half of the shared key rotated. -/
def rotF (x : FVec Ideal S4x8192x32 .f32) (C S : FVec Ideal S4x8192x16 .f32) : FVec Ideal S4x8192x16 .f32 :=
  addf (mulf (extractStridedSlice S4x8192x16 ![0, 0, 0] x slices_S4x8192x32_S4x8192x16_0_0_0) S)
    (mulf (extractStridedSlice S4x8192x16 ![0, 0, 16] x slices_S4x8192x32_S4x8192x16_0_0_16) C)

/-- The first half of the shared key, at a lane. -/
theorem rotE_apply (x : FVec Ideal S4x8192x32 .f32) (C S : FVec Ideal S4x8192x16 .f32) (b : Fin 4) (s : Fin 8192) (e : Fin 16) :
    rotE x C S (ix3 b s e) = x (ix3 b s ⟨e.val, by omega⟩) * C (ix3 b s e) - x (ix3 b s ⟨16 + e.val, by omega⟩) * S (ix3 b s e) := by
  pointwise [rotE]

/-- The second half of the shared key, at a lane. -/
theorem rotF_apply (x : FVec Ideal S4x8192x32 .f32) (C S : FVec Ideal S4x8192x16 .f32) (b : Fin 4) (s : Fin 8192) (e : Fin 16) :
    rotF x C S (ix3 b s e) = x (ix3 b s ⟨e.val, by omega⟩) * S (ix3 b s e) + x (ix3 b s ⟨16 + e.val, by omega⟩) * C (ix3 b s e) := by
  pointwise [rotF]

/-- Columns cut into heads of 64. -/
def headsQ (p : FVec Ideal S4x8192x2560 .f32) : FVec Ideal S4x8192x8x64 .f32 :=
  shapeCast _ (extractStridedSlice S4x8192x512 ![0, 0, 0] p slices_S4x8192x2560_S4x8192x512_0_0_0) shapeCasts_S4x8192x512_S4x8192x8x64

/-- The retention's keys by heads. -/
def headsK (p : FVec Ideal S4x8192x2560 .f32) : FVec Ideal S4x8192x8x64 .f32 :=
  shapeCast _ (extractStridedSlice S4x8192x512 ![0, 0, 512] p slices_S4x8192x2560_S4x8192x512_0_0_512) shapeCasts_S4x8192x512_S4x8192x8x64

/-- Columns cut into heads of 128. -/
def heads128 (p : FVec Ideal S4x8192x1024 .f32) : FVec Ideal S4x8192x8x128 .f32 :=
  shapeCast _ p shapeCasts_S4x8192x1024_S4x8192x8x128

/-- A lane of a query head is a column of the projection. -/
theorem headsQ_apply (p : FVec Ideal S4x8192x2560 .f32) (b : Fin 4) (s : Fin 8192) (h : Fin 8) (e : Fin 64) :
    headsQ p (ix4 b s h e) = p (ix3 b s ⟨h.val * 64 + e.val, by omega⟩) := by
  pointwise [headsQ]

/-- A lane of a key head is a column of the projection. -/
theorem headsK_apply (p : FVec Ideal S4x8192x2560 .f32) (b : Fin 4) (s : Fin 8192) (h : Fin 8) (e : Fin 64) :
    headsK p (ix4 b s h e) = p (ix3 b s ⟨512 + (h.val * 64 + e.val), by omega⟩) := by
  pointwise [headsK]

/-- A lane of a padded head is a column. -/
theorem heads128_apply (p : FVec Ideal S4x8192x1024 .f32) (b : Fin 4) (s : Fin 8192) (h : Fin 8) (e : Fin 128) :
    heads128 p (ix4 b s h e) = p (ix3 b s ⟨h.val * 128 + e.val, by omega⟩) := by
  pointwise [heads128]

/-- Heads laid back into columns. -/
theorem cols64_apply (x : FVec Ideal S4x8192x8x64 .f32) (b : Fin 4) (s : Fin 8192) (j : Fin 512) :
    truncf (F := Ideal) .bf16 (shapeCast S4x8192x512 x shapeCasts_S4x8192x8x64_S4x8192x512) bitsLt_bf16_f32 (ix3 b s j) = x (ix4 b s ⟨j.val / 64, by omega⟩ ⟨j.val % 64, by omega⟩) := by
  pointwise []

/-- A column is a lane of a padded head. -/
theorem cols128_apply (x : FVec Ideal S4x8192x8x128 .f32) (b : Fin 4) (s : Fin 8192) (j : Fin 1024) :
    truncf (F := Ideal) .bf16 (shapeCast S4x8192x1024 x shapeCasts_S4x8192x8x128_S4x8192x1024) bitsLt_bf16_f32 (ix3 b s j) = x (ix4 b s ⟨j.val / 128, by omega⟩ ⟨j.val % 128, by omega⟩) := by
  pointwise []

end
end Cert.Kernel3Ideal.Inp
end
-- ==== Proof.Inp.Cat.lean ====
module

public import proofs.«01_k».proof.Proof.Inp.Stage

@[expose] public section

set_option maxRecDepth 16384

noncomputable section

namespace Cert.Kernel3Ideal.Inp

open Idealize.ShloMosaic Idealize.ShloMosaic.TcCoe Idealize.ShloMosaic.Tactic
section
open Cert.Reference3Ideal Cert.Reference3Ideal.Gen

/-- Two halves of 32 joined: a head of 64, lane by lane. -/
theorem cat64 (x y : FVec Ideal S4x8192x8x32 .f32) (b : Fin 4) (s : Fin 8192) (h : Fin 8) (e : Fin 64) :
    concatenate S4x8192x8x64 3 [⟨S4x8192x8x32, x⟩, ⟨S4x8192x8x32, y⟩] concatenates_S4x8192x8x32_S4x8192x8x32_S4x8192x8x64_d3 (ix4 b s h e)
      = if h' : e.val < 32 then x (ix4 b s h ⟨e.val, h'⟩) else y (ix4 b s h ⟨e.val - 32, by omega⟩) := by
  pointwise []

/-- Two halves of 16 joined, in every head. -/
theorem cat32 (x y : FVec Ideal S4x8192x8x16 .f32) (b : Fin 4) (s : Fin 8192) (h : Fin 8) (e : Fin 32) :
    concatenate S4x8192x8x32 3 [⟨S4x8192x8x16, x⟩, ⟨S4x8192x8x16, y⟩] concatenates_S4x8192x8x16_S4x8192x8x16_S4x8192x8x32_d3 (ix4 b s h e)
      = if h' : e.val < 16 then x (ix4 b s h ⟨e.val, h'⟩) else y (ix4 b s h ⟨e.val - 16, by omega⟩) := by
  pointwise []

/-- Two halves of 16 joined, in the key that the heads share. -/
theorem cat32f (x y : FVec Ideal S4x8192x16 .f32) (b : Fin 4) (s : Fin 8192) (e : Fin 32) :
    concatenate S4x8192x32 2 [⟨S4x8192x16, x⟩, ⟨S4x8192x16, y⟩] concatenates_S4x8192x16_S4x8192x16_S4x8192x32_d2 (ix3 b s e)
      = if h' : e.val < 16 then x (ix3 b s ⟨e.val, h'⟩) else y (ix3 b s ⟨e.val - 16, by omega⟩) := by
  pointwise []

/-- Lanes 0 to 64, 64 to 96 and 96 to 128 of a head joined. -/
theorem cat128 (x : FVec Ideal S4x8192x8x64 .f32) (y z : FVec Ideal S4x8192x8x32 .f32) (b : Fin 4) (s : Fin 8192) (h : Fin 8) (e : Fin 128) :
    concatenate S4x8192x8x128 3 [⟨S4x8192x8x64, x⟩, ⟨S4x8192x8x32, y⟩, ⟨S4x8192x8x32, z⟩] concatenates_S4x8192x8x64_S4x8192x8x32_S4x8192x8x32_S4x8192x8x128_d3 (ix4 b s h e)
      = if h' : e.val < 64 then x (ix4 b s h ⟨e.val, h'⟩) else if h'' : e.val - 64 < 32 then y (ix4 b s h ⟨e.val - 64, by omega⟩) else z (ix4 b s h ⟨e.val - 64 - 32, by omega⟩) := by
  pointwise []

/-- The same three parts of the key that the heads share. -/
theorem cat128f (x : FVec Ideal S4x8192x64 .f32) (y z : FVec Ideal S4x8192x32 .f32) (b : Fin 4) (s : Fin 8192) (e : Fin 128) :
    concatenate S4x8192x128 2 [⟨S4x8192x64, x⟩, ⟨S4x8192x32, y⟩, ⟨S4x8192x32, z⟩] concatenates_S4x8192x64_S4x8192x32_S4x8192x32_S4x8192x128_d2 (ix3 b s e)
      = if h' : e.val < 64 then x (ix3 b s ⟨e.val, h'⟩) else if h'' : e.val - 64 < 32 then y (ix3 b s ⟨e.val - 64, by omega⟩) else z (ix3 b s ⟨e.val - 64 - 32, by omega⟩) := by
  pointwise []

end
end Cert.Kernel3Ideal.Inp
end
-- ==== Proof.Inp.Ref.lean ====
module

public import proofs.«01_k».proof.Proof.Inp.Cat

@[expose] public section

set_option maxRecDepth 16384

noncomputable section

namespace Cert.Kernel3Ideal.Inp

open Idealize.ShloMosaic Idealize.ShloMosaic.TcCoe Idealize.ShloMosaic.Tactic
section
open Cert.Reference3Ideal Cert.Reference3Ideal.Gen

/-! ## The rotations' arithmetic -/

/-- A first half: the difference is the sum with the sign in the sine. -/
theorem rotN (a b c s : Ideal .f32) : a * c - b * s = a * c + b * (s * (-1)) := by
  show (a * c - b * s : EReal) = a * c + b * (s * (-1))
  rw [mul_neg, mul_one, mul_neg, sub_eq_add_neg]

/-- A second half: the same sum, in the other order. -/
theorem rotS (a b c s : Ideal .f32) : a * s + b * c = b * c + a * (s * 1) := by
  show (a * s + b * c : EReal) = b * c + a * (s * 1)
  rw [mul_one, add_comm]

/-- A lane that is let through: the cosine is 1 and the sine 0. -/
theorem rot0 (a b q : Ideal .f32) : a = a * 1 + b * (0 * q) := by
  show (a : EReal) = a * 1 + b * (0 * q)
  rw [mul_one, zero_mul, mul_zero, add_zero]

/-- A head's lanes rotated, from its lanes. -/
theorem mla (A1 : IVec S4x8192 32) (b : Fin 4) (s : Fin 8192) (Q : Fin 128 → Ideal .f32) (l : Fin 128) :
    (if h' : l.val < 64 then Q ⟨l.val, by omega⟩ else if h'' : l.val - 64 < 32 then
      (if h3 : l.val - 64 < 16 then Q ⟨64 + (l.val - 64), by omega⟩ * Ideal.cos (th16 (A1 (ix2 b s)) (l.val - 64)) - Q ⟨64 + (16 + (l.val - 64)), by omega⟩ * Ideal.sin (th16 (A1 (ix2 b s)) (l.val - 64))
        else Q ⟨64 + (l.val - 64 - 16), by omega⟩ * Ideal.sin (th16 (A1 (ix2 b s)) (l.val - 64 - 16)) + Q ⟨64 + (16 + (l.val - 64 - 16)), by omega⟩ * Ideal.cos (th16 (A1 (ix2 b s)) (l.val - 64 - 16)))
      else Q ⟨96 + (l.val - 64 - 32), by omega⟩) = Q l * cm A1 b s l + Q (swm (n := 1) l) * sm A1 b s l := by
  have hl := l.isLt
  unfold cm sm
  rw [tCm_apply, tSm_apply]
  by_cases h1 : l.val < 64
  · rw [dif_pos h1, if_neg (by omega), if_neg (by omega), if_pos (by omega)]
    exact rot0 _ _ _
  · rw [dif_neg h1]
    by_cases h2 : l.val - 64 < 32
    · rw [dif_pos h2, if_pos (by omega), if_pos (by omega)]
      by_cases h3 : l.val - 64 < 16
      · rw [dif_pos h3, if_pos (by omega)]
        refine (congr (congrArg₂ (fun q q' (k : ℕ) => Q q * Ideal.cos (th16 (A1 (ix2 b s)) k) - Q q' * Ideal.sin (th16 (A1 (ix2 b s)) k)) ?_ ?_) ?_).trans (rotN _ _ _ _)
        · exact Fin.ext (by show 64 + (l.val - 64) = l.val; omega)
        · exact Fin.ext (by
            have h' : l.val % 128 < 80 := by omega
            simp only [swm, if_pos h']; omega)
        · omega
      · rw [dif_neg h3, if_neg (by omega)]
        refine (congr (congrArg₂ (fun q q' (k : ℕ) => Q q' * Ideal.sin (th16 (A1 (ix2 b s)) k) + Q q * Ideal.cos (th16 (A1 (ix2 b s)) k)) ?_ ?_) ?_).trans (rotS _ _ _ _)
        · exact Fin.ext (by show 64 + (16 + (l.val - 64 - 16)) = l.val; omega)
        · exact Fin.ext (by
            have h' : ¬ l.val % 128 < 80 := by omega
            simp only [swm, if_neg h']; omega)
        · omega
    · rw [dif_neg h2, if_neg (by omega), if_neg (by omega), if_neg (by omega)]
      refine (congrArg Q (Fin.ext ?_)).trans (rot0 _ _ _)
      show 96 + (l.val - 64 - 32) = l.val
      omega

/-- A retention head's lanes rotated, from the columns; `o` is the column of the first. -/
theorem ret (A1 : IVec S4x8192 32) (b : Fin 4) (s : Fin 8192) (o : ℕ) (ho : o ≤ 512) (Q : Fin 2560 → Ideal .f32) (j : Fin 512) :
    (if h' : j.val % 64 < 32 then Q ⟨o + (j.val / 64 * 64 + j.val % 64), by omega⟩ * Ideal.cos (th32 (A1 (ix2 b s)) (j.val % 64)) - Q ⟨o + (j.val / 64 * 64 + (32 + j.val % 64)), by omega⟩ * Ideal.sin (th32 (A1 (ix2 b s)) (j.val % 64))
      else Q ⟨o + (j.val / 64 * 64 + (j.val % 64 - 32)), by omega⟩ * Ideal.sin (th32 (A1 (ix2 b s)) (j.val % 64 - 32)) + Q ⟨o + (j.val / 64 * 64 + (32 + (j.val % 64 - 32))), by omega⟩ * Ideal.cos (th32 (A1 (ix2 b s)) (j.val % 64 - 32)))
      = Q ⟨o + j.val, by omega⟩ * cr A1 b s (lane j) + Q ⟨o + (sw j).val, by have := (sw j).isLt; omega⟩ * sr A1 b s (lane j) := by
  have hj := j.isLt
  unfold cr sr
  rw [tCr_apply, tSr_apply]
  have hl : (lane j).val = j.val % 128 := rfl
  by_cases h : j.val % 64 < 32
  · rw [dif_pos h, if_pos (by omega)]
    refine (congr (congrArg₂ (fun q q' (k : ℕ) => Q q * Ideal.cos (th32 (A1 (ix2 b s)) k) - Q q' * Ideal.sin (th32 (A1 (ix2 b s)) k)) ?_ ?_) ?_).trans (rotN _ _ _ _)
    · exact Fin.ext (by dsimp only; omega)
    · exact Fin.ext (by simp only [sw, if_pos h]; omega)
    · omega
  · rw [dif_neg h, if_neg (by omega)]
    refine (congr (congrArg₂ (fun q q' (k : ℕ) => Q q' * Ideal.sin (th32 (A1 (ix2 b s)) k) + Q q * Ideal.cos (th32 (A1 (ix2 b s)) k)) ?_ ?_) ?_).trans (rotS _ _ _ _)
    · exact Fin.ext (by dsimp only; omega)
    · exact Fin.ext (by simp only [sw, if_neg h]; omega)
    · omega

/-! ## The results -/

section
variable (A0 : Vec Ideal S4x8192x1024 .f32) (A1 : IVec S4x8192 32) (A2 : Vec Ideal S1x1024 .f32) (A3 : Vec Ideal S1024x2560 .bf16)
  (A4 : Vec Ideal S1x256 .f32) (A5 : Vec Ideal S256x1024 .bf16) (A6 : Vec Ideal S1x128 .f32) (A7 : Vec Ideal S128x1024 .bf16)
  (A8 : Vec Ideal S128x512 .bf16)

/-- Heads of 64 rotated. -/
def rope64 (x : FVec Ideal S4x8192x8x64 .f32) (C S : FVec Ideal S4x8192x1x32 .f32) : FVec Ideal S4x8192x8x64 .f32 :=
  concatenate S4x8192x8x64 3 [⟨S4x8192x8x32, rotA x C S⟩, ⟨S4x8192x8x32, rotB x C S⟩] concatenates_S4x8192x8x32_S4x8192x8x32_S4x8192x8x64_d3

/-- Lanes of 32 rotated, in every head. -/
def rope32 (x : FVec Ideal S4x8192x8x32 .f32) (C S : FVec Ideal S4x8192x1x16 .f32) : FVec Ideal S4x8192x8x32 .f32 :=
  concatenate S4x8192x8x32 3 [⟨S4x8192x8x16, rotC x C S⟩, ⟨S4x8192x8x16, rotD x C S⟩] concatenates_S4x8192x8x16_S4x8192x8x16_S4x8192x8x32_d3

/-- The 32 lanes of the shared key rotated. -/
def rope32f (x : FVec Ideal S4x8192x32 .f32) (C S : FVec Ideal S4x8192x16 .f32) : FVec Ideal S4x8192x32 .f32 :=
  concatenate S4x8192x32 2 [⟨S4x8192x16, rotE x C S⟩, ⟨S4x8192x16, rotF x C S⟩] concatenates_S4x8192x16_S4x8192x16_S4x8192x32_d2

/-- The reference's retention queries. -/
def refRq : Vec Ideal S4x8192x512 .bf16 :=
  truncf (F := Ideal) .bf16 (shapeCast S4x8192x512 (rope64 (headsQ (refP A0 A2 A3)) (Host.cos (refA32 A1)) (Host.sin (refA32 A1))) shapeCasts_S4x8192x8x64_S4x8192x512) bitsLt_bf16_f32

/-- The reference's retention keys. -/
def refRk : Vec Ideal S4x8192x512 .bf16 :=
  truncf (F := Ideal) .bf16 (shapeCast S4x8192x512 (mulf (rope64 (headsK (refP A0 A2 A3)) (Host.cos (refA32 A1)) (Host.sin (refA32 A1))) (broadcastInDim S4x8192x8x64 ![] bcast_S_S4x8192x8x64 (constant S_ .f32 0x3E000000#32))) shapeCasts_S4x8192x8x64_S4x8192x512) bitsLt_bf16_f32

/-- The reference's retention values. -/
def refRv : Vec Ideal S4x8192x512 .bf16 :=
  truncf (F := Ideal) .bf16 (extractStridedSlice S4x8192x512 ![0, 0, 1024] (refP A0 A2 A3) slices_S4x8192x2560_S4x8192x512_0_0_1024) bitsLt_bf16_f32

/-- The reference's retention gate. -/
def refRg : Vec Ideal S4x8192x512 .f32 :=
  extractStridedSlice S4x8192x512 ![0, 0, 1536] (refP A0 A2 A3) slices_S4x8192x2560_S4x8192x512_0_0_1536

/-- The attention's queries before their rotation, by heads. -/
def refH : FVec Ideal S4x8192x8x128 .f32 :=
  heads128 (dotQ (refN256 (extractStridedSlice S4x8192x256 ![0, 0, 2048] (refP A0 A2 A3) slices_S4x8192x2560_S4x8192x256_0_0_2048) A4) A5)

/-- A head's lanes 64 to 96 rotated, the others kept. -/
def mid (x : FVec Ideal S4x8192x8x128 .f32) (C S : FVec Ideal S4x8192x1x16 .f32) : FVec Ideal S4x8192x8x128 .f32 :=
  concatenate S4x8192x8x128 3 [⟨S4x8192x8x64, extractStridedSlice S4x8192x8x64 ![0, 0, 0, 0] x slices_S4x8192x8x128_S4x8192x8x64_0_0_0_0⟩, ⟨S4x8192x8x32, rope32 (extractStridedSlice S4x8192x8x32 ![0, 0, 0, 64] x slices_S4x8192x8x128_S4x8192x8x32_0_0_0_64) C S⟩, ⟨S4x8192x8x32, extractStridedSlice S4x8192x8x32 ![0, 0, 0, 96] x slices_S4x8192x8x128_S4x8192x8x32_0_0_0_96⟩] concatenates_S4x8192x8x64_S4x8192x8x32_S4x8192x8x32_S4x8192x8x128_d3

/-- The shared key's lanes 64 to 96 rotated, the others kept. -/
def midf (x : FVec Ideal S4x8192x128 .f32) (C S : FVec Ideal S4x8192x16 .f32) : FVec Ideal S4x8192x128 .f32 :=
  concatenate S4x8192x128 2 [⟨S4x8192x64, extractStridedSlice S4x8192x64 ![0, 0, 0] x slices_S4x8192x128_S4x8192x64_0_0_0⟩, ⟨S4x8192x32, rope32f (extractStridedSlice S4x8192x32 ![0, 0, 64] x slices_S4x8192x128_S4x8192x32_0_0_64) C S⟩, ⟨S4x8192x32, extractStridedSlice S4x8192x32 ![0, 0, 96] x slices_S4x8192x128_S4x8192x32_0_0_96⟩] concatenates_S4x8192x64_S4x8192x32_S4x8192x32_S4x8192x128_d2

/-- The reference's attention queries. -/
def refQ : Vec Ideal S4x8192x1024 .bf16 :=
  truncf (F := Ideal) .bf16 (shapeCast S4x8192x1024 (mulf (mid (refH A0 A2 A3 A4 A5) (Host.cos (refA16h (refA16 A1))) (Host.sin (refA16h (refA16 A1)))) (broadcastInDim S4x8192x8x128 ![] bcast_S_S4x8192x8x128 (constant S_ .f32 0x3DD105EC#32))) shapeCasts_S4x8192x8x128_S4x8192x1024) bitsLt_bf16_f32

/-- The attention's normalised latent rows. -/
def refL : FVec Ideal S4x8192x128 .f32 :=
  refN128 (extractStridedSlice S4x8192x128 ![0, 0, 2304] (refP A0 A2 A3) slices_S4x8192x2560_S4x8192x128_0_0_2304) A6

/-- The reference's shared key before the rotation. -/
def refT : FVec Ideal S4x8192x128 .f32 := extractStridedSlice S4x8192x128 ![0, 0, 2432] (refP A0 A2 A3) slices_S4x8192x2560_S4x8192x128_0_0_2432

/-- The reference's attention keys. -/
def refK : Vec Ideal S4x8192x1024 .bf16 :=
  truncf (F := Ideal) .bf16 (shapeCast S4x8192x1024 (addf (heads128 (dotK (refL A0 A2 A3 A6) A7)) (broadcastInDim S4x8192x8x128 ![0, 1, 2, 3] bcast_S4x8192x1x128_S4x8192x8x128_0_1_2_3 (broadcastInDim S4x8192x1x128 ![0, 1, 3] bcast_S4x8192x128_S4x8192x1x128_0_1_3 (midf (refT A0 A2 A3) (Host.cos (refA16 A1)) (Host.sin (refA16 A1)))))) shapeCasts_S4x8192x8x128_S4x8192x1024) bitsLt_bf16_f32

/-- The reference's attention values. -/
def refV : Vec Ideal S4x8192x512 .bf16 :=
  truncf (F := Ideal) .bf16 (dotV (refL A0 A2 A3 A6) A8) bitsLt_bf16_f32

/-- The cosine of the angle, in heads of 64. -/
theorem cos32 (b : Fin 4) (s : Fin 8192) (e : Fin 32) : Host.cos (refA32 A1) (ix4 b s 0 e) = Ideal.cos (th32 (A1 (ix2 b s)) e.val) :=
  congrArg Ideal.cos (refA32_apply A1 b s e)
/-- The sine of the angle, in heads of 64. -/
theorem sin32 (b : Fin 4) (s : Fin 8192) (e : Fin 32) : Host.sin (refA32 A1) (ix4 b s 0 e) = Ideal.sin (th32 (A1 (ix2 b s)) e.val) :=
  congrArg Ideal.sin (refA32_apply A1 b s e)
/-- The cosine of the angle, in the rotated lanes of every head. -/
theorem cos16h (b : Fin 4) (s : Fin 8192) (e : Fin 16) : Host.cos (refA16h (refA16 A1)) (ix4 b s 0 e) = Ideal.cos (th16 (A1 (ix2 b s)) e.val) :=
  congrArg Ideal.cos ((refA16h_apply _ b s e).trans (refA16_apply A1 b s e))
/-- The sine of the angle, in the rotated lanes of every head. -/
theorem sin16h (b : Fin 4) (s : Fin 8192) (e : Fin 16) : Host.sin (refA16h (refA16 A1)) (ix4 b s 0 e) = Ideal.sin (th16 (A1 (ix2 b s)) e.val) :=
  congrArg Ideal.sin ((refA16h_apply _ b s e).trans (refA16_apply A1 b s e))
/-- The cosine of the angle, in the shared key. -/
theorem cos16 (b : Fin 4) (s : Fin 8192) (e : Fin 16) : Host.cos (refA16 A1) (ix3 b s e) = Ideal.cos (th16 (A1 (ix2 b s)) e.val) :=
  congrArg Ideal.cos (refA16_apply A1 b s e)
/-- The sine of the angle, in the shared key. -/
theorem sin16 (b : Fin 4) (s : Fin 8192) (e : Fin 16) : Host.sin (refA16 A1) (ix3 b s e) = Ideal.sin (th16 (A1 (ix2 b s)) e.val) :=
  congrArg Ideal.sin (refA16_apply A1 b s e)

/-- A head of 64 rotated, at a lane. -/
theorem rope64_apply (x : FVec Ideal S4x8192x8x64 .f32) (b : Fin 4) (s : Fin 8192) (h : Fin 8) (e : Fin 64) :
    rope64 x (Host.cos (refA32 A1)) (Host.sin (refA32 A1)) (ix4 b s h e)
      = if h' : e.val < 32 then x (ix4 b s h ⟨e.val, by omega⟩) * Ideal.cos (th32 (A1 (ix2 b s)) e.val) - x (ix4 b s h ⟨32 + e.val, by omega⟩) * Ideal.sin (th32 (A1 (ix2 b s)) e.val)
        else x (ix4 b s h ⟨e.val - 32, by omega⟩) * Ideal.sin (th32 (A1 (ix2 b s)) (e.val - 32)) + x (ix4 b s h ⟨32 + (e.val - 32), by omega⟩) * Ideal.cos (th32 (A1 (ix2 b s)) (e.val - 32)) := by
  rw [rope64, cat64]
  by_cases h' : e.val < 32
  · rw [dif_pos h', dif_pos h', rotA_apply, cos32, sin32]
  · rw [dif_neg h', dif_neg h', rotB_apply, cos32, sin32]

/-- 32 lanes rotated, at a lane. -/
theorem rope32_apply (x : FVec Ideal S4x8192x8x32 .f32) (b : Fin 4) (s : Fin 8192) (h : Fin 8) (e : Fin 32) :
    rope32 x (Host.cos (refA16h (refA16 A1))) (Host.sin (refA16h (refA16 A1))) (ix4 b s h e)
      = if h' : e.val < 16 then x (ix4 b s h ⟨e.val, by omega⟩) * Ideal.cos (th16 (A1 (ix2 b s)) e.val) - x (ix4 b s h ⟨16 + e.val, by omega⟩) * Ideal.sin (th16 (A1 (ix2 b s)) e.val)
        else x (ix4 b s h ⟨e.val - 16, by omega⟩) * Ideal.sin (th16 (A1 (ix2 b s)) (e.val - 16)) + x (ix4 b s h ⟨16 + (e.val - 16), by omega⟩) * Ideal.cos (th16 (A1 (ix2 b s)) (e.val - 16)) := by
  rw [rope32, cat32]
  by_cases h' : e.val < 16
  · rw [dif_pos h', dif_pos h', rotC_apply, cos16h, sin16h]
  · rw [dif_neg h', dif_neg h', rotD_apply, cos16h, sin16h]

/-- The same in the shared key. -/
theorem rope32f_apply (x : FVec Ideal S4x8192x32 .f32) (b : Fin 4) (s : Fin 8192) (e : Fin 32) :
    rope32f x (Host.cos (refA16 A1)) (Host.sin (refA16 A1)) (ix3 b s e)
      = if h' : e.val < 16 then x (ix3 b s ⟨e.val, by omega⟩) * Ideal.cos (th16 (A1 (ix2 b s)) e.val) - x (ix3 b s ⟨16 + e.val, by omega⟩) * Ideal.sin (th16 (A1 (ix2 b s)) e.val)
        else x (ix3 b s ⟨e.val - 16, by omega⟩) * Ideal.sin (th16 (A1 (ix2 b s)) (e.val - 16)) + x (ix3 b s ⟨16 + (e.val - 16), by omega⟩) * Ideal.cos (th16 (A1 (ix2 b s)) (e.val - 16)) := by
  rw [rope32f, cat32f]
  by_cases h' : e.val < 16
  · rw [dif_pos h', dif_pos h', rotE_apply, cos16, sin16]
  · rw [dif_neg h', dif_neg h', rotF_apply, cos16, sin16]

/-- Lanes 0 to 64 of a head. -/
theorem sl0 (x : FVec Ideal S4x8192x8x128 .f32) (b : Fin 4) (s : Fin 8192) (h : Fin 8) (e : Fin 64) :
    extractStridedSlice S4x8192x8x64 ![0, 0, 0, 0] x slices_S4x8192x8x128_S4x8192x8x64_0_0_0_0 (ix4 b s h e) = x (ix4 b s h ⟨e.val, by omega⟩) := by
  pointwise []
/-- Lanes 64 to 96 of a head. -/
theorem sl64 (x : FVec Ideal S4x8192x8x128 .f32) (b : Fin 4) (s : Fin 8192) (h : Fin 8) (e : Fin 32) :
    extractStridedSlice S4x8192x8x32 ![0, 0, 0, 64] x slices_S4x8192x8x128_S4x8192x8x32_0_0_0_64 (ix4 b s h e) = x (ix4 b s h ⟨64 + e.val, by omega⟩) := by
  pointwise []
/-- Lanes 96 to 128 of a head. -/
theorem sl96 (x : FVec Ideal S4x8192x8x128 .f32) (b : Fin 4) (s : Fin 8192) (h : Fin 8) (e : Fin 32) :
    extractStridedSlice S4x8192x8x32 ![0, 0, 0, 96] x slices_S4x8192x8x128_S4x8192x8x32_0_0_0_96 (ix4 b s h e) = x (ix4 b s h ⟨96 + e.val, by omega⟩) := by
  pointwise []
/-- Lanes 0 to 64 of the shared key. -/
theorem sf0 (x : FVec Ideal S4x8192x128 .f32) (b : Fin 4) (s : Fin 8192) (e : Fin 64) :
    extractStridedSlice S4x8192x64 ![0, 0, 0] x slices_S4x8192x128_S4x8192x64_0_0_0 (ix3 b s e) = x (ix3 b s ⟨e.val, by omega⟩) := by
  pointwise []
/-- Lanes 64 to 96 of the shared key. -/
theorem sf64 (x : FVec Ideal S4x8192x128 .f32) (b : Fin 4) (s : Fin 8192) (e : Fin 32) :
    extractStridedSlice S4x8192x32 ![0, 0, 64] x slices_S4x8192x128_S4x8192x32_0_0_64 (ix3 b s e) = x (ix3 b s ⟨64 + e.val, by omega⟩) := by
  pointwise []
/-- Lanes 96 to 128 of the shared key. -/
theorem sf96 (x : FVec Ideal S4x8192x128 .f32) (b : Fin 4) (s : Fin 8192) (e : Fin 32) :
    extractStridedSlice S4x8192x32 ![0, 0, 96] x slices_S4x8192x128_S4x8192x32_0_0_96 (ix3 b s e) = x (ix3 b s ⟨96 + e.val, by omega⟩) := by
  pointwise []
/-- A part of the projection, at a column. -/
theorem sp (o n : ℕ) (hn : o + n ≤ 2560) (x : FVec Ideal S4x8192x2560 .f32) (h) (b : Fin 4) (s : Fin 8192) (e : Fin n) :
    extractStridedSlice ⟨3, ![4, 8192, n]⟩ ![0, 0, o] x h (ix3 b s e) = x (ix3 b s ⟨o + e.val, by omega⟩) := by
  pointwise []

/-- A head rotated in the middle is the sum of the call, at a lane. -/
theorem mid_apply (x : FVec Ideal S4x8192x8x128 .f32) (b : Fin 4) (s : Fin 8192) (h : Fin 8) (l : Fin 128) :
    mid x (Host.cos (refA16h (refA16 A1))) (Host.sin (refA16h (refA16 A1))) (ix4 b s h l)
      = x (ix4 b s h l) * cm A1 b s l + x (ix4 b s h (swm (n := 1) l)) * sm A1 b s l := by
  rw [← mla A1 b s (fun l => x (ix4 b s h l)) l, mid, cat128]
  simp only [sl0, sl96, rope32_apply, sl64]

/-- The same in the shared key. -/
theorem midf_apply (x : FVec Ideal S4x8192x128 .f32) (b : Fin 4) (s : Fin 8192) (l : Fin 128) :
    midf x (Host.cos (refA16 A1)) (Host.sin (refA16 A1)) (ix3 b s l)
      = x (ix3 b s l) * cm A1 b s l + x (ix3 b s (swm (n := 1) l)) * sm A1 b s l := by
  rw [← mla A1 b s (fun l => x (ix3 b s l)) l, midf, cat128f]
  simp only [sf0, sf96, rope32f_apply, sf64]

/-- The retention's queries agree. -/
theorem refRq_eq : refRq A0 A1 A2 A3 = gRq A0 A1 A2 A3 := by
  funext i
  obtain ⟨b, s, j, rfl⟩ : ∃ (b : Fin 4) (s : Fin 8192) (j : Fin 512), i = ix3 b s j := ⟨i 0, i 1, i 2, eq_ix3 i⟩
  show _ = rqR (xr A0 b s) (cr A1 b s) (sr A1 b s) A2 A3 j
  rw [refRq, cols64_apply, rope64_apply, rqR]
  simp only [headsQ_apply, refP_apply]
  have e := ret A1 b s 0 (by omega) (pR (xr A0 b s) A2 A3) j
  simp only [Nat.zero_add] at e
  exact e

/-- The retention's keys agree. -/
theorem refRk_eq : refRk A0 A1 A2 A3 = gRk A0 A1 A2 A3 := by
  funext i
  obtain ⟨b, s, j, rfl⟩ : ∃ (b : Fin 4) (s : Fin 8192) (j : Fin 512), i = ix3 b s j := ⟨i 0, i 1, i 2, eq_ix3 i⟩
  show _ = rkR (xr A0 b s) (cr A1 b s) (sr A1 b s) A2 A3 j
  rw [refRk, cols64_apply, rkR]
  refine congrArg (fun q => q * Ideal.ofBits .f32 1040187392#32) ?_
  rw [rope64_apply]
  simp only [headsK_apply, refP_apply]
  exact ret A1 b s 512 (by omega) (pR (xr A0 b s) A2 A3) j

/-- The retention's values agree. -/
theorem refRv_eq : refRv A0 A2 A3 = gRv A0 A2 A3 := by
  funext i
  obtain ⟨b, s, j, rfl⟩ : ∃ (b : Fin 4) (s : Fin 8192) (j : Fin 512), i = ix3 b s j := ⟨i 0, i 1, i 2, eq_ix3 i⟩
  have e := sp 1024 512 (by omega) (refP A0 A2 A3) slices_S4x8192x2560_S4x8192x512_0_0_1024 b s j
  exact e.trans (refP_apply A0 A2 A3 b s _)

/-- The retention's gate agrees. -/
theorem refRg_eq : refRg A0 A2 A3 = gRg A0 A2 A3 := by
  funext i
  obtain ⟨b, s, j, rfl⟩ : ∃ (b : Fin 4) (s : Fin 8192) (j : Fin 512), i = ix3 b s j := ⟨i 0, i 1, i 2, eq_ix3 i⟩
  have e := sp 1536 512 (by omega) (refP A0 A2 A3) slices_S4x8192x2560_S4x8192x512_0_0_1536 b s j
  exact e.trans (refP_apply A0 A2 A3 b s _)

/-- The attention's queries before the rotation, at a head and lane. -/
theorem refH_apply (b : Fin 4) (s : Fin 8192) (h : Fin 8) (l : Fin 128) :
    refH A0 A2 A3 A4 A5 (ix4 b s h l) = uqR (xr A0 b s) A2 A3 A4 A5 ⟨h.val * 128 + l.val, by omega⟩ := by
  rw [refH, heads128_apply, dotQ_apply, uqR]
  refine Finset.sum_congr rfl fun e _ => ?_
  rw [refN256_apply, cqR]
  refine congrArg (fun f => rms 1132462080#32 f (fun q => A4 (ix2 0 q)) e * A5 (ix2 e _)) (funext fun q => ?_)
  exact (sp 2048 256 (by omega) (refP A0 A2 A3) _ b s q).trans (refP_apply A0 A2 A3 b s _)

/-- The attention's queries agree. -/
theorem refQ_eq : refQ A0 A1 A2 A3 A4 A5 = gQ A0 A1 A2 A3 A4 A5 := by
  funext i
  obtain ⟨b, s, j, rfl⟩ : ∃ (b : Fin 4) (s : Fin 8192) (j : Fin 1024), i = ix3 b s j := ⟨i 0, i 1, i 2, eq_ix3 i⟩
  show _ = qR (xr A0 b s) (cm A1 b s) (sm A1 b s) A2 A3 A4 A5 j
  rw [refQ, cols128_apply, qR]
  refine congrArg (fun q => q * Ideal.ofBits .f32 1037108716#32) ?_
  rw [mid_apply, refH_apply, refH_apply]
  have hj := j.isLt
  have i1 : (⟨j.val / 128 * 128 + j.val % 128, by omega⟩ : Fin 1024) = j := Fin.ext (by dsimp only; omega)
  have i2 : (⟨j.val / 128 * 128 + (swm (n := 1) ⟨j.val % 128, by omega⟩).val, by have := (swm (n := 1) ⟨j.val % 128, by omega⟩).isLt; omega⟩ : Fin 1024) = swm (n := 8) j := Fin.ext (by
    simp only [swm]
    by_cases h : j.val % 128 < 80
    · rw [if_pos h, if_pos (by omega)]; omega
    · rw [if_neg h, if_neg (by omega)]; omega)
  exact congrArg₂ (fun q q' => uqR (xr A0 b s) A2 A3 A4 A5 q * cm A1 b s (lane j) + uqR (xr A0 b s) A2 A3 A4 A5 q' * sm A1 b s (lane j)) i1 i2

/-- The normalised latent rows, at a column. -/
theorem refL_apply (b : Fin 4) (s : Fin 8192) (e : Fin 128) : refL A0 A2 A3 A6 (ix3 b s e) = kvR (xr A0 b s) A2 A3 A6 e := by
  rw [refL, refN128_apply, kvR]
  refine congrArg (fun f => rms 1124073472#32 f (fun q => A6 (ix2 0 q)) e) (funext fun q => ?_)
  exact (sp 2304 128 (by omega) (refP A0 A2 A3) _ b s q).trans (refP_apply A0 A2 A3 b s _)

/-- The shared key before the rotation, at a lane. -/
theorem refT_apply (b : Fin 4) (s : Fin 8192) (l : Fin 128) : refT A0 A2 A3 (ix3 b s l) = pR (xr A0 b s) A2 A3 (pecol l) :=
  (sp 2432 128 (by omega) (refP A0 A2 A3) _ b s l).trans (refP_apply A0 A2 A3 b s _)

/-- The shared key added to every head. -/
theorem addHeads (x : FVec Ideal S4x8192x8x128 .f32) (y : FVec Ideal S4x8192x128 .f32) (b : Fin 4) (s : Fin 8192) (h : Fin 8) (l : Fin 128) :
    addf (F := Ideal) x (broadcastInDim S4x8192x8x128 ![0, 1, 2, 3] bcast_S4x8192x1x128_S4x8192x8x128_0_1_2_3 (broadcastInDim S4x8192x1x128 ![0, 1, 3] bcast_S4x8192x128_S4x8192x1x128_0_1_3 y)) (ix4 b s h l)
      = x (ix4 b s h l) + y (ix3 b s l) := by
  pointwise []

/-- The attention's keys agree. -/
theorem refK_eq : refK A0 A1 A2 A3 A6 A7 = gK A0 A1 A2 A3 A6 A7 := by
  funext i
  obtain ⟨b, s, j, rfl⟩ : ∃ (b : Fin 4) (s : Fin 8192) (j : Fin 1024), i = ix3 b s j := ⟨i 0, i 1, i 2, eq_ix3 i⟩
  show _ = kR (xr A0 b s) (cm A1 b s) (sm A1 b s) A2 A3 A6 A7 j
  rw [refK, cols128_apply, addHeads, midf_apply, heads128_apply, dotK_apply, refT_apply, refT_apply, kR, krR]
  have hj := j.isLt
  have i1 : (⟨j.val / 128 * 128 + j.val % 128, by omega⟩ : Fin 1024) = j := Fin.ext (by dsimp only; omega)
  refine congrArg₂ (· + ·) (Finset.sum_congr rfl fun e _ => ?_) rfl
  rw [refL_apply]
  exact congrArg (fun q => kvR (xr A0 b s) A2 A3 A6 e * A7 (ix2 e q)) i1

/-- The attention's values agree. -/
theorem refV_eq : refV A0 A2 A3 A6 A8 = gV A0 A2 A3 A6 A8 := by
  funext i
  obtain ⟨b, s, j, rfl⟩ : ∃ (b : Fin 4) (s : Fin 8192) (j : Fin 512), i = ix3 b s j := ⟨i 0, i 1, i 2, eq_ix3 i⟩
  refine (dotV_apply _ A8 b s j).trans ?_
  show _ = vR (xr A0 b s) A2 A3 A6 A8 j
  rw [vR]
  exact Finset.sum_congr rfl fun e _ => by rw [refL_apply]

end

end
end Cert.Kernel3Ideal.Inp
end
-- ==== Proof.Inp.RefRun.lean ====
module

public import proofs.«01_k».proof.Proof.Inp.Ref

@[expose] public section

set_option maxRecDepth 16384

noncomputable section

namespace Cert.Kernel3Ideal.Inp

open Idealize.ShloMosaic Idealize.ShloMosaic.TcCoe Idealize.ShloMosaic.Tactic
section
open Cert.Reference3Ideal Cert.Reference3Ideal.Gen

/-- The reference's run: the same functions of its arguments, and the arguments unchanged. -/
theorem run_ref (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ (fun r => ∀ c : Dev Cert.Reference3Ideal.nD,
      r.2.mem ((c.tc : Thread Cert.Reference3Ideal.nD Cert.Reference3Ideal.τ).loc Cert.Reference3Ideal.main_v201) = gRq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_v202) = gRk (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_v203) = gRv (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_v19) = gRg (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_v205) = gQ (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))
      ∧ r.2.mem ((c.tc : Thread Cert.Reference3Ideal.nD Cert.Reference3Ideal.τ).loc Cert.Reference3Ideal.main_v207) = gK (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))
      ∧ r.2.mem ((c.tc : Thread Cert.Reference3Ideal.nD Cert.Reference3Ideal.τ).loc Cert.Reference3Ideal.main_v208) = gV (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg8))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)) := by
  refine (θ_run Cert.Reference3Ideal.defs _ _).mono (fun r h c => ?_) (Cert.Reference3Ideal.Value.run m ρ)
  obtain ⟨h0, h1, h2, h3, h4, h5, h6, hk⟩ := h c
  refine ⟨h0.trans (Eq.trans ?_ (refRq_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)))), h1.trans (Eq.trans ?_ (refRk_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)))), h2.trans (Eq.trans ?_ (refRv_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)))), h3.trans (Eq.trans ?_ (refRg_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)))), h4.trans (Eq.trans ?_ (refQ_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)))), h5.trans (Eq.trans ?_ (refK_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)))), h6.trans (Eq.trans ?_ (refV_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg8)))), hk⟩
  · unfold Cert.Reference3Ideal.Value.res_main_v44 Cert.Reference3Ideal.Value.res_main_v43 Cert.Reference3Ideal.Value.res_main_v42 Cert.Reference3Ideal.Value.res_main_v41 Cert.Reference3Ideal.Value.res_main_v40 Cert.Reference3Ideal.Value.res_main_v23 Cert.Reference3Ideal.Value.res_main_v15 refRq rope64 rotA rotB headsQ refP dotP refN1024 refA32
    rfl
  · unfold Cert.Reference3Ideal.Value.res_main_v78 Cert.Reference3Ideal.Value.res_main_v77 Cert.Reference3Ideal.Value.res_main_v76 Cert.Reference3Ideal.Value.res_main_v75 Cert.Reference3Ideal.Value.res_main_v74 Cert.Reference3Ideal.Value.res_main_v57 Cert.Reference3Ideal.Value.res_main_v15 refRk rope64 rotA rotB headsK refP dotP refN1024 refA32
    rfl
  · unfold Cert.Reference3Ideal.Value.res_main_v15 refRv refP dotP refN1024
    rfl
  · unfold Cert.Reference3Ideal.Value.res_main_v15 refRg refP dotP refN1024
    rfl
  · unfold Cert.Reference3Ideal.Value.res_main_v132 Cert.Reference3Ideal.Value.res_main_v131 Cert.Reference3Ideal.Value.res_main_v130 Cert.Reference3Ideal.Value.res_main_v129 Cert.Reference3Ideal.Value.res_main_v128 Cert.Reference3Ideal.Value.res_main_v111 Cert.Reference3Ideal.Value.res_main_v109 Cert.Reference3Ideal.Value.res_main_v20 Cert.Reference3Ideal.Value.res_main_v15 refQ mid rope32 rotC rotD refH heads128 dotQ refN256 refP dotP refN1024 refA16h refA16
    rfl
  · unfold Cert.Reference3Ideal.Value.res_main_v186 Cert.Reference3Ideal.Value.res_main_v185 Cert.Reference3Ideal.Value.res_main_v184 Cert.Reference3Ideal.Value.res_main_v183 Cert.Reference3Ideal.Value.res_main_v182 Cert.Reference3Ideal.Value.res_main_v166 Cert.Reference3Ideal.Value.res_main_v161 Cert.Reference3Ideal.Value.res_main_v22 Cert.Reference3Ideal.Value.res_main_v21 Cert.Reference3Ideal.Value.res_main_v15 refK midf rope32f rotE rotF refL refT heads128 dotK refN128 refP dotP refN1024 refA16
    rfl
  · unfold Cert.Reference3Ideal.Value.res_main_v161 Cert.Reference3Ideal.Value.res_main_v21 Cert.Reference3Ideal.Value.res_main_v15 refV refL dotV refN128 refP dotP refN1024
    rfl

end
end Cert.Kernel3Ideal.Inp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_scores
public import Idealize.ShloMosaic.Adequacy
public import Idealize.ShloMosaic.Init

public import proofs.«01_k».proof.Proof.Attn.Ref
public import proofs.«01_k».proof.Proof.Ffn.Ref
public import proofs.«01_k».proof.Proof.Inp.RefRun

@[expose] public section

noncomputable section

namespace Cert.Proof

open Idealize.ShloMosaic Idealize.ShloMosaic.TcCoe Idealize.ShloMosaic.Tactic Idealize.SL.Sem

/-- The attention is one program text, run on words and run on the extended reals: its procedures agree. -/
theorem defs_same : (Cert.Kernel.defs (F := Bits)) = (Cert.KernelIdeal.defs (F := Bits)) := by sl_kernel_rfl

/-- And so does its entry. -/
theorem main_same : (Cert.Kernel.main (F := Bits)) = (Cert.KernelIdeal.main (F := Bits)) := by sl_kernel_rfl

/-- The attention's frame on words. -/
theorem frame_words (m : (ℓ : Loc Cert.Kernel.nD Cert.Kernel.τ Cert.Kernel.sig) → Buf (Elt Bits) ℓ) (ρ : Dev Cert.Kernel.nD → PrngReg) :
    θ_run Cert.Kernel.defs (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_same, main_same]
  exact Cert.KernelIdeal.Attn.frame_holds (F := Bits) m ρ

/-- The attention and plain causal attention leave the same result. -/
theorem attention : Cert.algebraic_KernelIdeal_ReferenceIdeal_pre_finite_scores := by
  intro m g m' g' hp ha
  have hf := fun c => Cert.KernelIdeal.Attn.pre_coe _ _ _ (hp c)
  refine ⟨fun c => Cert.KernelIdeal.Attn.att (Cert.KernelIdeal.Attn.B0 m c) (Cert.KernelIdeal.Attn.B1 m c) (Cert.KernelIdeal.Attn.B2 m c),
    Cert.KernelIdeal.Attn.run_att m g (fun c => (hf c).1) (fun c => (hf c).2),
    (θ_run Cert.ReferenceIdeal.defs _ _).mono (fun r h c => ⟨(h c).1.trans ?_, (h c).2⟩) (Cert.ReferenceIdeal.Value.run m' g')⟩
  rw [Cert.KernelIdeal.Attn.ref_att, (ha c).1, (ha c).2.1, (ha c).2.2]

/-- The layer's second half and the reference's leave the same result. -/
theorem ffn : Cert.algebraic_Kernel2Ideal_Reference2Ideal := by
  intro m g m' g' _ ha
  refine ⟨fun c => Cert.Kernel2Ideal.Ffn.ffn (Cert.Kernel2Ideal.Ffn.B0 m c) (Cert.Kernel2Ideal.Ffn.B1 m c) (Cert.Kernel2Ideal.Ffn.B2 m c) (Cert.Kernel2Ideal.Ffn.B3 m c) (Cert.Kernel2Ideal.Ffn.B4 m c) (Cert.Kernel2Ideal.Ffn.B5 m c) (Cert.Kernel2Ideal.Ffn.B6 m c) (Cert.Kernel2Ideal.Ffn.B7 m c) (Cert.Kernel2Ideal.Ffn.B8 m c) (Cert.Kernel2Ideal.Ffn.B9 m c),
    Cert.Kernel2Ideal.Ffn.run_ffn m g,
    (θ_run Cert.Reference2Ideal.defs _ _).mono (fun r h c => ⟨(h c).1.trans ?_, (h c).2⟩) (Cert.Reference2Ideal.Value.run m' g')⟩
  obtain ⟨h0, h1, h2, h3, h4, h5, h6, h7, h8, h9⟩ := ha c
  rw [Cert.Kernel2Ideal.Ffn.ref_ffn, h0, h1, h2, h3, h4, h5, h6, h7, h8, h9]

/-- The projections into the layer's first half and the reference's leave the same results. -/
theorem inproj : Cert.algebraic_Kernel3Ideal_Reference3Ideal := by
  intro m g m' g' _ ha
  refine ⟨fun c => Cert.Kernel3Ideal.Inp.gRq (Cert.Kernel3Ideal.Inp.B0 m c) (Cert.Kernel3Ideal.Inp.B1 m c) (Cert.Kernel3Ideal.Inp.B2 m c) (Cert.Kernel3Ideal.Inp.B3 m c),
    fun c => Cert.Kernel3Ideal.Inp.gRk (Cert.Kernel3Ideal.Inp.B0 m c) (Cert.Kernel3Ideal.Inp.B1 m c) (Cert.Kernel3Ideal.Inp.B2 m c) (Cert.Kernel3Ideal.Inp.B3 m c),
    fun c => Cert.Kernel3Ideal.Inp.gRv (Cert.Kernel3Ideal.Inp.B0 m c) (Cert.Kernel3Ideal.Inp.B2 m c) (Cert.Kernel3Ideal.Inp.B3 m c),
    fun c => Cert.Kernel3Ideal.Inp.gRg (Cert.Kernel3Ideal.Inp.B0 m c) (Cert.Kernel3Ideal.Inp.B2 m c) (Cert.Kernel3Ideal.Inp.B3 m c),
    fun c => Cert.Kernel3Ideal.Inp.gQ (Cert.Kernel3Ideal.Inp.B0 m c) (Cert.Kernel3Ideal.Inp.B1 m c) (Cert.Kernel3Ideal.Inp.B2 m c) (Cert.Kernel3Ideal.Inp.B3 m c) (Cert.Kernel3Ideal.Inp.B4 m c) (Cert.Kernel3Ideal.Inp.B5 m c),
    fun c => Cert.Kernel3Ideal.Inp.gK (Cert.Kernel3Ideal.Inp.B0 m c) (Cert.Kernel3Ideal.Inp.B1 m c) (Cert.Kernel3Ideal.Inp.B2 m c) (Cert.Kernel3Ideal.Inp.B3 m c) (Cert.Kernel3Ideal.Inp.B6 m c) (Cert.Kernel3Ideal.Inp.B7 m c),
    fun c => Cert.Kernel3Ideal.Inp.gV (Cert.Kernel3Ideal.Inp.B0 m c) (Cert.Kernel3Ideal.Inp.B2 m c) (Cert.Kernel3Ideal.Inp.B3 m c) (Cert.Kernel3Ideal.Inp.B6 m c) (Cert.Kernel3Ideal.Inp.B8 m c),
    Cert.Kernel3Ideal.Inp.run_inp m g,
    (θ_run Cert.Reference3Ideal.defs _ _).mono (fun r h c => ?_) (Cert.Kernel3Ideal.Inp.run_ref m' g')⟩
  obtain ⟨h0, h1, h2, h3, h4, h5, h6, h7, h8⟩ := ha c
  obtain ⟨e0, e1, e2, e3, e4, e5, e6, hk⟩ := h c
  refine ⟨e0.trans ?_, e1.trans ?_, e2.trans ?_, e3.trans ?_, e4.trans ?_, e5.trans ?_, e6.trans ?_, hk⟩
  · rw [h0, h1, h2, h3]
  · rw [h0, h1, h2, h3]
  · rw [h0, h2, h3]
  · rw [h0, h2, h3]
  · rw [h0, h1, h2, h3, h4, h5]
  · rw [h0, h1, h2, h3, h6, h7]
  · rw [h0, h2, h3, h6, h8]

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_scores.Gen.facts,
  fun m ρ _ => frame_words m ρ,
  fun m ρ _ => Cert.KernelIdeal.Attn.frame_holds m ρ,
  fun m ρ _ => Cert.KernelIdeal.Attn.frame_holds m ρ,
  fun m ρ _ => (θ_run Cert.ReferenceIdeal.defs _ _).mono (fun r h => ⟨fun c => (h c).2, sem_eq_zero_of_no_sems (by decide) r.2⟩)
    (Cert.ReferenceIdeal.Value.run m ρ),
  fun m ρ _ => (θ_run Cert.ReferenceIdeal.defs _ _).mono (fun r h => ⟨fun c => (h c).2, sem_eq_zero_of_no_sems (by decide) r.2⟩)
    (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2.2.2.2.2.2.2, sem_eq_zero_of_no_sems (by decide) r.2⟩)
    (Cert.Reference3Ideal.Value.run m ρ),
  trivial, attention, trivial, ffn, trivial, inproj⟩

end Cert.Proof

end
